-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_finite18 [hPre_finite18 : Cert.Pre_finite18.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_finite18.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2))) = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_finite18 [hPre_finite18 : Cert.Pre_finite18.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_finite18.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7)
      ∧ r.2.mem ((c.tc : Thread Cert.Kernel13.nD Cert.Kernel13.τ).loc Cert.Kernel13.main_arg8) = m ((c.tc : Thread Cert.Kernel13.nD Cert.Kernel13.τ).loc Cert.Kernel13.main_arg8))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Kernel18Ideal_pre_finite18 [hKernel18Ideal : Cert.Kernel18Ideal.Facts] [hPre_finite18 : Cert.Pre_finite18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_finite18 m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Reference18Ideal_pre_finite18 [hReference18Ideal : Cert.Reference18Ideal.Facts] [hPre_finite18 : Cert.Pre_finite18.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_finite18 m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v47_0)) (v1 : (c : Dev Cert.KernelIdeal.nD) → Buf (Elt Ideal) ((c.tc : Thread Cert.KernelIdeal.nD Cert.KernelIdeal.τ).loc Cert.KernelIdeal.main_v47_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47_0) = v0 c
          ∧ r.2.mem ((c.tc : Thread Cert.KernelIdeal.nD Cert.KernelIdeal.τ).loc Cert.KernelIdeal.main_v47_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  IdealRules.named_const.Statement Cert.Kernel2Ideal.κ "mask" .f32 0xF149F2CA#32 ⊥
  ∧ IdealRules.named_const.Statement Cert.Kernel2Ideal.κ "ln2" .f32 0x3F317218#32 ((Real.log 2 : ℝ) : EReal)

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v53_0)) (v1 : (c : Dev Cert.Kernel2Ideal.nD) → Buf (Elt Ideal) ((c.tc : Thread Cert.Kernel2Ideal.nD Cert.Kernel2Ideal.τ).loc Cert.Kernel2Ideal.main_v53_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v53_0) = v0 c
          ∧ r.2.mem ((c.tc : Thread Cert.Kernel2Ideal.nD Cert.Kernel2Ideal.τ).loc Cert.Kernel2Ideal.main_v53_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v66) = v0 c
          ∧ r.2.mem ((c.tc : Thread Cert.Reference2Ideal.nD Cert.Reference2Ideal.τ).loc Cert.Reference2Ideal.main_v69) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v7_0)) (v1 : (c : Dev Cert.Kernel6Ideal.nD) → Buf (Elt Ideal) ((c.tc : Thread Cert.Kernel6Ideal.nD Cert.Kernel6Ideal.τ).loc Cert.Kernel6Ideal.main_v7_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7_0) = v0 c
          ∧ r.2.mem ((c.tc : Thread Cert.Kernel6Ideal.nD Cert.Kernel6Ideal.τ).loc Cert.Kernel6Ideal.main_v7_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v38) = v0 c
          ∧ r.2.mem ((c.tc : Thread Cert.Reference6Ideal.nD Cert.Reference6Ideal.τ).loc Cert.Reference6Ideal.main_v39) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v4_0)) (v1 : (c : Dev Cert.Kernel7Ideal.nD) → Buf (Elt Ideal) ((c.tc : Thread Cert.Kernel7Ideal.nD Cert.Kernel7Ideal.τ).loc Cert.Kernel7Ideal.main_v4_1)) (v2 : (c : Dev Cert.Kernel7Ideal.nD) → Buf (Elt Ideal) ((c.tc : Thread Cert.Kernel7Ideal.nD Cert.Kernel7Ideal.τ).loc Cert.Kernel7Ideal.main_v4_2)) (v3 : (c : Dev Cert.Kernel7Ideal.nD) → Buf (Elt Ideal) ((c.tc : Thread Cert.Kernel7Ideal.nD Cert.Kernel7Ideal.τ).loc Cert.Kernel7Ideal.main_v4_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4_0) = v0 c
          ∧ r.2.mem ((c.tc : Thread Cert.Kernel7Ideal.nD Cert.Kernel7Ideal.τ).loc Cert.Kernel7Ideal.main_v4_1) = v1 c
          ∧ r.2.mem ((c.tc : Thread Cert.Kernel7Ideal.nD Cert.Kernel7Ideal.τ).loc Cert.Kernel7Ideal.main_v4_2) = v2 c
          ∧ r.2.mem ((c.tc : Thread Cert.Kernel7Ideal.nD Cert.Kernel7Ideal.τ).loc Cert.Kernel7Ideal.main_v4_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v18) = v0 c
          ∧ r.2.mem ((c.tc : Thread Cert.Reference7Ideal.nD Cert.Reference7Ideal.τ).loc Cert.Reference7Ideal.main_v21) = v1 c
          ∧ r.2.mem ((c.tc : Thread Cert.Reference7Ideal.nD Cert.Reference7Ideal.τ).loc Cert.Reference7Ideal.main_v24) = v2 c
          ∧ r.2.mem ((c.tc : Thread Cert.Reference7Ideal.nD Cert.Reference7Ideal.τ).loc Cert.Reference7Ideal.main_v27) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v3_0)) (v1 : (c : Dev Cert.Kernel9Ideal.nD) → Buf (Elt Ideal) ((c.tc : Thread Cert.Kernel9Ideal.nD Cert.Kernel9Ideal.τ).loc Cert.Kernel9Ideal.main_v3_1)) (v2 : (c : Dev Cert.Kernel9Ideal.nD) → Buf (Elt Ideal) ((c.tc : Thread Cert.Kernel9Ideal.nD Cert.Kernel9Ideal.τ).loc Cert.Kernel9Ideal.main_v3_2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3_0) = v0 c
          ∧ r.2.mem ((c.tc : Thread Cert.Kernel9Ideal.nD Cert.Kernel9Ideal.τ).loc Cert.Kernel9Ideal.main_v3_1) = v1 c
          ∧ r.2.mem ((c.tc : Thread Cert.Kernel9Ideal.nD Cert.Kernel9Ideal.τ).loc Cert.Kernel9Ideal.main_v3_2) = v2 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_v15) = v1 c
          ∧ r.2.mem ((c.tc : Thread Cert.Reference9Ideal.nD Cert.Reference9Ideal.τ).loc Cert.Reference9Ideal.main_v16) = v2 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v5_0)) (v1 : (c : Dev Cert.Kernel10Ideal.nD) → Buf (Elt Ideal) ((c.tc : Thread Cert.Kernel10Ideal.nD Cert.Kernel10Ideal.τ).loc Cert.Kernel10Ideal.main_v5_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v5_0) = v0 c
          ∧ r.2.mem ((c.tc : Thread Cert.Kernel10Ideal.nD Cert.Kernel10Ideal.τ).loc Cert.Kernel10Ideal.main_v5_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v41) = v0 c
          ∧ r.2.mem ((c.tc : Thread Cert.Reference10Ideal.nD Cert.Reference10Ideal.τ).loc Cert.Reference10Ideal.main_v42) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)
      ∧ m' ((c.tc : Thread Cert.Reference13Ideal.nD Cert.Reference13Ideal.τ).loc Cert.Reference13Ideal.main_arg8) = m ((c.tc : Thread Cert.Kernel13Ideal.nD Cert.Kernel13Ideal.τ).loc Cert.Kernel13Ideal.main_arg8)) →
    ∃ (v0 : (c : Dev Cert.Kernel13Ideal.nD) → Buf (Elt Ideal) ((c.tc : Thread Cert.Kernel13Ideal.nD Cert.Kernel13Ideal.τ).loc Cert.Kernel13Ideal.main_v8_0)) (v1 : (c : Dev Cert.Kernel13Ideal.nD) → Buf (Elt Ideal) ((c.tc : Thread Cert.Kernel13Ideal.nD Cert.Kernel13Ideal.τ).loc Cert.Kernel13Ideal.main_v8_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v8_0) = v0 c
          ∧ r.2.mem ((c.tc : Thread Cert.Kernel13Ideal.nD Cert.Kernel13Ideal.τ).loc Cert.Kernel13Ideal.main_v8_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
          ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v22) = v0 c
          ∧ r.2.mem ((c.tc : Thread Cert.Reference13Ideal.nD Cert.Reference13Ideal.τ).loc Cert.Reference13Ideal.main_v24) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7)
          ∧ r.2.mem ((c.tc : Thread Cert.Reference13Ideal.nD Cert.Reference13Ideal.τ).loc Cert.Reference13Ideal.main_arg8) = m' ((c.tc : Thread Cert.Reference13Ideal.nD Cert.Reference13Ideal.τ).loc Cert.Reference13Ideal.main_arg8))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)) →
    ∃ (v0 : (c : Dev Cert.Kernel14Ideal.nD) → Buf (Elt Ideal) ((c.tc : Thread Cert.Kernel14Ideal.nD Cert.Kernel14Ideal.τ).loc Cert.Kernel14Ideal.main_v8_0)) (v1 : (c : Dev Cert.Kernel14Ideal.nD) → Buf (Elt Ideal) ((c.tc : Thread Cert.Kernel14Ideal.nD Cert.Kernel14Ideal.τ).loc Cert.Kernel14Ideal.main_v8_1)) (v2 : (c : Dev Cert.Kernel14Ideal.nD) → Buf (Elt Ideal) ((c.tc : Thread Cert.Kernel14Ideal.nD Cert.Kernel14Ideal.τ).loc Cert.Kernel14Ideal.main_v8_2)) (v3 : (c : Dev Cert.Kernel14Ideal.nD) → Buf (Elt Ideal) ((c.tc : Thread Cert.Kernel14Ideal.nD Cert.Kernel14Ideal.τ).loc Cert.Kernel14Ideal.main_v8_3)) (v4 : (c : Dev Cert.Kernel14Ideal.nD) → Buf (Elt Ideal) ((c.tc : Thread Cert.Kernel14Ideal.nD Cert.Kernel14Ideal.τ).loc Cert.Kernel14Ideal.main_v8_4)) (v5 : (c : Dev Cert.Kernel14Ideal.nD) → Buf (Elt Ideal) ((c.tc : Thread Cert.Kernel14Ideal.nD Cert.Kernel14Ideal.τ).loc Cert.Kernel14Ideal.main_v8_5)) (v6 : (c : Dev Cert.Kernel14Ideal.nD) → Buf (Elt Ideal) ((c.tc : Thread Cert.Kernel14Ideal.nD Cert.Kernel14Ideal.τ).loc Cert.Kernel14Ideal.main_v8_6)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v8_0) = v0 c
          ∧ r.2.mem ((c.tc : Thread Cert.Kernel14Ideal.nD Cert.Kernel14Ideal.τ).loc Cert.Kernel14Ideal.main_v8_1) = v1 c
          ∧ r.2.mem ((c.tc : Thread Cert.Kernel14Ideal.nD Cert.Kernel14Ideal.τ).loc Cert.Kernel14Ideal.main_v8_2) = v2 c
          ∧ r.2.mem ((c.tc : Thread Cert.Kernel14Ideal.nD Cert.Kernel14Ideal.τ).loc Cert.Kernel14Ideal.main_v8_3) = v3 c
          ∧ r.2.mem ((c.tc : Thread Cert.Kernel14Ideal.nD Cert.Kernel14Ideal.τ).loc Cert.Kernel14Ideal.main_v8_4) = v4 c
          ∧ r.2.mem ((c.tc : Thread Cert.Kernel14Ideal.nD Cert.Kernel14Ideal.τ).loc Cert.Kernel14Ideal.main_v8_5) = v5 c
          ∧ r.2.mem ((c.tc : Thread Cert.Kernel14Ideal.nD Cert.Kernel14Ideal.τ).loc Cert.Kernel14Ideal.main_v8_6) = v6 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
          ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v49) = v0 c
          ∧ r.2.mem ((c.tc : Thread Cert.Reference14Ideal.nD Cert.Reference14Ideal.τ).loc Cert.Reference14Ideal.main_v50) = v1 c
          ∧ r.2.mem ((c.tc : Thread Cert.Reference14Ideal.nD Cert.Reference14Ideal.τ).loc Cert.Reference14Ideal.main_v51) = v2 c
          ∧ r.2.mem ((c.tc : Thread Cert.Reference14Ideal.nD Cert.Reference14Ideal.τ).loc Cert.Reference14Ideal.main_v52) = v3 c
          ∧ r.2.mem ((c.tc : Thread Cert.Reference14Ideal.nD Cert.Reference14Ideal.τ).loc Cert.Reference14Ideal.main_v53) = v4 c
          ∧ r.2.mem ((c.tc : Thread Cert.Reference14Ideal.nD Cert.Reference14Ideal.τ).loc Cert.Reference14Ideal.main_v54) = v5 c
          ∧ r.2.mem ((c.tc : Thread Cert.Reference14Ideal.nD Cert.Reference14Ideal.τ).loc Cert.Reference14Ideal.main_v48) = v6 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7)
          ∧ r.2.mem ((c.tc : Thread Cert.Reference14Ideal.nD Cert.Reference14Ideal.τ).loc Cert.Reference14Ideal.main_arg8) = m' ((c.tc : Thread Cert.Reference14Ideal.nD Cert.Reference14Ideal.τ).loc Cert.Reference14Ideal.main_arg8))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  IdealRules.named_const.Statement Cert.Kernel18Ideal.κ "mask" .f32 0xF149F2CA#32 ⊥
  ∧ IdealRules.named_const.Statement Cert.Kernel18Ideal.κ "ln2" .f32 0x3F317218#32 ((Real.log 2 : ℝ) : EReal)

def algebraic_Kernel18Ideal_Reference18Ideal_pre_finite18 [hKernel18Ideal : Cert.Kernel18Ideal.Facts] [hReference18Ideal : Cert.Reference18Ideal.Facts] [hPre_finite18 : Cert.Pre_finite18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_finite18 m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v13_0)) (v1 : (c : Dev Cert.Kernel18Ideal.nD) → Buf (Elt Ideal) ((c.tc : Thread Cert.Kernel18Ideal.nD Cert.Kernel18Ideal.τ).loc Cert.Kernel18Ideal.main_v13_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v13_0) = v0 c
          ∧ r.2.mem ((c.tc : Thread Cert.Kernel18Ideal.nD Cert.Kernel18Ideal.τ).loc Cert.Kernel18Ideal.main_v13_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v43) = v0 c
          ∧ r.2.mem ((c.tc : Thread Cert.Reference18Ideal.nD Cert.Reference18Ideal.τ).loc Cert.Reference18Ideal.main_v44) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_finite : Cert.Pre_finite.Facts) (hPre_finite5 : Cert.Pre_finite5.Facts) (hPre_finite18 : Cert.Pre_finite18.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Kernel18Ideal_pre_finite18 (hKernel18Ideal := hKernel18Ideal) (hPre_finite18 := hPre_finite18)
    ∧ quiescent_Reference18Ideal (hReference18Ideal := hReference18Ideal)
    ∧ quiescent_Reference18Ideal_pre_finite18 (hReference18Ideal := hReference18Ideal) (hPre_finite18 := hPre_finite18)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal_pre_finite18 (hKernel18Ideal := hKernel18Ideal) (hReference18Ideal := hReference18Ideal) (hPre_finite18 := hPre_finite18)
-- ==== Pre_finite.lean ====
abbrev S1x4096x8x96 : Shape := ⟨4, ![1, 4096, 8, 96]⟩
abbrev S1x4096x8x64 : Shape := ⟨4, ![1, 4096, 8, 64]⟩
abbrev S1x4096x512 : Shape := ⟨3, ![1, 4096, 512]⟩
abbrev S_ : Shape := ⟨0, ![]⟩

class Facts : Prop where
  bcast_S_S1x4096x8x96 : S_.BroadcastsInDim S1x4096x8x96 (![] : Fin 0 → Fin S1x4096x8x96.rank)
  reducesTo_S1x4096x8x96_S_d0_1_2_3 : S1x4096x8x96.ReducesTo [0, 1, 2, 3] S_
  h_S_ : 0 < S_.numel
  bcast_S_S1x4096x8x64 : S_.BroadcastsInDim S1x4096x8x64 (![] : Fin 0 → Fin S1x4096x8x64.rank)
  reducesTo_S1x4096x8x64_S_d0_1_2_3 : S1x4096x8x64.ReducesTo [0, 1, 2, 3] S_
  bcast_S_S1x4096x512 : S_.BroadcastsInDim S1x4096x512 (![] : Fin 0 → Fin S1x4096x512.rank)
  reducesTo_S1x4096x512_S_d0_1_2 : S1x4096x512.ReducesTo [0, 1, 2] S_

variable [Facts]

def fn_part1 {F : FTy → Type} [FloatOps F] (main_v13 : IVec S_ 1) (main_v16 : IVec S1x4096x512 1) : IVec S_ 1 :=
  let main_c_5 : IVec S_ 1 := constantI S_ 1 1#1
  let main_v17 : IVec S_ 1 := (fun x v => Host.reduce IntOp.andi x v reducesTo_S1x4096x512_S_d0_1_2 h_S_) main_v16 main_c_5
  let main_v18 : IVec S_ 1 := andi main_v13 main_v17
  main_v18

def fn {F : FTy → Type} [FloatOps F] (main_arg0 : FVec F S1x4096x8x96 .f32) (main_arg1 : FVec F S1x4096x8x96 .f32) (main_arg2 : FVec F S1x4096x8x64 .f32) (main_arg3 : FVec F S1x4096x512 .f32) : IVec S_ 1 :=
  let main_v0 : FVec F S1x4096x8x96 .f32 := Host.absf main_arg0
  let main_cst : FVec F S_ .f32 := constant S_ .f32 0x7F800000#32
  let main_v1 : FVec F S1x4096x8x96 .f32 := broadcastInDim S1x4096x8x96 ![] bcast_S_S1x4096x8x96 main_cst
  let main_v2 : IVec S1x4096x8x96 1 := cmpf .olt main_v0 main_v1
  let main_c : IVec S_ 1 := constantI S_ 1 1#1
  let main_v3 : IVec S_ 1 := (fun x v => Host.reduce IntOp.andi x v reducesTo_S1x4096x8x96_S_d0_1_2_3 h_S_) main_v2 main_c
  let main_v4 : FVec F S1x4096x8x96 .f32 := Host.absf main_arg1
  let main_cst_0 : FVec F S_ .f32 := constant S_ .f32 0x7F800000#32
  let main_v5 : FVec F S1x4096x8x96 .f32 := broadcastInDim S1x4096x8x96 ![] bcast_S_S1x4096x8x96 main_cst_0
  let main_v6 : IVec S1x4096x8x96 1 := cmpf .olt main_v4 main_v5
  let main_c_1 : IVec S_ 1 := constantI S_ 1 1#1
  let main_v7 : IVec S_ 1 := (fun x v => Host.reduce IntOp.andi x v reducesTo_S1x4096x8x96_S_d0_1_2_3 h_S_) main_v6 main_c_1
  let main_v8 : IVec S_ 1 := andi main_v3 main_v7
  let main_v9 : FVec F S1x4096x8x64 .f32 := Host.absf main_arg2
  let main_cst_2 : FVec F S_ .f32 := constant S_ .f32 0x7F800000#32
  let main_v10 : FVec F S1x4096x8x64 .f32 := broadcastInDim S1x4096x8x64 ![] bcast_S_S1x4096x8x64 main_cst_2
  let main_v11 : IVec S1x4096x8x64 1 := cmpf .olt main_v9 main_v10
  let main_c_3 : IVec S_ 1 := constantI S_ 1 1#1
  let main_v12 : IVec S_ 1 := (fun x v => Host.reduce IntOp.andi x v reducesTo_S1x4096x8x64_S_d0_1_2_3 h_S_) main_v11 main_c_3
  let main_v13 : IVec S_ 1 := andi main_v8 main_v12
  let main_v14 : FVec F S1x4096x512 .f32 := Host.absf main_arg3
  let main_cst_4 : FVec F S_ .f32 := constant S_ .f32 0x7F800000#32
  let main_v15 : FVec F S1x4096x512 .f32 := broadcastInDim S1x4096x512 ![] bcast_S_S1x4096x512 main_cst_4
  let main_v16 : IVec S1x4096x512 1 := cmpf .olt main_v14 main_v15
  fn_part1 (F := F) main_v13 main_v16
-- ==== Pre_finite18.lean ====
abbrev S1x4096x8x96 : Shape := ⟨4, ![1, 4096, 8, 96]⟩
abbrev S1x4096x8x64 : Shape := ⟨4, ![1, 4096, 8, 64]⟩
abbrev S_ : Shape := ⟨0, ![]⟩

class Facts : Prop where
  bcast_S_S1x4096x8x96 : S_.BroadcastsInDim S1x4096x8x96 (![] : Fin 0 → Fin S1x4096x8x96.rank)
  reducesTo_S1x4096x8x96_S_d0_1_2_3 : S1x4096x8x96.ReducesTo [0, 1, 2, 3] S_
  h_S_ : 0 < S_.numel

variable [Facts]

def fn {F : FTy → Type} [FloatOps F] (main_arg0 : FVec F S1x4096x8x96 .f32) (main_arg1 : FVec F S1x4096x8x96 .f32) (main_arg2 : FVec F S1x4096x8x64 .f32) : IVec S_ 1 :=
  let main_v0 : FVec F S1x4096x8x96 .f32 := Host.absf main_arg0
  let main_cst : FVec F S_ .f32 := constant S_ .f32 0x7F800000#32
  let main_v1 : FVec F S1x4096x8x96 .f32 := broadcastInDim S1x4096x8x96 ![] bcast_S_S1x4096x8x96 main_cst
  let main_v2 : IVec S1x4096x8x96 1 := cmpf .olt main_v0 main_v1
  let main_c : IVec S_ 1 := constantI S_ 1 1#1
  let main_v3 : IVec S_ 1 := (fun x v => Host.reduce IntOp.andi x v reducesTo_S1x4096x8x96_S_d0_1_2_3 h_S_) main_v2 main_c
  let main_v4 : FVec F S1x4096x8x96 .f32 := Host.absf main_arg1
  let main_cst_0 : FVec F S_ .f32 := constant S_ .f32 0x7F800000#32
  let main_v5 : FVec F S1x4096x8x96 .f32 := broadcastInDim S1x4096x8x96 ![] bcast_S_S1x4096x8x96 main_cst_0
  let main_v6 : IVec S1x4096x8x96 1 := cmpf .olt main_v4 main_v5
  let main_c_1 : IVec S_ 1 := constantI S_ 1 1#1
  let main_v7 : IVec S_ 1 := (fun x v => Host.reduce IntOp.andi x v reducesTo_S1x4096x8x96_S_d0_1_2_3 h_S_) main_v6 main_c_1
  let main_v8 : IVec S_ 1 := andi main_v3 main_v7
  main_v8
-- ==== Pre_finite5.lean ====
abbrev S4096x5632 : Shape := ⟨2, ![4096, 5632]⟩
abbrev S2816x1024 : Shape := ⟨2, ![2816, 1024]⟩
abbrev S4096x1024 : Shape := ⟨2, ![4096, 1024]⟩
abbrev S4096x2816 : Shape := ⟨2, ![4096, 2816]⟩
abbrev S_ : Shape := ⟨0, ![]⟩

class Facts : Prop where
  slices_S4096x5632_S4096x2816_0_2816 : S4096x5632.Slices ![0, 2816] S4096x2816
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x5632 .f32) (main_arg1 : FVec F S2816x1024 .f32) (main_arg2 : FVec F S4096x1024 .f32) : IVec S_ 1 :=
  let main_v0 : FVec F S4096x2816 .f32 := (extractStridedSlice S4096x2816 ![0, 2816] · slices_S4096x5632_S4096x2816_0_2816) main_arg0
  let main_v1 : FVec F S4096x2816 .f32 := Host.absf main_v0
  let main_cst : FVec F S_ .f32 := constant S_ .f32 0x7F800000#32
  let main_v2 : FVec F S4096x2816 .f32 := broadcastInDim S4096x2816 ![] bcast_S_S4096x2816 main_cst
  let main_v3 : IVec S4096x2816 1 := cmpf .olt main_v1 main_v2
  let main_c : IVec S_ 1 := constantI S_ 1 1#1
  let main_v4 : IVec S_ 1 := (fun x v => Host.reduce IntOp.andi x v reducesTo_S4096x2816_S_d0_1 h_S_) main_v3 main_c
  let main_v5 : FVec F S2816x1024 .f32 := Host.absf main_arg1
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_c_1 : IVec S_ 1 := constantI S_ 1 1#1
  let main_v8 : IVec S_ 1 := (fun x v => Host.reduce IntOp.andi x v reducesTo_S2816x1024_S_d0_1 h_S_) main_v7 main_c_1
  let main_v9 : IVec S_ 1 := andi main_v4 main_v8
  let main_v10 : FVec F S4096x1024 .f32 := Host.absf main_arg2
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : IVec S_ 1 := andi main_v9 main_v13
  main_v14
-- ==== Kernel.lean ====
abbrev S1x4096x8x96 : Shape := ⟨4, ![1, 4096, 8, 96]⟩
abbrev S1x4096x8x64 : Shape := ⟨4, ![1, 4096, 8, 64]⟩
abbrev S1x4096x512 : Shape := ⟨3, ![1, 4096, 512]⟩
abbrev S_ : Shape := ⟨0, ![]⟩
abbrev S1x4096x8x128 : Shape := ⟨4, ![1, 4096, 8, 128]⟩
abbrev S4096x1024 : Shape := ⟨2, ![4096, 1024]⟩
abbrev S1x8x4096x4096 : Shape := ⟨4, ![1, 8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x8x4096 : Shape := ⟨3, ![1, 8, 4096]⟩
abbrev S1x8x4096x1 : Shape := ⟨4, ![1, 8, 4096, 1]⟩
abbrev S1x8x64x4096 : Shape := ⟨4, ![1, 8, 64, 4096]⟩
abbrev S8x1x4096 : Shape := ⟨3, ![8, 1, 4096]⟩
abbrev S1024x128 : Shape := ⟨2, ![1024, 128]⟩
abbrev S1x1x1024 : Shape := ⟨3, ![1, 1, 1024]⟩
abbrev S128x1024 : Shape := ⟨2, ![128, 1024]⟩
abbrev S1x1024 : Shape := ⟨2, ![1, 1024]⟩
abbrev S1024 : Shape := ⟨1, ![1024]⟩
abbrev S1024x1024 : Shape := ⟨2, ![1024, 1024]⟩

abbrev nBuf : Space → Nat
  | .hbm => 73
  | .vmem => 18
  | .smem => 0
  | _ => 0

abbrev bufTy : (tb : Table) → Fin (tcTables nBuf tb) → BufTy
  | .hbm, ⟨0, _⟩ => ⟨S1x4096x8x96, .f32⟩
  | .hbm, ⟨1, _⟩ => ⟨S1x4096x8x96, .f32⟩
  | .hbm, ⟨2, _⟩ => ⟨S1x4096x8x64, .f32⟩
  | .hbm, ⟨3, _⟩ => ⟨S1x4096x512, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1x4096x8x96, .f32⟩
  | .hbm, ⟨9, _⟩ => ⟨S1x4096x8x96, .f32⟩
  | .hbm, ⟨10, _⟩ => ⟨S_, .i32⟩
  | .hbm, ⟨11, _⟩ => ⟨S_, .f32⟩
  | .hbm, ⟨12, _⟩ => ⟨S1x4096x8x128, .f32⟩
  | .hbm, ⟨13, _⟩ => ⟨S4096x1024, .f32⟩
  | .hbm, ⟨14, _⟩ => ⟨S4096x1024, .bf16⟩
  | .hbm, ⟨15, _⟩ => ⟨S_, .i32⟩
  | .hbm, ⟨16, _⟩ => ⟨S_, .f32⟩
  | .hbm, ⟨17, _⟩ => ⟨S1x4096x8x128, .f32⟩
  | .hbm, ⟨18, _⟩ => ⟨S4096x1024, .f32⟩
  | .hbm, ⟨19, _⟩ => ⟨S4096x1024, .bf16⟩
  | .hbm, ⟨20, _⟩ => ⟨S_, .i32⟩
  | .hbm, ⟨21, _⟩ => ⟨S_, .f32⟩
  | .hbm, ⟨22, _⟩ => ⟨S1x4096x8x128, .f32⟩
  | .hbm, ⟨23, _⟩ => ⟨S4096x1024, .f32⟩
  | .hbm, ⟨24, _⟩ => ⟨S4096x1024, .bf16⟩
  | .hbm, ⟨25, _⟩ => ⟨S1x4096x8x64, .f32⟩
  | .hbm, ⟨26, _⟩ => ⟨S_, .i32⟩
  | .hbm, ⟨27, _⟩ => ⟨S_, .f32⟩
  | .hbm, ⟨28, _⟩ => ⟨S1x4096x8x128, .f32⟩
  | .hbm, ⟨29, _⟩ => ⟨S4096x1024, .f32⟩
  | .hbm, ⟨30, _⟩ => ⟨S4096x1024, .bf16⟩
  | .hbm, ⟨31, _⟩ => ⟨S1x8x4096x4096, .f32⟩
  | .hbm, ⟨32, _⟩ => ⟨S_, .f32⟩
  | .hbm, ⟨33, _⟩ => ⟨S1x8x4096x4096, .f32⟩
  | .hbm, ⟨34, _⟩ => ⟨S1x8x4096x4096, .f32⟩
  | .hbm, ⟨35, _⟩ => ⟨S4096, .i32⟩
  | .hbm, ⟨36, _⟩ => ⟨S1x4096, .i32⟩
  | .hbm, ⟨37, _⟩ => ⟨S4096x1, .i32⟩
  | .hbm, ⟨38, _⟩ => ⟨S4096x4096, .i32⟩
  | .hbm, ⟨39, _⟩ => ⟨S4096x4096, .i32⟩
  | .hbm, ⟨40, _⟩ => ⟨S4096x4096, .i1⟩
  | .hbm, ⟨41, _⟩ => ⟨S_, .f32⟩
  | .hbm, ⟨42, _⟩ => ⟨S_, .f32⟩
  | .hbm, ⟨43, _⟩ => ⟨S1x8x4096x4096, .i1⟩
  | .hbm, ⟨44, _⟩ => ⟨S1x8x4096x4096, .f32⟩
  | .hbm, ⟨45, _⟩ => ⟨S1x8x4096x4096, .f32⟩
  | .hbm, ⟨46, _⟩ => ⟨S_, .f32⟩
  | .hbm, ⟨47, _⟩ => ⟨S1x8x4096, .f32⟩
  | .hbm, ⟨48, _⟩ => ⟨S1x8x4096x1, .f32⟩
  | .hbm, ⟨49, _⟩ => ⟨S1x8x4096x4096, .f32⟩
  | .hbm, ⟨50, _⟩ => ⟨S1x8x4096x4096, .f32⟩
  | .hbm, ⟨51, _⟩ => ⟨S1x8x4096x4096, .f32⟩
  | .hbm, ⟨52, _⟩ => ⟨S_, .f32⟩
  | .hbm, ⟨53, _⟩ => ⟨S1x8x4096, .f32⟩
  | .hbm, ⟨54, _⟩ => ⟨S1x8x4096x1, .f32⟩
  | .hbm, ⟨55, _⟩ => ⟨S1x8x4096x4096, .f32⟩
  | .hbm, ⟨56, _⟩ => ⟨S1x8x4096x4096, .f32⟩
  | .hbm, ⟨57, _⟩ => ⟨S1x8x64x4096, .f32⟩
  | .hbm, ⟨58, _⟩ => ⟨S1x4096x8x64, .f32⟩
  | .hbm, ⟨59, _⟩ => ⟨S1x4096x8x64, .bf16⟩
  | .hbm, ⟨60, _⟩ => ⟨S1x8x4096x1, .f32⟩
  | .hbm, ⟨61, _⟩ => ⟨S1x8x4096x1, .f32⟩
  | .hbm, ⟨62, _⟩ => ⟨S_, .f32⟩
  | .hbm, ⟨63, _⟩ => ⟨S_, .f32⟩
  | .hbm, ⟨64, _⟩ => ⟨S1x8x4096x1, .f32⟩
  | .hbm, ⟨65, _⟩ => ⟨S1x8x4096x1, .f32⟩
  | .hbm, ⟨66, _⟩ => ⟨S8x1x4096, .f32⟩
  | .hbm, ⟨67, _⟩ => ⟨S_, .i32⟩
  | .hbm, ⟨68, _⟩ => ⟨S_, .bf16⟩
  | .hbm, ⟨69, _⟩ => ⟨S1x4096x8x128, .bf16⟩
  | .hbm, ⟨70, _⟩ => ⟨S4096x1024, .bf16⟩
  | .hbm, ⟨71, _⟩ => ⟨S4096x1024, .bf16⟩
  | .hbm, ⟨72, _⟩ => ⟨S8x1x4096, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1x1x1024, .f32⟩
  | .local _ .vmem, ⟨9, _⟩ => ⟨S1x1x1024, .f32⟩
  | .local _ .vmem, ⟨10, _⟩ => ⟨S1024x128, .bf16⟩
  | .local _ .vmem, ⟨11, _⟩ => ⟨S1024x128, .bf16⟩
  | .local _ .vmem, ⟨12, _⟩ => ⟨S1024x128, .bf16⟩
  | .local _ .vmem, ⟨13, _⟩ => ⟨S1024x128, .bf16⟩
  | .local _ .vmem, ⟨14, _⟩ => ⟨S1x1x1024, .f32⟩
  | .local _ .vmem, ⟨15, _⟩ => ⟨S1x1x1024, .f32⟩
  | .local _ .vmem, ⟨16, _⟩ => ⟨S128x1024, .f32⟩
  | .local _ .vmem, ⟨17, _⟩ => ⟨S1x1024, .f32⟩
  | _, _ => ⟨S1x4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call1_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_call2_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_call3_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_call4_v0 : Ref sig .tc := ⟨.hbm, 42, rfl⟩
abbrev main_call4_v1 : Ref sig .tc := ⟨.hbm, 43, rfl⟩
abbrev main_call4_v2 : Ref sig .tc := ⟨.hbm, 44, rfl⟩
abbrev main_v26 : Ref sig .tc := ⟨.hbm, 45, rfl⟩
abbrev main_cst_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_c_9 : Ref sig .tc := ⟨.hbm, 67, rfl⟩
abbrev main_call5_v0 : Ref sig .tc := ⟨.hbm, 68, rfl⟩
abbrev main_v45 : Ref sig .tc := ⟨.hbm, 69, rfl⟩
abbrev main_v46 : Ref sig .tc := ⟨.hbm, 70, rfl⟩
abbrev main_v47_0 : Ref sig .tc := ⟨.hbm, 71, rfl⟩
abbrev main_v47_1 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 10], ![false, false]⟩

def k0_cond3 (i : grid0.Coords) : BitVec 1 :=
  let arg1 : BitVec 32 := BitVec.ofNat 32 (i 1).val
  let c0_i32 : BitVec 32 := 0#32
  let v0 : BitVec 32 := Scalar.muli arg1 c0_i32
  let c1_i32 : BitVec 32 := 1#32
  let v1 : BitVec 1 := Scalar.cmpi .sge arg1 c1_i32
  let v2 : BitVec 32 := Scalar.extui v1
  let v3 : BitVec 32 := Scalar.addi v0 v2
  let c3_i32 : BitVec 32 := 3#32
  let v4 : BitVec 1 := Scalar.cmpi .sge arg1 c3_i32
  let v5 : BitVec 32 := Scalar.extui v4
  let v6 : BitVec 32 := Scalar.addi v3 v5
  let c6_i32 : BitVec 32 := 6#32
  let v7 : BitVec 1 := Scalar.cmpi .sge arg1 c6_i32
  let v8 : BitVec 32 := Scalar.extui v7
  let v9 : BitVec 32 := Scalar.addi v6 v8
  let c1_i32_0 : BitVec 32 := 1#32
  let v10 : BitVec 32 := Scalar.addi v9 c1_i32_0
  let v11 : BitVec 32 := Scalar.muli v9 v10
  let c0_i32_1 : BitVec 32 := 0#32
  let v13 : BitVec 1 := Scalar.cmpi .sgt v11 c0_i32_1
  let v14 : BitVec 32 := Scalar.extui v13
  let c0_i32_2 : BitVec 32 := 0#32
  let v15 : BitVec 1 := Scalar.cmpi .slt v11 c0_i32_2
  let v16 : BitVec 32 := Scalar.extui v15
  let v17 : BitVec 32 := Scalar.subi v14 v16
  let c2_i32 : BitVec 32 := 2#32
  let c0_i32_3 : BitVec 32 := 0#32
  let v18 : BitVec 1 := Scalar.cmpi .sgt c2_i32 c0_i32_3
  let v19 : BitVec 32 := Scalar.extui v18
  let c0_i32_4 : BitVec 32 := 0#32
  let v20 : BitVec 1 := Scalar.cmpi .slt c2_i32 c0_i32_4
  let v21 : BitVec 32 := Scalar.extui v20
  let v22 : BitVec 32 := Scalar.subi v19 v21
  let v23 : BitVec 1 := Scalar.cmpi .ne v17 v22
  let v24 : BitVec 32 := Scalar.remsi v11 c2_i32
  let c0_i32_5 : BitVec 32 := 0#32
  let v25 : BitVec 1 := Scalar.cmpi .ne v24 c0_i32_5
  let v26 : BitVec 1 := Scalar.andi v23 v25
  let v12 : BitVec 32 := Scalar.divsi v11 c2_i32
  let c1_i32_6 : BitVec 32 := 1#32
  let v27 : BitVec 32 := Scalar.subi v12 c1_i32_6
  let v28 : BitVec 32 := Scalar.select v26 v27 v12
  let v29 : BitVec 32 := Scalar.subi arg1 v28
  let v36 : BitVec 1 := Scalar.cmpi .eq v29 v9
  let v37 : BitVec 32 := Scalar.extui v36
  let c0_i32_10 : BitVec 32 := 0#32
  let v38 : BitVec 1 := Scalar.cmpi .ne v37 c0_i32_10
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.muli arg1 c0_i32
  let c1_i32 : BitVec 32 := 1#32
  let v1 : BitVec 1 := Scalar.cmpi .sge arg1 c1_i32
  let v2 : BitVec 32 := Scalar.extui v1
  let v3 : BitVec 32 := Scalar.addi v0 v2
  let c3_i32 : BitVec 32 := 3#32
  let v4 : BitVec 1 := Scalar.cmpi .sge arg1 c3_i32
  let v5 : BitVec 32 := Scalar.extui v4
  let v6 : BitVec 32 := Scalar.addi v3 v5
  let c6_i32 : BitVec 32 := 6#32
  let v7 : BitVec 1 := Scalar.cmpi .sge arg1 c6_i32
  let v8 : BitVec 32 := Scalar.extui v7
  let v9 : BitVec 32 := Scalar.addi v6 v8
  let c1_i32_0 : BitVec 32 := 1#32
  let v10 : BitVec 32 := Scalar.addi v9 c1_i32_0
  let v11 : BitVec 32 := Scalar.muli v9 v10
  let c2_i32 : BitVec 32 := 2#32
  let v12 : BitVec 32 := Scalar.divsi v11 c2_i32
  let c0_i32_1 : BitVec 32 := 0#32
  let v13 : BitVec 1 := Scalar.cmpi .sgt v11 c0_i32_1
  let v14 : BitVec 32 := Scalar.extui v13
  let c0_i32_2 : BitVec 32 := 0#32
  let v15 : BitVec 1 := Scalar.cmpi .slt v11 c0_i32_2
  let v16 : BitVec 32 := Scalar.extui v15
  let v17 : BitVec 32 := Scalar.subi v14 v16
  let c0_i32_3 : BitVec 32 := 0#32
  let v18 : BitVec 1 := Scalar.cmpi .sgt c2_i32 c0_i32_3
  let v19 : BitVec 32 := Scalar.extui v18
  let c0_i32_4 : BitVec 32 := 0#32
  let v20 : BitVec 1 := Scalar.cmpi .slt c2_i32 c0_i32_4
  let v21 : BitVec 32 := Scalar.extui v20
  let v22 : BitVec 32 := Scalar.subi v19 v21
  let v23 : BitVec 1 := Scalar.cmpi .ne v17 v22
  let v24 : BitVec 32 := Scalar.remsi v11 c2_i32
  let c0_i32_5 : BitVec 32 := 0#32
  let v25 : BitVec 1 := Scalar.cmpi .ne v24 c0_i32_5
  let v26 : BitVec 1 := Scalar.andi v23 v25
  let c1_i32_6 : BitVec 32 := 1#32
  let v27 : BitVec 32 := Scalar.subi v12 c1_i32_6
  let v28 : BitVec 32 := Scalar.select v26 v27 v12
  let v29 : BitVec 32 := Scalar.subi arg1 v28
  let c0_i32_7 : BitVec 32 := 0#32
  ![v9.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.muli arg1 c0_i32
  let c1_i32 : BitVec 32 := 1#32
  let v1 : BitVec 1 := Scalar.cmpi .sge arg1 c1_i32
  let v2 : BitVec 32 := Scalar.extui v1
  let v3 : BitVec 32 := Scalar.addi v0 v2
  let c3_i32 : BitVec 32 := 3#32
  let v4 : BitVec 1 := Scalar.cmpi .sge arg1 c3_i32
  let v5 : BitVec 32 := Scalar.extui v4
  let v6 : BitVec 32 := Scalar.addi v3 v5
  let c6_i32 : BitVec 32 := 6#32
  let v7 : BitVec 1 := Scalar.cmpi .sge arg1 c6_i32
  let v8 : BitVec 32 := Scalar.extui v7
  let v9 : BitVec 32 := Scalar.addi v6 v8
  let c1_i32_0 : BitVec 32 := 1#32
  let v10 : BitVec 32 := Scalar.addi v9 c1_i32_0
  let v11 : BitVec 32 := Scalar.muli v9 v10
  let c2_i32 : BitVec 32 := 2#32
  let v12 : BitVec 32 := Scalar.divsi v11 c2_i32
  let c0_i32_1 : BitVec 32 := 0#32
  let v13 : BitVec 1 := Scalar.cmpi .sgt v11 c0_i32_1
  let v14 : BitVec 32 := Scalar.extui v13
  let c0_i32_2 : BitVec 32 := 0#32
  let v15 : BitVec 1 := Scalar.cmpi .slt v11 c0_i32_2
  let v16 : BitVec 32 := Scalar.extui v15
  let v17 : BitVec 32 := Scalar.subi v14 v16
  let c0_i32_3 : BitVec 32 := 0#32
  let v18 : BitVec 1 := Scalar.cmpi .sgt c2_i32 c0_i32_3
  let v19 : BitVec 32 := Scalar.extui v18
  let c0_i32_4 : BitVec 32 := 0#32
  let v20 : BitVec 1 := Scalar.cmpi .slt c2_i32 c0_i32_4
  let v21 : BitVec 32 := Scalar.extui v20
  let v22 : BitVec 32 := Scalar.subi v19 v21
  let v23 : BitVec 1 := Scalar.cmpi .ne v17 v22
  let v24 : BitVec 32 := Scalar.remsi v11 c2_i32
  let c0_i32_5 : BitVec 32 := 0#32
  let v25 : BitVec 1 := Scalar.cmpi .ne v24 c0_i32_5
  let v26 : BitVec 1 := Scalar.andi v23 v25
  let c1_i32_6 : BitVec 32 := 1#32
  let v27 : BitVec 32 := Scalar.subi v12 c1_i32_6
  let v28 : BitVec 32 := Scalar.select v26 v27 v12
  let v29 : BitVec 32 := Scalar.subi arg1 v28
  let c0_i32_7 : BitVec 32 := 0#32
  ![v29.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.muli arg1 c0_i32
  let c1_i32 : BitVec 32 := 1#32
  let v1 : BitVec 1 := Scalar.cmpi .sge arg1 c1_i32
  let v2 : BitVec 32 := Scalar.extui v1
  let v3 : BitVec 32 := Scalar.addi v0 v2
  let c3_i32 : BitVec 32 := 3#32
  let v4 : BitVec 1 := Scalar.cmpi .sge arg1 c3_i32
  let v5 : BitVec 32 := Scalar.extui v4
  let v6 : BitVec 32 := Scalar.addi v3 v5
  let c6_i32 : BitVec 32 := 6#32
  let v7 : BitVec 1 := Scalar.cmpi .sge arg1 c6_i32
  let v8 : BitVec 32 := Scalar.extui v7
  let v9 : BitVec 32 := Scalar.addi v6 v8
  let c1_i32_0 : BitVec 32 := 1#32
  let v10 : BitVec 32 := Scalar.addi v9 c1_i32_0
  let v11 : BitVec 32 := Scalar.muli v9 v10
  let c2_i32 : BitVec 32 := 2#32
  let v12 : BitVec 32 := Scalar.divsi v11 c2_i32
  let c0_i32_1 : BitVec 32 := 0#32
  let v13 : BitVec 1 := Scalar.cmpi .sgt v11 c0_i32_1
  let v14 : BitVec 32 := Scalar.extui v13
  let c0_i32_2 : BitVec 32 := 0#32
  let v15 : BitVec 1 := Scalar.cmpi .slt v11 c0_i32_2
  let v16 : BitVec 32 := Scalar.extui v15
  let v17 : BitVec 32 := Scalar.subi v14 v16
  let c0_i32_3 : BitVec 32 := 0#32
  let v18 : BitVec 1 := Scalar.cmpi .sgt c2_i32 c0_i32_3
  let v19 : BitVec 32 := Scalar.extui v18
  let c0_i32_4 : BitVec 32 := 0#32
  let v20 : BitVec 1 := Scalar.cmpi .slt c2_i32 c0_i32_4
  let v21 : BitVec 32 := Scalar.extui v20
  let v22 : BitVec 32 := Scalar.subi v19 v21
  let v23 : BitVec 1 := Scalar.cmpi .ne v17 v22
  let v24 : BitVec 32 := Scalar.remsi v11 c2_i32
  let c0_i32_5 : BitVec 32 := 0#32
  let v25 : BitVec 1 := Scalar.cmpi .ne v24 c0_i32_5
  let v26 : BitVec 1 := Scalar.andi v23 v25
  let c1_i32_6 : BitVec 32 := 1#32
  let v27 : BitVec 32 := Scalar.subi v12 c1_i32_6
  let v28 : BitVec 32 := Scalar.select v26 v27 v12
  let v29 : BitVec 32 := Scalar.subi arg1 v28
  let c0_i32_7 : BitVec 32 := 0#32
  ![v29.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.muli arg1 c0_i32
  let c1_i32 : BitVec 32 := 1#32
  let v1 : BitVec 1 := Scalar.cmpi .sge arg1 c1_i32
  let v2 : BitVec 32 := Scalar.extui v1
  let v3 : BitVec 32 := Scalar.addi v0 v2
  let c3_i32 : BitVec 32 := 3#32
  let v4 : BitVec 1 := Scalar.cmpi .sge arg1 c3_i32
  let v5 : BitVec 32 := Scalar.extui v4
  let v6 : BitVec 32 := Scalar.addi v3 v5
  let c6_i32 : BitVec 32 := 6#32
  let v7 : BitVec 1 := Scalar.cmpi .sge arg1 c6_i32
  let v8 : BitVec 32 := Scalar.extui v7
  let v9 : BitVec 32 := Scalar.addi v6 v8
  let c1_i32_0 : BitVec 32 := 1#32
  let v10 : BitVec 32 := Scalar.addi v9 c1_i32_0
  let v11 : BitVec 32 := Scalar.muli v9 v10
  let c2_i32 : BitVec 32 := 2#32
  let v12 : BitVec 32 := Scalar.divsi v11 c2_i32
  let c0_i32_1 : BitVec 32 := 0#32
  let v13 : BitVec 1 := Scalar.cmpi .sgt v11 c0_i32_1
  let v14 : BitVec 32 := Scalar.extui v13
  let c0_i32_2 : BitVec 32 := 0#32
  let v15 : BitVec 1 := Scalar.cmpi .slt v11 c0_i32_2
  let v16 : BitVec 32 := Scalar.extui v15
  let v17 : BitVec 32 := Scalar.subi v14 v16
  let c0_i32_3 : BitVec 32 := 0#32
  let v18 : BitVec 1 := Scalar.cmpi .sgt c2_i32 c0_i32_3
  let v19 : BitVec 32 := Scalar.extui v18
  let c0_i32_4 : BitVec 32 := 0#32
  let v20 : BitVec 1 := Scalar.cmpi .slt c2_i32 c0_i32_4
  let v21 : BitVec 32 := Scalar.extui v20
  let v22 : BitVec 32 := Scalar.subi v19 v21
  let v23 : BitVec 1 := Scalar.cmpi .ne v17 v22
  let v24 : BitVec 32 := Scalar.remsi v11 c2_i32
  let c0_i32_5 : BitVec 32 := 0#32
  let v25 : BitVec 1 := Scalar.cmpi .ne v24 c0_i32_5
  let v26 : BitVec 1 := Scalar.andi v23 v25
  let c1_i32_6 : BitVec 32 := 1#32
  let v27 : BitVec 32 := Scalar.subi v12 c1_i32_6
  let v28 : BitVec 32 := Scalar.select v26 v27 v12
  let v29 : BitVec 32 := Scalar.subi arg1 v28
  let c0_i32_7 : BitVec 32 := 0#32
  ![v9.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.muli arg1 c0_i32
  let c1_i32 : BitVec 32 := 1#32
  let v1 : BitVec 1 := Scalar.cmpi .sge arg1 c1_i32
  let v2 : BitVec 32 := Scalar.extui v1
  let v3 : BitVec 32 := Scalar.addi v0 v2
  let c3_i32 : BitVec 32 := 3#32
  let v4 : BitVec 1 := Scalar.cmpi .sge arg1 c3_i32
  let v5 : BitVec 32 := Scalar.extui v4
  let v6 : BitVec 32 := Scalar.addi v3 v5
  let c6_i32 : BitVec 32 := 6#32
  let v7 : BitVec 1 := Scalar.cmpi .sge arg1 c6_i32
  let v8 : BitVec 32 := Scalar.extui v7
  let v9 : BitVec 32 := Scalar.addi v6 v8
  let c1_i32_0 : BitVec 32 := 1#32
  let v10 : BitVec 32 := Scalar.addi v9 c1_i32_0
  let v11 : BitVec 32 := Scalar.muli v9 v10
  let c2_i32 : BitVec 32 := 2#32
  let v12 : BitVec 32 := Scalar.divsi v11 c2_i32
  let c0_i32_1 : BitVec 32 := 0#32
  let v13 : BitVec 1 := Scalar.cmpi .sgt v11 c0_i32_1
  let v14 : BitVec 32 := Scalar.extui v13
  let c0_i32_2 : BitVec 32 := 0#32
  let v15 : BitVec 1 := Scalar.cmpi .slt v11 c0_i32_2
  let v16 : BitVec 32 := Scalar.extui v15
  let v17 : BitVec 32 := Scalar.subi v14 v16
  let c0_i32_3 : BitVec 32 := 0#32
  let v18 : BitVec 1 := Scalar.cmpi .sgt c2_i32 c0_i32_3
  let v19 : BitVec 32 := Scalar.extui v18
  let c0_i32_4 : BitVec 32 := 0#32
  let v20 : BitVec 1 := Scalar.cmpi .slt c2_i32 c0_i32_4
  let v21 : BitVec 32 := Scalar.extui v20
  let v22 : BitVec 32 := Scalar.subi v19 v21
  let v23 : BitVec 1 := Scalar.cmpi .ne v17 v22
  let v24 : BitVec 32 := Scalar.remsi v11 c2_i32
  let c0_i32_5 : BitVec 32 := 0#32
  let v25 : BitVec 1 := Scalar.cmpi .ne v24 c0_i32_5
  let v26 : BitVec 1 := Scalar.andi v23 v25
  let c1_i32_6 : BitVec 32 := 1#32
  let v27 : BitVec 32 := Scalar.subi v12 c1_i32_6
  let v28 : BitVec 32 := Scalar.select v26 v27 v12
  let v29 : BitVec 32 := Scalar.subi arg1 v28
  let c0_i32_7 : BitVec 32 := 0#32
  let c0_i32_8 : BitVec 32 := 0#32
  ![arg0.toNat, c0_i32_7.toNat, v9.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.muli arg1 c0_i32
  let c1_i32 : BitVec 32 := 1#32
  let v1 : BitVec 1 := Scalar.cmpi .sge arg1 c1_i32
  let v2 : BitVec 32 := Scalar.extui v1
  let v3 : BitVec 32 := Scalar.addi v0 v2
  let c3_i32 : BitVec 32 := 3#32
  let v4 : BitVec 1 := Scalar.cmpi .sge arg1 c3_i32
  let v5 : BitVec 32 := Scalar.extui v4
  let v6 : BitVec 32 := Scalar.addi v3 v5
  let c6_i32 : BitVec 32 := 6#32
  let v7 : BitVec 1 := Scalar.cmpi .sge arg1 c6_i32
  let v8 : BitVec 32 := Scalar.extui v7
  let v9 : BitVec 32 := Scalar.addi v6 v8
  let c1_i32_0 : BitVec 32 := 1#32
  let v10 : BitVec 32 := Scalar.addi v9 c1_i32_0
  let v11 : BitVec 32 := Scalar.muli v9 v10
  let c2_i32 : BitVec 32 := 2#32
  let v12 : BitVec 32 := Scalar.divsi v11 c2_i32
  let c0_i32_1 : BitVec 32 := 0#32
  let v13 : BitVec 1 := Scalar.cmpi .sgt v11 c0_i32_1
  let v14 : BitVec 32 := Scalar.extui v13
  let c0_i32_2 : BitVec 32 := 0#32
  let v15 : BitVec 1 := Scalar.cmpi .slt v11 c0_i32_2
  let v16 : BitVec 32 := Scalar.extui v15
  let v17 : BitVec 32 := Scalar.subi v14 v16
  let c0_i32_3 : BitVec 32 := 0#32
  let v18 : BitVec 1 := Scalar.cmpi .sgt c2_i32 c0_i32_3
  let v19 : BitVec 32 := Scalar.extui v18
  let c0_i32_4 : BitVec 32 := 0#32
  let v20 : BitVec 1 := Scalar.cmpi .slt c2_i32 c0_i32_4
  let v21 : BitVec 32 := Scalar.extui v20
  let v22 : BitVec 32 := Scalar.subi v19 v21
  let v23 : BitVec 1 := Scalar.cmpi .ne v17 v22
  let v24 : BitVec 32 := Scalar.remsi v11 c2_i32
  let c0_i32_5 : BitVec 32 := 0#32
  let v25 : BitVec 1 := Scalar.cmpi .ne v24 c0_i32_5
  let v26 : BitVec 1 := Scalar.andi v23 v25
  let c1_i32_6 : BitVec 32 := 1#32
  let v27 : BitVec 32 := Scalar.subi v12 c1_i32_6
  let v28 : BitVec 32 := Scalar.select v26 v27 v12
  let v29 : BitVec 32 := Scalar.subi arg1 v28
  let c0_i32_7 : BitVec 32 := 0#32
  ![v9.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.muli arg1 c0_i32
  let c1_i32 : BitVec 32 := 1#32
  let v1 : BitVec 1 := Scalar.cmpi .sge arg1 c1_i32
  let v2 : BitVec 32 := Scalar.extui v1
  let v3 : BitVec 32 := Scalar.addi v0 v2
  let c3_i32 : BitVec 32 := 3#32
  let v4 : BitVec 1 := Scalar.cmpi .sge arg1 c3_i32
  let v5 : BitVec 32 := Scalar.extui v4
  let v6 : BitVec 32 := Scalar.addi v3 v5
  let c6_i32 : BitVec 32 := 6#32
  let v7 : BitVec 1 := Scalar.cmpi .sge arg1 c6_i32
  let v8 : BitVec 32 := Scalar.extui v7
  let v9 : BitVec 32 := Scalar.addi v6 v8
  let c1_i32_0 : BitVec 32 := 1#32
  let v10 : BitVec 32 := Scalar.addi v9 c1_i32_0
  let v11 : BitVec 32 := Scalar.muli v9 v10
  let c2_i32 : BitVec 32 := 2#32
  let v12 : BitVec 32 := Scalar.divsi v11 c2_i32
  let c0_i32_1 : BitVec 32 := 0#32
  let v13 : BitVec 1 := Scalar.cmpi .sgt v11 c0_i32_1
  let v14 : BitVec 32 := Scalar.extui v13
  let c0_i32_2 : BitVec 32 := 0#32
  let v15 : BitVec 1 := Scalar.cmpi .slt v11 c0_i32_2
  let v16 : BitVec 32 := Scalar.extui v15
  let v17 : BitVec 32 := Scalar.subi v14 v16
  let c0_i32_3 : BitVec 32 := 0#32
  let v18 : BitVec 1 := Scalar.cmpi .sgt c2_i32 c0_i32_3
  let v19 : BitVec 32 := Scalar.extui v18
  let c0_i32_4 : BitVec 32 := 0#32
  let v20 : BitVec 1 := Scalar.cmpi .slt c2_i32 c0_i32_4
  let v21 : BitVec 32 := Scalar.extui v20
  let v22 : BitVec 32 := Scalar.subi v19 v21
  let v23 : BitVec 1 := Scalar.cmpi .ne v17 v22
  let v24 : BitVec 32 := Scalar.remsi v11 c2_i32
  let c0_i32_5 : BitVec 32 := 0#32
  let v25 : BitVec 1 := Scalar.cmpi .ne v24 c0_i32_5
  let v26 : BitVec 1 := Scalar.andi v23 v25
  let c1_i32_6 : BitVec 32 := 1#32
  let v27 : BitVec 32 := Scalar.subi v12 c1_i32_6
  let v28 : BitVec 32 := Scalar.select v26 v27 v12
  let v29 : BitVec 32 := Scalar.subi arg1 v28
  let c0_i32_7 : BitVec 32 := 0#32
  ![v9.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.muli arg1 c0_i32
  let c1_i32 : BitVec 32 := 1#32
  let v1 : BitVec 1 := Scalar.cmpi .sge arg1 c1_i32
  let v2 : BitVec 32 := Scalar.extui v1
  let v3 : BitVec 32 := Scalar.addi v0 v2
  let c3_i32 : BitVec 32 := 3#32
  let v4 : BitVec 1 := Scalar.cmpi .sge arg1 c3_i32
  let v5 : BitVec 32 := Scalar.extui v4
  let v6 : BitVec 32 := Scalar.addi v3 v5
  let c6_i32 : BitVec 32 := 6#32
  let v7 : BitVec 1 := Scalar.cmpi .sge arg1 c6_i32
  let v8 : BitVec 32 := Scalar.extui v7
  let v9 : BitVec 32 := Scalar.addi v6 v8
  let c1_i32_0 : BitVec 32 := 1#32
  let v10 : BitVec 32 := Scalar.addi v9 c1_i32_0
  let v11 : BitVec 32 := Scalar.muli v9 v10
  let c2_i32 : BitVec 32 := 2#32
  let v12 : BitVec 32 := Scalar.divsi v11 c2_i32
  let c0_i32_1 : BitVec 32 := 0#32
  let v13 : BitVec 1 := Scalar.cmpi .sgt v11 c0_i32_1
  let v14 : BitVec 32 := Scalar.extui v13
  let c0_i32_2 : BitVec 32 := 0#32
  let v15 : BitVec 1 := Scalar.cmpi .slt v11 c0_i32_2
  let v16 : BitVec 32 := Scalar.extui v15
  let v17 : BitVec 32 := Scalar.subi v14 v16
  let c0_i32_3 : BitVec 32 := 0#32
  let v18 : BitVec 1 := Scalar.cmpi .sgt c2_i32 c0_i32_3
  let v19 : BitVec 32 := Scalar.extui v18
  let c0_i32_4 : BitVec 32 := 0#32
  let v20 : BitVec 1 := Scalar.cmpi .slt c2_i32 c0_i32_4
  let v21 : BitVec 32 := Scalar.extui v20
  let v22 : BitVec 32 := Scalar.subi v19 v21
  let v23 : BitVec 1 := Scalar.cmpi .ne v17 v22
  let v24 : BitVec 32 := Scalar.remsi v11 c2_i32
  let c0_i32_5 : BitVec 32 := 0#32
  let v25 : BitVec 1 := Scalar.cmpi .ne v24 c0_i32_5
  let v26 : BitVec 1 := Scalar.andi v23 v25
  let c1_i32_6 : BitVec 32 := 1#32
  let v27 : BitVec 32 := Scalar.subi v12 c1_i32_6
  let v28 : BitVec 32 := Scalar.select v26 v27 v12
  let v29 : BitVec 32 := Scalar.subi arg1 v28
  let c0_i32_7 : BitVec 32 := 0#32
  let c0_i32_8 : BitVec 32 := 0#32
  ![arg0.toNat, c0_i32_7.toNat, v9.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S1x4096x8x96 : Shape := ⟨4, ![1, 4096, 8, 96]⟩
abbrev S1x4096x8x64 : Shape := ⟨4, ![1, 4096, 8, 64]⟩
abbrev S1x4096x512 : Shape := ⟨3, ![1, 4096, 512]⟩
abbrev S1x8x4096x4096 : Shape := ⟨4, ![1, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x8x4096 : Shape := ⟨3, ![1, 8, 4096]⟩
abbrev S1x8x4096x1 : Shape := ⟨4, ![1, 8, 4096, 1]⟩
abbrev S1x8x64x4096 : Shape := ⟨4, ![1, 8, 64, 4096]⟩
abbrev S4096x8x64 : Shape := ⟨3, ![4096, 8, 64]⟩
abbrev S4096x8 : Shape := ⟨2, ![4096, 8]⟩
abbrev S8x4096 : Shape := ⟨2, ![8, 4096]⟩
abbrev S1x8x4096x96 : Shape := ⟨4, ![1, 8, 4096, 96]⟩
abbrev S1x4096x8x128 : Shape := ⟨4, ![1, 4096, 8, 128]⟩
abbrev S4096x1024 : Shape := ⟨2, ![4096, 1024]⟩
abbrev S8x1x4096 : Shape := ⟨3, ![8, 1, 4096]⟩

abbrev nBuf : Space → Nat
  | .hbm => 99
  | .vmem => 0
  | .smem => 0
  | _ => 0

abbrev bufTy : (tb : Table) → Fin (tcTables nBuf tb) → BufTy
  | .hbm, ⟨0, _⟩ => ⟨S1x4096x8x96, .f32⟩
  | .hbm, ⟨1, _⟩ => ⟨S1x4096x8x96, .f32⟩
  | .hbm, ⟨2, _⟩ => ⟨S1x4096x8x64, .f32⟩
  | .hbm, ⟨3, _⟩ => ⟨S1x4096x512, .f32⟩
  | .hbm, ⟨4, _⟩ => ⟨S1x8x4096x4096, .f32⟩
  | .hbm, ⟨5, _⟩ => ⟨S_, .f32⟩
  | .hbm, ⟨6, _⟩ => ⟨S1x8x4096x4096, .f32⟩
  | .hbm, ⟨7, _⟩ => ⟨S1x8x4096x4096, .f32⟩
  | .hbm, ⟨8, _⟩ => ⟨S4096, .i32⟩
  | .hbm, ⟨9, _⟩ => ⟨S1x4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S_, .f32⟩
  | .hbm, ⟨15, _⟩ => ⟨S_, .f32⟩
  | .hbm, ⟨16, _⟩ => ⟨S1x8x4096x4096, .i1⟩
  | .hbm, ⟨17, _⟩ => ⟨S1x8x4096x4096, .f32⟩
  | .hbm, ⟨18, _⟩ => ⟨S1x8x4096x4096, .f32⟩
  | .hbm, ⟨19, _⟩ => ⟨S_, .f32⟩
  | .hbm, ⟨20, _⟩ => ⟨S1x8x4096x4096, .f32⟩
  | .hbm, ⟨21, _⟩ => ⟨S_, .f32⟩
  | .hbm, ⟨22, _⟩ => ⟨S1x8x4096, .f32⟩
  | .hbm, ⟨23, _⟩ => ⟨S1x8x4096x1, .f32⟩
  | .hbm, ⟨24, _⟩ => ⟨S1x8x4096x4096, .f32⟩
  | .hbm, ⟨25, _⟩ => ⟨S1x8x4096x4096, .i1⟩
  | .hbm, ⟨26, _⟩ => ⟨S1x8x4096x4096, .f32⟩
  | .hbm, ⟨27, _⟩ => ⟨S_, .f32⟩
  | .hbm, ⟨28, _⟩ => ⟨S1x8x4096, .f32⟩
  | .hbm, ⟨29, _⟩ => ⟨S_, .f32⟩
  | .hbm, ⟨30, _⟩ => ⟨S1x8x4096, .f32⟩
  | .hbm, ⟨31, _⟩ => ⟨S1x8x4096, .f32⟩
  | .hbm, ⟨32, _⟩ => ⟨S_, .f32⟩
  | .hbm, ⟨33, _⟩ => ⟨S1x8x4096, .f32⟩
  | .hbm, ⟨34, _⟩ => ⟨S1x8x4096, .i1⟩
  | .hbm, ⟨35, _⟩ => ⟨S_, .f32⟩
  | .hbm, ⟨36, _⟩ => ⟨S1x8x4096, .f32⟩
  | .hbm, ⟨37, _⟩ => ⟨S1x8x4096, .i1⟩
  | .hbm, ⟨38, _⟩ => ⟨S_, .f32⟩
  | .hbm, ⟨39, _⟩ => ⟨S1x8x4096, .f32⟩
  | .hbm, ⟨40, _⟩ => ⟨S_, .f32⟩
  | .hbm, ⟨41, _⟩ => ⟨S1x8x4096, .f32⟩
  | .hbm, ⟨42, _⟩ => ⟨S_, .f32⟩
  | .hbm, ⟨43, _⟩ => ⟨S1x8x4096, .f32⟩
  | .hbm, ⟨44, _⟩ => ⟨S1x8x4096, .f32⟩
  | .hbm, ⟨45, _⟩ => ⟨S1x8x4096, .f32⟩
  | .hbm, ⟨46, _⟩ => ⟨S1x8x4096x1, .f32⟩
  | .hbm, ⟨47, _⟩ => ⟨S1x8x4096x4096, .f32⟩
  | .hbm, ⟨48, _⟩ => ⟨S1x8x4096x4096, .f32⟩
  | .hbm, ⟨49, _⟩ => ⟨S1x8x4096x4096, .f32⟩
  | .hbm, ⟨50, _⟩ => ⟨S_, .f32⟩
  | .hbm, ⟨51, _⟩ => ⟨S1x8x4096, .f32⟩
  | .hbm, ⟨52, _⟩ => ⟨S1x8x4096x1, .f32⟩
  | .hbm, ⟨53, _⟩ => ⟨S1x8x4096x4096, .f32⟩
  | .hbm, ⟨54, _⟩ => ⟨S1x8x4096x4096, .f32⟩
  | .hbm, ⟨55, _⟩ => ⟨S1x8x4096x1, .f32⟩
  | .hbm, ⟨56, _⟩ => ⟨S_, .f32⟩
  | .hbm, ⟨57, _⟩ => ⟨S1x8x4096x1, .f32⟩
  | .hbm, ⟨58, _⟩ => ⟨S1x8x4096x1, .f32⟩
  | .hbm, ⟨59, _⟩ => ⟨S1x8x64x4096, .f32⟩
  | .hbm, ⟨60, _⟩ => ⟨S1x4096x8x64, .f32⟩
  | .hbm, ⟨61, _⟩ => ⟨S1x4096x512, .f32⟩
  | .hbm, ⟨62, _⟩ => ⟨S1x4096x512, .f32⟩
  | .hbm, ⟨63, _⟩ => ⟨S4096x8x64, .f32⟩
  | .hbm, ⟨64, _⟩ => ⟨S_, .f32⟩
  | .hbm, ⟨65, _⟩ => ⟨S4096x8, .f32⟩
  | .hbm, ⟨66, _⟩ => ⟨S8x4096, .f32⟩
  | .hbm, ⟨67, _⟩ => ⟨S1x4096x8x64, .f32⟩
  | .hbm, ⟨68, _⟩ => ⟨S1x8x64x4096, .f32⟩
  | .hbm, ⟨69, _⟩ => ⟨S1x8x4096x4096, .f32⟩
  | .hbm, ⟨70, _⟩ => ⟨S1x8x4096x4096, .f32⟩
  | .hbm, ⟨71, _⟩ => ⟨S1x8x4096x4096, .f32⟩
  | .hbm, ⟨72, _⟩ => ⟨S1x8x4096x4096, .f32⟩
  | .hbm, ⟨73, _⟩ => ⟨S_, .f32⟩
  | .hbm, ⟨74, _⟩ => ⟨S1x8x4096, .f32⟩
  | .hbm, ⟨75, _⟩ => ⟨S1x8x4096x1, .f32⟩
  | .hbm, ⟨76, _⟩ => ⟨S1x8x4096x1, .f32⟩
  | .hbm, ⟨77, _⟩ => ⟨S1x8x4096x4096, .f32⟩
  | .hbm, ⟨78, _⟩ => ⟨S1x8x4096x4096, .f32⟩
  | .hbm, ⟨79, _⟩ => ⟨S_, .f32⟩
  | .hbm, ⟨80, _⟩ => ⟨S8x4096, .f32⟩
  | .hbm, ⟨81, _⟩ => ⟨S1x8x4096, .f32⟩
  | .hbm, ⟨82, _⟩ => ⟨S1x8x4096x4096, .f32⟩
  | .hbm, ⟨83, _⟩ => ⟨S1x8x4096x4096, .f32⟩
  | .hbm, ⟨84, _⟩ => ⟨S1x8x4096x4096, .f32⟩
  | .hbm, ⟨85, _⟩ => ⟨S_, .f32⟩
  | .hbm, ⟨86, _⟩ => ⟨S1x8x4096x4096, .f32⟩
  | .hbm, ⟨87, _⟩ => ⟨S1x8x4096x4096, .f32⟩
  | .hbm, ⟨88, _⟩ => ⟨S_, .f32⟩
  | .hbm, ⟨89, _⟩ => ⟨S1x8x4096x4096, .f32⟩
  | .hbm, ⟨90, _⟩ => ⟨S1x8x4096x4096, .f32⟩
  | .hbm, ⟨91, _⟩ => ⟨S1x8x4096x96, .f32⟩
  | .hbm, ⟨92, _⟩ => ⟨S1x4096x8x96, .f32⟩
  | .hbm, ⟨93, _⟩ => ⟨S_, .i32⟩
  | .hbm, ⟨94, _⟩ => ⟨S_, .f32⟩
  | .hbm, ⟨95, _⟩ => ⟨S1x4096x8x128, .f32⟩
  | .hbm, ⟨96, _⟩ => ⟨S4096x1024, .f32⟩
  | .hbm, ⟨97, _⟩ => ⟨S4096x1024, .bf16⟩
  | .hbm, ⟨98, _⟩ => ⟨S8x1x4096, .f32⟩
  | _, _ => ⟨S1x4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_11 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_12 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_13 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_call1_cst : Ref sig .tc := ⟨.hbm, 85, rfl⟩
abbrev main_call1_v0 : Ref sig .tc := ⟨.hbm, 86, rfl⟩
abbrev main_v61 : Ref sig .tc := ⟨.hbm, 87, rfl⟩
abbrev main_cst_14 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c : Ref sig .tc := ⟨.hbm, 93, rfl⟩
abbrev main_call2_v0 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩

abbrev nD : Nat := 1
abbrev τ : Topo := Topo.v7x

variable {F : FTy → Type} [FloatOps F]
-- ==== Kernel2.lean ====
abbrev S1x4096x8x96 : Shape := ⟨4, ![1, 4096, 8, 96]⟩
abbrev S1x4096x8x64 : Shape := ⟨4, ![1, 4096, 8, 64]⟩
abbrev S1x4096x512 : Shape := ⟨3, ![1, 4096, 512]⟩
abbrev S_ : Shape := ⟨0, ![]⟩
abbrev S1x4096x8x128 : Shape := ⟨4, ![1, 4096, 8, 128]⟩
abbrev S4096x1024 : Shape := ⟨2, ![4096, 1024]⟩
abbrev S1x8x4096x4096 : Shape := ⟨4, ![1, 8, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x8x4096 : Shape := ⟨3, ![1, 8, 4096]⟩
abbrev S1x8x4096x1 : Shape := ⟨4, ![1, 8, 4096, 1]⟩
abbrev S1x8x64x4096 : Shape := ⟨4, ![1, 8, 64, 4096]⟩
abbrev S8x1x4096 : Shape := ⟨3, ![8, 1, 4096]⟩
abbrev S1x4096x8 : Shape := ⟨3, ![1, 4096, 8]⟩
abbrev S1024x128 : Shape := ⟨2, ![1024, 128]⟩
abbrev S1x1x1024 : Shape := ⟨3, ![1, 1, 1024]⟩
abbrev S1024x1024 : Shape := ⟨2, ![1024, 1024]⟩
abbrev S1x1024 : Shape := ⟨2, ![1, 1024]⟩

abbrev nBuf : Space → Nat
  | .hbm => 78
  | .vmem => 18
  | .smem => 0
  | _ => 0

abbrev bufTy : (tb : Table) → Fin (tcTables nBuf tb) → BufTy
  | .hbm, ⟨0, _⟩ => ⟨S1x4096x8x96, .f32⟩
  | .hbm, ⟨1, _⟩ => ⟨S1x4096x8x96, .f32⟩
  | .hbm, ⟨2, _⟩ => ⟨S1x4096x8x64, .f32⟩
  | .hbm, ⟨3, _⟩ => ⟨S1x4096x512, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1x4096x8x96, .f32⟩
  | .hbm, ⟨9, _⟩ => ⟨S1x4096x8x96, .f32⟩
  | .hbm, ⟨10, _⟩ => ⟨S_, .i32⟩
  | .hbm, ⟨11, _⟩ => ⟨S_, .f32⟩
  | .hbm, ⟨12, _⟩ => ⟨S1x4096x8x128, .f32⟩
  | .hbm, ⟨13, _⟩ => ⟨S4096x1024, .f32⟩
  | .hbm, ⟨14, _⟩ => ⟨S4096x1024, .bf16⟩
  | .hbm, ⟨15, _⟩ => ⟨S_, .i32⟩
  | .hbm, ⟨16, _⟩ => ⟨S_, .f32⟩
  | .hbm, ⟨17, _⟩ => ⟨S1x4096x8x128, .f32⟩
  | .hbm, ⟨18, _⟩ => ⟨S4096x1024, .f32⟩
  | .hbm, ⟨19, _⟩ => ⟨S4096x1024, .bf16⟩
  | .hbm, ⟨20, _⟩ => ⟨S_, .i32⟩
  | .hbm, ⟨21, _⟩ => ⟨S_, .f32⟩
  | .hbm, ⟨22, _⟩ => ⟨S1x4096x8x128, .f32⟩
  | .hbm, ⟨23, _⟩ => ⟨S4096x1024, .f32⟩
  | .hbm, ⟨24, _⟩ => ⟨S4096x1024, .bf16⟩
  | .hbm, ⟨25, _⟩ => ⟨S1x4096x8x64, .f32⟩
  | .hbm, ⟨26, _⟩ => ⟨S_, .i32⟩
  | .hbm, ⟨27, _⟩ => ⟨S_, .f32⟩
  | .hbm, ⟨28, _⟩ => ⟨S1x4096x8x128, .f32⟩
  | .hbm, ⟨29, _⟩ => ⟨S4096x1024, .f32⟩
  | .hbm, ⟨30, _⟩ => ⟨S4096x1024, .bf16⟩
  | .hbm, ⟨31, _⟩ => ⟨S1x8x4096x4096, .f32⟩
  | .hbm, ⟨32, _⟩ => ⟨S_, .f32⟩
  | .hbm, ⟨33, _⟩ => ⟨S1x8x4096x4096, .f32⟩
  | .hbm, ⟨34, _⟩ => ⟨S1x8x4096x4096, .f32⟩
  | .hbm, ⟨35, _⟩ => ⟨S4096, .i32⟩
  | .hbm, ⟨36, _⟩ => ⟨S1x4096, .i32⟩
  | .hbm, ⟨37, _⟩ => ⟨S4096x1, .i32⟩
  | .hbm, ⟨38, _⟩ => ⟨S4096x4096, .i32⟩
  | .hbm, ⟨39, _⟩ => ⟨S4096x4096, .i32⟩
  | .hbm, ⟨40, _⟩ => ⟨S4096x4096, .i1⟩
  | .hbm, ⟨41, _⟩ => ⟨S_, .f32⟩
  | .hbm, ⟨42, _⟩ => ⟨S_, .f32⟩
  | .hbm, ⟨43, _⟩ => ⟨S1x8x4096x4096, .i1⟩
  | .hbm, ⟨44, _⟩ => ⟨S1x8x4096x4096, .f32⟩
  | .hbm, ⟨45, _⟩ => ⟨S1x8x4096x4096, .f32⟩
  | .hbm, ⟨46, _⟩ => ⟨S_, .f32⟩
  | .hbm, ⟨47, _⟩ => ⟨S1x8x4096, .f32⟩
  | .hbm, ⟨48, _⟩ => ⟨S1x8x4096x1, .f32⟩
  | .hbm, ⟨49, _⟩ => ⟨S1x8x4096x4096, .f32⟩
  | .hbm, ⟨50, _⟩ => ⟨S1x8x4096x4096, .f32⟩
  | .hbm, ⟨51, _⟩ => ⟨S1x8x4096x4096, .f32⟩
  | .hbm, ⟨52, _⟩ => ⟨S_, .f32⟩
  | .hbm, ⟨53, _⟩ => ⟨S1x8x4096, .f32⟩
  | .hbm, ⟨54, _⟩ => ⟨S1x8x4096x1, .f32⟩
  | .hbm, ⟨55, _⟩ => ⟨S1x8x4096x4096, .f32⟩
  | .hbm, ⟨56, _⟩ => ⟨S1x8x4096x4096, .f32⟩
  | .hbm, ⟨57, _⟩ => ⟨S1x8x64x4096, .f32⟩
  | .hbm, ⟨58, _⟩ => ⟨S1x4096x8x64, .f32⟩
  | .hbm, ⟨59, _⟩ => ⟨S1x4096x8x64, .bf16⟩
  | .hbm, ⟨60, _⟩ => ⟨S1x8x4096x1, .f32⟩
  | .hbm, ⟨61, _⟩ => ⟨S1x8x4096x1, .f32⟩
  | .hbm, ⟨62, _⟩ => ⟨S_, .f32⟩
  | .hbm, ⟨63, _⟩ => ⟨S_, .f32⟩
  | .hbm, ⟨64, _⟩ => ⟨S1x8x4096x1, .f32⟩
  | .hbm, ⟨65, _⟩ => ⟨S1x8x4096x1, .f32⟩
  | .hbm, ⟨66, _⟩ => ⟨S8x1x4096, .f32⟩
  | .hbm, ⟨67, _⟩ => ⟨S1x4096x8x64, .f32⟩
  | .hbm, ⟨68, _⟩ => ⟨S1x4096x8x64, .bf16⟩
  | .hbm, ⟨69, _⟩ => ⟨S1x4096x8x64, .f32⟩
  | .hbm, ⟨70, _⟩ => ⟨S1x4096x8x64, .f32⟩
  | .hbm, ⟨71, _⟩ => ⟨S1x4096x8x64, .f32⟩
  | .hbm, ⟨72, _⟩ => ⟨S_, .f32⟩
  | .hbm, ⟨73, _⟩ => ⟨S1x4096x8, .f32⟩
  | .hbm, ⟨74, _⟩ => ⟨S1x8x4096, .f32⟩
  | .hbm, ⟨75, _⟩ => ⟨S8x1x4096, .f32⟩
  | .hbm, ⟨76, _⟩ => ⟨S4096x1024, .bf16⟩
  | .hbm, ⟨77, _⟩ => ⟨S4096x1024, .bf16⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1024x128, .bf16⟩
  | .local _ .vmem, ⟨11, _⟩ => ⟨S1024x128, .bf16⟩
  | .local _ .vmem, ⟨12, _⟩ => ⟨S1024x128, .bf16⟩
  | .local _ .vmem, ⟨13, _⟩ => ⟨S1024x128, .bf16⟩
  | .local _ .vmem, ⟨14, _⟩ => ⟨S1024x128, .bf16⟩
  | .local _ .vmem, ⟨15, _⟩ => ⟨S1024x128, .bf16⟩
  | .local _ .vmem, ⟨16, _⟩ => ⟨S1024x128, .f32⟩
  | .local _ .vmem, ⟨17, _⟩ => ⟨S1024x128, .f32⟩
  | _, _ => ⟨S1x4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call1_v0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_call2_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_call3_v0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_5 : Ref sig .tc := ⟨.hbm, 41, rfl⟩
abbrev main_call4_v0 : Ref sig .tc := ⟨.hbm, 42, rfl⟩
abbrev main_call4_v1 : Ref sig .tc := ⟨.hbm, 43, rfl⟩
abbrev main_call4_v2 : Ref sig .tc := ⟨.hbm, 44, rfl⟩
abbrev main_v26 : Ref sig .tc := ⟨.hbm, 45, rfl⟩
abbrev main_cst_6 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53_0 : Ref sig .tc := ⟨.hbm, 76, rfl⟩
abbrev main_v53_1 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 10], ![false, false]⟩

def k0_cond3 (i : grid0.Coords) : BitVec 1 :=
  let arg1 : BitVec 32 := BitVec.ofNat 32 (i 1).val
  let c0_i32 : BitVec 32 := 0#32
  let v0 : BitVec 32 := Scalar.muli arg1 c0_i32
  let c4_i32 : BitVec 32 := 4#32
  let v1 : BitVec 1 := Scalar.cmpi .sge arg1 c4_i32
  let v2 : BitVec 32 := Scalar.extui v1
  let v3 : BitVec 32 := Scalar.addi v0 v2
  let c7_i32 : BitVec 32 := 7#32
  let v4 : BitVec 1 := Scalar.cmpi .sge arg1 c7_i32
  let v5 : BitVec 32 := Scalar.extui v4
  let v6 : BitVec 32 := Scalar.addi v3 v5
  let c9_i32 : BitVec 32 := 9#32
  let v7 : BitVec 1 := Scalar.cmpi .sge arg1 c9_i32
  let v8 : BitVec 32 := Scalar.extui v7
  let v9 : BitVec 32 := Scalar.addi v6 v8
  let v10 : BitVec 32 := Scalar.addi v9 arg1
  let c4_i32_0 : BitVec 32 := 4#32
  let v11 : BitVec 32 := Scalar.muli v9 c4_i32_0
  let c1_i32 : BitVec 32 := 1#32
  let v12 : BitVec 32 := Scalar.subi v9 c1_i32
  let v13 : BitVec 32 := Scalar.muli v9 v12
  let c0_i32_1 : BitVec 32 := 0#32
  let v15 : BitVec 1 := Scalar.cmpi .sgt v13 c0_i32_1
  let v16 : BitVec 32 := Scalar.extui v15
  let c0_i32_2 : BitVec 32 := 0#32
  let v17 : BitVec 1 := Scalar.cmpi .slt v13 c0_i32_2
  let v18 : BitVec 32 := Scalar.extui v17
  let v19 : BitVec 32 := Scalar.subi v16 v18
  let c2_i32 : BitVec 32 := 2#32
  let c0_i32_3 : BitVec 32 := 0#32
  let v20 : BitVec 1 := Scalar.cmpi .sgt c2_i32 c0_i32_3
  let v21 : BitVec 32 := Scalar.extui v20
  let c0_i32_4 : BitVec 32 := 0#32
  let v22 : BitVec 1 := Scalar.cmpi .slt c2_i32 c0_i32_4
  let v23 : BitVec 32 := Scalar.extui v22
  let v24 : BitVec 32 := Scalar.subi v21 v23
  let v25 : BitVec 1 := Scalar.cmpi .ne v19 v24
  let v26 : BitVec 32 := Scalar.remsi v13 c2_i32
  let c0_i32_5 : BitVec 32 := 0#32
  let v27 : BitVec 1 := Scalar.cmpi .ne v26 c0_i32_5
  let v28 : BitVec 1 := Scalar.andi v25 v27
  let v14 : BitVec 32 := Scalar.divsi v13 c2_i32
  let c1_i32_6 : BitVec 32 := 1#32
  let v29 : BitVec 32 := Scalar.subi v14 c1_i32_6
  let v30 : BitVec 32 := Scalar.select v28 v29 v14
  let v31 : BitVec 32 := Scalar.subi v11 v30
  let v32 : BitVec 32 := Scalar.subi v10 v31
  let c3_i32 : BitVec 32 := 3#32
  let v39 : BitVec 1 := Scalar.cmpi .eq v32 c3_i32
  let v40 : BitVec 32 := Scalar.extui v39
  let c0_i32_9 : BitVec 32 := 0#32
  let v41 : BitVec 1 := Scalar.cmpi .ne v40 c0_i32_9
  v41

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.muli arg1 c0_i32
  let c4_i32 : BitVec 32 := 4#32
  let v1 : BitVec 1 := Scalar.cmpi .sge arg1 c4_i32
  let v2 : BitVec 32 := Scalar.extui v1
  let v3 : BitVec 32 := Scalar.addi v0 v2
  let c7_i32 : BitVec 32 := 7#32
  let v4 : BitVec 1 := Scalar.cmpi .sge arg1 c7_i32
  let v5 : BitVec 32 := Scalar.extui v4
  let v6 : BitVec 32 := Scalar.addi v3 v5
  let c9_i32 : BitVec 32 := 9#32
  let v7 : BitVec 1 := Scalar.cmpi .sge arg1 c9_i32
  let v8 : BitVec 32 := Scalar.extui v7
  let v9 : BitVec 32 := Scalar.addi v6 v8
  let v10 : BitVec 32 := Scalar.addi v9 arg1
  let c4_i32_0 : BitVec 32 := 4#32
  let v11 : BitVec 32 := Scalar.muli v9 c4_i32_0
  let c1_i32 : BitVec 32 := 1#32
  let v12 : BitVec 32 := Scalar.subi v9 c1_i32
  let v13 : BitVec 32 := Scalar.muli v9 v12
  let c2_i32 : BitVec 32 := 2#32
  let v14 : BitVec 32 := Scalar.divsi v13 c2_i32
  let c0_i32_1 : BitVec 32 := 0#32
  let v15 : BitVec 1 := Scalar.cmpi .sgt v13 c0_i32_1
  let v16 : BitVec 32 := Scalar.extui v15
  let c0_i32_2 : BitVec 32 := 0#32
  let v17 : BitVec 1 := Scalar.cmpi .slt v13 c0_i32_2
  let v18 : BitVec 32 := Scalar.extui v17
  let v19 : BitVec 32 := Scalar.subi v16 v18
  let c0_i32_3 : BitVec 32 := 0#32
  let v20 : BitVec 1 := Scalar.cmpi .sgt c2_i32 c0_i32_3
  let v21 : BitVec 32 := Scalar.extui v20
  let c0_i32_4 : BitVec 32 := 0#32
  let v22 : BitVec 1 := Scalar.cmpi .slt c2_i32 c0_i32_4
  let v23 : BitVec 32 := Scalar.extui v22
  let v24 : BitVec 32 := Scalar.subi v21 v23
  let v25 : BitVec 1 := Scalar.cmpi .ne v19 v24
  let v26 : BitVec 32 := Scalar.remsi v13 c2_i32
  let c0_i32_5 : BitVec 32 := 0#32
  let v27 : BitVec 1 := Scalar.cmpi .ne v26 c0_i32_5
  let v28 : BitVec 1 := Scalar.andi v25 v27
  let c1_i32_6 : BitVec 32 := 1#32
  let v29 : BitVec 32 := Scalar.subi v14 c1_i32_6
  let v30 : BitVec 32 := Scalar.select v28 v29 v14
  let v31 : BitVec 32 := Scalar.subi v11 v30
  let v32 : BitVec 32 := Scalar.subi v10 v31
  let c0_i32_7 : BitVec 32 := 0#32
  ![v32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.muli arg1 c0_i32
  let c4_i32 : BitVec 32 := 4#32
  let v1 : BitVec 1 := Scalar.cmpi .sge arg1 c4_i32
  let v2 : BitVec 32 := Scalar.extui v1
  let v3 : BitVec 32 := Scalar.addi v0 v2
  let c7_i32 : BitVec 32 := 7#32
  let v4 : BitVec 1 := Scalar.cmpi .sge arg1 c7_i32
  let v5 : BitVec 32 := Scalar.extui v4
  let v6 : BitVec 32 := Scalar.addi v3 v5
  let c9_i32 : BitVec 32 := 9#32
  let v7 : BitVec 1 := Scalar.cmpi .sge arg1 c9_i32
  let v8 : BitVec 32 := Scalar.extui v7
  let v9 : BitVec 32 := Scalar.addi v6 v8
  let v10 : BitVec 32 := Scalar.addi v9 arg1
  let c4_i32_0 : BitVec 32 := 4#32
  let v11 : BitVec 32 := Scalar.muli v9 c4_i32_0
  let c1_i32 : BitVec 32 := 1#32
  let v12 : BitVec 32 := Scalar.subi v9 c1_i32
  let v13 : BitVec 32 := Scalar.muli v9 v12
  let c2_i32 : BitVec 32 := 2#32
  let v14 : BitVec 32 := Scalar.divsi v13 c2_i32
  let c0_i32_1 : BitVec 32 := 0#32
  let v15 : BitVec 1 := Scalar.cmpi .sgt v13 c0_i32_1
  let v16 : BitVec 32 := Scalar.extui v15
  let c0_i32_2 : BitVec 32 := 0#32
  let v17 : BitVec 1 := Scalar.cmpi .slt v13 c0_i32_2
  let v18 : BitVec 32 := Scalar.extui v17
  let v19 : BitVec 32 := Scalar.subi v16 v18
  let c0_i32_3 : BitVec 32 := 0#32
  let v20 : BitVec 1 := Scalar.cmpi .sgt c2_i32 c0_i32_3
  let v21 : BitVec 32 := Scalar.extui v20
  let c0_i32_4 : BitVec 32 := 0#32
  let v22 : BitVec 1 := Scalar.cmpi .slt c2_i32 c0_i32_4
  let v23 : BitVec 32 := Scalar.extui v22
  let v24 : BitVec 32 := Scalar.subi v21 v23
  let v25 : BitVec 1 := Scalar.cmpi .ne v19 v24
  let v26 : BitVec 32 := Scalar.remsi v13 c2_i32
  let c0_i32_5 : BitVec 32 := 0#32
  let v27 : BitVec 1 := Scalar.cmpi .ne v26 c0_i32_5
  let v28 : BitVec 1 := Scalar.andi v25 v27
  let c1_i32_6 : BitVec 32 := 1#32
  let v29 : BitVec 32 := Scalar.subi v14 c1_i32_6
  let v30 : BitVec 32 := Scalar.select v28 v29 v14
  let v31 : BitVec 32 := Scalar.subi v11 v30
  let v32 : BitVec 32 := Scalar.subi v10 v31
  let c0_i32_7 : BitVec 32 := 0#32
  ![v9.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.muli arg1 c0_i32
  let c4_i32 : BitVec 32 := 4#32
  let v1 : BitVec 1 := Scalar.cmpi .sge arg1 c4_i32
  let v2 : BitVec 32 := Scalar.extui v1
  let v3 : BitVec 32 := Scalar.addi v0 v2
  let c7_i32 : BitVec 32 := 7#32
  let v4 : BitVec 1 := Scalar.cmpi .sge arg1 c7_i32
  let v5 : BitVec 32 := Scalar.extui v4
  let v6 : BitVec 32 := Scalar.addi v3 v5
  let c9_i32 : BitVec 32 := 9#32
  let v7 : BitVec 1 := Scalar.cmpi .sge arg1 c9_i32
  let v8 : BitVec 32 := Scalar.extui v7
  let v9 : BitVec 32 := Scalar.addi v6 v8
  let v10 : BitVec 32 := Scalar.addi v9 arg1
  let c4_i32_0 : BitVec 32 := 4#32
  let v11 : BitVec 32 := Scalar.muli v9 c4_i32_0
  let c1_i32 : BitVec 32 := 1#32
  let v12 : BitVec 32 := Scalar.subi v9 c1_i32
  let v13 : BitVec 32 := Scalar.muli v9 v12
  let c2_i32 : BitVec 32 := 2#32
  let v14 : BitVec 32 := Scalar.divsi v13 c2_i32
  let c0_i32_1 : BitVec 32 := 0#32
  let v15 : BitVec 1 := Scalar.cmpi .sgt v13 c0_i32_1
  let v16 : BitVec 32 := Scalar.extui v15
  let c0_i32_2 : BitVec 32 := 0#32
  let v17 : BitVec 1 := Scalar.cmpi .slt v13 c0_i32_2
  let v18 : BitVec 32 := Scalar.extui v17
  let v19 : BitVec 32 := Scalar.subi v16 v18
  let c0_i32_3 : BitVec 32 := 0#32
  let v20 : BitVec 1 := Scalar.cmpi .sgt c2_i32 c0_i32_3
  let v21 : BitVec 32 := Scalar.extui v20
  let c0_i32_4 : BitVec 32 := 0#32
  let v22 : BitVec 1 := Scalar.cmpi .slt c2_i32 c0_i32_4
  let v23 : BitVec 32 := Scalar.extui v22
  let v24 : BitVec 32 := Scalar.subi v21 v23
  let v25 : BitVec 1 := Scalar.cmpi .ne v19 v24
  let v26 : BitVec 32 := Scalar.remsi v13 c2_i32
  let c0_i32_5 : BitVec 32 := 0#32
  let v27 : BitVec 1 := Scalar.cmpi .ne v26 c0_i32_5
  let v28 : BitVec 1 := Scalar.andi v25 v27
  let c1_i32_6 : BitVec 32 := 1#32
  let v29 : BitVec 32 := Scalar.subi v14 c1_i32_6
  let v30 : BitVec 32 := Scalar.select v28 v29 v14
  let v31 : BitVec 32 := Scalar.subi v11 v30
  let v32 : BitVec 32 := Scalar.subi v10 v31
  let c0_i32_7 : BitVec 32 := 0#32
  ![v9.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.muli arg1 c0_i32
  let c4_i32 : BitVec 32 := 4#32
  let v1 : BitVec 1 := Scalar.cmpi .sge arg1 c4_i32
  let v2 : BitVec 32 := Scalar.extui v1
  let v3 : BitVec 32 := Scalar.addi v0 v2
  let c7_i32 : BitVec 32 := 7#32
  let v4 : BitVec 1 := Scalar.cmpi .sge arg1 c7_i32
  let v5 : BitVec 32 := Scalar.extui v4
  let v6 : BitVec 32 := Scalar.addi v3 v5
  let c9_i32 : BitVec 32 := 9#32
  let v7 : BitVec 1 := Scalar.cmpi .sge arg1 c9_i32
  let v8 : BitVec 32 := Scalar.extui v7
  let v9 : BitVec 32 := Scalar.addi v6 v8
  let v10 : BitVec 32 := Scalar.addi v9 arg1
  let c4_i32_0 : BitVec 32 := 4#32
  let v11 : BitVec 32 := Scalar.muli v9 c4_i32_0
  let c1_i32 : BitVec 32 := 1#32
  let v12 : BitVec 32 := Scalar.subi v9 c1_i32
  let v13 : BitVec 32 := Scalar.muli v9 v12
  let c2_i32 : BitVec 32 := 2#32
  let v14 : BitVec 32 := Scalar.divsi v13 c2_i32
  let c0_i32_1 : BitVec 32 := 0#32
  let v15 : BitVec 1 := Scalar.cmpi .sgt v13 c0_i32_1
  let v16 : BitVec 32 := Scalar.extui v15
  let c0_i32_2 : BitVec 32 := 0#32
  let v17 : BitVec 1 := Scalar.cmpi .slt v13 c0_i32_2
  let v18 : BitVec 32 := Scalar.extui v17
  let v19 : BitVec 32 := Scalar.subi v16 v18
  let c0_i32_3 : BitVec 32 := 0#32
  let v20 : BitVec 1 := Scalar.cmpi .sgt c2_i32 c0_i32_3
  let v21 : BitVec 32 := Scalar.extui v20
  let c0_i32_4 : BitVec 32 := 0#32
  let v22 : BitVec 1 := Scalar.cmpi .slt c2_i32 c0_i32_4
  let v23 : BitVec 32 := Scalar.extui v22
  let v24 : BitVec 32 := Scalar.subi v21 v23
  let v25 : BitVec 1 := Scalar.cmpi .ne v19 v24
  let v26 : BitVec 32 := Scalar.remsi v13 c2_i32
  let c0_i32_5 : BitVec 32 := 0#32
  let v27 : BitVec 1 := Scalar.cmpi .ne v26 c0_i32_5
  let v28 : BitVec 1 := Scalar.andi v25 v27
  let c1_i32_6 : BitVec 32 := 1#32
  let v29 : BitVec 32 := Scalar.subi v14 c1_i32_6
  let v30 : BitVec 32 := Scalar.select v28 v29 v14
  let v31 : BitVec 32 := Scalar.subi v11 v30
  let v32 : BitVec 32 := Scalar.subi v10 v31
  let c0_i32_7 : BitVec 32 := 0#32
  let c0_i32_8 : BitVec 32 := 0#32
  ![arg0.toNat, c0_i32_7.toNat, v32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.muli arg1 c0_i32
  let c4_i32 : BitVec 32 := 4#32
  let v1 : BitVec 1 := Scalar.cmpi .sge arg1 c4_i32
  let v2 : BitVec 32 := Scalar.extui v1
  let v3 : BitVec 32 := Scalar.addi v0 v2
  let c7_i32 : BitVec 32 := 7#32
  let v4 : BitVec 1 := Scalar.cmpi .sge arg1 c7_i32
  let v5 : BitVec 32 := Scalar.extui v4
  let v6 : BitVec 32 := Scalar.addi v3 v5
  let c9_i32 : BitVec 32 := 9#32
  let v7 : BitVec 1 := Scalar.cmpi .sge arg1 c9_i32
  let v8 : BitVec 32 := Scalar.extui v7
  let v9 : BitVec 32 := Scalar.addi v6 v8
  let v10 : BitVec 32 := Scalar.addi v9 arg1
  let c4_i32_0 : BitVec 32 := 4#32
  let v11 : BitVec 32 := Scalar.muli v9 c4_i32_0
  let c1_i32 : BitVec 32 := 1#32
  let v12 : BitVec 32 := Scalar.subi v9 c1_i32
  let v13 : BitVec 32 := Scalar.muli v9 v12
  let c2_i32 : BitVec 32 := 2#32
  let v14 : BitVec 32 := Scalar.divsi v13 c2_i32
  let c0_i32_1 : BitVec 32 := 0#32
  let v15 : BitVec 1 := Scalar.cmpi .sgt v13 c0_i32_1
  let v16 : BitVec 32 := Scalar.extui v15
  let c0_i32_2 : BitVec 32 := 0#32
  let v17 : BitVec 1 := Scalar.cmpi .slt v13 c0_i32_2
  let v18 : BitVec 32 := Scalar.extui v17
  let v19 : BitVec 32 := Scalar.subi v16 v18
  let c0_i32_3 : BitVec 32 := 0#32
  let v20 : BitVec 1 := Scalar.cmpi .sgt c2_i32 c0_i32_3
  let v21 : BitVec 32 := Scalar.extui v20
  let c0_i32_4 : BitVec 32 := 0#32
  let v22 : BitVec 1 := Scalar.cmpi .slt c2_i32 c0_i32_4
  let v23 : BitVec 32 := Scalar.extui v22
  let v24 : BitVec 32 := Scalar.subi v21 v23
  let v25 : BitVec 1 := Scalar.cmpi .ne v19 v24
  let v26 : BitVec 32 := Scalar.remsi v13 c2_i32
  let c0_i32_5 : BitVec 32 := 0#32
  let v27 : BitVec 1 := Scalar.cmpi .ne v26 c0_i32_5
  let v28 : BitVec 1 := Scalar.andi v25 v27
  let c1_i32_6 : BitVec 32 := 1#32
  let v29 : BitVec 32 := Scalar.subi v14 c1_i32_6
  let v30 : BitVec 32 := Scalar.select v28 v29 v14
  let v31 : BitVec 32 := Scalar.subi v11 v30
  let v32 : BitVec 32 := Scalar.subi v10 v31
  let c0_i32_7 : BitVec 32 := 0#32
  let c0_i32_8 : BitVec 32 := 0#32
  ![arg0.toNat, c0_i32_7.toNat, v32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.muli arg1 c0_i32
  let c4_i32 : BitVec 32 := 4#32
  let v1 : BitVec 1 := Scalar.cmpi .sge arg1 c4_i32
  let v2 : BitVec 32 := Scalar.extui v1
  let v3 : BitVec 32 := Scalar.addi v0 v2
  let c7_i32 : BitVec 32 := 7#32
  let v4 : BitVec 1 := Scalar.cmpi .sge arg1 c7_i32
  let v5 : BitVec 32 := Scalar.extui v4
  let v6 : BitVec 32 := Scalar.addi v3 v5
  let c9_i32 : BitVec 32 := 9#32
  let v7 : BitVec 1 := Scalar.cmpi .sge arg1 c9_i32
  let v8 : BitVec 32 := Scalar.extui v7
  let v9 : BitVec 32 := Scalar.addi v6 v8
  let v10 : BitVec 32 := Scalar.addi v9 arg1
  let c4_i32_0 : BitVec 32 := 4#32
  let v11 : BitVec 32 := Scalar.muli v9 c4_i32_0
  let c1_i32 : BitVec 32 := 1#32
  let v12 : BitVec 32 := Scalar.subi v9 c1_i32
  let v13 : BitVec 32 := Scalar.muli v9 v12
  let c2_i32 : BitVec 32 := 2#32
  let v14 : BitVec 32 := Scalar.divsi v13 c2_i32
  let c0_i32_1 : BitVec 32 := 0#32
  let v15 : BitVec 1 := Scalar.cmpi .sgt v13 c0_i32_1
  let v16 : BitVec 32 := Scalar.extui v15
  let c0_i32_2 : BitVec 32 := 0#32
  let v17 : BitVec 1 := Scalar.cmpi .slt v13 c0_i32_2
  let v18 : BitVec 32 := Scalar.extui v17
  let v19 : BitVec 32 := Scalar.subi v16 v18
  let c0_i32_3 : BitVec 32 := 0#32
  let v20 : BitVec 1 := Scalar.cmpi .sgt c2_i32 c0_i32_3
  let v21 : BitVec 32 := Scalar.extui v20
  let c0_i32_4 : BitVec 32 := 0#32
  let v22 : BitVec 1 := Scalar.cmpi .slt c2_i32 c0_i32_4
  let v23 : BitVec 32 := Scalar.extui v22
  let v24 : BitVec 32 := Scalar.subi v21 v23
  let v25 : BitVec 1 := Scalar.cmpi .ne v19 v24
  let v26 : BitVec 32 := Scalar.remsi v13 c2_i32
  let c0_i32_5 : BitVec 32 := 0#32
  let v27 : BitVec 1 := Scalar.cmpi .ne v26 c0_i32_5
  let v28 : BitVec 1 := Scalar.andi v25 v27
  let c1_i32_6 : BitVec 32 := 1#32
  let v29 : BitVec 32 := Scalar.subi v14 c1_i32_6
  let v30 : BitVec 32 := Scalar.select v28 v29 v14
  let v31 : BitVec 32 := Scalar.subi v11 v30
  let v32 : BitVec 32 := Scalar.subi v10 v31
  let c0_i32_7 : BitVec 32 := 0#32
  ![v32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.muli arg1 c0_i32
  let c4_i32 : BitVec 32 := 4#32
  let v1 : BitVec 1 := Scalar.cmpi .sge arg1 c4_i32
  let v2 : BitVec 32 := Scalar.extui v1
  let v3 : BitVec 32 := Scalar.addi v0 v2
  let c7_i32 : BitVec 32 := 7#32
  let v4 : BitVec 1 := Scalar.cmpi .sge arg1 c7_i32
  let v5 : BitVec 32 := Scalar.extui v4
  let v6 : BitVec 32 := Scalar.addi v3 v5
  let c9_i32 : BitVec 32 := 9#32
  let v7 : BitVec 1 := Scalar.cmpi .sge arg1 c9_i32
  let v8 : BitVec 32 := Scalar.extui v7
  let v9 : BitVec 32 := Scalar.addi v6 v8
  let v10 : BitVec 32 := Scalar.addi v9 arg1
  let c4_i32_0 : BitVec 32 := 4#32
  let v11 : BitVec 32 := Scalar.muli v9 c4_i32_0
  let c1_i32 : BitVec 32 := 1#32
  let v12 : BitVec 32 := Scalar.subi v9 c1_i32
  let v13 : BitVec 32 := Scalar.muli v9 v12
  let c2_i32 : BitVec 32 := 2#32
  let v14 : BitVec 32 := Scalar.divsi v13 c2_i32
  let c0_i32_1 : BitVec 32 := 0#32
  let v15 : BitVec 1 := Scalar.cmpi .sgt v13 c0_i32_1
  let v16 : BitVec 32 := Scalar.extui v15
  let c0_i32_2 : BitVec 32 := 0#32
  let v17 : BitVec 1 := Scalar.cmpi .slt v13 c0_i32_2
  let v18 : BitVec 32 := Scalar.extui v17
  let v19 : BitVec 32 := Scalar.subi v16 v18
  let c0_i32_3 : BitVec 32 := 0#32
  let v20 : BitVec 1 := Scalar.cmpi .sgt c2_i32 c0_i32_3
  let v21 : BitVec 32 := Scalar.extui v20
  let c0_i32_4 : BitVec 32 := 0#32
  let v22 : BitVec 1 := Scalar.cmpi .slt c2_i32 c0_i32_4
  let v23 : BitVec 32 := Scalar.extui v22
  let v24 : BitVec 32 := Scalar.subi v21 v23
  let v25 : BitVec 1 := Scalar.cmpi .ne v19 v24
  let v26 : BitVec 32 := Scalar.remsi v13 c2_i32
  let c0_i32_5 : BitVec 32 := 0#32
  let v27 : BitVec 1 := Scalar.cmpi .ne v26 c0_i32_5
  let v28 : BitVec 1 := Scalar.andi v25 v27
  let c1_i32_6 : BitVec 32 := 1#32
  let v29 : BitVec 32 := Scalar.subi v14 c1_i32_6
  let v30 : BitVec 32 := Scalar.select v28 v29 v14
  let v31 : BitVec 32 := Scalar.subi v11 v30
  let v32 : BitVec 32 := Scalar.subi v10 v31
  let c0_i32_7 : BitVec 32 := 0#32
  ![v9.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.muli arg1 c0_i32
  let c4_i32 : BitVec 32 := 4#32
  let v1 : BitVec 1 := Scalar.cmpi .sge arg1 c4_i32
  let v2 : BitVec 32 := Scalar.extui v1
  let v3 : BitVec 32 := Scalar.addi v0 v2
  let c7_i32 : BitVec 32 := 7#32
  let v4 : BitVec 1 := Scalar.cmpi .sge arg1 c7_i32
  let v5 : BitVec 32 := Scalar.extui v4
  let v6 : BitVec 32 := Scalar.addi v3 v5
  let c9_i32 : BitVec 32 := 9#32
  let v7 : BitVec 1 := Scalar.cmpi .sge arg1 c9_i32
  let v8 : BitVec 32 := Scalar.extui v7
  let v9 : BitVec 32 := Scalar.addi v6 v8
  let v10 : BitVec 32 := Scalar.addi v9 arg1
  let c4_i32_0 : BitVec 32 := 4#32
  let v11 : BitVec 32 := Scalar.muli v9 c4_i32_0
  let c1_i32 : BitVec 32 := 1#32
  let v12 : BitVec 32 := Scalar.subi v9 c1_i32
  let v13 : BitVec 32 := Scalar.muli v9 v12
  let c2_i32 : BitVec 32 := 2#32
  let v14 : BitVec 32 := Scalar.divsi v13 c2_i32
  let c0_i32_1 : BitVec 32 := 0#32
  let v15 : BitVec 1 := Scalar.cmpi .sgt v13 c0_i32_1
  let v16 : BitVec 32 := Scalar.extui v15
  let c0_i32_2 : BitVec 32 := 0#32
  let v17 : BitVec 1 := Scalar.cmpi .slt v13 c0_i32_2
  let v18 : BitVec 32 := Scalar.extui v17
  let v19 : BitVec 32 := Scalar.subi v16 v18
  let c0_i32_3 : BitVec 32 := 0#32
  let v20 : BitVec 1 := Scalar.cmpi .sgt c2_i32 c0_i32_3
  let v21 : BitVec 32 := Scalar.extui v20
  let c0_i32_4 : BitVec 32 := 0#32
  let v22 : BitVec 1 := Scalar.cmpi .slt c2_i32 c0_i32_4
  let v23 : BitVec 32 := Scalar.extui v22
  let v24 : BitVec 32 := Scalar.subi v21 v23
  let v25 : BitVec 1 := Scalar.cmpi .ne v19 v24
  let v26 : BitVec 32 := Scalar.remsi v13 c2_i32
  let c0_i32_5 : BitVec 32 := 0#32
  let v27 : BitVec 1 := Scalar.cmpi .ne v26 c0_i32_5
  let v28 : BitVec 1 := Scalar.andi v25 v27
  let c1_i32_6 : BitVec 32 := 1#32
  let v29 : BitVec 32 := Scalar.subi v14 c1_i32_6
  let v30 : BitVec 32 := Scalar.select v28 v29 v14
  let v31 : BitVec 32 := Scalar.subi v11 v30
  let v32 : BitVec 32 := Scalar.subi v10 v31
  let c0_i32_7 : BitVec 32 := 0#32
  ![v9.toNat, arg0.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Kernel2Ideal.lean ====
variable {F : FTy → Type} [FloatOps F] [Named F]
def κ : String → Option EReal := fun
  | "ln2" => some ((Real.log 2 : ℝ) : EReal)
  | "mask" => some ⊥
  | _ => none
-- ==== Reference2Ideal.lean ====
abbrev S1x4096x8x96 : Shape := ⟨4, ![1, 4096, 8, 96]⟩
abbrev S1x4096x8x64 : Shape := ⟨4, ![1, 4096, 8, 64]⟩
abbrev S1x4096x512 : Shape := ⟨3, ![1, 4096, 512]⟩
abbrev S1x8x4096x4096 : Shape := ⟨4, ![1, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x8x4096 : Shape := ⟨3, ![1, 8, 4096]⟩
abbrev S1x8x4096x1 : Shape := ⟨4, ![1, 8, 4096, 1]⟩
abbrev S1x8x64x4096 : Shape := ⟨4, ![1, 8, 64, 4096]⟩
abbrev S8x4096 : Shape := ⟨2, ![8, 4096]⟩
abbrev S1x8x4096x96 : Shape := ⟨4, ![1, 8, 4096, 96]⟩
abbrev S1x4096x8x128 : Shape := ⟨4, ![1, 4096, 8, 128]⟩
abbrev S4096x1024 : Shape := ⟨2, ![4096, 1024]⟩

abbrev nBuf : Space → Nat
  | .hbm => 100
  | .vmem => 0
  | .smem => 0
  | _ => 0

abbrev bufTy : (tb : Table) → Fin (tcTables nBuf tb) → BufTy
  | .hbm, ⟨0, _⟩ => ⟨S1x4096x8x96, .f32⟩
  | .hbm, ⟨1, _⟩ => ⟨S1x4096x8x96, .f32⟩
  | .hbm, ⟨2, _⟩ => ⟨S1x4096x8x64, .f32⟩
  | .hbm, ⟨3, _⟩ => ⟨S1x4096x512, .f32⟩
  | .hbm, ⟨4, _⟩ => ⟨S1x8x4096x4096, .f32⟩
  | .hbm, ⟨5, _⟩ => ⟨S_, .f32⟩
  | .hbm, ⟨6, _⟩ => ⟨S1x8x4096x4096, .f32⟩
  | .hbm, ⟨7, _⟩ => ⟨S1x8x4096x4096, .f32⟩
  | .hbm, ⟨8, _⟩ => ⟨S4096, .i32⟩
  | .hbm, ⟨9, _⟩ => ⟨S1x4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S_, .f32⟩
  | .hbm, ⟨15, _⟩ => ⟨S_, .f32⟩
  | .hbm, ⟨16, _⟩ => ⟨S1x8x4096x4096, .i1⟩
  | .hbm, ⟨17, _⟩ => ⟨S1x8x4096x4096, .f32⟩
  | .hbm, ⟨18, _⟩ => ⟨S1x8x4096x4096, .f32⟩
  | .hbm, ⟨19, _⟩ => ⟨S_, .f32⟩
  | .hbm, ⟨20, _⟩ => ⟨S1x8x4096x4096, .f32⟩
  | .hbm, ⟨21, _⟩ => ⟨S_, .f32⟩
  | .hbm, ⟨22, _⟩ => ⟨S1x8x4096, .f32⟩
  | .hbm, ⟨23, _⟩ => ⟨S1x8x4096x1, .f32⟩
  | .hbm, ⟨24, _⟩ => ⟨S1x8x4096x4096, .f32⟩
  | .hbm, ⟨25, _⟩ => ⟨S1x8x4096x4096, .i1⟩
  | .hbm, ⟨26, _⟩ => ⟨S1x8x4096x4096, .f32⟩
  | .hbm, ⟨27, _⟩ => ⟨S_, .f32⟩
  | .hbm, ⟨28, _⟩ => ⟨S1x8x4096, .f32⟩
  | .hbm, ⟨29, _⟩ => ⟨S_, .f32⟩
  | .hbm, ⟨30, _⟩ => ⟨S1x8x4096, .f32⟩
  | .hbm, ⟨31, _⟩ => ⟨S1x8x4096, .f32⟩
  | .hbm, ⟨32, _⟩ => ⟨S_, .f32⟩
  | .hbm, ⟨33, _⟩ => ⟨S1x8x4096, .f32⟩
  | .hbm, ⟨34, _⟩ => ⟨S1x8x4096, .i1⟩
  | .hbm, ⟨35, _⟩ => ⟨S_, .f32⟩
  | .hbm, ⟨36, _⟩ => ⟨S1x8x4096, .f32⟩
  | .hbm, ⟨37, _⟩ => ⟨S1x8x4096, .i1⟩
  | .hbm, ⟨38, _⟩ => ⟨S_, .f32⟩
  | .hbm, ⟨39, _⟩ => ⟨S1x8x4096, .f32⟩
  | .hbm, ⟨40, _⟩ => ⟨S_, .f32⟩
  | .hbm, ⟨41, _⟩ => ⟨S1x8x4096, .f32⟩
  | .hbm, ⟨42, _⟩ => ⟨S_, .f32⟩
  | .hbm, ⟨43, _⟩ => ⟨S1x8x4096, .f32⟩
  | .hbm, ⟨44, _⟩ => ⟨S1x8x4096, .f32⟩
  | .hbm, ⟨45, _⟩ => ⟨S1x8x4096, .f32⟩
  | .hbm, ⟨46, _⟩ => ⟨S1x8x4096x1, .f32⟩
  | .hbm, ⟨47, _⟩ => ⟨S1x8x4096x4096, .f32⟩
  | .hbm, ⟨48, _⟩ => ⟨S1x8x4096x4096, .f32⟩
  | .hbm, ⟨49, _⟩ => ⟨S1x8x4096x4096, .f32⟩
  | .hbm, ⟨50, _⟩ => ⟨S_, .f32⟩
  | .hbm, ⟨51, _⟩ => ⟨S1x8x4096, .f32⟩
  | .hbm, ⟨52, _⟩ => ⟨S1x8x4096x1, .f32⟩
  | .hbm, ⟨53, _⟩ => ⟨S1x8x4096x4096, .f32⟩
  | .hbm, ⟨54, _⟩ => ⟨S1x8x4096x4096, .f32⟩
  | .hbm, ⟨55, _⟩ => ⟨S1x8x4096x1, .f32⟩
  | .hbm, ⟨56, _⟩ => ⟨S_, .f32⟩
  | .hbm, ⟨57, _⟩ => ⟨S1x8x4096x1, .f32⟩
  | .hbm, ⟨58, _⟩ => ⟨S1x8x4096x1, .f32⟩
  | .hbm, ⟨59, _⟩ => ⟨S1x8x64x4096, .f32⟩
  | .hbm, ⟨60, _⟩ => ⟨S1x4096x8x64, .f32⟩
  | .hbm, ⟨61, _⟩ => ⟨S1x4096x512, .f32⟩
  | .hbm, ⟨62, _⟩ => ⟨S1x4096x8x64, .f32⟩
  | .hbm, ⟨63, _⟩ => ⟨S1x8x64x4096, .f32⟩
  | .hbm, ⟨64, _⟩ => ⟨S1x8x4096x4096, .f32⟩
  | .hbm, ⟨65, _⟩ => ⟨S1x8x64x4096, .f32⟩
  | .hbm, ⟨66, _⟩ => ⟨S1x4096x8x64, .f32⟩
  | .hbm, ⟨67, _⟩ => ⟨S1x8x4096x4096, .f32⟩
  | .hbm, ⟨68, _⟩ => ⟨S1x8x4096x4096, .f32⟩
  | .hbm, ⟨69, _⟩ => ⟨S1x8x4096x4096, .f32⟩
  | .hbm, ⟨70, _⟩ => ⟨S_, .f32⟩
  | .hbm, ⟨71, _⟩ => ⟨S1x8x4096, .f32⟩
  | .hbm, ⟨72, _⟩ => ⟨S1x8x4096x1, .f32⟩
  | .hbm, ⟨73, _⟩ => ⟨S1x8x4096x1, .f32⟩
  | .hbm, ⟨74, _⟩ => ⟨S1x8x4096x4096, .f32⟩
  | .hbm, ⟨75, _⟩ => ⟨S1x8x4096x4096, .f32⟩
  | .hbm, ⟨76, _⟩ => ⟨S_, .f32⟩
  | .hbm, ⟨77, _⟩ => ⟨S8x4096, .f32⟩
  | .hbm, ⟨78, _⟩ => ⟨S1x8x4096, .f32⟩
  | .hbm, ⟨79, _⟩ => ⟨S1x8x4096x4096, .f32⟩
  | .hbm, ⟨80, _⟩ => ⟨S1x8x4096x4096, .f32⟩
  | .hbm, ⟨81, _⟩ => ⟨S1x8x4096x4096, .f32⟩
  | .hbm, ⟨82, _⟩ => ⟨S_, .f32⟩
  | .hbm, ⟨83, _⟩ => ⟨S1x8x4096x4096, .f32⟩
  | .hbm, ⟨84, _⟩ => ⟨S1x8x4096x4096, .f32⟩
  | .hbm, ⟨85, _⟩ => ⟨S_, .f32⟩
  | .hbm, ⟨86, _⟩ => ⟨S1x8x4096x4096, .f32⟩
  | .hbm, ⟨87, _⟩ => ⟨S1x8x4096x4096, .f32⟩
  | .hbm, ⟨88, _⟩ => ⟨S1x8x4096x96, .f32⟩
  | .hbm, ⟨89, _⟩ => ⟨S1x4096x8x96, .f32⟩
  | .hbm, ⟨90, _⟩ => ⟨S_, .i32⟩
  | .hbm, ⟨91, _⟩ => ⟨S_, .f32⟩
  | .hbm, ⟨92, _⟩ => ⟨S1x4096x8x128, .f32⟩
  | .hbm, ⟨93, _⟩ => ⟨S4096x1024, .f32⟩
  | .hbm, ⟨94, _⟩ => ⟨S4096x1024, .bf16⟩
  | .hbm, ⟨95, _⟩ => ⟨S_, .i32⟩
  | .hbm, ⟨96, _⟩ => ⟨S_, .f32⟩
  | .hbm, ⟨97, _⟩ => ⟨S1x4096x8x128, .f32⟩
  | .hbm, ⟨98, _⟩ => ⟨S4096x1024, .f32⟩
  | .hbm, ⟨99, _⟩ => ⟨S4096x1024, .bf16⟩
  | _, _ => ⟨S1x4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_12 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call1_cst : Ref sig .tc := ⟨.hbm, 82, rfl⟩
abbrev main_call1_v0 : Ref sig .tc := ⟨.hbm, 83, rfl⟩
abbrev main_v59 : Ref sig .tc := ⟨.hbm, 84, rfl⟩
abbrev main_cst_13 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c : Ref sig .tc := ⟨.hbm, 90, rfl⟩
abbrev main_call2_v0 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_c_14 : Ref sig .tc := ⟨.hbm, 95, rfl⟩
abbrev main_call3_v0 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩

abbrev nD : Nat := 1
abbrev τ : Topo := Topo.v7x

variable {F : FTy → Type} [FloatOps F]
-- ==== Kernel3.lean ====
abbrev S4096x2816 : Shape := ⟨2, ![4096, 2816]⟩
abbrev S2816x1024 : Shape := ⟨2, ![2816, 1024]⟩
abbrev S4096x1024 : Shape := ⟨2, ![4096, 1024]⟩
abbrev S4096x2x1408 : Shape := ⟨3, ![4096, 2, 1408]⟩
abbrev S2x4096x1408 : Shape := ⟨3, ![2, 4096, 1408]⟩
abbrev S1x1024x1408 : Shape := ⟨3, ![1, 1024, 1408]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 7
  | .vmem => 6
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x2x1408, .f32⟩
  | .hbm, ⟨4, _⟩ => ⟨S2x4096x1408, .f32⟩
  | .hbm, ⟨5, _⟩ => ⟨S2x4096x1408, .bf16⟩
  | .hbm, ⟨6, _⟩ => ⟨S2816x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .f32⟩
  | .local _ .vmem, ⟨5, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S1024x2816 : Shape := ⟨2, ![1024, 2816]⟩

abbrev nBuf : Space → Nat
  | .hbm => 12
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S1024x2816, .f32⟩
  | .hbm, ⟨11, _⟩ => ⟨S2816x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Kernel4.lean ====
abbrev S4096x1024 : Shape := ⟨2, ![4096, 1024]⟩
abbrev S1024x5632 : Shape := ⟨2, ![1024, 5632]⟩
abbrev S4096x5632 : Shape := ⟨2, ![4096, 5632]⟩
abbrev S4096x4x1408 : Shape := ⟨3, ![4096, 4, 1408]⟩
abbrev S4x4096x1408 : Shape := ⟨3, ![4, 4096, 1408]⟩
abbrev S4x1024x1408 : Shape := ⟨3, ![4, 1024, 1408]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 8
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x1024, .bf16⟩
  | .hbm, ⟨4, _⟩ => ⟨S4096x4x1408, .f32⟩
  | .hbm, ⟨5, _⟩ => ⟨S4x4096x1408, .f32⟩
  | .hbm, ⟨6, _⟩ => ⟨S4x4096x1408, .bf16⟩
  | .hbm, ⟨7, _⟩ => ⟨S4x1024x1408, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .f32⟩
  | .local _ .vmem, ⟨5, _⟩ => ⟨S1x1024x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S4096x1024 : Shape := ⟨2, ![4096, 1024]⟩
abbrev S1024x5632 : Shape := ⟨2, ![1024, 5632]⟩
abbrev S4096x5632 : Shape := ⟨2, ![4096, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x5632, .f32⟩
  | .hbm, ⟨4, _⟩ => ⟨S5632x1024, .f32⟩
  | .hbm, ⟨5, _⟩ => ⟨S1024x5632, .f32⟩
  | .hbm, ⟨6, _⟩ => ⟨S1024x4x1408, .f32⟩
  | .hbm, ⟨7, _⟩ => ⟨S4x1024x1408, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S4096x5632 : Shape := ⟨2, ![4096, 5632]⟩
abbrev S2816x1024 : Shape := ⟨2, ![2816, 1024]⟩
abbrev S4096x1024 : Shape := ⟨2, ![4096, 1024]⟩
abbrev S4096x4x1408 : Shape := ⟨3, ![4096, 4, 1408]⟩
abbrev S4x4096x1408 : Shape := ⟨3, ![4, 4096, 1408]⟩
abbrev S2x4096x1408 : Shape := ⟨3, ![2, 4096, 1408]⟩
abbrev S512x1024 : Shape := ⟨2, ![512, 1024]⟩
abbrev S2x512x1408 : Shape := ⟨3, ![2, 512, 1408]⟩
abbrev S4x512x1408 : Shape := ⟨3, ![4, 512, 1408]⟩
abbrev S1408x1024 : Shape := ⟨2, ![1408, 1024]⟩
abbrev S512x1408 : Shape := ⟨2, ![512, 1408]⟩
abbrev S1x512x1408 : Shape := ⟨3, ![1, 512, 1408]⟩

abbrev nBuf : Space → Nat
  | .hbm => 10
  | .vmem => 9
  | .smem => 0
  | _ => 0

abbrev bufTy : (tb : Table) → Fin (tcTables nBuf tb) → BufTy
  | .hbm, ⟨0, _⟩ => ⟨S4096x5632, .f32⟩
  | .hbm, ⟨1, _⟩ => ⟨S2816x1024, .f32⟩
  | .hbm, ⟨2, _⟩ => ⟨S4096x1024, .f32⟩
  | .hbm, ⟨3, _⟩ => ⟨S4096x4x1408, .f32⟩
  | .hbm, ⟨4, _⟩ => ⟨S4x4096x1408, .f32⟩
  | .hbm, ⟨5, _⟩ => ⟨S4x4096x1408, .bf16⟩
  | .hbm, ⟨6, _⟩ => ⟨S2816x1024, .bf16⟩
  | .hbm, ⟨7, _⟩ => ⟨S2x4096x1408, .bf16⟩
  | .hbm, ⟨8, _⟩ => ⟨S2x4096x1408, .bf16⟩
  | .hbm, ⟨9, _⟩ => ⟨S4x4096x1408, .bf16⟩
  | .local _ .vmem, ⟨0, _⟩ => ⟨S512x1024, .f32⟩
  | .local _ .vmem, ⟨1, _⟩ => ⟨S512x1024, .f32⟩
  | .local _ .vmem, ⟨2, _⟩ => ⟨S2816x1024, .bf16⟩
  | .local _ .vmem, ⟨3, _⟩ => ⟨S2x512x1408, .bf16⟩
  | .local _ .vmem, ⟨4, _⟩ => ⟨S2x512x1408, .bf16⟩
  | .local _ .vmem, ⟨5, _⟩ => ⟨S2x512x1408, .bf16⟩
  | .local _ .vmem, ⟨6, _⟩ => ⟨S2x512x1408, .bf16⟩
  | .local _ .vmem, ⟨7, _⟩ => ⟨S4x512x1408, .bf16⟩
  | .local _ .vmem, ⟨8, _⟩ => ⟨S4x512x1408, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference5Ideal.lean ====
abbrev S4096x5632 : Shape := ⟨2, ![4096, 5632]⟩
abbrev S2816x1024 : Shape := ⟨2, ![2816, 1024]⟩
abbrev S4096x1024 : Shape := ⟨2, ![4096, 1024]⟩
abbrev S4096x2816 : Shape := ⟨2, ![4096, 2816]⟩
abbrev S_ : Shape := ⟨0, ![]⟩
abbrev S4096x4x1408 : Shape := ⟨3, ![4096, 4, 1408]⟩
abbrev S4x4096x1408 : Shape := ⟨3, ![4, 4096, 1408]⟩

abbrev nBuf : Space → Nat
  | .hbm => 37
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S2816x1024, .f32⟩
  | .hbm, ⟨2, _⟩ => ⟨S4096x1024, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x5632, .f32⟩
  | .hbm, ⟨34, _⟩ => ⟨S4096x4x1408, .f32⟩
  | .hbm, ⟨35, _⟩ => ⟨S4x4096x1408, .f32⟩
  | .hbm, ⟨36, _⟩ => ⟨S4x4096x1408, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_v6 : Ref sig .tc := ⟨.hbm, 22, rfl⟩
abbrev main_cst_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩

abbrev nD : Nat := 1
abbrev τ : Topo := Topo.v7x

variable {F : FTy → Type} [FloatOps F]
-- ==== Kernel6.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S4096x4x1408 : Shape := ⟨3, ![4096, 4, 1408]⟩
abbrev S4x4096x1408 : Shape := ⟨3, ![4, 4096, 1408]⟩
abbrev S1024x4x1408 : Shape := ⟨3, ![1024, 4, 1408]⟩
abbrev S4x1024x1408 : Shape := ⟨3, ![4, 1024, 1408]⟩
abbrev S1x1024 : Shape := ⟨2, ![1, 1024]⟩
abbrev S4x512x1408 : Shape := ⟨3, ![4, 512, 1408]⟩
abbrev S512x1024 : Shape := ⟨2, ![512, 1024]⟩
abbrev S1x512x1408 : Shape := ⟨3, ![1, 512, 1408]⟩
abbrev S512x1408 : Shape := ⟨2, ![512, 1408]⟩
abbrev S1x1024x1408 : Shape := ⟨3, ![1, 1024, 1408]⟩
abbrev S1024x1408 : Shape := ⟨2, ![1024, 1408]⟩
abbrev S512 : Shape := ⟨1, ![512]⟩
abbrev S512x1 : Shape := ⟨2, ![512, 1]⟩

abbrev nBuf : Space → Nat
  | .hbm => 14
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x1024, .f32⟩
  | .hbm, ⟨4, _⟩ => ⟨S4096x5632, .f32⟩
  | .hbm, ⟨5, _⟩ => ⟨S4096x4x1408, .f32⟩
  | .hbm, ⟨6, _⟩ => ⟨S4x4096x1408, .f32⟩
  | .hbm, ⟨7, _⟩ => ⟨S4x4096x1408, .bf16⟩
  | .hbm, ⟨8, _⟩ => ⟨S1024x4x1408, .f32⟩
  | .hbm, ⟨9, _⟩ => ⟨S4x1024x1408, .f32⟩
  | .hbm, ⟨10, _⟩ => ⟨S4x1024x1408, .bf16⟩
  | .hbm, ⟨11, _⟩ => ⟨S1x1024, .f32⟩
  | .hbm, ⟨12, _⟩ => ⟨S4096x1024, .f32⟩
  | .hbm, ⟨13, _⟩ => ⟨S1x1024, .f32⟩
  | .local _ .vmem, ⟨0, _⟩ => ⟨S4x512x1408, .bf16⟩
  | .local _ .vmem, ⟨1, _⟩ => ⟨S4x512x1408, .bf16⟩
  | .local _ .vmem, ⟨2, _⟩ => ⟨S4x1024x1408, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference6Ideal.lean ====
abbrev S4096x1024 : Shape := ⟨2, ![4096, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x1024, .f32⟩
  | .hbm, ⟨4, _⟩ => ⟨S4096x5632, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel7.lean ====
abbrev S4096x1024 : Shape := ⟨2, ![4096, 1024]⟩
abbrev S1024 : Shape := ⟨1, ![1024]⟩
abbrev S1024x5632 : Shape := ⟨2, ![1024, 5632]⟩
abbrev S1x1024 : Shape := ⟨2, ![1, 1024]⟩
abbrev S1024x4x1408 : Shape := ⟨3, ![1024, 4, 1408]⟩
abbrev S4x1024x1408 : Shape := ⟨3, ![4, 1024, 1408]⟩
abbrev S2x4096x1408 : Shape := ⟨3, ![2, 4096, 1408]⟩
abbrev S512x1024 : Shape := ⟨2, ![512, 1024]⟩
abbrev S2x512x1408 : Shape := ⟨3, ![2, 512, 1408]⟩
abbrev S512 : Shape := ⟨1, ![512]⟩
abbrev S512x1 : Shape := ⟨2, ![512, 1]⟩
abbrev S1x1024x1408 : Shape := ⟨3, ![1, 1024, 1408]⟩
abbrev S1024x1408 : Shape := ⟨2, ![1024, 1408]⟩
abbrev S512x1408 : Shape := ⟨2, ![512, 1408]⟩
abbrev S1x512x1408 : Shape := ⟨3, ![1, 512, 1408]⟩

abbrev nBuf : Space → Nat
  | .hbm => 11
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S1x1024, .f32⟩
  | .hbm, ⟨4, _⟩ => ⟨S1024x4x1408, .f32⟩
  | .hbm, ⟨5, _⟩ => ⟨S4x1024x1408, .f32⟩
  | .hbm, ⟨6, _⟩ => ⟨S4x1024x1408, .bf16⟩
  | .hbm, ⟨7, _⟩ => ⟨S4096x1024, .bf16⟩
  | .hbm, ⟨8, _⟩ => ⟨S2x4096x1408, .bf16⟩
  | .hbm, ⟨9, _⟩ => ⟨S2x4096x1408, .bf16⟩
  | .hbm, ⟨10, _⟩ => ⟨S2x4096x1408, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x1408, .bf16⟩
  | .local _ .vmem, ⟨4, _⟩ => ⟨S512x1024, .bf16⟩
  | .local _ .vmem, ⟨5, _⟩ => ⟨S512x1024, .bf16⟩
  | .local _ .vmem, ⟨6, _⟩ => ⟨S2x512x1408, .bf16⟩
  | .local _ .vmem, ⟨7, _⟩ => ⟨S2x512x1408, .bf16⟩
  | .local _ .vmem, ⟨8, _⟩ => ⟨S2x512x1408, .bf16⟩
  | .local _ .vmem, ⟨9, _⟩ => ⟨S2x512x1408, .bf16⟩
  | .local _ .vmem, ⟨10, _⟩ => ⟨S2x512x1408, .bf16⟩
  | .local _ .vmem, ⟨11, _⟩ => ⟨S2x512x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v4_2 : Ref sig .tc := ⟨.hbm, 9, rfl⟩
abbrev main_v4_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference7Ideal.lean ====
abbrev S4096x1024 : Shape := ⟨2, ![4096, 1024]⟩
abbrev S1024 : Shape := ⟨1, ![1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S4096x2x1408 : Shape := ⟨3, ![4096, 2, 1408]⟩
abbrev S2x4096x1408 : Shape := ⟨3, ![2, 4096, 1408]⟩

abbrev nBuf : Space → Nat
  | .hbm => 42
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x5632, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S_, .f32⟩
  | .hbm, ⟨25, _⟩ => ⟨S4096x2816, .f32⟩
  | .hbm, ⟨26, _⟩ => ⟨S4096x2816, .f32⟩
  | .hbm, ⟨27, _⟩ => ⟨S_, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x1024, .bf16⟩
  | .hbm, ⟨33, _⟩ => ⟨S4096x2x1408, .f32⟩
  | .hbm, ⟨34, _⟩ => ⟨S2x4096x1408, .f32⟩
  | .hbm, ⟨35, _⟩ => ⟨S2x4096x1408, .bf16⟩
  | .hbm, ⟨36, _⟩ => ⟨S4096x2x1408, .f32⟩
  | .hbm, ⟨37, _⟩ => ⟨S2x4096x1408, .f32⟩
  | .hbm, ⟨38, _⟩ => ⟨S2x4096x1408, .bf16⟩
  | .hbm, ⟨39, _⟩ => ⟨S4096x2x1408, .f32⟩
  | .hbm, ⟨40, _⟩ => ⟨S2x4096x1408, .f32⟩
  | .hbm, ⟨41, _⟩ => ⟨S2x4096x1408, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Kernel8.lean ====
abbrev S4096x2816 : Shape := ⟨2, ![4096, 2816]⟩
abbrev S2816x1024 : Shape := ⟨2, ![2816, 1024]⟩
abbrev S4096x1024 : Shape := ⟨2, ![4096, 1024]⟩
abbrev S4096x2x1408 : Shape := ⟨3, ![4096, 2, 1408]⟩
abbrev S2x4096x1408 : Shape := ⟨3, ![2, 4096, 1408]⟩
abbrev S2x512x1408 : Shape := ⟨3, ![2, 512, 1408]⟩
abbrev S512x1024 : Shape := ⟨2, ![512, 1024]⟩
abbrev S1x512x1408 : Shape := ⟨3, ![1, 512, 1408]⟩
abbrev S512x1408 : Shape := ⟨2, ![512, 1408]⟩
abbrev S1408x1024 : Shape := ⟨2, ![1408, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x2x1408, .f32⟩
  | .hbm, ⟨4, _⟩ => ⟨S2x4096x1408, .f32⟩
  | .hbm, ⟨5, _⟩ => ⟨S2x4096x1408, .bf16⟩
  | .hbm, ⟨6, _⟩ => ⟨S2816x1024, .bf16⟩
  | .hbm, ⟨7, _⟩ => ⟨S4096x1024, .f32⟩
  | .local _ .vmem, ⟨0, _⟩ => ⟨S2x512x1408, .bf16⟩
  | .local _ .vmem, ⟨1, _⟩ => ⟨S2x512x1408, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel9.lean ====
abbrev S4096x1024 : Shape := ⟨2, ![4096, 1024]⟩
abbrev S1024 : Shape := ⟨1, ![1024]⟩
abbrev S1024x6144 : Shape := ⟨2, ![1024, 6144]⟩
abbrev S1024x1536 : Shape := ⟨2, ![1024, 1536]⟩
abbrev S1x1024 : Shape := ⟨2, ![1, 1024]⟩
abbrev S4096x6144 : Shape := ⟨2, ![4096, 6144]⟩
abbrev S4096x1536 : Shape := ⟨2, ![4096, 1536]⟩
abbrev S512x1024 : Shape := ⟨2, ![512, 1024]⟩
abbrev S512x6144 : Shape := ⟨2, ![512, 6144]⟩
abbrev S512x1536 : Shape := ⟨2, ![512, 1536]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6144, .f32⟩
  | .hbm, ⟨3, _⟩ => ⟨S1024x1536, .f32⟩
  | .hbm, ⟨4, _⟩ => ⟨S1x1024, .f32⟩
  | .hbm, ⟨5, _⟩ => ⟨S1024x6144, .bf16⟩
  | .hbm, ⟨6, _⟩ => ⟨S1024x1536, .bf16⟩
  | .hbm, ⟨7, _⟩ => ⟨S4096x1024, .bf16⟩
  | .hbm, ⟨8, _⟩ => ⟨S4096x6144, .bf16⟩
  | .hbm, ⟨9, _⟩ => ⟨S4096x1536, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6144, .bf16⟩
  | .local _ .vmem, ⟨4, _⟩ => ⟨S1024x1536, .bf16⟩
  | .local _ .vmem, ⟨5, _⟩ => ⟨S512x1024, .bf16⟩
  | .local _ .vmem, ⟨6, _⟩ => ⟨S512x1024, .bf16⟩
  | .local _ .vmem, ⟨7, _⟩ => ⟨S512x6144, .bf16⟩
  | .local _ .vmem, ⟨8, _⟩ => ⟨S512x6144, .bf16⟩
  | .local _ .vmem, ⟨9, _⟩ => ⟨S512x1536, .f32⟩
  | .local _ .vmem, ⟨10, _⟩ => ⟨S512x1536, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x6144 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference9Ideal.lean ====
abbrev S4096x1024 : Shape := ⟨2, ![4096, 1024]⟩
abbrev S1024 : Shape := ⟨1, ![1024]⟩
abbrev S1024x6144 : Shape := ⟨2, ![1024, 6144]⟩
abbrev S1024x1536 : Shape := ⟨2, ![1024, 1536]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x6144 : Shape := ⟨2, ![4096, 6144]⟩
abbrev S4096x1536 : Shape := ⟨2, ![4096, 1536]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6144, .f32⟩
  | .hbm, ⟨3, _⟩ => ⟨S1024x1536, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S4096x6144, .f32⟩
  | .hbm, ⟨22, _⟩ => ⟨S4096x6144, .bf16⟩
  | .hbm, ⟨23, _⟩ => ⟨S4096x1536, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel10.lean ====
abbrev S4096x1024 : Shape := ⟨2, ![4096, 1024]⟩
abbrev S1024 : Shape := ⟨1, ![1024]⟩
abbrev S1024x6144 : Shape := ⟨2, ![1024, 6144]⟩
abbrev S1024x1536 : Shape := ⟨2, ![1024, 1536]⟩
abbrev S4096x6144 : Shape := ⟨2, ![4096, 6144]⟩
abbrev S4096x1536 : Shape := ⟨2, ![4096, 1536]⟩
abbrev S1x1024 : Shape := ⟨2, ![1, 1024]⟩
abbrev S512x6144 : Shape := ⟨2, ![512, 6144]⟩
abbrev S512x1536 : Shape := ⟨2, ![512, 1536]⟩
abbrev S512x1024 : Shape := ⟨2, ![512, 1024]⟩
abbrev S512 : Shape := ⟨1, ![512]⟩
abbrev S512x1 : Shape := ⟨2, ![512, 1]⟩

abbrev nBuf : Space → Nat
  | .hbm => 14
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6144, .f32⟩
  | .hbm, ⟨3, _⟩ => ⟨S1024x1536, .f32⟩
  | .hbm, ⟨4, _⟩ => ⟨S4096x1024, .f32⟩
  | .hbm, ⟨5, _⟩ => ⟨S4096x6144, .f32⟩
  | .hbm, ⟨6, _⟩ => ⟨S4096x1536, .f32⟩
  | .hbm, ⟨7, _⟩ => ⟨S4096x6144, .bf16⟩
  | .hbm, ⟨8, _⟩ => ⟨S4096x1536, .bf16⟩
  | .hbm, ⟨9, _⟩ => ⟨S1024x6144, .bf16⟩
  | .hbm, ⟨10, _⟩ => ⟨S1024x1536, .bf16⟩
  | .hbm, ⟨11, _⟩ => ⟨S1x1024, .f32⟩
  | .hbm, ⟨12, _⟩ => ⟨S4096x1024, .f32⟩
  | .hbm, ⟨13, _⟩ => ⟨S1x1024, .f32⟩
  | .local _ .vmem, ⟨0, _⟩ => ⟨S512x6144, .bf16⟩
  | .local _ .vmem, ⟨1, _⟩ => ⟨S512x6144, .bf16⟩
  | .local _ .vmem, ⟨2, _⟩ => ⟨S512x1536, .bf16⟩
  | .local _ .vmem, ⟨3, _⟩ => ⟨S512x1536, .bf16⟩
  | .local _ .vmem, ⟨4, _⟩ => ⟨S1024x6144, .bf16⟩
  | .local _ .vmem, ⟨5, _⟩ => ⟨S1024x1536, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference10Ideal.lean ====
abbrev S4096x1024 : Shape := ⟨2, ![4096, 1024]⟩
abbrev S1024 : Shape := ⟨1, ![1024]⟩
abbrev S1024x6144 : Shape := ⟨2, ![1024, 6144]⟩
abbrev S1024x1536 : Shape := ⟨2, ![1024, 1536]⟩
abbrev S4096x6144 : Shape := ⟨2, ![4096, 6144]⟩
abbrev S4096x1536 : Shape := ⟨2, ![4096, 1536]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x6144, .f32⟩
  | .hbm, ⟨3, _⟩ => ⟨S1024x1536, .f32⟩
  | .hbm, ⟨4, _⟩ => ⟨S4096x1024, .f32⟩
  | .hbm, ⟨5, _⟩ => ⟨S4096x6144, .f32⟩
  | .hbm, ⟨6, _⟩ => ⟨S4096x1536, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x6144, .f32⟩
  | .hbm, ⟨28, _⟩ => ⟨S4096x1536, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Kernel11.lean ====
abbrev S4096x1024 : Shape := ⟨2, ![4096, 1024]⟩
abbrev S1024x6144 : Shape := ⟨2, ![1024, 6144]⟩
abbrev S4096x6144 : Shape := ⟨2, ![4096, 6144]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x6144, .f32⟩
  | .hbm, ⟨2, _⟩ => ⟨S4096x6144, .f32⟩
  | .hbm, ⟨3, _⟩ => ⟨S4096x1024, .bf16⟩
  | .hbm, ⟨4, _⟩ => ⟨S4096x6144, .bf16⟩
  | .hbm, ⟨5, _⟩ => ⟨S1024x6144, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x1024 : Shape := ⟨2, ![4096, 1024]⟩
abbrev S1024x6144 : Shape := ⟨2, ![1024, 6144]⟩
abbrev S4096x6144 : Shape := ⟨2, ![4096, 6144]⟩
abbrev S6144x1024 : Shape := ⟨2, ![6144, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x6144, .f32⟩
  | .hbm, ⟨2, _⟩ => ⟨S4096x6144, .f32⟩
  | .hbm, ⟨3, _⟩ => ⟨S4096x6144, .f32⟩
  | .hbm, ⟨4, _⟩ => ⟨S6144x1024, .f32⟩
  | .hbm, ⟨5, _⟩ => ⟨S1024x6144, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel12.lean ====
abbrev S4096x1024 : Shape := ⟨2, ![4096, 1024]⟩
abbrev S1024x1536 : Shape := ⟨2, ![1024, 1536]⟩
abbrev S4096x1536 : Shape := ⟨2, ![4096, 1536]⟩
abbrev S1024x1024 : Shape := ⟨2, ![1024, 1024]⟩
abbrev S1024x768 : Shape := ⟨2, ![1024, 768]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1536, .f32⟩
  | .hbm, ⟨2, _⟩ => ⟨S4096x1536, .f32⟩
  | .hbm, ⟨3, _⟩ => ⟨S4096x1024, .bf16⟩
  | .hbm, ⟨4, _⟩ => ⟨S4096x1536, .bf16⟩
  | .hbm, ⟨5, _⟩ => ⟨S1024x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .f32⟩
  | .local _ .vmem, ⟨5, _⟩ => ⟨S1024x768, .f32⟩
  | .local _ .vmem, ⟨6, _⟩ => ⟨S1024x768, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x1024 : Shape := ⟨2, ![4096, 1024]⟩
abbrev S1024x1536 : Shape := ⟨2, ![1024, 1536]⟩
abbrev S4096x1536 : Shape := ⟨2, ![4096, 1536]⟩
abbrev S1536x1024 : Shape := ⟨2, ![1536, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1536, .f32⟩
  | .hbm, ⟨2, _⟩ => ⟨S4096x1536, .f32⟩
  | .hbm, ⟨3, _⟩ => ⟨S4096x1536, .f32⟩
  | .hbm, ⟨4, _⟩ => ⟨S1536x1024, .f32⟩
  | .hbm, ⟨5, _⟩ => ⟨S1024x1536, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel13.lean ====
abbrev S4096x6144 : Shape := ⟨2, ![4096, 6144]⟩
abbrev S4096x512 : Shape := ⟨2, ![4096, 512]⟩
abbrev S4096x1024 : Shape := ⟨2, ![4096, 1024]⟩
abbrev S512x1024 : Shape := ⟨2, ![512, 1024]⟩
abbrev S1024x1024 : Shape := ⟨2, ![1024, 1024]⟩
abbrev S512x3072 : Shape := ⟨2, ![512, 3072]⟩
abbrev S512x512 : Shape := ⟨2, ![512, 512]⟩

abbrev nBuf : Space → Nat
  | .hbm => 19
  | .vmem => 18
  | .smem => 0
  | _ => 0

abbrev bufTy : (tb : Table) → Fin (tcTables nBuf tb) → BufTy
  | .hbm, ⟨0, _⟩ => ⟨S4096x6144, .f32⟩
  | .hbm, ⟨1, _⟩ => ⟨S4096x512, .f32⟩
  | .hbm, ⟨2, _⟩ => ⟨S4096x1024, .f32⟩
  | .hbm, ⟨3, _⟩ => ⟨S4096x1024, .f32⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S4096x1024, .f32⟩
  | .hbm, ⟨9, _⟩ => ⟨S4096x6144, .bf16⟩
  | .hbm, ⟨10, _⟩ => ⟨S4096x512, .bf16⟩
  | .hbm, ⟨11, _⟩ => ⟨S4096x1024, .bf16⟩
  | .hbm, ⟨12, _⟩ => ⟨S4096x1024, .bf16⟩
  | .hbm, ⟨13, _⟩ => ⟨S512x1024, .bf16⟩
  | .hbm, ⟨14, _⟩ => ⟨S1024x1024, .bf16⟩
  | .hbm, ⟨15, _⟩ => ⟨S1024x1024, .bf16⟩
  | .hbm, ⟨16, _⟩ => ⟨S1024x1024, .bf16⟩
  | .hbm, ⟨17, _⟩ => ⟨S4096x1024, .bf16⟩
  | .hbm, ⟨18, _⟩ => ⟨S4096x1024, .f32⟩
  | .local _ .vmem, ⟨0, _⟩ => ⟨S512x3072, .bf16⟩
  | .local _ .vmem, ⟨1, _⟩ => ⟨S512x3072, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .f32⟩
  | .local _ .vmem, ⟨17, _⟩ => ⟨S512x1024, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference13Ideal.lean ====
abbrev S4096x6144 : Shape := ⟨2, ![4096, 6144]⟩
abbrev S4096x512 : Shape := ⟨2, ![4096, 512]⟩
abbrev S4096x1024 : Shape := ⟨2, ![4096, 1024]⟩
abbrev S512x1024 : Shape := ⟨2, ![512, 1024]⟩
abbrev S1024x1024 : Shape := ⟨2, ![1024, 1024]⟩
abbrev S4096x3072 : Shape := ⟨2, ![4096, 3072]⟩
abbrev S_ : Shape := ⟨0, ![]⟩
abbrev S4096x3x1024 : Shape := ⟨3, ![4096, 3, 1024]⟩
abbrev S4096x1x1024 : Shape := ⟨3, ![4096, 1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S4096x512, .f32⟩
  | .hbm, ⟨2, _⟩ => ⟨S4096x1024, .f32⟩
  | .hbm, ⟨3, _⟩ => ⟨S4096x1024, .f32⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S4096x1024, .f32⟩
  | .hbm, ⟨9, _⟩ => ⟨S4096x3072, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x3072, .f32⟩
  | .hbm, ⟨14, _⟩ => ⟨S4096x3072, .f32⟩
  | .hbm, ⟨15, _⟩ => ⟨S_, .f32⟩
  | .hbm, ⟨16, _⟩ => ⟨S4096x3072, .f32⟩
  | .hbm, ⟨17, _⟩ => ⟨S4096x3072, .f32⟩
  | .hbm, ⟨18, _⟩ => ⟨S_, .f32⟩
  | .hbm, ⟨19, _⟩ => ⟨S4096x3072, .f32⟩
  | .hbm, ⟨20, _⟩ => ⟨S4096x3072, .f32⟩
  | .hbm, ⟨21, _⟩ => ⟨S4096x3x1024, .f32⟩
  | .hbm, ⟨22, _⟩ => ⟨S4096x1x1024, .f32⟩
  | .hbm, ⟨23, _⟩ => ⟨S4096x1024, .f32⟩
  | .hbm, ⟨24, _⟩ => ⟨S4096x1024, .f32⟩
  | .hbm, ⟨25, _⟩ => ⟨S4096x1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .bf16⟩
  | .hbm, ⟨34, _⟩ => ⟨S4096x1024, .f32⟩
  | .hbm, ⟨35, _⟩ => ⟨S4096x1024, .f32⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Kernel14.lean ====
abbrev S4096x6144 : Shape := ⟨2, ![4096, 6144]⟩
abbrev S4096x512 : Shape := ⟨2, ![4096, 512]⟩
abbrev S4096x1024 : Shape := ⟨2, ![4096, 1024]⟩
abbrev S512x1024 : Shape := ⟨2, ![512, 1024]⟩
abbrev S1024x1024 : Shape := ⟨2, ![1024, 1024]⟩
abbrev S4096x3072 : Shape := ⟨2, ![4096, 3072]⟩
abbrev S512x3072 : Shape := ⟨2, ![512, 3072]⟩
abbrev S512x512 : Shape := ⟨2, ![512, 512]⟩

abbrev nBuf : Space → Nat
  | .hbm => 24
  | .vmem => 28
  | .smem => 0
  | _ => 0

abbrev bufTy : (tb : Table) → Fin (tcTables nBuf tb) → BufTy
  | .hbm, ⟨0, _⟩ => ⟨S4096x6144, .f32⟩
  | .hbm, ⟨1, _⟩ => ⟨S4096x512, .f32⟩
  | .hbm, ⟨2, _⟩ => ⟨S4096x1024, .f32⟩
  | .hbm, ⟨3, _⟩ => ⟨S4096x1024, .f32⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S4096x1024, .f32⟩
  | .hbm, ⟨9, _⟩ => ⟨S4096x6144, .bf16⟩
  | .hbm, ⟨10, _⟩ => ⟨S4096x512, .bf16⟩
  | .hbm, ⟨11, _⟩ => ⟨S4096x1024, .bf16⟩
  | .hbm, ⟨12, _⟩ => ⟨S4096x1024, .bf16⟩
  | .hbm, ⟨13, _⟩ => ⟨S512x1024, .bf16⟩
  | .hbm, ⟨14, _⟩ => ⟨S1024x1024, .bf16⟩
  | .hbm, ⟨15, _⟩ => ⟨S1024x1024, .bf16⟩
  | .hbm, ⟨16, _⟩ => ⟨S1024x1024, .bf16⟩
  | .hbm, ⟨17, _⟩ => ⟨S4096x1024, .bf16⟩
  | .hbm, ⟨18, _⟩ => ⟨S4096x1024, .bf16⟩
  | .hbm, ⟨19, _⟩ => ⟨S4096x1024, .bf16⟩
  | .hbm, ⟨20, _⟩ => ⟨S4096x3072, .bf16⟩
  | .hbm, ⟨21, _⟩ => ⟨S4096x512, .bf16⟩
  | .hbm, ⟨22, _⟩ => ⟨S4096x1024, .bf16⟩
  | .hbm, ⟨23, _⟩ => ⟨S4096x1024, .f32⟩
  | .local _ .vmem, ⟨0, _⟩ => ⟨S512x3072, .bf16⟩
  | .local _ .vmem, ⟨1, _⟩ => ⟨S512x3072, .bf16⟩
  | .local _ .vmem, ⟨2, _⟩ => ⟨S512x512, .bf16⟩
  | .local _ .vmem, ⟨3, _⟩ => ⟨S512x512, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x3072, .bf16⟩
  | .local _ .vmem, ⟨21, _⟩ => ⟨S512x3072, .bf16⟩
  | .local _ .vmem, ⟨22, _⟩ => ⟨S512x512, .bf16⟩
  | .local _ .vmem, ⟨23, _⟩ => ⟨S512x512, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .f32⟩
  | .local _ .vmem, ⟨27, _⟩ => ⟨S512x1024, .f32⟩
  | _, _ => ⟨S4096x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v8_4 : Ref sig .tc := ⟨.hbm, 21, rfl⟩
abbrev main_v8_5 : Ref sig .tc := ⟨.hbm, 22, rfl⟩
abbrev main_v8_6 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x3072 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference14Ideal.lean ====
abbrev S4096x6144 : Shape := ⟨2, ![4096, 6144]⟩
abbrev S4096x512 : Shape := ⟨2, ![4096, 512]⟩
abbrev S4096x1024 : Shape := ⟨2, ![4096, 1024]⟩
abbrev S512x1024 : Shape := ⟨2, ![512, 1024]⟩
abbrev S1024x1024 : Shape := ⟨2, ![1024, 1024]⟩
abbrev S4096x3072 : Shape := ⟨2, ![4096, 3072]⟩
abbrev S_ : Shape := ⟨0, ![]⟩
abbrev S4096x3x1024 : Shape := ⟨3, ![4096, 3, 1024]⟩
abbrev S4096x1x1024 : Shape := ⟨3, ![4096, 1, 1024]⟩

abbrev nBuf : Space → Nat
  | .hbm => 70
  | .vmem => 0
  | .smem => 0
  | _ => 0

abbrev bufTy : (tb : Table) → Fin (tcTables nBuf tb) → BufTy
  | .hbm, ⟨0, _⟩ => ⟨S4096x6144, .f32⟩
  | .hbm, ⟨1, _⟩ => ⟨S4096x512, .f32⟩
  | .hbm, ⟨2, _⟩ => ⟨S4096x1024, .f32⟩
  | .hbm, ⟨3, _⟩ => ⟨S4096x1024, .f32⟩
  | .hbm, ⟨4, _⟩ => ⟨S512x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S4096x1024, .f32⟩
  | .hbm, ⟨9, _⟩ => ⟨S4096x3072, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x3072, .f32⟩
  | .hbm, ⟨14, _⟩ => ⟨S4096x3072, .f32⟩
  | .hbm, ⟨15, _⟩ => ⟨S_, .f32⟩
  | .hbm, ⟨16, _⟩ => ⟨S4096x3072, .f32⟩
  | .hbm, ⟨17, _⟩ => ⟨S4096x3072, .f32⟩
  | .hbm, ⟨18, _⟩ => ⟨S_, .f32⟩
  | .hbm, ⟨19, _⟩ => ⟨S4096x3072, .f32⟩
  | .hbm, ⟨20, _⟩ => ⟨S4096x3072, .f32⟩
  | .hbm, ⟨21, _⟩ => ⟨S_, .f32⟩
  | .hbm, ⟨22, _⟩ => ⟨S4096x3072, .f32⟩
  | .hbm, ⟨23, _⟩ => ⟨S4096x3072, .f32⟩
  | .hbm, ⟨24, _⟩ => ⟨S4096x3072, .f32⟩
  | .hbm, ⟨25, _⟩ => ⟨S4096x3x1024, .f32⟩
  | .hbm, ⟨26, _⟩ => ⟨S4096x1x1024, .f32⟩
  | .hbm, ⟨27, _⟩ => ⟨S4096x1024, .f32⟩
  | .hbm, ⟨28, _⟩ => ⟨S4096x1024, .f32⟩
  | .hbm, ⟨29, _⟩ => ⟨S4096x1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1x1024, .f32⟩
  | .hbm, ⟨42, _⟩ => ⟨S_, .f32⟩
  | .hbm, ⟨43, _⟩ => ⟨S4096x3x1024, .f32⟩
  | .hbm, ⟨44, _⟩ => ⟨S4096x1024, .f32⟩
  | .hbm, ⟨45, _⟩ => ⟨S4096x1024, .f32⟩
  | .hbm, ⟨46, _⟩ => ⟨S4096x1x1024, .f32⟩
  | .hbm, ⟨47, _⟩ => ⟨S_, .f32⟩
  | .hbm, ⟨48, _⟩ => ⟨S4096x3x1024, .f32⟩
  | .hbm, ⟨49, _⟩ => ⟨S4096x3x1024, .f32⟩
  | .hbm, ⟨50, _⟩ => ⟨S4096x1024, .f32⟩
  | .hbm, ⟨51, _⟩ => ⟨S4096x1024, .f32⟩
  | .hbm, ⟨52, _⟩ => ⟨S4096x1x1024, .f32⟩
  | .hbm, ⟨53, _⟩ => ⟨S_, .f32⟩
  | .hbm, ⟨54, _⟩ => ⟨S4096x3x1024, .f32⟩
  | .hbm, ⟨55, _⟩ => ⟨S4096x3x1024, .f32⟩
  | .hbm, ⟨56, _⟩ => ⟨S4096x3072, .f32⟩
  | .hbm, ⟨57, _⟩ => ⟨S4096x3072, .f32⟩
  | .hbm, ⟨58, _⟩ => ⟨S4096x1024, .f32⟩
  | .hbm, ⟨59, _⟩ => ⟨S4096x512, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .bf16⟩
  | .hbm, ⟨65, _⟩ => ⟨S4096x1024, .bf16⟩
  | .hbm, ⟨66, _⟩ => ⟨S4096x1024, .bf16⟩
  | .hbm, ⟨67, _⟩ => ⟨S4096x3072, .bf16⟩
  | .hbm, ⟨68, _⟩ => ⟨S4096x512, .bf16⟩
  | .hbm, ⟨69, _⟩ => ⟨S4096x1024, .bf16⟩
  | _, _ => ⟨S4096x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩

abbrev nD : Nat := 1
abbrev τ : Topo := Topo.v7x

variable {F : FTy → Type} [FloatOps F]
-- ==== Kernel15.lean ====
abbrev S4096x1024 : Shape := ⟨2, ![4096, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel16.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x512, .bf16⟩
  | .hbm, ⟨4, _⟩ => ⟨S4096x1024, .bf16⟩
  | .hbm, ⟨5, _⟩ => ⟨S512x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S4096x512 : Shape := ⟨2, ![4096, 512]⟩
abbrev S512x1024 : Shape := ⟨2, ![512, 1024]⟩
abbrev S4096x1024 : Shape := ⟨2, ![4096, 1024]⟩
abbrev S1024x512 : Shape := ⟨2, ![1024, 512]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x1024, .f32⟩
  | .hbm, ⟨2, _⟩ => ⟨S4096x1024, .f32⟩
  | .hbm, ⟨3, _⟩ => ⟨S4096x1024, .f32⟩
  | .hbm, ⟨4, _⟩ => ⟨S1024x512, .f32⟩
  | .hbm, ⟨5, _⟩ => ⟨S512x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel17.lean ====
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference17Ideal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel18.lean ====
abbrev S1x4096x8x96 : Shape := ⟨4, ![1, 4096, 8, 96]⟩
abbrev S1x4096x8x64 : Shape := ⟨4, ![1, 4096, 8, 64]⟩
abbrev S_ : Shape := ⟨0, ![]⟩
abbrev S1x4096x8x128 : Shape := ⟨4, ![1, 4096, 8, 128]⟩
abbrev S4096x1024 : Shape := ⟨2, ![4096, 1024]⟩
abbrev S8x1x4096 : Shape := ⟨3, ![8, 1, 4096]⟩
abbrev S1024x128 : Shape := ⟨2, ![1024, 128]⟩
abbrev S1x1x1024 : Shape := ⟨3, ![1, 1, 1024]⟩
abbrev S1x1024 : Shape := ⟨2, ![1, 1024]⟩
abbrev S128x1024 : Shape := ⟨2, ![128, 1024]⟩
abbrev S1024x1024 : Shape := ⟨2, ![1024, 1024]⟩
abbrev S1024 : Shape := ⟨1, ![1024]⟩

abbrev nBuf : Space → Nat
  | .hbm => 26
  | .vmem => 13
  | .smem => 0
  | _ => 0

abbrev bufTy : (tb : Table) → Fin (tcTables nBuf tb) → BufTy
  | .hbm, ⟨0, _⟩ => ⟨S1x4096x8x96, .f32⟩
  | .hbm, ⟨1, _⟩ => ⟨S1x4096x8x96, .f32⟩
  | .hbm, ⟨2, _⟩ => ⟨S1x4096x8x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S1x4096x8x96, .f32⟩
  | .hbm, ⟨8, _⟩ => ⟨S1x4096x8x96, .f32⟩
  | .hbm, ⟨9, _⟩ => ⟨S_, .i32⟩
  | .hbm, ⟨10, _⟩ => ⟨S_, .f32⟩
  | .hbm, ⟨11, _⟩ => ⟨S1x4096x8x128, .f32⟩
  | .hbm, ⟨12, _⟩ => ⟨S4096x1024, .f32⟩
  | .hbm, ⟨13, _⟩ => ⟨S4096x1024, .bf16⟩
  | .hbm, ⟨14, _⟩ => ⟨S_, .i32⟩
  | .hbm, ⟨15, _⟩ => ⟨S_, .f32⟩
  | .hbm, ⟨16, _⟩ => ⟨S1x4096x8x128, .f32⟩
  | .hbm, ⟨17, _⟩ => ⟨S4096x1024, .f32⟩
  | .hbm, ⟨18, _⟩ => ⟨S4096x1024, .bf16⟩
  | .hbm, ⟨19, _⟩ => ⟨S_, .i32⟩
  | .hbm, ⟨20, _⟩ => ⟨S_, .f32⟩
  | .hbm, ⟨21, _⟩ => ⟨S1x4096x8x128, .f32⟩
  | .hbm, ⟨22, _⟩ => ⟨S4096x1024, .f32⟩
  | .hbm, ⟨23, _⟩ => ⟨S4096x1024, .bf16⟩
  | .hbm, ⟨24, _⟩ => ⟨S4096x1024, .bf16⟩
  | .hbm, ⟨25, _⟩ => ⟨S8x1x4096, .f32⟩
  | .local _ .vmem, ⟨0, _⟩ => ⟨S1024x128, .bf16⟩
  | .local _ .vmem, ⟨1, _⟩ => ⟨S1024x128, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S1024x128, .bf16⟩
  | .local _ .vmem, ⟨7, _⟩ => ⟨S1024x128, .bf16⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1x1024, .f32⟩
  | .local _ .vmem, ⟨12, _⟩ => ⟨S128x1024, .f32⟩
  | _, _ => ⟨S1x4096x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_2 : Ref sig .tc := ⟨.hbm, 19, rfl⟩
abbrev main_call2_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 10], ![false, false]⟩

def k0_cond3 (i : grid0.Coords) : BitVec 1 :=
  let arg1 : BitVec 32 := BitVec.ofNat 32 (i 1).val
  let c0_i32 : BitVec 32 := 0#32
  let v0 : BitVec 32 := Scalar.muli arg1 c0_i32
  let c1_i32 : BitVec 32 := 1#32
  let v1 : BitVec 1 := Scalar.cmpi .sge arg1 c1_i32
  let v2 : BitVec 32 := Scalar.extui v1
  let v3 : BitVec 32 := Scalar.addi v0 v2
  let c3_i32 : BitVec 32 := 3#32
  let v4 : BitVec 1 := Scalar.cmpi .sge arg1 c3_i32
  let v5 : BitVec 32 := Scalar.extui v4
  let v6 : BitVec 32 := Scalar.addi v3 v5
  let c6_i32 : BitVec 32 := 6#32
  let v7 : BitVec 1 := Scalar.cmpi .sge arg1 c6_i32
  let v8 : BitVec 32 := Scalar.extui v7
  let v9 : BitVec 32 := Scalar.addi v6 v8
  let c1_i32_0 : BitVec 32 := 1#32
  let v10 : BitVec 32 := Scalar.addi v9 c1_i32_0
  let v11 : BitVec 32 := Scalar.muli v9 v10
  let c0_i32_1 : BitVec 32 := 0#32
  let v13 : BitVec 1 := Scalar.cmpi .sgt v11 c0_i32_1
  let v14 : BitVec 32 := Scalar.extui v13
  let c0_i32_2 : BitVec 32 := 0#32
  let v15 : BitVec 1 := Scalar.cmpi .slt v11 c0_i32_2
  let v16 : BitVec 32 := Scalar.extui v15
  let v17 : BitVec 32 := Scalar.subi v14 v16
  let c2_i32 : BitVec 32 := 2#32
  let c0_i32_3 : BitVec 32 := 0#32
  let v18 : BitVec 1 := Scalar.cmpi .sgt c2_i32 c0_i32_3
  let v19 : BitVec 32 := Scalar.extui v18
  let c0_i32_4 : BitVec 32 := 0#32
  let v20 : BitVec 1 := Scalar.cmpi .slt c2_i32 c0_i32_4
  let v21 : BitVec 32 := Scalar.extui v20
  let v22 : BitVec 32 := Scalar.subi v19 v21
  let v23 : BitVec 1 := Scalar.cmpi .ne v17 v22
  let v24 : BitVec 32 := Scalar.remsi v11 c2_i32
  let c0_i32_5 : BitVec 32 := 0#32
  let v25 : BitVec 1 := Scalar.cmpi .ne v24 c0_i32_5
  let v26 : BitVec 1 := Scalar.andi v23 v25
  let v12 : BitVec 32 := Scalar.divsi v11 c2_i32
  let c1_i32_6 : BitVec 32 := 1#32
  let v27 : BitVec 32 := Scalar.subi v12 c1_i32_6
  let v28 : BitVec 32 := Scalar.select v26 v27 v12
  let v29 : BitVec 32 := Scalar.subi arg1 v28
  let v36 : BitVec 1 := Scalar.cmpi .eq v29 v9
  let v37 : BitVec 32 := Scalar.extui v36
  let c0_i32_10 : BitVec 32 := 0#32
  let v38 : BitVec 1 := Scalar.cmpi .ne v37 c0_i32_10
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.muli arg1 c0_i32
  let c1_i32 : BitVec 32 := 1#32
  let v1 : BitVec 1 := Scalar.cmpi .sge arg1 c1_i32
  let v2 : BitVec 32 := Scalar.extui v1
  let v3 : BitVec 32 := Scalar.addi v0 v2
  let c3_i32 : BitVec 32 := 3#32
  let v4 : BitVec 1 := Scalar.cmpi .sge arg1 c3_i32
  let v5 : BitVec 32 := Scalar.extui v4
  let v6 : BitVec 32 := Scalar.addi v3 v5
  let c6_i32 : BitVec 32 := 6#32
  let v7 : BitVec 1 := Scalar.cmpi .sge arg1 c6_i32
  let v8 : BitVec 32 := Scalar.extui v7
  let v9 : BitVec 32 := Scalar.addi v6 v8
  let c1_i32_0 : BitVec 32 := 1#32
  let v10 : BitVec 32 := Scalar.addi v9 c1_i32_0
  let v11 : BitVec 32 := Scalar.muli v9 v10
  let c2_i32 : BitVec 32 := 2#32
  let v12 : BitVec 32 := Scalar.divsi v11 c2_i32
  let c0_i32_1 : BitVec 32 := 0#32
  let v13 : BitVec 1 := Scalar.cmpi .sgt v11 c0_i32_1
  let v14 : BitVec 32 := Scalar.extui v13
  let c0_i32_2 : BitVec 32 := 0#32
  let v15 : BitVec 1 := Scalar.cmpi .slt v11 c0_i32_2
  let v16 : BitVec 32 := Scalar.extui v15
  let v17 : BitVec 32 := Scalar.subi v14 v16
  let c0_i32_3 : BitVec 32 := 0#32
  let v18 : BitVec 1 := Scalar.cmpi .sgt c2_i32 c0_i32_3
  let v19 : BitVec 32 := Scalar.extui v18
  let c0_i32_4 : BitVec 32 := 0#32
  let v20 : BitVec 1 := Scalar.cmpi .slt c2_i32 c0_i32_4
  let v21 : BitVec 32 := Scalar.extui v20
  let v22 : BitVec 32 := Scalar.subi v19 v21
  let v23 : BitVec 1 := Scalar.cmpi .ne v17 v22
  let v24 : BitVec 32 := Scalar.remsi v11 c2_i32
  let c0_i32_5 : BitVec 32 := 0#32
  let v25 : BitVec 1 := Scalar.cmpi .ne v24 c0_i32_5
  let v26 : BitVec 1 := Scalar.andi v23 v25
  let c1_i32_6 : BitVec 32 := 1#32
  let v27 : BitVec 32 := Scalar.subi v12 c1_i32_6
  let v28 : BitVec 32 := Scalar.select v26 v27 v12
  let v29 : BitVec 32 := Scalar.subi arg1 v28
  let c0_i32_7 : BitVec 32 := 0#32
  ![v9.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.muli arg1 c0_i32
  let c1_i32 : BitVec 32 := 1#32
  let v1 : BitVec 1 := Scalar.cmpi .sge arg1 c1_i32
  let v2 : BitVec 32 := Scalar.extui v1
  let v3 : BitVec 32 := Scalar.addi v0 v2
  let c3_i32 : BitVec 32 := 3#32
  let v4 : BitVec 1 := Scalar.cmpi .sge arg1 c3_i32
  let v5 : BitVec 32 := Scalar.extui v4
  let v6 : BitVec 32 := Scalar.addi v3 v5
  let c6_i32 : BitVec 32 := 6#32
  let v7 : BitVec 1 := Scalar.cmpi .sge arg1 c6_i32
  let v8 : BitVec 32 := Scalar.extui v7
  let v9 : BitVec 32 := Scalar.addi v6 v8
  let c1_i32_0 : BitVec 32 := 1#32
  let v10 : BitVec 32 := Scalar.addi v9 c1_i32_0
  let v11 : BitVec 32 := Scalar.muli v9 v10
  let c2_i32 : BitVec 32 := 2#32
  let v12 : BitVec 32 := Scalar.divsi v11 c2_i32
  let c0_i32_1 : BitVec 32 := 0#32
  let v13 : BitVec 1 := Scalar.cmpi .sgt v11 c0_i32_1
  let v14 : BitVec 32 := Scalar.extui v13
  let c0_i32_2 : BitVec 32 := 0#32
  let v15 : BitVec 1 := Scalar.cmpi .slt v11 c0_i32_2
  let v16 : BitVec 32 := Scalar.extui v15
  let v17 : BitVec 32 := Scalar.subi v14 v16
  let c0_i32_3 : BitVec 32 := 0#32
  let v18 : BitVec 1 := Scalar.cmpi .sgt c2_i32 c0_i32_3
  let v19 : BitVec 32 := Scalar.extui v18
  let c0_i32_4 : BitVec 32 := 0#32
  let v20 : BitVec 1 := Scalar.cmpi .slt c2_i32 c0_i32_4
  let v21 : BitVec 32 := Scalar.extui v20
  let v22 : BitVec 32 := Scalar.subi v19 v21
  let v23 : BitVec 1 := Scalar.cmpi .ne v17 v22
  let v24 : BitVec 32 := Scalar.remsi v11 c2_i32
  let c0_i32_5 : BitVec 32 := 0#32
  let v25 : BitVec 1 := Scalar.cmpi .ne v24 c0_i32_5
  let v26 : BitVec 1 := Scalar.andi v23 v25
  let c1_i32_6 : BitVec 32 := 1#32
  let v27 : BitVec 32 := Scalar.subi v12 c1_i32_6
  let v28 : BitVec 32 := Scalar.select v26 v27 v12
  let v29 : BitVec 32 := Scalar.subi arg1 v28
  let c0_i32_7 : BitVec 32 := 0#32
  ![v29.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.muli arg1 c0_i32
  let c1_i32 : BitVec 32 := 1#32
  let v1 : BitVec 1 := Scalar.cmpi .sge arg1 c1_i32
  let v2 : BitVec 32 := Scalar.extui v1
  let v3 : BitVec 32 := Scalar.addi v0 v2
  let c3_i32 : BitVec 32 := 3#32
  let v4 : BitVec 1 := Scalar.cmpi .sge arg1 c3_i32
  let v5 : BitVec 32 := Scalar.extui v4
  let v6 : BitVec 32 := Scalar.addi v3 v5
  let c6_i32 : BitVec 32 := 6#32
  let v7 : BitVec 1 := Scalar.cmpi .sge arg1 c6_i32
  let v8 : BitVec 32 := Scalar.extui v7
  let v9 : BitVec 32 := Scalar.addi v6 v8
  let c1_i32_0 : BitVec 32 := 1#32
  let v10 : BitVec 32 := Scalar.addi v9 c1_i32_0
  let v11 : BitVec 32 := Scalar.muli v9 v10
  let c2_i32 : BitVec 32 := 2#32
  let v12 : BitVec 32 := Scalar.divsi v11 c2_i32
  let c0_i32_1 : BitVec 32 := 0#32
  let v13 : BitVec 1 := Scalar.cmpi .sgt v11 c0_i32_1
  let v14 : BitVec 32 := Scalar.extui v13
  let c0_i32_2 : BitVec 32 := 0#32
  let v15 : BitVec 1 := Scalar.cmpi .slt v11 c0_i32_2
  let v16 : BitVec 32 := Scalar.extui v15
  let v17 : BitVec 32 := Scalar.subi v14 v16
  let c0_i32_3 : BitVec 32 := 0#32
  let v18 : BitVec 1 := Scalar.cmpi .sgt c2_i32 c0_i32_3
  let v19 : BitVec 32 := Scalar.extui v18
  let c0_i32_4 : BitVec 32 := 0#32
  let v20 : BitVec 1 := Scalar.cmpi .slt c2_i32 c0_i32_4
  let v21 : BitVec 32 := Scalar.extui v20
  let v22 : BitVec 32 := Scalar.subi v19 v21
  let v23 : BitVec 1 := Scalar.cmpi .ne v17 v22
  let v24 : BitVec 32 := Scalar.remsi v11 c2_i32
  let c0_i32_5 : BitVec 32 := 0#32
  let v25 : BitVec 1 := Scalar.cmpi .ne v24 c0_i32_5
  let v26 : BitVec 1 := Scalar.andi v23 v25
  let c1_i32_6 : BitVec 32 := 1#32
  let v27 : BitVec 32 := Scalar.subi v12 c1_i32_6
  let v28 : BitVec 32 := Scalar.select v26 v27 v12
  let v29 : BitVec 32 := Scalar.subi arg1 v28
  let c0_i32_7 : BitVec 32 := 0#32
  ![v29.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.muli arg1 c0_i32
  let c1_i32 : BitVec 32 := 1#32
  let v1 : BitVec 1 := Scalar.cmpi .sge arg1 c1_i32
  let v2 : BitVec 32 := Scalar.extui v1
  let v3 : BitVec 32 := Scalar.addi v0 v2
  let c3_i32 : BitVec 32 := 3#32
  let v4 : BitVec 1 := Scalar.cmpi .sge arg1 c3_i32
  let v5 : BitVec 32 := Scalar.extui v4
  let v6 : BitVec 32 := Scalar.addi v3 v5
  let c6_i32 : BitVec 32 := 6#32
  let v7 : BitVec 1 := Scalar.cmpi .sge arg1 c6_i32
  let v8 : BitVec 32 := Scalar.extui v7
  let v9 : BitVec 32 := Scalar.addi v6 v8
  let c1_i32_0 : BitVec 32 := 1#32
  let v10 : BitVec 32 := Scalar.addi v9 c1_i32_0
  let v11 : BitVec 32 := Scalar.muli v9 v10
  let c2_i32 : BitVec 32 := 2#32
  let v12 : BitVec 32 := Scalar.divsi v11 c2_i32
  let c0_i32_1 : BitVec 32 := 0#32
  let v13 : BitVec 1 := Scalar.cmpi .sgt v11 c0_i32_1
  let v14 : BitVec 32 := Scalar.extui v13
  let c0_i32_2 : BitVec 32 := 0#32
  let v15 : BitVec 1 := Scalar.cmpi .slt v11 c0_i32_2
  let v16 : BitVec 32 := Scalar.extui v15
  let v17 : BitVec 32 := Scalar.subi v14 v16
  let c0_i32_3 : BitVec 32 := 0#32
  let v18 : BitVec 1 := Scalar.cmpi .sgt c2_i32 c0_i32_3
  let v19 : BitVec 32 := Scalar.extui v18
  let c0_i32_4 : BitVec 32 := 0#32
  let v20 : BitVec 1 := Scalar.cmpi .slt c2_i32 c0_i32_4
  let v21 : BitVec 32 := Scalar.extui v20
  let v22 : BitVec 32 := Scalar.subi v19 v21
  let v23 : BitVec 1 := Scalar.cmpi .ne v17 v22
  let v24 : BitVec 32 := Scalar.remsi v11 c2_i32
  let c0_i32_5 : BitVec 32 := 0#32
  let v25 : BitVec 1 := Scalar.cmpi .ne v24 c0_i32_5
  let v26 : BitVec 1 := Scalar.andi v23 v25
  let c1_i32_6 : BitVec 32 := 1#32
  let v27 : BitVec 32 := Scalar.subi v12 c1_i32_6
  let v28 : BitVec 32 := Scalar.select v26 v27 v12
  let v29 : BitVec 32 := Scalar.subi arg1 v28
  let c0_i32_7 : BitVec 32 := 0#32
  ![v9.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.muli arg1 c0_i32
  let c1_i32 : BitVec 32 := 1#32
  let v1 : BitVec 1 := Scalar.cmpi .sge arg1 c1_i32
  let v2 : BitVec 32 := Scalar.extui v1
  let v3 : BitVec 32 := Scalar.addi v0 v2
  let c3_i32 : BitVec 32 := 3#32
  let v4 : BitVec 1 := Scalar.cmpi .sge arg1 c3_i32
  let v5 : BitVec 32 := Scalar.extui v4
  let v6 : BitVec 32 := Scalar.addi v3 v5
  let c6_i32 : BitVec 32 := 6#32
  let v7 : BitVec 1 := Scalar.cmpi .sge arg1 c6_i32
  let v8 : BitVec 32 := Scalar.extui v7
  let v9 : BitVec 32 := Scalar.addi v6 v8
  let c1_i32_0 : BitVec 32 := 1#32
  let v10 : BitVec 32 := Scalar.addi v9 c1_i32_0
  let v11 : BitVec 32 := Scalar.muli v9 v10
  let c2_i32 : BitVec 32 := 2#32
  let v12 : BitVec 32 := Scalar.divsi v11 c2_i32
  let c0_i32_1 : BitVec 32 := 0#32
  let v13 : BitVec 1 := Scalar.cmpi .sgt v11 c0_i32_1
  let v14 : BitVec 32 := Scalar.extui v13
  let c0_i32_2 : BitVec 32 := 0#32
  let v15 : BitVec 1 := Scalar.cmpi .slt v11 c0_i32_2
  let v16 : BitVec 32 := Scalar.extui v15
  let v17 : BitVec 32 := Scalar.subi v14 v16
  let c0_i32_3 : BitVec 32 := 0#32
  let v18 : BitVec 1 := Scalar.cmpi .sgt c2_i32 c0_i32_3
  let v19 : BitVec 32 := Scalar.extui v18
  let c0_i32_4 : BitVec 32 := 0#32
  let v20 : BitVec 1 := Scalar.cmpi .slt c2_i32 c0_i32_4
  let v21 : BitVec 32 := Scalar.extui v20
  let v22 : BitVec 32 := Scalar.subi v19 v21
  let v23 : BitVec 1 := Scalar.cmpi .ne v17 v22
  let v24 : BitVec 32 := Scalar.remsi v11 c2_i32
  let c0_i32_5 : BitVec 32 := 0#32
  let v25 : BitVec 1 := Scalar.cmpi .ne v24 c0_i32_5
  let v26 : BitVec 1 := Scalar.andi v23 v25
  let c1_i32_6 : BitVec 32 := 1#32
  let v27 : BitVec 32 := Scalar.subi v12 c1_i32_6
  let v28 : BitVec 32 := Scalar.select v26 v27 v12
  let v29 : BitVec 32 := Scalar.subi arg1 v28
  let c0_i32_7 : BitVec 32 := 0#32
  let c0_i32_8 : BitVec 32 := 0#32
  ![arg0.toNat, c0_i32_7.toNat, v9.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel18Ideal.lean ====
variable {F : FTy → Type} [FloatOps F] [Named F]
def κ : String → Option EReal := fun
  | "ln2" => some ((Real.log 2 : ℝ) : EReal)
  | "mask" => some ⊥
  | _ => none
-- ==== Reference18Ideal.lean ====
abbrev S1x4096x8x96 : Shape := ⟨4, ![1, 4096, 8, 96]⟩
abbrev S1x4096x8x64 : Shape := ⟨4, ![1, 4096, 8, 64]⟩
abbrev S1x8x4096x4096 : Shape := ⟨4, ![1, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x8x4096 : Shape := ⟨3, ![1, 8, 4096]⟩
abbrev S1x8x4096x1 : Shape := ⟨4, ![1, 8, 4096, 1]⟩
abbrev S1x8x64x4096 : Shape := ⟨4, ![1, 8, 64, 4096]⟩
abbrev S1x4096x512 : Shape := ⟨3, ![1, 4096, 512]⟩
abbrev S1x4096x8x128 : Shape := ⟨4, ![1, 4096, 8, 128]⟩
abbrev S4096x1024 : Shape := ⟨2, ![4096, 1024]⟩
abbrev S8x1x4096 : Shape := ⟨3, ![8, 1, 4096]⟩

abbrev nBuf : Space → Nat
  | .hbm => 65
  | .vmem => 0
  | .smem => 0
  | _ => 0

abbrev bufTy : (tb : Table) → Fin (tcTables nBuf tb) → BufTy
  | .hbm, ⟨0, _⟩ => ⟨S1x4096x8x96, .f32⟩
  | .hbm, ⟨1, _⟩ => ⟨S1x4096x8x96, .f32⟩
  | .hbm, ⟨2, _⟩ => ⟨S1x4096x8x64, .f32⟩
  | .hbm, ⟨3, _⟩ => ⟨S1x8x4096x4096, .f32⟩
  | .hbm, ⟨4, _⟩ => ⟨S_, .f32⟩
  | .hbm, ⟨5, _⟩ => ⟨S1x8x4096x4096, .f32⟩
  | .hbm, ⟨6, _⟩ => ⟨S1x8x4096x4096, .f32⟩
  | .hbm, ⟨7, _⟩ => ⟨S4096, .i32⟩
  | .hbm, ⟨8, _⟩ => ⟨S1x4096, .i32⟩
  | .hbm, ⟨9, _⟩ => ⟨S4096x1, .i32⟩
  | .hbm, ⟨10, _⟩ => ⟨S4096x4096, .i32⟩
  | .hbm, ⟨11, _⟩ => ⟨S4096x4096, .i32⟩
  | .hbm, ⟨12, _⟩ => ⟨S4096x4096, .i1⟩
  | .hbm, ⟨13, _⟩ => ⟨S_, .f32⟩
  | .hbm, ⟨14, _⟩ => ⟨S_, .f32⟩
  | .hbm, ⟨15, _⟩ => ⟨S1x8x4096x4096, .i1⟩
  | .hbm, ⟨16, _⟩ => ⟨S1x8x4096x4096, .f32⟩
  | .hbm, ⟨17, _⟩ => ⟨S1x8x4096x4096, .f32⟩
  | .hbm, ⟨18, _⟩ => ⟨S_, .f32⟩
  | .hbm, ⟨19, _⟩ => ⟨S1x8x4096, .f32⟩
  | .hbm, ⟨20, _⟩ => ⟨S_, .f32⟩
  | .hbm, ⟨21, _⟩ => ⟨S1x8x4096, .f32⟩
  | .hbm, ⟨22, _⟩ => ⟨S1x8x4096, .f32⟩
  | .hbm, ⟨23, _⟩ => ⟨S1x8x4096x1, .f32⟩
  | .hbm, ⟨24, _⟩ => ⟨S1x8x4096x4096, .f32⟩
  | .hbm, ⟨25, _⟩ => ⟨S1x8x4096x4096, .f32⟩
  | .hbm, ⟨26, _⟩ => ⟨S1x8x4096x4096, .f32⟩
  | .hbm, ⟨27, _⟩ => ⟨S_, .f32⟩
  | .hbm, ⟨28, _⟩ => ⟨S1x8x4096, .f32⟩
  | .hbm, ⟨29, _⟩ => ⟨S1x8x4096x1, .f32⟩
  | .hbm, ⟨30, _⟩ => ⟨S1x8x4096x4096, .f32⟩
  | .hbm, ⟨31, _⟩ => ⟨S1x8x4096x4096, .f32⟩
  | .hbm, ⟨32, _⟩ => ⟨S1x8x64x4096, .f32⟩
  | .hbm, ⟨33, _⟩ => ⟨S1x4096x8x64, .f32⟩
  | .hbm, ⟨34, _⟩ => ⟨S1x4096x512, .f32⟩
  | .hbm, ⟨35, _⟩ => ⟨S1x4096x8x64, .f32⟩
  | .hbm, ⟨36, _⟩ => ⟨S1x8x4096x4096, .f32⟩
  | .hbm, ⟨37, _⟩ => ⟨S_, .f32⟩
  | .hbm, ⟨38, _⟩ => ⟨S1x8x4096x4096, .f32⟩
  | .hbm, ⟨39, _⟩ => ⟨S1x8x4096x4096, .f32⟩
  | .hbm, ⟨40, _⟩ => ⟨S4096, .i32⟩
  | .hbm, ⟨41, _⟩ => ⟨S1x4096, .i32⟩
  | .hbm, ⟨42, _⟩ => ⟨S4096x1, .i32⟩
  | .hbm, ⟨43, _⟩ => ⟨S4096x4096, .i32⟩
  | .hbm, ⟨44, _⟩ => ⟨S4096x4096, .i32⟩
  | .hbm, ⟨45, _⟩ => ⟨S4096x4096, .i1⟩
  | .hbm, ⟨46, _⟩ => ⟨S_, .f32⟩
  | .hbm, ⟨47, _⟩ => ⟨S_, .f32⟩
  | .hbm, ⟨48, _⟩ => ⟨S1x8x4096x4096, .i1⟩
  | .hbm, ⟨49, _⟩ => ⟨S1x8x4096x4096, .f32⟩
  | .hbm, ⟨50, _⟩ => ⟨S1x8x4096x4096, .f32⟩
  | .hbm, ⟨51, _⟩ => ⟨S1x8x4096x4096, .f32⟩
  | .hbm, ⟨52, _⟩ => ⟨S_, .f32⟩
  | .hbm, ⟨53, _⟩ => ⟨S1x8x4096, .f32⟩
  | .hbm, ⟨54, _⟩ => ⟨S1x8x4096, .f32⟩
  | .hbm, ⟨55, _⟩ => ⟨S_, .f32⟩
  | .hbm, ⟨56, _⟩ => ⟨S_, .f32⟩
  | .hbm, ⟨57, _⟩ => ⟨S1x8x4096, .f32⟩
  | .hbm, ⟨58, _⟩ => ⟨S1x8x4096, .f32⟩
  | .hbm, ⟨59, _⟩ => ⟨S_, .i32⟩
  | .hbm, ⟨60, _⟩ => ⟨S_, .f32⟩
  | .hbm, ⟨61, _⟩ => ⟨S1x4096x8x128, .f32⟩
  | .hbm, ⟨62, _⟩ => ⟨S4096x1024, .f32⟩
  | .hbm, ⟨63, _⟩ => ⟨S4096x1024, .bf16⟩
  | .hbm, ⟨64, _⟩ => ⟨S8x1x4096, .f32⟩
  | _, _ => ⟨S1x4096x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v34 : Ref sig .tc := ⟨.hbm, 50, rfl⟩
abbrev main_v35 : Ref sig .tc := ⟨.hbm, 51, rfl⟩
abbrev main_cst_6 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c : Ref sig .tc := ⟨.hbm, 59, rfl⟩
abbrev main_call2_v0 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩

abbrev nD : Nat := 1
abbrev τ : Topo := Topo.v7x

variable {F : FTy → Type} [FloatOps F]
-- ==== Proof.Model.lean ====
/- The mathematics of causal softmax attention and of its gradient, over the reals: rows and lanes are natural
   numbers, an array is a function of (row, lane) that is zero at the lanes it does not have. The other modules
   show that the kernels and the references compute these expressions. -/
module

public import Idealize.ShloMosaic.PureOps.Ideal
public import Idealize.ShloMosaic.PureOps.Ideal.Laws
public import Mathlib.Analysis.SpecialFunctions.Pow.Real
public import Mathlib.Algebra.BigOperators.Fin

@[expose] public section

noncomputable section

namespace Cert.Attn

open Idealize.ShloMosaic Finset

/-! ## Extended reals that are real -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [sum_insert ha, sum_insert ha, ih, EReal.coe_add]

theorem coe_sum_fin (n : ℕ) (f : ℕ → ℝ) : ∑ i : Fin n, ((f i.val : ℝ) : EReal) = ((∑ i ∈ range n, f i : ℝ) : EReal) := by
  rw [coe_sum, Finset.sum_range]

theorem sum_range_zero_tail (a n : ℕ) (h : a ≤ n) (f : ℕ → ℝ) (hf : ∀ i, a ≤ i → f i = 0) :
    ∑ i ∈ range n, f i = ∑ i ∈ range a, f i := by
  refine (sum_subset (range_subset_range.2 h) fun i _ hi => hf i ?_).symm
  simpa using hi

theorem div_coe_coe {a b : ℝ} (h : b ≠ 0) : Ideal.div (a : EReal) (b : EReal) = ((a / b : ℝ) : EReal) := by
  rw [Ideal.div_coe h, ← EReal.coe_mul]; congr 1; ring

/-- The maximum of finitely many extended reals below `⊤`, one of them real, is real. -/
theorem fold_max_real {n : ℕ} (g : Fin n → EReal) (ht : ∀ k, g k ≠ ⊤) (k₀ : Fin n) (hb : g k₀ ≠ ⊥) :
    ∃ M : ℝ, univ.fold max ⊥ g = (M : EReal) := by
  have h1 : univ.fold max ⊥ g ≠ ⊤ := by
    apply ne_of_lt
    rw [Finset.fold_max_lt]
    exact ⟨bot_lt_top, fun k _ => lt_top_iff_ne_top.2 (ht k)⟩
  have h2 : univ.fold max ⊥ g ≠ ⊥ := by
    intro h
    have : g k₀ ≤ univ.fold max ⊥ g := by
      rw [Finset.le_fold_max]
      exact Or.inr ⟨k₀, mem_univ _, le_rfl⟩
    rw [h] at this
    exact hb (le_bot_iff.1 this)
  exact ⟨_, (EReal.coe_toReal h1 h2).symm⟩

/-! ## Attention -/

section
variable (c : ℝ) (Q K V O : ℕ → ℕ → ℝ)

/-- The scaled product of a query and a key. -/
def score (q k : ℕ) : ℝ := c * ∑ d ∈ range 96, Q q d * K k d
/-- The weight of a key at or before the query, not yet normalised. -/
def wt (q k : ℕ) : ℝ := if k ≤ q then Real.exp (score c Q K q k) else 0
/-- The sum of a query's weights. -/
def Z (q : ℕ) : ℝ := ∑ k ∈ range 4096, wt c Q K q k
/-- The softmax probabilities. -/
def P (q k : ℕ) : ℝ := wt c Q K q k / Z c Q K q
/-- The gradient of the probabilities. -/
def dP (q k : ℕ) : ℝ := ∑ d ∈ range 64, O q d * V k d
/-- The row sums of the gradient of the probabilities against the probabilities. -/
def Dl (q : ℕ) : ℝ := ∑ k ∈ range 4096, P c Q K q k * dP V O q k
/-- The gradient of the scores before scaling. -/
def dS (q k : ℕ) : ℝ := P c Q K q k * (dP V O q k - Dl c Q K V O q)
/-- The weights after a row's shift `M`. -/
def ew (M : ℝ) (q k : ℕ) : ℝ := if k ≤ q then Real.exp (score c Q K q k - M) else 0

theorem ew_eq (M : ℝ) (q k : ℕ) : ew c Q K M q k = Real.exp (-M) * wt c Q K q k := by
  unfold ew wt; split
  · rw [← Real.exp_add]; congr 1; ring
  · simp

theorem wt_nonneg (q k : ℕ) : 0 ≤ wt c Q K q k := by
  unfold wt; split
  · exact (Real.exp_pos _).le
  · exact le_rfl

theorem Z_pos {q : ℕ} (hq : q < 4096) : 0 < Z c Q K q := by
  refine sum_pos' (fun k _ => wt_nonneg c Q K q k) ⟨q, mem_range.2 hq, ?_⟩
  unfold wt; rw [if_pos le_rfl]; exact Real.exp_pos _

theorem sum_ew (M : ℝ) (q : ℕ) : ∑ k ∈ range 4096, ew c Q K M q k = Real.exp (-M) * Z c Q K q := by
  simp only [ew_eq, Z, mul_sum]

theorem sum_ew_pos (M : ℝ) {q : ℕ} (hq : q < 4096) : 0 < ∑ k ∈ range 4096, ew c Q K M q k := by
  rw [sum_ew]; exact mul_pos (Real.exp_pos _) (Z_pos c Q K hq)

theorem ew_div (M : ℝ) (q k : ℕ) : ew c Q K M q k / (∑ k' ∈ range 4096, ew c Q K M q k') = P c Q K q k := by
  rw [sum_ew, ew_eq, P, mul_div_mul_left _ _ (Real.exp_ne_zero _)]

theorem P_zero {q k : ℕ} (h : q < k) : P c Q K q k = 0 := by
  unfold P wt; rw [if_neg (by omega)]; simp

theorem dS_zero {q k : ℕ} (h : q < k) : dS c Q K V O q k = 0 := by
  unfold dS; rw [P_zero c Q K h]; simp

/-- The row's saved logarithm in base two. -/
def lse (M : ℝ) (q : ℕ) : ℝ := (M + Real.log (∑ k ∈ range 4096, ew c Q K M q k)) / Real.log 2

/-- The power of two of a score in base-two units less the row's saved logarithm is the probability. -/
theorem two_pow_eq (M : ℝ) {q k : ℕ} (hq : q < 4096) (hk : k ≤ q) :
    Real.rpow 2 (score c Q K q k / Real.log 2 - lse c Q K M q) = P c Q K q k := by
  have h2 : Real.log 2 ≠ 0 := (Real.log_pos (by norm_num)).ne'
  have hZ := Z_pos c Q K hq
  show (2 : ℝ) ^ (score c Q K q k / Real.log 2 - lse c Q K M q) = _
  rw [Real.rpow_def_of_pos (by norm_num : (0 : ℝ) < 2), lse, sum_ew, Real.log_mul (Real.exp_ne_zero _) hZ.ne', Real.log_exp]
  have : Real.log 2 * (score c Q K q k / Real.log 2 - (M + (-M + Real.log (Z c Q K q))) / Real.log 2)
      = score c Q K q k - Real.log (Z c Q K q) := by field_simp; ring
  rw [this, Real.exp_sub, Real.exp_log hZ, P, wt, if_pos hk]

/-- The product of a row of the output with its gradient, lane by lane, is the row sum. -/
theorem delta_eq (q : ℕ) :
    ∑ d ∈ range 64, O q d * ∑ k ∈ range 4096, V k d * P c Q K q k = Dl c Q K V O q := by
  simp only [Dl, dP, mul_sum]
  rw [sum_comm]
  exact sum_congr rfl fun k _ => sum_congr rfl fun d _ => by ring

/-- The gradient of a quotient by the row's sum, in the form the derivative of the forward lines has. -/
theorem ref_ds (M : ℝ) {q : ℕ} (hq : q < 4096) (k : ℕ) :
    (dP V O q k / (∑ k' ∈ range 4096, ew c Q K M q k')
        + -(∑ k' ∈ range 4096, dP V O q k' * (1 / ((∑ k'' ∈ range 4096, ew c Q K M q k'') * ∑ k'' ∈ range 4096, ew c Q K M q k'')) * ew c Q K M q k'))
      * ew c Q K M q k = dS c Q K V O q k := by
  have hl := (sum_ew_pos c Q K M hq).ne'
  have h1 : ∑ k' ∈ range 4096, dP V O q k' * (1 / ((∑ k'' ∈ range 4096, ew c Q K M q k'') * ∑ k'' ∈ range 4096, ew c Q K M q k'')) * ew c Q K M q k'
      = Dl c Q K V O q / (∑ k'' ∈ range 4096, ew c Q K M q k'') := by
    rw [Dl, sum_div]
    refine sum_congr rfl fun k' _ => ?_
    rw [← ew_div c Q K M]
    field_simp
  rw [h1, dS, ← ew_div c Q K M]
  field_simp
  ring
end

end Cert.Attn

end
-- ==== Proof.Forward.lean ====
/- The forward lines of the attention as arrays of extended reals, step by step, and what each holds at an index when
   the arguments are finite: the masked scores, the rows' maxima, the exponentials, their sums. -/
module

public import proofs.«01_k».proof.Proof.Model
public import proofs.«01_k».proof.Proof.Gen.ReferenceIdeal
public import Idealize.ShloMosaic.Lib.Pointwise
public import Idealize.ShloMosaic.Lib.WordCmp

@[expose] public section

set_option maxRecDepth 16384

noncomputable section

open Idealize.ShloMosaic Idealize.ShloMosaic.TcCoe Idealize.SL.Sem

namespace Cert.Attn
open Cert.ReferenceIdeal Cert.ReferenceIdeal.Gen Finset

/-- Head `h` of an array of 96 lanes, zero outside it. -/
def rd (X : FVec Ideal S1x4096x8x96 .f32) (h r d : ℕ) : ℝ :=
  if H : r < 4096 ∧ h < 8 ∧ d < 96 then EReal.toReal (X (ix4 0 ⟨r, H.1⟩ ⟨h, H.2.1⟩ ⟨d, H.2.2⟩)) else 0
/-- Head `h` of an array of 64 lanes, zero outside it. -/
def rdV (X : FVec Ideal S1x4096x8x64 .f32) (h r d : ℕ) : ℝ :=
  if H : r < 4096 ∧ h < 8 ∧ d < 64 then EReal.toReal (X (ix4 0 ⟨r, H.1⟩ ⟨h, H.2.1⟩ ⟨d, H.2.2⟩)) else 0
/-- Head `h` of an array whose heads of 64 lanes lie side by side, zero outside it. -/
def rdC (X : FVec Ideal S1x4096x512 .f32) (h r d : ℕ) : ℝ :=
  if H : r < 4096 ∧ h < 8 ∧ d < 64 then EReal.toReal (X (ix3 0 ⟨r, H.1⟩ ⟨h * 64 + d, by omega⟩)) else 0

/-- Every element is a real number. -/
def Fin' {s : Shape} (X : FVec Ideal s .f32) : Prop := ∀ i, (X i : EReal) ≠ ⊤ ∧ (X i : EReal) ≠ ⊥

theorem rd_at {X : FVec Ideal S1x4096x8x96 .f32} (hX : Fin' X) (b : Fin 1) (r : Fin 4096) (h : Fin 8) (d : Fin 96) :
    X (ix4 b r h d) = ((rd X h r d : ℝ) : EReal) := by
  obtain rfl : b = 0 := Subsingleton.elim _ _
  rw [rd, dif_pos ⟨r.2, h.2, d.2⟩]
  exact (EReal.coe_toReal (hX _).1 (hX _).2).symm
theorem rdV_at {X : FVec Ideal S1x4096x8x64 .f32} (hX : Fin' X) (b : Fin 1) (r : Fin 4096) (h : Fin 8) (d : Fin 64) :
    X (ix4 b r h d) = ((rdV X h r d : ℝ) : EReal) := by
  obtain rfl : b = 0 := Subsingleton.elim _ _
  rw [rdV, dif_pos ⟨r.2, h.2, d.2⟩]
  exact (EReal.coe_toReal (hX _).1 (hX _).2).symm
theorem rdC_at {X : FVec Ideal S1x4096x512 .f32} (hX : Fin' X) (b : Fin 1) (r : Fin 4096) (h : Fin 8) (d : Fin 64) (H : h.val * 64 + d.val < 512) :
    X (ix3 b r ⟨h.val * 64 + d.val, H⟩) = ((rdC X h r d : ℝ) : EReal) := by
  obtain rfl : b = 0 := Subsingleton.elim _ _
  rw [rdC, dif_pos ⟨r.2, h.2, d.2⟩]
  exact (EReal.coe_toReal (hX _).1 (hX _).2).symm

theorem rd_zero (X : FVec Ideal S1x4096x8x96 .f32) (h r d : ℕ) (hd : 96 ≤ d) : rd X h r d = 0 := by
  rw [rd, dif_neg (by omega)]
theorem rdV_zero (X : FVec Ideal S1x4096x8x64 .f32) (h r d : ℕ) (hd : 64 ≤ d) : rdV X h r d = 0 := by
  rw [rdV, dif_neg (by omega)]
theorem rdC_zero (X : FVec Ideal S1x4096x512 .f32) (h r d : ℕ) (hd : 64 ≤ d) : rdC X h r d = 0 := by
  rw [rdC, dif_neg (by omega)]

/-! ## Constants -/

/-- The attention's scale: the rational its float word denotes. -/
def cs : ℝ := 13698540 / 2 ^ 27
theorem ofBits_cs : Ideal.ofBits .f32 0x3DD105EC#32 = ((cs : ℝ) : EReal) := by
  simp [Ideal.ofBits, Ideal.ieee]
  rw [← EReal.coe_mul]
  norm_num [cs]
theorem ofBits_two : Ideal.ofBits .f32 0x40000000#32 = ((2 : ℝ) : EReal) := by
  simp [Ideal.ofBits, Ideal.ieee]
  rw [← EReal.coe_mul]
  norm_num
theorem ofBits_bot : Ideal.ofBits .f32 0xFF800000#32 = (⊥ : EReal) := by
  simp [Ideal.ofBits, Ideal.ieee]

/-! ## The arrays -/

section
variable (A0 A1 : FVec Ideal S1x4096x8x96 .f32) (A2 : FVec Ideal S1x4096x8x64 .f32) (A3 : FVec Ideal S1x4096x512 .f32)

/-- The causal mask: keys at or before the query. -/
def maskA : IVec S1x8x4096x4096 1 :=
  broadcastInDim S1x8x4096x4096 ![2, 3] bcast_S4096x4096_S1x8x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))
/-- The masked scores. -/
def scA : FVec Ideal S1x8x4096x4096 .f32 :=
  select maskA (mulf (Host.dotGeneral dot_S1x4096x8x96_S1x4096x8x96_S1x8x4096x4096_3_3_1_1_02_02 none A0 A1) (broadcastInDim S1x8x4096x4096 ![] bcast_S_S1x8x4096x4096 (constant S_ .f32 0x3DD105EC#32))) (broadcastInDim S1x8x4096x4096 ![] bcast_S_S1x8x4096x4096 (id (constant S_ .f32 0xFF800000#32)))
/-- The rows' maxima. -/
def mxA : FVec Ideal S1x8x4096 .f32 :=
  Host.reduce FloatOps.maximumf (scA A0 A1) (constant S_ .f32 0xFF800000#32) reducesTo_S1x8x4096x4096_S1x8x4096_d3 h_S_
/-- The exponentials of the masked scores less their rows' maxima. -/
def exA : FVec Ideal S1x8x4096x4096 .f32 :=
  Host.exp (subf (scA A0 A1) (broadcastInDim S1x8x4096x4096 ![0, 1, 2, 3] bcast_S1x8x4096x1_S1x8x4096x4096_0_1_2_3 (broadcastInDim S1x8x4096x1 ![0, 1, 2] bcast_S1x8x4096_S1x8x4096x1_0_1_2 (mxA A0 A1))))
/-- The rows' sums, a lane of one added. -/
def smA : FVec Ideal S1x8x4096x1 .f32 :=
  broadcastInDim S1x8x4096x1 ![0, 1, 2] bcast_S1x8x4096_S1x8x4096x1_0_1_2 (Host.reduceAdd (exA A0 A1) (constant S_ .f32 0x00000000#32) reducesTo_S1x8x4096x4096_S1x8x4096_d3 h_S_)
/-- The probabilities. -/
def prA : FVec Ideal S1x8x4096x4096 .f32 :=
  Host.divf (exA A0 A1) (broadcastInDim S1x8x4096x4096 ![0, 1, 2, 3] bcast_S1x8x4096x1_S1x8x4096x4096_0_1_2_3 (smA A0 A1))

theorem maskA_at (b : Fin 1) (h : Fin 8) (q k : Fin 4096) : maskA (ix4 b h q k) = if (k : ℕ) ≤ q then 1#1 else 0#1 := by
  pointwise [maskA]
  simp (disch := omega) only [hlo_ix]
  by_cases H : (k : ℕ) ≤ q <;> simp [H]

theorem scA_at (hX : Fin' A0) (hY : Fin' A1) (b : Fin 1) (h : Fin 8) (q k : Fin 4096) :
    scA A0 A1 (ix4 b h q k) = if (k : ℕ) ≤ q then ((score cs (rd A0 h) (rd A1 h) q k : ℝ) : EReal) else ⊥ := by
  pointwise [scA]
  rw [maskA_at]
  split
  · rw [Scalar.select_of_eq_one (c := 1#1) rfl]
    simp only [rd_at hX, rd_at hY, ← EReal.coe_mul, ofBits_cs]
    rw [coe_sum_fin 96 fun d => rd A0 h q d * rd A1 h k d, ← EReal.coe_mul, score, mul_comm]
  · rw [Scalar.select_of_eq_zero (c := 0#1) rfl]
    exact ofBits_bot

theorem mxA_at (hX : Fin' A0) (hY : Fin' A1) (b : Fin 1) (h : Fin 8) (q : Fin 4096) :
    ∃ M : ℝ, mxA A0 A1 (ix3 b h q) = (M : EReal) := by
  pointwise [mxA]
  rw [ofBits_bot]
  refine fold_max_real _ (fun k => ?_) q ?_
  · rw [scA_at _ _ hX hY]; split
    · exact EReal.coe_ne_top _
    · exact bot_ne_top
  · rw [scA_at _ _ hX hY, if_pos le_rfl]; exact EReal.coe_ne_bot _

/-- The row maximum as a real number. -/
def mx (h q : ℕ) : ℝ := if H : h < 8 ∧ q < 4096 then EReal.toReal (mxA A0 A1 (ix3 0 ⟨h, H.1⟩ ⟨q, H.2⟩)) else 0
theorem mxA_eq (hX : Fin' A0) (hY : Fin' A1) (b : Fin 1) (h : Fin 8) (q : Fin 4096) :
    mxA A0 A1 (ix3 b h q) = ((mx A0 A1 h q : ℝ) : EReal) := by
  obtain rfl : b = 0 := Subsingleton.elim _ _
  obtain ⟨M, hM⟩ := mxA_at A0 A1 hX hY 0 h q
  rw [mx, dif_pos ⟨h.2, q.2⟩]
  show mxA A0 A1 (ix3 0 h q) = ((EReal.toReal (mxA A0 A1 (ix3 0 h q)) : ℝ) : EReal)
  rw [hM]; rfl

theorem exA_at (hX : Fin' A0) (hY : Fin' A1) (b : Fin 1) (h : Fin 8) (q k : Fin 4096) :
    exA A0 A1 (ix4 b h q k) = ((ew cs (rd A0 h) (rd A1 h) (mx A0 A1 h q) q k : ℝ) : EReal) := by
  pointwise [exA]
  rw [scA_at _ _ hX hY, mxA_eq _ _ hX hY, ew]
  split
  · rw [← EReal.coe_sub, Ideal.exp_coe]
  · rw [EReal.bot_sub, Ideal.exp_bot, EReal.coe_zero]

/-- A row's sum of exponentials. -/
def sm (h q : ℕ) : ℝ := ∑ k ∈ range 4096, ew cs (rd A0 h) (rd A1 h) (mx A0 A1 h q) q k
theorem smA_at (hX : Fin' A0) (hY : Fin' A1) (b : Fin 1) (h : Fin 8) (q : Fin 4096) (z : Fin 1) :
    smA A0 A1 (ix4 b h q z) = ((sm A0 A1 h q : ℝ) : EReal) := by
  pointwise [smA]
  simp only [exA_at _ _ hX hY]
  rw [coe_sum_fin 4096 fun k => ew cs (rd A0 h) (rd A1 h) (mx A0 A1 h q) q k]
  simp [sm]

theorem sm_ne (h : ℕ) (q : Fin 4096) : sm A0 A1 h q ≠ 0 := (sum_ew_pos _ _ _ _ q.2).ne'
theorem sm_pos (h : ℕ) (q : Fin 4096) : 0 < sm A0 A1 h q := sum_ew_pos _ _ _ _ q.2

theorem prA_at (hX : Fin' A0) (hY : Fin' A1) (b : Fin 1) (h : Fin 8) (q k : Fin 4096) :
    prA A0 A1 (ix4 b h q k) = ((P cs (rd A0 h) (rd A1 h) q k : ℝ) : EReal) := by
  pointwise [prA]
  rw [exA_at _ _ hX hY, smA_at _ _ hX hY, div_coe_coe (sm_ne _ _ _ _), sm, ew_div]
end

end Cert.Attn

end
-- ==== Proof.Refs.lean ====
/- The reference's two programs at an index: the gradients of the queries, keys and values, and the row sums, as real
   sums over the whole sequence. -/
module

public import proofs.«01_k».proof.Proof.Forward
public import proofs.«01_k».proof.Proof.Gen.ReferenceIdeal.Run
public import proofs.«01_k».proof.Proof.Gen.Reference2Ideal.Run

@[expose] public section

set_option maxRecDepth 16384

noncomputable section

open Idealize.ShloMosaic Idealize.ShloMosaic.TcCoe Idealize.SL.Sem

namespace Cert.Attn
open Cert.ReferenceIdeal Cert.ReferenceIdeal.Gen Finset

section
variable (A0 A1 : FVec Ideal S1x4096x8x96 .f32) (A2 : FVec Ideal S1x4096x8x64 .f32) (A3 : FVec Ideal S1x4096x512 .f32)

/-- Head `h` of the gradient of the queries at row `r`, lane `d`. -/
def dqV (h r d : ℕ) : ℝ := ∑ k ∈ range 4096, dS cs (rd A0 h) (rd A1 h) (rdV A2 h) (rdC A3 h) r k * cs * rd A1 h k d
/-- Head `h` of the gradient of the keys at row `r`, lane `d`. -/
def dkV (h r d : ℕ) : ℝ := ∑ q ∈ range 4096, dS cs (rd A0 h) (rd A1 h) (rdV A2 h) (rdC A3 h) q r * cs * rd A0 h q d
/-- Head `h` of the gradient of the values at row `r`, lane `d`. -/
def dvV (h r d : ℕ) : ℝ := ∑ q ∈ range 4096, P cs (rd A0 h) (rd A1 h) q r * rdC A3 h q d
/-- The row sums of the output against its cotangent. -/
def dlV (h r : ℕ) : ℝ := Dl cs (rd A0 h) (rd A1 h) (rdV A2 h) (rdC A3 h) r

/-- The exponentials, the row's maximum taken once more against the least value. -/
def exR : FVec Ideal S1x8x4096x4096 .f32 :=
  Host.exp (subf (scA A0 A1) (broadcastInDim S1x8x4096x4096 ![0, 1, 2, 3] bcast_S1x8x4096x1_S1x8x4096x4096_0_1_2_3 (broadcastInDim S1x8x4096x1 ![0, 1, 2] bcast_S1x8x4096_S1x8x4096x1_0_1_2 (maximumf (broadcastInDim S1x8x4096 ![] bcast_S_S1x8x4096 (constant S_ .f32 0xFF800000#32)) (mxA A0 A1)))))
theorem max_bot_of (x : FVec Ideal S1x8x4096 .f32) : maximumf (broadcastInDim S1x8x4096 ![] bcast_S_S1x8x4096 (constant (F := Ideal) S_ .f32 0xFF800000#32)) x = x := by
  funext i
  idx_vars i
  pointwise
  rw [ofBits_bot]
  exact max_eq_right bot_le
theorem exR_eq : exR A0 A1 = exA A0 A1 := by rw [exR, max_bot_of, exA]

/-- The gradient of the probabilities. -/
def dpA : FVec Ideal S1x8x4096x4096 .f32 :=
  Host.dotGeneral dot_S1x8x64x4096_S1x4096x8x64_S1x8x4096x4096_2_3_3_1_01_02 none (transpose S1x8x64x4096 [0, 2, 3, 1] (shapeCast S1x4096x8x64 A3 shapeCasts_S1x4096x512_S1x4096x8x64) transposes_S1x4096x8x64_S1x8x64x4096_0_2_3_1) A2
theorem dpA_at (hV : Fin' A2) (hC : Fin' A3) (b : Fin 1) (h : Fin 8) (q k : Fin 4096) :
    dpA A2 A3 (ix4 b h q k) = ((dP (rdV A2 h) (rdC A3 h) q k : ℝ) : EReal) := by
  pointwise [dpA]
  simp only [rdV_at hV, rdC_at hC, ← EReal.coe_mul]
  exact coe_sum_fin 64 fun d => rdC A3 h q d * rdV A2 h k d

/-- The rows' sums of exponentials `E`. -/
def smG (E : FVec Ideal S1x8x4096x4096 .f32) : FVec Ideal S1x8x4096x1 .f32 :=
  broadcastInDim S1x8x4096x1 ![0, 1, 2] bcast_S1x8x4096_S1x8x4096x1_0_1_2 (Host.reduceAdd E (constant S_ .f32 0x00000000#32) reducesTo_S1x8x4096x4096_S1x8x4096_d3 h_S_)
/-- The gradient of the scores' products, from the exponentials `E`. -/
def dsG (E : FVec Ideal S1x8x4096x4096 .f32) : FVec Ideal S1x8x4096x4096 .f32 :=
  mulf (select maskA (mulf (addf (Host.divf (dpA A2 A3) (broadcastInDim S1x8x4096x4096 ![0, 1, 2, 3] bcast_S1x8x4096x1_S1x8x4096x4096_0_1_2_3 (smG E))) (broadcastInDim S1x8x4096x4096 ![0, 1, 2] bcast_S1x8x4096_S1x8x4096x4096_0_1_2 (broadcastInDim S1x8x4096 ![1, 2] bcast_S8x4096_S1x8x4096_1_2 (Host.reduceAdd (Host.negf (shapeCast S1x8x4096x1 (Host.reduceAdd (mulf (mulf (dpA A2 A3) (broadcastInDim S1x8x4096x4096 ![0, 1, 2, 3] bcast_S1x8x4096x1_S1x8x4096x4096_0_1_2_3 (Host.divf (broadcastInDim S1x8x4096x1 ![] bcast_S_S1x8x4096x1 (constant S_ .f32 0x3F800000#32)) (mulf (smG E) (smG E))))) E) (constant S_ .f32 0x00000000#32) reducesTo_S1x8x4096x4096_S1x8x4096_d3 h_S_) shapeCasts_S1x8x4096_S1x8x4096x1)) (constant S_ .f32 0x00000000#32) reducesTo_S1x8x4096x1_S8x4096_d0_3 h_S_)))) E) (broadcastInDim S1x8x4096x4096 ![] bcast_S_S1x8x4096x4096 (constant S_ .f32 0x00000000#32))) (broadcastInDim S1x8x4096x4096 ![] bcast_S_S1x8x4096x4096 (constant S_ .f32 0x3DD105EC#32))

theorem sum_units (x : FVec Ideal S1x8x4096x1 .f32) (h : Fin 8) (q : Fin 4096) :
    Ideal.hostReduceAdd reducesTo_S1x8x4096x1_S8x4096_d0_3 x 0 (ix2 h q) = x (ix4 0 h q 0) := by
  unfold Ideal.hostReduceAdd
  rw [zero_add]
  have : univ.filter (fun i => reducesTo_S1x8x4096x1_S8x4096_d0_3.drop i = ix2 h q) = {(ix4 0 h q 0 : S1x8x4096x1.Idx)} := by
    ext i
    idx_vars i
    rw [mem_filter, mem_singleton]
    constructor
    · rintro ⟨_, e⟩
      have e1 : i1 = h := congrFun e 0
      have e2 : i2 = q := congrFun e 1
      obtain rfl : i0 = 0 := Subsingleton.elim _ _
      obtain rfl : i3 = 0 := Subsingleton.elim _ _
      rw [e1, e2]
    · intro e
      rw [e]
      refine ⟨mem_univ _, ?_⟩
      funext b
      fin_cases b <;> rfl
  rw [this, sum_singleton]

theorem dsG_at (hX : Fin' A0) (hY : Fin' A1) (hV : Fin' A2) (hC : Fin' A3) (b : Fin 1) (h : Fin 8) (q k : Fin 4096) :
    dsG A2 A3 (exA A0 A1) (ix4 b h q k) = ((dS cs (rd A0 h) (rd A1 h) (rdV A2 h) (rdC A3 h) q k * cs : ℝ) : EReal) := by
  have hs : smG (exA A0 A1) = smA A0 A1 := rfl
  have h0 := sm_ne A0 A1 h q
  have h1 : ((1 : ℝ) : EReal) = 1 := rfl
  pointwise [dsG]
  rw [hs, sum_units]
  pointwise
  simp only [maskA_at, exA_at _ _ hX hY, smA_at _ _ hX hY, dpA_at _ _ hV hC, ← EReal.coe_mul]
  simp only [← h1, div_coe_coe (mul_ne_zero h0 h0), div_coe_coe h0, ← EReal.coe_mul]
  rw [coe_sum_fin 4096 fun x => dP (rdV A2 h) (rdC A3 h) q x * (1 / (sm A0 A1 h q * sm A0 A1 h q)) * ew cs (rd A0 h) (rd A1 h) (mx A0 A1 h q) q x,
    ← EReal.coe_neg, ← EReal.coe_add, ← EReal.coe_mul, ofBits_cs, ← EReal.coe_mul, sm, ref_ds _ _ _ _ _ _ q.2]
  by_cases H : (k : ℕ) ≤ q
  · rw [if_pos H]; exact Scalar.select_of_eq_one rfl _ _
  · rw [if_neg H, dS_zero _ _ _ _ _ (by omega), zero_mul]; exact Scalar.select_of_eq_zero rfl _ _

/-! ## The four results -/

/-- The padding's value. -/
theorem sit0 : (FloatOps.sitofp (F := Ideal) .f32 (0#32 : BitVec 32) : EReal) = ((0 : ℝ) : EReal) := by
  show ((((0#32 : BitVec 32).toInt : ℝ) : ℝ) : EReal) = _
  simp

/-- The gradient of the queries from the scores' gradient `D`. -/
def dqG (D : FVec Ideal S1x8x4096x4096 .f32) : FVec Ideal S4096x1024 .bf16 :=
  truncf .bf16 (shapeCast S4096x1024 (pad S1x4096x8x128 ![0, 0, 0, 0] ![0, 0, 0, 32] ![0, 0, 0, 0] (transpose S1x4096x8x96 [0, 2, 1, 3] (Host.dotGeneral dot_S1x8x4096x4096_S1x4096x8x96_S1x8x4096x96_3_1_2_3_01_02 none D A1) transposes_S1x8x4096x96_S1x4096x8x96_0_2_1_3) (sitofp .f32 (constantI S_ 32 0#32)) pads_S1x4096x8x96_S1x4096x8x128_000_000_000_0320 h_S_) shapeCasts_S1x4096x8x128_S4096x1024) bitsLt_bf16_f32
theorem dqG_at (hX : Fin' A0) (hY : Fin' A1) (hV : Fin' A2) (hC : Fin' A3) (r : Fin 4096) (l : Fin 1024) :
    dqG A1 (dsG A2 A3 (exA A0 A1)) (ix2 r l) = ((dqV A0 A1 A2 A3 (l / 128) r (l % 128) : ℝ) : EReal) := by
  pointwise [dqG]
  have hl : (l : ℕ) / 128 < 8 := by omega
  split
  · rename_i H
    simp only [dsG_at _ _ _ _ hX hY hV hC, rd_at hY, ← EReal.coe_mul]
    exact coe_sum_fin 4096 fun k => dS cs (rd A0 (l / 128)) (rd A1 (l / 128)) (rdV A2 (l / 128)) (rdC A3 (l / 128)) r k * cs * rd A1 (l / 128) k (l % 128)
  · rename_i H
    have : dqV A0 A1 A2 A3 (l / 128) r (l % 128) = 0 := sum_eq_zero fun k _ => by
      rw [rd_zero A1 _ _ _ (by omega), mul_zero]
    rw [this]
    exact sit0

/-- The probabilities, from the exponentials `E`. -/
def prG (E : FVec Ideal S1x8x4096x4096 .f32) : FVec Ideal S1x8x4096x4096 .f32 :=
  Host.divf E (broadcastInDim S1x8x4096x4096 ![0, 1, 2, 3] bcast_S1x8x4096x1_S1x8x4096x4096_0_1_2_3 (smG E))
theorem prG_exA : prG (exA A0 A1) = prA A0 A1 := rfl
/-- The row sums, from the exponentials `E`. -/
def dlG (E : FVec Ideal S1x8x4096x4096 .f32) : FVec Ideal S8x1x4096 .f32 :=
  broadcastInDim S8x1x4096 ![0, 2] bcast_S8x4096_S8x1x4096_0_2 (transpose S8x4096 [1, 0] (Host.reduceAdd (shapeCast S4096x8x64 (mulf A3 (shapeCast S1x4096x512 (transpose S1x4096x8x64 [0, 3, 1, 2] (Host.dotGeneral dot_S1x4096x8x64_S1x8x4096x4096_S1x8x64x4096_1_3_3_2_02_01 none A2 (prG E)) transposes_S1x8x64x4096_S1x4096x8x64_0_3_1_2) shapeCasts_S1x4096x8x64_S1x4096x512)) shapeCasts_S1x4096x512_S4096x8x64) (constant S_ .f32 0x00000000#32) reducesTo_S4096x8x64_S4096x8_d2 h_S_) transposes_S4096x8_S8x4096_1_0)
theorem dlG_at (hX : Fin' A0) (hY : Fin' A1) (hV : Fin' A2) (hC : Fin' A3) (h : Fin 8) (z : Fin 1) (q : Fin 4096) :
    dlG A2 A3 (exA A0 A1) (ix3 h z q) = ((dlV A0 A1 A2 A3 h q : ℝ) : EReal) := by
  rw [dlG, prG_exA]
  pointwise
  simp only [prA_at _ _ hX hY, rdV_at hV, rdC_at hC, ← EReal.coe_mul]
  have e : ∀ d : Fin 64, ∑ k : Fin 4096, ((rdV A2 h k d * P cs (rd A0 h) (rd A1 h) q k : ℝ) : EReal)
      = ((∑ k ∈ range 4096, rdV A2 h k d * P cs (rd A0 h) (rd A1 h) q k : ℝ) : EReal) :=
    fun d => coe_sum_fin 4096 fun k => rdV A2 h k d * P cs (rd A0 h) (rd A1 h) q k
  simp only [e, ← EReal.coe_mul]
  rw [coe_sum_fin 64 fun d => rdC A3 h q d * ∑ k ∈ range 4096, rdV A2 h k d * P cs (rd A0 h) (rd A1 h) q k, delta_eq, dlV]

theorem res_dq (m : (ℓ : Loc nD τ sig) → Buf (Elt Ideal) ℓ) (c : Dev nD) :
    Value.res_out0 (F := Ideal) m c = dqG (m ((c.tc : Thread nD τ).loc main_arg1)) (dsG (m ((c.tc : Thread nD τ).loc main_arg2)) (m ((c.tc : Thread nD τ).loc main_arg3)) (exA (m ((c.tc : Thread nD τ).loc main_arg0)) (m ((c.tc : Thread nD τ).loc main_arg1)))) := by
  rw [← exR_eq]
  unfold Value.res_out0 Value.res_main_v68
  rfl
theorem res_dl (m : (ℓ : Loc nD τ sig) → Buf (Elt Ideal) ℓ) (c : Dev nD) :
    Value.res_out1 (F := Ideal) m c = dlG (m ((c.tc : Thread nD τ).loc main_arg2)) (m ((c.tc : Thread nD τ).loc main_arg3)) (exA (m ((c.tc : Thread nD τ).loc main_arg0)) (m ((c.tc : Thread nD τ).loc main_arg1))) := by
  rw [← exR_eq]
  unfold Value.res_out1 Value.res_main_v69
  rfl
end

section
variable (A0 A1 : FVec Ideal Cert.ReferenceIdeal.S1x4096x8x96 .f32) (A2 : FVec Ideal Cert.ReferenceIdeal.S1x4096x8x64 .f32) (A3 : FVec Ideal Cert.ReferenceIdeal.S1x4096x512 .f32)
/-- The gradient of the keys from the scores' gradient `D`. -/
def dkG (D : FVec Ideal Cert.Reference2Ideal.S1x8x4096x4096 .f32) : FVec Ideal Cert.Reference2Ideal.S4096x1024 .bf16 :=
  truncf .bf16 (shapeCast Cert.Reference2Ideal.S4096x1024 (pad Cert.Reference2Ideal.S1x4096x8x128 ![0, 0, 0, 0] ![0, 0, 0, 32] ![0, 0, 0, 0] (transpose Cert.Reference2Ideal.S1x4096x8x96 [0, 2, 1, 3] (Host.dotGeneral Cert.Reference2Ideal.dot_S1x8x4096x4096_S1x4096x8x96_S1x8x4096x96_2_1_3_3_01_02 none D A0) Cert.Reference2Ideal.Gen.transposes_S1x8x4096x96_S1x4096x8x96_0_2_1_3) (sitofp .f32 (constantI Cert.Reference2Ideal.S_ 32 0#32)) Cert.Reference2Ideal.Gen.pads_S1x4096x8x96_S1x4096x8x128_000_000_000_0320 Cert.Reference2Ideal.Gen.h_S_) Cert.Reference2Ideal.Gen.shapeCasts_S1x4096x8x128_S4096x1024) Cert.Reference2Ideal.Gen.bitsLt_bf16_f32
theorem dkG_at (hX : Fin' A0) (hY : Fin' A1) (hV : Fin' A2) (hC : Fin' A3) (r : Fin 4096) (l : Fin 1024) :
    dkG A0 (dsG A2 A3 (exA A0 A1)) (ix2 r l) = ((dkV A0 A1 A2 A3 (l / 128) r (l % 128) : ℝ) : EReal) := by
  pointwise [dkG]
  have hl : (l : ℕ) / 128 < 8 := by omega
  split
  · rename_i H
    simp only [dsG_at _ _ _ _ hX hY hV hC, rd_at hX, ← EReal.coe_mul]
    exact coe_sum_fin 4096 fun q => dS cs (rd A0 (l / 128)) (rd A1 (l / 128)) (rdV A2 (l / 128)) (rdC A3 (l / 128)) q r * cs * rd A0 (l / 128) q (l % 128)
  · rename_i H
    have : dkV A0 A1 A2 A3 (l / 128) r (l % 128) = 0 := sum_eq_zero fun k _ => by
      rw [rd_zero A0 _ _ _ (by omega), mul_zero]
    rw [this]
    exact sit0
/-- The gradient of the values from the probabilities. -/
def dvG (D : FVec Ideal Cert.Reference2Ideal.S1x8x4096x4096 .f32) : FVec Ideal Cert.Reference2Ideal.S4096x1024 .bf16 :=
  truncf .bf16 (shapeCast Cert.Reference2Ideal.S4096x1024 (pad Cert.Reference2Ideal.S1x4096x8x128 ![0, 0, 0, 0] ![0, 0, 0, 64] ![0, 0, 0, 0] (transpose Cert.Reference2Ideal.S1x4096x8x64 [0, 3, 1, 2] (Host.dotGeneral Cert.Reference2Ideal.dot_S1x8x64x4096_S1x8x4096x4096_S1x8x64x4096_3_2_2_3_01_01 none (transpose Cert.Reference2Ideal.S1x8x64x4096 [0, 2, 3, 1] (shapeCast Cert.Reference2Ideal.S1x4096x8x64 A3 Cert.Reference2Ideal.Gen.shapeCasts_S1x4096x512_S1x4096x8x64) Cert.Reference2Ideal.Gen.transposes_S1x4096x8x64_S1x8x64x4096_0_2_3_1) D) Cert.Reference2Ideal.Gen.transposes_S1x8x64x4096_S1x4096x8x64_0_3_1_2) (sitofp .f32 (constantI Cert.Reference2Ideal.S_ 32 0#32)) Cert.Reference2Ideal.Gen.pads_S1x4096x8x64_S1x4096x8x128_000_000_000_0640 Cert.Reference2Ideal.Gen.h_S_) Cert.Reference2Ideal.Gen.shapeCasts_S1x4096x8x128_S4096x1024) Cert.Reference2Ideal.Gen.bitsLt_bf16_f32
theorem dvG_at (hX : Fin' A0) (hY : Fin' A1) (hC : Fin' A3) (r : Fin 4096) (l : Fin 1024) :
    dvG A3 (prA A0 A1) (ix2 r l) = ((dvV A0 A1 A3 (l / 128) r (l % 128) : ℝ) : EReal) := by
  pointwise [dvG]
  have hl : (l : ℕ) / 128 < 8 := by omega
  split
  · rename_i H
    have e : ∀ (x : Fin 4096) Hx, A3 (ix3 0 x ⟨(l : ℕ) / 128 * 64 + l % 128, Hx⟩) = ((rdC A3 (l / 128) x (l % 128) : ℝ) : EReal) :=
      fun x Hx => rdC_at hC 0 x ⟨l / 128, H.1⟩ ⟨l % 128, H.2⟩ Hx
    simp only [prA_at _ _ hX hY, e, ← EReal.coe_mul]
    rw [coe_sum_fin 4096 fun q => rdC A3 (l / 128) q (l % 128) * P cs (rd A0 (l / 128)) (rd A1 (l / 128)) q r, dvV]
    simp only [mul_comm]
  · rename_i H
    have : dvV A0 A1 A3 (l / 128) r (l % 128) = 0 := sum_eq_zero fun k _ => by
      rw [rdC_zero A3 _ _ _ (by omega), mul_zero]
    rw [this]
    exact sit0

theorem res_dk (m : (ℓ : Loc Cert.Reference2Ideal.nD Cert.Reference2Ideal.τ Cert.Reference2Ideal.sig) → Buf (Elt Ideal) ℓ) (c : Dev Cert.Reference2Ideal.nD) :
    Cert.Reference2Ideal.Value.res_out0 (F := Ideal) m c = dkG (m ((c.tc : Thread Cert.Reference2Ideal.nD Cert.Reference2Ideal.τ).loc Cert.Reference2Ideal.main_arg0)) (dsG (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (exA (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)))) := by
  rw [← exR_eq]
  unfold Cert.Reference2Ideal.Value.res_out0 Cert.Reference2Ideal.Value.res_main_v66
  rfl
theorem res_dv (m : (ℓ : Loc Cert.Reference2Ideal.nD Cert.Reference2Ideal.τ Cert.Reference2Ideal.sig) → Buf (Elt Ideal) ℓ) (c : Dev Cert.Reference2Ideal.nD) :
    Cert.Reference2Ideal.Value.res_out1 (F := Ideal) m c = dvG (m ((c.tc : Thread Cert.Reference2Ideal.nD Cert.Reference2Ideal.τ).loc Cert.Reference2Ideal.main_arg3)) (prA (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))) := by
  rw [← prG_exA, ← exR_eq]
  unfold Cert.Reference2Ideal.Value.res_out1 Cert.Reference2Ideal.Value.res_main_v69
  rfl
end

end Cert.Attn

end
-- ==== Proof.Prep.lean ====
/- The arrays that the host prepares for the two kernels, and what they hold at an index when the arguments are finite. -/
module

public import proofs.«01_k».proof.Proof.Refs
public import proofs.«01_k».proof.Proof.Gen.Kernel2Ideal

@[expose] public section

set_option maxRecDepth 16384

noncomputable section

open Idealize.ShloMosaic Idealize.ShloMosaic.TcCoe Idealize.SL.Sem

namespace Cert.Attn
open Cert.Kernel2Ideal Cert.Kernel2Ideal.Gen Finset

variable (A0 A1 : FVec Ideal S1x4096x8x96 .f32) (A2 : FVec Ideal S1x4096x8x64 .f32) (A3 : FVec Ideal S1x4096x512 .f32)

theorem log2_pos : 0 < Real.log 2 := Real.log_pos (by norm_num)
theorem log2_ne : Real.log 2 ≠ 0 := log2_pos.ne'

/-- An array of 96 lanes a head, each head laid out on 128. -/
def lay96 (X : FVec Ideal S1x4096x8x96 .f32) : FVec Ideal S4096x1024 .bf16 :=
  truncf .bf16 (shapeCast S4096x1024 (pad S1x4096x8x128 ![0, 0, 0, 0] ![0, 0, 0, 32] ![0, 0, 0, 0] X (sitofp .f32 (constantI S_ 32 0#32)) pads_S1x4096x8x96_S1x4096x8x128_000_000_000_0320 h_S_) shapeCasts_S1x4096x8x128_S4096x1024) bitsLt_bf16_f32
/-- An array of 64 lanes a head, each head laid out on 128. -/
def lay64 (X : FVec Ideal S1x4096x8x64 .f32) : FVec Ideal S4096x1024 .bf16 :=
  truncf .bf16 (shapeCast S4096x1024 (pad S1x4096x8x128 ![0, 0, 0, 0] ![0, 0, 0, 64] ![0, 0, 0, 0] X (sitofp .f32 (constantI S_ 32 0#32)) pads_S1x4096x8x64_S1x4096x8x128_000_000_000_0640 h_S_) shapeCasts_S1x4096x8x128_S4096x1024) bitsLt_bf16_f32
/-- As `lay64`, the array rounded before it is laid out. -/
def lay64b (X : FVec Ideal S1x4096x8x64 .f32) : FVec Ideal S4096x1024 .bf16 :=
  shapeCast S4096x1024 (pad S1x4096x8x128 ![0, 0, 0, 0] ![0, 0, 0, 64] ![0, 0, 0, 0] (truncf .bf16 X bitsLt_bf16_f32) (sitofp .bf16 (constantI S_ 32 0#32)) pads_S1x4096x8x64_S1x4096x8x128_000_000_000_0640 h_S_) shapeCasts_S1x4096x8x128_S4096x1024
/-- The queries in base-two units. -/
def qsA : FVec Ideal S1x4096x8x96 .f32 :=
  mulf A0 (broadcastInDim S1x4096x8x96 ![] bcast_S_S1x4096x8x96 (Host.divf (constant S_ .f32 0x3DD105EC#32) (Host.log (constant S_ .f32 0x40000000#32))))
/-- The cotangent by heads. -/
def ctA : FVec Ideal S1x4096x8x64 .f32 := shapeCast S1x4096x8x64 A3 shapeCasts_S1x4096x512_S1x4096x8x64
/-- The attention's output. -/
def oA : FVec Ideal S1x4096x8x64 .f32 :=
  transpose S1x4096x8x64 [0, 3, 1, 2] (Host.dotGeneral dot_S1x4096x8x64_S1x8x4096x4096_S1x8x64x4096_1_3_3_2_02_01 none A2 (prA A0 A1)) transposes_S1x8x64x4096_S1x4096x8x64_0_3_1_2
/-- The saved logarithms in base two of rows with maxima `M` and sums `L`. -/
def lseG (M : FVec Ideal S1x8x4096 .f32) (L : FVec Ideal S1x8x4096x1 .f32) : FVec Ideal S8x1x4096 .f32 :=
  shapeCast S8x1x4096 (Host.divf (addf (broadcastInDim S1x8x4096x1 ![0, 1, 2] bcast_S1x8x4096_S1x8x4096x1_0_1_2 M) (Host.log L)) (broadcastInDim S1x8x4096x1 ![] bcast_S_S1x8x4096x1 (Host.log (constant S_ .f32 0x40000000#32)))) shapeCasts_S1x8x4096x1_S8x1x4096
/-- The rows' saved logarithms in base two. -/
def lseA : FVec Ideal S8x1x4096 .f32 := lseG (mxA A0 A1) (smA A0 A1)
/-- The row sums of the output against its cotangent. -/
def dlA : FVec Ideal S8x1x4096 .f32 :=
  shapeCast S8x1x4096 (transpose S1x8x4096 [0, 2, 1] (Host.reduceAdd (mulf (extf .f32 (truncf .bf16 (ctA A3) bitsLt_bf16_f32) bitsLt_bf16_f32) (extf .f32 (truncf .bf16 (oA A0 A1 A2) bitsLt_bf16_f32) bitsLt_bf16_f32)) (constant S_ .f32 0x00000000#32) reducesTo_S1x4096x8x64_S1x4096x8_d3 h_S_) transposes_S1x4096x8_S1x8x4096_0_2_1) shapeCasts_S1x8x4096_S8x1x4096

/-- A laid-out array of 96 lanes holds what the heads hold, and zero on the further lanes. -/
theorem lay96_at {X : FVec Ideal S1x4096x8x96 .f32} {f : ℕ → ℕ → ℕ → ℝ}
    (hf : ∀ (r : Fin 4096) (h : Fin 8) (d : Fin 96), X (ix4 0 r h d) = ((f h r d : ℝ) : EReal))
    (h0 : ∀ h r d, 96 ≤ d → f h r d = 0) (r : Fin 4096) (l : Fin 1024) :
    lay96 X (ix2 r l) = ((f (l / 128) r (l % 128) : ℝ) : EReal) := by
  have hl : (l : ℕ) / 128 < 8 := by omega
  pointwise [lay96]
  split
  · exact hf _ _ _
  · rename_i H
    rw [h0 _ _ _ (by omega)]
    exact sit0
theorem lay64_at {X : FVec Ideal S1x4096x8x64 .f32} {f : ℕ → ℕ → ℕ → ℝ}
    (hf : ∀ (r : Fin 4096) (h : Fin 8) (d : Fin 64), X (ix4 0 r h d) = ((f h r d : ℝ) : EReal))
    (h0 : ∀ h r d, 64 ≤ d → f h r d = 0) (r : Fin 4096) (l : Fin 1024) :
    lay64 X (ix2 r l) = ((f (l / 128) r (l % 128) : ℝ) : EReal) := by
  have hl : (l : ℕ) / 128 < 8 := by omega
  pointwise [lay64]
  split
  · exact hf _ _ _
  · rename_i H
    rw [h0 _ _ _ (by omega)]
    exact sit0

theorem lay64b_at {X : FVec Ideal S1x4096x8x64 .f32} {f : ℕ → ℕ → ℕ → ℝ}
    (hf : ∀ (r : Fin 4096) (h : Fin 8) (d : Fin 64), X (ix4 0 r h d) = ((f h r d : ℝ) : EReal))
    (h0 : ∀ h r d, 64 ≤ d → f h r d = 0) (r : Fin 4096) (l : Fin 1024) :
    lay64b X (ix2 r l) = ((f (l / 128) r (l % 128) : ℝ) : EReal) := by
  have hl : (l : ℕ) / 128 < 8 := by omega
  pointwise [lay64b]
  split
  · exact hf _ _ _
  · rename_i H
    rw [h0 _ _ _ (by omega)]
    exact sit0

theorem log_two : Ideal.log (Ideal.ofBits .f32 0x40000000#32) = ((Real.log 2 : ℝ) : EReal) := by
  rw [ofBits_two, Ideal.log_coe, if_neg (by norm_num)]

theorem qsA_at (hX : Fin' A0) (b : Fin 1) (r : Fin 4096) (h : Fin 8) (d : Fin 96) :
    qsA A0 (ix4 b r h d) = ((rd A0 h r d * (cs / Real.log 2) : ℝ) : EReal) := by
  pointwise [qsA]
  rw [rd_at hX, log_two, ofBits_cs, div_coe_coe log2_ne, ← EReal.coe_mul]
theorem ctA_at (hC : Fin' A3) (b : Fin 1) (r : Fin 4096) (h : Fin 8) (d : Fin 64) :
    ctA A3 (ix4 b r h d) = ((rdC A3 h r d : ℝ) : EReal) := by
  pointwise [ctA]
  exact rdC_at hC _ _ _ _ _
/-- The output of a head at row `r`, lane `d`. -/
def oV (h r d : ℕ) : ℝ := ∑ k ∈ range 4096, rdV A2 h k d * P cs (rd A0 h) (rd A1 h) r k
theorem oV_zero (h r d : ℕ) (hd : 64 ≤ d) : oV A0 A1 A2 h r d = 0 :=
  sum_eq_zero fun k _ => by rw [rdV_zero A2 _ _ _ hd, zero_mul]
theorem oA_at (hX : Fin' A0) (hY : Fin' A1) (hV : Fin' A2) (b : Fin 1) (r : Fin 4096) (h : Fin 8) (d : Fin 64) :
    oA A0 A1 A2 (ix4 b r h d) = ((oV A0 A1 A2 h r d : ℝ) : EReal) := by
  pointwise [oA]
  simp only [prA_at _ _ hX hY, rdV_at hV, ← EReal.coe_mul]
  exact coe_sum_fin 4096 fun k => rdV A2 h k d * P cs (rd A0 h) (rd A1 h) r k
/-- The row's saved logarithm. -/
def lseV (h r : ℕ) : ℝ := lse cs (rd A0 h) (rd A1 h) (mx A0 A1 h r) r
theorem lseG_at (M : FVec Ideal S1x8x4096 .f32) (L : FVec Ideal S1x8x4096x1 .f32) (h : Fin 8) (z : Fin 1) (r : Fin 4096) :
    lseG M L (ix3 h z r) = Ideal.div (M (ix3 0 h r) + Ideal.log (L (ix4 0 h r 0))) (Ideal.log (Ideal.ofBits .f32 0x40000000#32)) := by
  pointwise [lseG]
theorem lseA_at (hX : Fin' A0) (hY : Fin' A1) (h : Fin 8) (z : Fin 1) (r : Fin 4096) :
    lseA A0 A1 (ix3 h z r) = ((lseV A0 A1 h r : ℝ) : EReal) := by
  rw [lseA, lseG_at, log_two, mxA_eq _ _ hX hY, smA_at _ _ hX hY, Ideal.log_coe, if_neg (not_le.2 (sm_pos A0 A1 h r)), ← EReal.coe_add, div_coe_coe log2_ne]
  simp only [lseV, lse, sm]
theorem dlA_at (hX : Fin' A0) (hY : Fin' A1) (hV : Fin' A2) (hC : Fin' A3) (h : Fin 8) (z : Fin 1) (r : Fin 4096) :
    dlA A0 A1 A2 A3 (ix3 h z r) = ((dlV A0 A1 A2 A3 h r : ℝ) : EReal) := by
  pointwise [dlA]
  simp only [ctA_at _ hC, oA_at _ _ _ hX hY hV, ← EReal.coe_mul]
  rw [coe_sum_fin 64 fun d => rdC A3 h r d * oV A0 A1 A2 h r d, dlV, ← delta_eq]
  simp only [oV]

theorem q_at (hX : Fin' A0) (r : Fin 4096) (l : Fin 1024) :
    lay96 (qsA A0) (ix2 r l) = ((rd A0 (l / 128) r (l % 128) * (cs / Real.log 2) : ℝ) : EReal) :=
  lay96_at (f := fun h r d => rd A0 h r d * (cs / Real.log 2)) (fun r h d => qsA_at A0 hX 0 r h d)
    (fun h r d hd => by rw [rd_zero _ _ _ _ hd, zero_mul]) r l
theorem k_at (hY : Fin' A1) (r : Fin 4096) (l : Fin 1024) :
    lay96 A1 (ix2 r l) = ((rd A1 (l / 128) r (l % 128) : ℝ) : EReal) :=
  lay96_at (fun r h d => rd_at hY 0 r h d) (rd_zero A1) r l
theorem v_at (hV : Fin' A2) (r : Fin 4096) (l : Fin 1024) :
    lay64 A2 (ix2 r l) = ((rdV A2 (l / 128) r (l % 128) : ℝ) : EReal) :=
  lay64_at (fun r h d => rdV_at hV 0 r h d) (rdV_zero A2) r l
theorem do_at (hC : Fin' A3) (r : Fin 4096) (l : Fin 1024) :
    lay64 (ctA A3) (ix2 r l) = ((rdC A3 (l / 128) r (l % 128) : ℝ) : EReal) :=
  lay64_at (fun r h d => ctA_at A3 hC 0 r h d) (rdC_zero A3) r l
theorem o_at (hX : Fin' A0) (hY : Fin' A1) (hV : Fin' A2) (r : Fin 4096) (l : Fin 1024) :
    lay64b (oA A0 A1 A2) (ix2 r l) = ((oV A0 A1 A2 (l / 128) r (l % 128) : ℝ) : EReal) :=
  lay64b_at (fun r h d => oA_at A0 A1 A2 hX hY hV 0 r h d) (oV_zero A0 A1 A2) r l

end Cert.Attn

end
-- ==== Proof.Step2.lean ====
/- One step of the kernel of the keys' and values' gradients over blocks of real numbers. -/
module

public import proofs.«01_k».proof.Proof.Prep
public import proofs.«01_k».proof.Proof.Gen.Kernel2Ideal.Value

@[expose] public section

set_option maxRecDepth 16384

noncomputable section

open Idealize.ShloMosaic Idealize.ShloMosaic.TcCoe Idealize.SL.Sem

namespace Cert.Attn
open Cert.Kernel2Ideal Cert.Kernel2Ideal.Gen Finset

/-- A block whose elements are the real numbers of `f`. -/
def Is {φ : FTy} (X : FVec Ideal S1024x128 φ) (f : ℕ → ℕ → ℝ) : Prop := ∀ (a : Fin 1024) (d : Fin 128), X (ix2 a d) = ((f a d : ℝ) : EReal)
/-- A square block whose elements are the real numbers of `f`. -/
def IsS {φ : FTy} (X : FVec Ideal S1024x1024 φ) (f : ℕ → ℕ → ℝ) : Prop := ∀ (a b : Fin 1024), X (ix2 a b) = ((f a b : ℝ) : EReal)
/-- A row whose elements are the real numbers of `f`. -/
def IsR {φ : FTy} (X : FVec Ideal S1x1x1024 φ) (f : ℕ → ℝ) : Prop := ∀ b : Fin 1024, X (ix3 0 0 b) = ((f b : ℝ) : EReal)

theorem named_mask : Named.named (F := Ideal) κ "mask" (φ := .f32) 0xF149F2CA#32 = (⊥ : EReal) := by
  show (κ "mask").getD _ = _
  simp [κ]
theorem named_ln2 : Named.named (F := Ideal) κ "ln2" (φ := .f32) 0x3F317218#32 = ((Real.log 2 : ℝ) : EReal) := by
  show (κ "ln2").getD _ = _
  simp [κ]

variable {k q v o : FVec Ideal S1024x128 .bf16} {l dl : FVec Ideal S1x1x1024 .f32} {p : FVec Ideal S1024x1024 .f32} {acc : FVec Ideal S1024x128 .f32}
  {fk fq fv fo facc : ℕ → ℕ → ℝ} {fl fdl : ℕ → ℝ} {fp : ℕ → ℕ → ℝ}

theorem exp2_real (r : ℝ) : FloatOps.exp2 (F := Ideal) (φ := .f32) (r : EReal) = ((Real.rpow 2 r : ℝ) : EReal) := by
  show Ideal.exp2 _ = _
  rw [Ideal.exp2_coe]

theorem pay8_is (hk : Is k fk) (hq : Is q fq) (hl : IsR l fl) :
    IsS (k0_pay8 k q l) fun a b => Real.rpow 2 ((∑ d ∈ range 128, fk a d * fq b d) - fl b) := fun a b => by
  pointwise [k0_pay8]
  simp only [hk _ _, hq _ _, hl _, ← EReal.coe_mul]
  rw [coe_sum_fin 128 fun d => fk a d * fq b d, ← EReal.coe_sub, exp2_real]
theorem pay5_is (hk : Is k fk) (hq : Is q fq) (hl : IsR l fl) :
    IsS (k0_pay5 k q l) fun a b => if a ≤ b then Real.rpow 2 ((∑ d ∈ range 128, fk a d * fq b d) - fl b) else 0 := fun a b => by
  pointwise [k0_pay5]
  simp only [hk _ _, hq _ _, hl _, ← EReal.coe_mul]
  simp (disch := omega) only [hlo_ix]
  rw [named_mask]
  by_cases H : (a : ℕ) ≤ b
  · rw [if_pos H, if_pos H, coe_sum_fin 128 fun d => fk a d * fq b d, ← EReal.coe_sub, exp2_real]
  · rw [if_neg H, if_neg H, EReal.bot_sub]
    show Ideal.exp2 ⊥ = _
    rw [Ideal.exp2_bot]; rfl
theorem pay10_is (hp : IsS (k0_pay8 k q l) fp) (ho : Is o fo) (ha : Is acc facc) :
    Is (k0_pay10 k q l o acc) fun a d => facc a d + ∑ b ∈ range 1024, fp a b * fo b d := fun a d => by
  pointwise [k0_pay10, k0_pay9]
  simp only [hp _ _, ho _ _, ha _ _, ← EReal.coe_mul]
  rw [coe_sum_fin 1024 fun b => fp a b * fo b d, EReal.coe_add]
theorem pay7_is (hp : IsS (k0_pay5 k q l) fp) (ho : Is o fo) (ha : Is acc facc) :
    Is (k0_pay7 k q l o acc) fun a d => facc a d + ∑ b ∈ range 1024, fp a b * fo b d := fun a d => by
  pointwise [k0_pay7, k0_pay6]
  simp only [hp _ _, ho _ _, ha _ _, ← EReal.coe_mul]
  rw [coe_sum_fin 1024 fun b => fp a b * fo b d, EReal.coe_add]
theorem pay12_is (hp : IsS p fp) (ho : Is o fo) (hv : Is v fv) (hdl : IsR dl fdl) (ha : Is acc facc) (hq : Is q fq) :
    Is (k0_pay12 p o v dl acc q) fun a d => facc a d + ∑ b ∈ range 1024, fp a b * ((∑ d ∈ range 128, fv a d * fo b d) - fdl b) * fq b d := fun a d => by
  pointwise [k0_pay12]
  simp only [hp _ _, ho _ _, ha _ _, hv _ _, hdl _, hq _ _, ← EReal.coe_mul]
  simp only [fun b : ℕ => coe_sum_fin 128 fun d => fv a d * fo b d, ← EReal.coe_sub, ← EReal.coe_mul]
  rw [coe_sum_fin 1024 fun b => fp a b * ((∑ d ∈ range 128, fv a d * fo b d) - fdl b) * fq b d, EReal.coe_add]
theorem pay11_is (hp : IsS (k0_pay8 k q l) fp) (ho : Is o fo) (hv : Is v fv) (hdl : IsR dl fdl) (ha : Is acc facc) (hq : Is q fq) :
    Is (k0_pay11 k q l o v dl acc q) fun a d => facc a d + ∑ b ∈ range 1024, fp a b * ((∑ d ∈ range 128, fv a d * fo b d) - fdl b) * fq b d := fun a d => by
  pointwise [k0_pay11, k0_pay9]
  simp only [hp _ _, ho _ _, ha _ _, hv _ _, hdl _, hq _ _, ← EReal.coe_mul]
  simp only [fun b : ℕ => coe_sum_fin 128 fun d => fv a d * fo b d, ← EReal.coe_sub, ← EReal.coe_mul]
  rw [coe_sum_fin 1024 fun b => fp a b * ((∑ d ∈ range 128, fv a d * fo b d) - fdl b) * fq b d, EReal.coe_add]
theorem pay6_is (ho : Is o fo) : Is (k0_pay6 o) fo := fun a d => by
  pointwise [k0_pay6]
  exact ho a d
theorem pay13_is {x : FVec Ideal S1024x128 .f32} {f : ℕ → ℕ → ℝ} (h : Is x f) : Is (k0_pay13 x) f := fun a d => by
  pointwise [k0_pay13]
  exact h a d
theorem pay3_is : Is (k0_pay3 (F := Ideal)) fun _ _ => 0 := fun a d => by
  pointwise [k0_pay3]
  rfl
theorem pay4_is : Is (k0_pay4 (F := Ideal)) fun _ _ => 0 := fun a d => by
  pointwise [k0_pay4]
  rfl
theorem pay1_is (ha : Is acc facc) : Is (k0_pay1 acc) fun a d => facc a d * Real.log 2 := fun a d => by
  pointwise [k0_pay1]
  rw [ha, named_ln2, ← EReal.coe_mul]
theorem pay2_is (ha : Is acc facc) : Is (k0_pay2 acc) facc := fun a d => by
  pointwise [k0_pay2]
  exact ha a d

end Cert.Attn

end
-- ==== Proof.Step1.lean ====
/- One step of the kernel of the queries' gradient over blocks of real numbers. -/
module

public import proofs.«01_k».proof.Proof.Step2
public import proofs.«01_k».proof.Proof.Gen.KernelIdeal.Value

@[expose] public section

set_option maxRecDepth 16384

noncomputable section

open Idealize.ShloMosaic Idealize.ShloMosaic.TcCoe Idealize.SL.Sem

namespace Cert.Attn.Dq
open Cert.KernelIdeal Cert.KernelIdeal.Gen Finset

/-- A block of 128 lanes by 1024 rows whose elements are the real numbers of `f`. -/
def IsT {φ : FTy} (X : FVec Ideal S128x1024 φ) (f : ℕ → ℕ → ℝ) : Prop := ∀ (d : Fin 128) (b : Fin 1024), X (ix2 d b) = ((f b d : ℝ) : EReal)
/-- A row whose elements are the real numbers of `f`. -/
def IsW {φ : FTy} (X : FVec Ideal S1x1024 φ) (f : ℕ → ℝ) : Prop := ∀ b : Fin 1024, X (ix2 0 b) = ((f b : ℝ) : EReal)

theorem named_mask : Named.named (F := Ideal) κ "mask" (φ := .f32) 0xF149F2CA#32 = (⊥ : EReal) := by
  show (κ "mask").getD _ = _
  simp [κ]

variable {k q v o w : FVec Ideal S1024x128 .bf16} {l : FVec Ideal S1x1x1024 .f32} {dl : FVec Ideal S1x1024 .f32} {acc : FVec Ideal S128x1024 .f32}
  {fk fq fv fo fw facc : ℕ → ℕ → ℝ} {fl fdl : ℕ → ℝ}

theorem pay4_is (hk : Is k fk) (hq : Is q fq) (hl : IsR l fl) (hv : Is v fv) (ho : Is o fo) (hd : IsW dl fdl) (ha : IsT acc facc) :
    IsT (k0_pay4 k q l v o dl acc k) fun b d => facc b d + ∑ a ∈ range 1024, fk a d * (Real.rpow 2 ((∑ d ∈ range 128, fk a d * fq b d) - fl b) * ((∑ d ∈ range 128, fv a d * fo b d) - fdl b)) := fun d b => by
  pointwise [k0_pay4]
  simp only [hk _ _, hq _ _, hl _, hv _ _, ho _ _, hd _, ha _ _, ← EReal.coe_mul]
  simp only [fun a : ℕ => coe_sum_fin 128 fun d => fk a d * fq b d, fun a : ℕ => coe_sum_fin 128 fun d => fv a d * fo b d, ← EReal.coe_sub, exp2_real, ← EReal.coe_mul]
  rw [coe_sum_fin 1024 fun a => fk a d * (Real.rpow 2 ((∑ d ∈ range 128, fk a d * fq b d) - fl b) * ((∑ d ∈ range 128, fv a d * fo b d) - fdl b)), EReal.coe_add]
theorem pay1_is (hk : Is k fk) (hq : Is q fq) (hl : IsR l fl) (hv : Is v fv) (ho : Is o fo) (hd : IsW dl fdl) (ha : IsT acc facc) :
    IsT (k0_pay1 k q l v o dl acc k) fun b d => facc b d + ∑ a ∈ range 1024, fk a d * ((if a ≤ b then Real.rpow 2 ((∑ d ∈ range 128, fk a d * fq b d) - fl b) else 0) * ((∑ d ∈ range 128, fv a d * fo b d) - fdl b)) := fun d b => by
  pointwise [k0_pay1]
  simp only [hk _ _, hq _ _, hl _, hv _ _, ho _ _, hd _, ha _ _, ← EReal.coe_mul]
  simp (disch := omega) only [hlo_ix]
  rw [named_mask]
  have e : ∀ a : Fin 1024, FloatOps.exp2 (F := Ideal) (φ := .f32) ((if (a : ℕ) ≤ b then ∑ x : Fin 128, ((fk a x * fq b x : ℝ) : EReal) else ⊥) - (fl b : EReal))
      = (((if (a : ℕ) ≤ b then Real.rpow 2 ((∑ d ∈ range 128, fk a d * fq b d) - fl b) else 0 : ℝ)) : EReal) := fun a => by
    by_cases H : (a : ℕ) ≤ b
    · rw [if_pos H, if_pos H, coe_sum_fin 128 fun d => fk a d * fq b d, ← EReal.coe_sub, exp2_real]
    · rw [if_neg H, if_neg H, EReal.bot_sub]
      show Ideal.exp2 ⊥ = _
      rw [Ideal.exp2_bot]; rfl
  simp only [e, fun a : ℕ => coe_sum_fin 128 fun d => fv a d * fo b d, ← EReal.coe_sub, ← EReal.coe_mul]
  rw [coe_sum_fin 1024 fun a => fk a d * ((if a ≤ (b : ℕ) then Real.rpow 2 ((∑ d ∈ range 128, fk a d * fq b d) - fl b) else 0) * ((∑ d ∈ range 128, fv a d * fo b d) - fdl b)), EReal.coe_add]
theorem pay2_is : IsT (k0_pay2 (F := Ideal)) fun _ _ => 0 := fun d b => by
  pointwise [k0_pay2]
  rfl
theorem pay3_is (ho : Is o fo) (hw : Is w fw) : IsW (k0_pay3 o w) fun b => ∑ d ∈ range 128, fo b d * fw b d := fun b => by
  pointwise [k0_pay3]
  simp only [ho _ _, hw _ _, ← EReal.coe_mul]
  rw [coe_sum_fin 128 fun d => fo b d * fw b d]
theorem pay5_is (ha : IsT acc facc) : Is (k0_pay5 acc) fun b d => facc b d * cs := fun b d => by
  pointwise [k0_pay5]
  rw [ha, ofBits_cs, ← EReal.coe_mul]
theorem pay6_is (hd : IsW dl fdl) : IsR (k0_pay6 dl) fdl := fun b => by
  pointwise [k0_pay6]
  exact hd b

end Cert.Attn.Dq

end
-- ==== Proof.Pure.lean ====
/- The real sums that the two kernels add up block by block. -/
module

public import proofs.«01_k».proof.Proof.Prep

@[expose] public section

set_option maxRecDepth 16384

noncomputable section

open Idealize.ShloMosaic Idealize.ShloMosaic.TcCoe Idealize.SL.Sem

namespace Cert.Attn
open Cert.Kernel2Ideal Cert.Kernel2Ideal.Gen Finset

variable (A0 A1 : FVec Ideal S1x4096x8x96 .f32) (A2 : FVec Ideal S1x4096x8x64 .f32) (A3 : FVec Ideal S1x4096x512 .f32)

/-- A head's probabilities. -/
abbrev pP (h q k : ℕ) : ℝ := P cs (rd A0 h) (rd A1 h) q k
/-- A head's gradient of the scores. -/
abbrev pS (h q k : ℕ) : ℝ := dS cs (rd A0 h) (rd A1 h) (rdV A2 h) (rdC A3 h) q k

theorem score_blk (h q k : ℕ) :
    ∑ d ∈ range 128, rd A1 h k d * (rd A0 h q d * (cs / Real.log 2)) = score cs (rd A0 h) (rd A1 h) q k / Real.log 2 := by
  rw [sum_range_zero_tail 96 128 (by norm_num) _ fun d hd => by rw [rd_zero A1 _ _ _ hd, zero_mul], score, mul_sum, sum_div]
  exact sum_congr rfl fun d _ => by ring
theorem score_blk' (h q k : ℕ) :
    ∑ d ∈ range 128, rd A0 h q d * (cs / Real.log 2) * rd A1 h k d = score cs (rd A0 h) (rd A1 h) q k / Real.log 2 := by
  rw [← score_blk]
  exact sum_congr rfl fun d _ => by ring
theorem prob_blk {h q k : ℕ} (hq : q < 4096) (hk : k ≤ q) :
    Real.rpow 2 ((∑ d ∈ range 128, rd A1 h k d * (rd A0 h q d * (cs / Real.log 2))) - lseV A0 A1 h q) = pP A0 A1 h q k := by
  rw [score_blk, lseV, two_pow_eq _ _ _ _ hq hk]
theorem dp_blk (h q k : ℕ) : ∑ d ∈ range 128, rdV A2 h k d * rdC A3 h q d = dP (rdV A2 h) (rdC A3 h) q k := by
  rw [sum_range_zero_tail 64 128 (by norm_num) _ fun d hd => by rw [rdV_zero A2 _ _ _ hd, zero_mul], dP]
  exact sum_congr rfl fun d _ => by ring

/-- The keys' gradient over the queries below `n`, in base-two units. -/
def dkP (h n k d : ℕ) : ℝ := ∑ q ∈ range n, pS A0 A1 A2 A3 h q k * (rd A0 h q d * (cs / Real.log 2))
/-- The values' gradient over the queries below `n`. -/
def dvP (h n k d : ℕ) : ℝ := ∑ q ∈ range n, pP A0 A1 h q k * rdC A3 h q d
/-- The queries' gradient over the keys below `n`, not yet scaled. -/
def dqP (h n q d : ℕ) : ℝ := ∑ k ∈ range n, pS A0 A1 A2 A3 h q k * rd A1 h k d

theorem sum_blk (f : ℕ → ℝ) (i : ℕ) : ∑ q ∈ range ((i + 1) * 1024), f q = (∑ q ∈ range (i * 1024), f q) + ∑ b ∈ range 1024, f (i * 1024 + b) := by
  rw [Nat.add_mul, Nat.one_mul, sum_range_add]

theorem dkP_step (h i k d : ℕ) : dkP A0 A1 A2 A3 h ((i + 1) * 1024) k d = dkP A0 A1 A2 A3 h (i * 1024) k d + ∑ b ∈ range 1024, pS A0 A1 A2 A3 h (i * 1024 + b) k * (rd A0 h (i * 1024 + b) d * (cs / Real.log 2)) := sum_blk _ i
theorem dvP_step (h i k d : ℕ) : dvP A0 A1 A3 h ((i + 1) * 1024) k d = dvP A0 A1 A3 h (i * 1024) k d + ∑ b ∈ range 1024, pP A0 A1 h (i * 1024 + b) k * rdC A3 h (i * 1024 + b) d := sum_blk _ i
theorem dqP_step (h j q d : ℕ) : dqP A0 A1 A2 A3 h ((j + 1) * 1024) q d = dqP A0 A1 A2 A3 h (j * 1024) q d + ∑ b ∈ range 1024, pS A0 A1 A2 A3 h q (j * 1024 + b) * rd A1 h (j * 1024 + b) d := sum_blk _ j
theorem dkP_zero {h n k : ℕ} (d : ℕ) (hn : n ≤ k) : dkP A0 A1 A2 A3 h n k d = 0 :=
  sum_eq_zero fun q hq => by rw [pS, dS_zero _ _ _ _ _ (lt_of_lt_of_le (mem_range.1 hq) hn), zero_mul]
theorem dvP_zero {h n k : ℕ} (d : ℕ) (hn : n ≤ k) : dvP A0 A1 A3 h n k d = 0 :=
  sum_eq_zero fun q hq => by rw [pP, P_zero _ _ _ (lt_of_lt_of_le (mem_range.1 hq) hn), zero_mul]
theorem dkP_all (h k d : ℕ) : dkP A0 A1 A2 A3 h 4096 k d * Real.log 2 = dkV A0 A1 A2 A3 h k d := by
  rw [dkP, dkV, sum_mul]
  exact sum_congr rfl fun q _ => by have := log2_ne; field_simp
theorem dvP_all (h k d : ℕ) : dvP A0 A1 A3 h 4096 k d = dvV A0 A1 A3 h k d := rfl
theorem dqP_all {h n q : ℕ} (d : ℕ) (hq : q < n) (hn : n ≤ 4096) : dqP A0 A1 A2 A3 h n q d * cs = dqV A0 A1 A2 A3 h q d := by
  have e : dqP A0 A1 A2 A3 h n q d = dqP A0 A1 A2 A3 h 4096 q d := by
    refine sum_subset (range_subset_range.2 hn) fun k _ hk => ?_
    have hk' : n ≤ k := by simpa using hk
    rw [pS, dS_zero _ _ _ _ _ (by omega), zero_mul]
  rw [e, dqP, dqV, sum_mul]
  exact sum_congr rfl fun k _ => by ring

theorem ds_blk (h q k : ℕ) : pP A0 A1 h q k * ((∑ d ∈ range 128, rdV A2 h k d * rdC A3 h q d) - dlV A0 A1 A2 A3 h q) = pS A0 A1 A2 A3 h q k := by
  rw [dp_blk]; rfl
theorem delta_blk (h q : ℕ) : ∑ d ∈ range 128, rdC A3 h q d * oV A0 A1 A2 h q d = dlV A0 A1 A2 A3 h q := by
  rw [sum_range_zero_tail 64 128 (by norm_num) _ fun d hd => by rw [rdC_zero A3 _ _ _ hd, zero_mul], dlV, ← delta_eq]
  simp only [oV]

end Cert.Attn

end
-- ==== Proof.Entry1.lean ====
/- What the first kernel finds in its operands: the prepared arrays of the arguments. -/
module

public import proofs.«01_k».proof.Proof.Prep
public import proofs.«01_k».proof.Proof.Gen.KernelIdeal.Value
public import Idealize.ShloMosaic.Lib.Claim

@[expose] public section

set_option maxRecDepth 16384

noncomputable section

open Idealize.ShloMosaic Idealize.ShloMosaic.TcCoe Idealize.SL.Sem

namespace Cert.KernelIdeal.Hand
open Cert.KernelIdeal Cert.KernelIdeal.Gen

variable (m : (ℓ : Loc nD τ sig) → Buf (Elt Ideal) ℓ) (c : Dev nD)

/-- The queries. -/
abbrev a0 : FVec Ideal S1x4096x8x96 .f32 := m ((c.tc : Thread nD τ).loc main_arg0)
/-- The keys. -/
abbrev a1 : FVec Ideal S1x4096x8x96 .f32 := m ((c.tc : Thread nD τ).loc main_arg1)
/-- The values. -/
abbrev a2 : FVec Ideal S1x4096x8x64 .f32 := m ((c.tc : Thread nD τ).loc main_arg2)
/-- The output's cotangent. -/
abbrev a3 : FVec Ideal S1x4096x512 .f32 := m ((c.tc : Thread nD τ).loc main_arg3)

theorem V_v6 : V m c main_v6 = Attn.lay96 (Attn.qsA (a0 m c)) := by
  dsimp only [V]
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil, StableHlo.TRef.binary, StableHlo.TRef.nullary, StableHlo.TRef.ternary, StableHlo.TRef.unary, StableHlo.TRef.toBuf, StableHlo.TRef.ofBuf, cast_eq]
  after_results_simp
  rfl
theorem V_v9 : V m c main_v9 = Attn.lay96 (a1 m c) := by
  dsimp only [V]
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil, StableHlo.TRef.binary, StableHlo.TRef.nullary, StableHlo.TRef.ternary, StableHlo.TRef.unary, StableHlo.TRef.toBuf, StableHlo.TRef.ofBuf, cast_eq]
  after_results_simp
  rfl
theorem V_v12 : V m c main_v12 = Attn.lay64 (a2 m c) := by
  dsimp only [V]
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil, StableHlo.TRef.binary, StableHlo.TRef.nullary, StableHlo.TRef.ternary, StableHlo.TRef.unary, StableHlo.TRef.toBuf, StableHlo.TRef.ofBuf, cast_eq]
  after_results_simp
  rfl
theorem V_v16 : V m c main_v16 = Attn.lay64 (Attn.ctA (a3 m c)) := by
  dsimp only [V]
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil, StableHlo.TRef.binary, StableHlo.TRef.nullary, StableHlo.TRef.ternary, StableHlo.TRef.unary, StableHlo.TRef.toBuf, StableHlo.TRef.ofBuf, cast_eq]
  after_results_simp
  rfl
theorem V_v44 : V m c main_v44 = Attn.lseA (a0 m c) (a1 m c) := by
  dsimp only [V]
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil, StableHlo.TRef.binary, StableHlo.TRef.nullary, StableHlo.TRef.ternary, StableHlo.TRef.unary, StableHlo.TRef.toBuf, StableHlo.TRef.ofBuf, cast_eq]
  after_results_simp
  rfl
theorem V_v46 : V m c main_v46 = Attn.lay64b (Attn.oA (a0 m c) (a1 m c) (a2 m c)) := by
  dsimp only [V]
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil, StableHlo.TRef.binary, StableHlo.TRef.nullary, StableHlo.TRef.ternary, StableHlo.TRef.unary, StableHlo.TRef.toBuf, StableHlo.TRef.ofBuf, cast_eq]
  after_results_simp
  rfl

end Cert.KernelIdeal.Hand

end
-- ==== Proof.Acc1.lean ====
/- What the kernel of the queries' gradient leaves in its accumulator and in its row sums after each grid point. -/
module

public import proofs.«01_k».proof.Proof.Step1
public import proofs.«01_k».proof.Proof.Pure
public import proofs.«01_k».proof.Proof.Entry1
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.KernelIdeal.Hand
open Cert.KernelIdeal Cert.KernelIdeal.Gen Cert.Attn Cert.Attn.Dq Finset

variable (m : (ℓ : Loc nD τ sig) → Buf (Elt Ideal) ℓ) (c : Dev nD)

/-- The query block's row of a grid point. -/
def ri (t : ℕ) : ℕ := if t % 10 < 1 then 0 else if t % 10 < 3 then 1 else if t % 10 < 6 then 2 else 3
/-- The key block's row of a grid point. -/
def cj (t : ℕ) : ℕ := if t % 10 < 1 then 0 else if t % 10 < 3 then t % 10 - 1 else if t % 10 < 6 then t % 10 - 3 else t % 10 - 6

theorem idx : ∀ t : Fin cfg0.N, win0_0.index t = ![ri t.val, t.val / 10] ∧ win0_1.index t = ![cj t.val, t.val / 10] ∧ win0_2.index t = ![cj t.val, t.val / 10]
    ∧ win0_3.index t = ![ri t.val, t.val / 10] ∧ win0_4.index t = ![t.val / 10, 0, ri t.val] ∧ win0_5.index t = ![ri t.val, t.val / 10]
    ∧ win0_6.index t = ![ri t.val, t.val / 10] ∧ win0_7.index t = ![t.val / 10, 0, ri t.val] :=
  (by decide +kernel : ∀ t : Fin grid0.N, win0_0.index t = ![ri t.val, t.val / 10] ∧ win0_1.index t = ![cj t.val, t.val / 10] ∧ win0_2.index t = ![cj t.val, t.val / 10]
    ∧ win0_3.index t = ![ri t.val, t.val / 10] ∧ win0_4.index t = ![t.val / 10, 0, ri t.val] ∧ win0_5.index t = ![ri t.val, t.val / 10]
    ∧ win0_6.index t = ![ri t.val, t.val / 10] ∧ win0_7.index t = ![t.val / 10, 0, ri t.val])

/-! ## What each kind of grid point leaves -/

theorem s0_A (t : Fin cfg0.N) (h0 : (t.val % 10 = 0 ∨ t.val % 10 = 1 ∨ t.val % 10 = 3 ∨ t.val % 10 = 6)) (h2 : (t.val % 10 = 0 ∨ t.val % 10 = 2 ∨ t.val % 10 = 5 ∨ t.val % 10 = 9)) :
    (outsAt0 m c t.val t.isLt).2.2.1 = k0_pay1 (iblk m c 1 t) (iblk m c 0 t) (iblk m c 4 t) (iblk m c 2 t) (iblk m c 5 t) (k0_pay3 (iblk m c 5 t) (iblk m c 3 t)) (k0_pay2 (F := Ideal)) (iblk m c 1 t) := by
  rw [outsAt0_A m c t h0 (not_not.2 h2) h2]; frame_out
theorem s1_A (t : Fin cfg0.N) (h0 : (t.val % 10 = 0 ∨ t.val % 10 = 1 ∨ t.val % 10 = 3 ∨ t.val % 10 = 6)) (h2 : (t.val % 10 = 0 ∨ t.val % 10 = 2 ∨ t.val % 10 = 5 ∨ t.val % 10 = 9)) :
    (outsAt0 m c t.val t.isLt).2.2.2 = (k0_pay3 (iblk m c 5 t) (iblk m c 3 t)) := by
  rw [outsAt0_A m c t h0 (not_not.2 h2) h2]; frame_out
theorem o6_A (t : Fin cfg0.N) (h0 : (t.val % 10 = 0 ∨ t.val % 10 = 1 ∨ t.val % 10 = 3 ∨ t.val % 10 = 6)) (h2 : (t.val % 10 = 0 ∨ t.val % 10 = 2 ∨ t.val % 10 = 5 ∨ t.val % 10 = 9)) :
    (outsAt0 m c t.val t.isLt).1 = k0_pay5 (outsAt0 m c t.val t.isLt).2.2.1 := by
  rw [s0_A m c t h0 h2]
  have e : (outsAt0 m c t.val t.isLt).1 = k0_pay5 (k0_pay1 (iblk m c 1 t) (iblk m c 0 t) (iblk m c 4 t) (iblk m c 2 t) (iblk m c 5 t) (k0_pay3 (iblk m c 5 t) (iblk m c 3 t)) (k0_pay2 (F := Ideal)) (iblk m c 1 t)) := by
    rw [outsAt0_A m c t h0 (not_not.2 h2) h2]; frame_out
  exact e
theorem o7_A (t : Fin cfg0.N) (h0 : (t.val % 10 = 0 ∨ t.val % 10 = 1 ∨ t.val % 10 = 3 ∨ t.val % 10 = 6)) (h2 : (t.val % 10 = 0 ∨ t.val % 10 = 2 ∨ t.val % 10 = 5 ∨ t.val % 10 = 9)) :
    (outsAt0 m c t.val t.isLt).2.1 = k0_pay6 (outsAt0 m c t.val t.isLt).2.2.2 := by
  rw [s1_A m c t h0 h2]
  have e : (outsAt0 m c t.val t.isLt).2.1 = k0_pay6 ((k0_pay3 (iblk m c 5 t) (iblk m c 3 t))) := by
    rw [outsAt0_A m c t h0 (not_not.2 h2) h2]; frame_out
  exact e
theorem s0_B (t : Fin cfg0.N) (h0 : (t.val % 10 = 0 ∨ t.val % 10 = 1 ∨ t.val % 10 = 3 ∨ t.val % 10 = 6)) (h2 : ¬(t.val % 10 = 0 ∨ t.val % 10 = 2 ∨ t.val % 10 = 5 ∨ t.val % 10 = 9)) :
    (outsAt0 m c t.val t.isLt).2.2.1 = k0_pay4 (iblk m c 1 t) (iblk m c 0 t) (iblk m c 4 t) (iblk m c 2 t) (iblk m c 5 t) (k0_pay3 (iblk m c 5 t) (iblk m c 3 t)) (k0_pay2 (F := Ideal)) (iblk m c 1 t) := by
  rw [outsAt0_B m c t h0 h2 h2]; frame_out
theorem s1_B (t : Fin cfg0.N) (h0 : (t.val % 10 = 0 ∨ t.val % 10 = 1 ∨ t.val % 10 = 3 ∨ t.val % 10 = 6)) (h2 : ¬(t.val % 10 = 0 ∨ t.val % 10 = 2 ∨ t.val % 10 = 5 ∨ t.val % 10 = 9)) :
    (outsAt0 m c t.val t.isLt).2.2.2 = (k0_pay3 (iblk m c 5 t) (iblk m c 3 t)) := by
  rw [outsAt0_B m c t h0 h2 h2]; frame_out
theorem s0_C (t : Fin cfg0.N) (h0 : ¬(t.val % 10 = 0 ∨ t.val % 10 = 1 ∨ t.val % 10 = 3 ∨ t.val % 10 = 6)) (h2 : (t.val % 10 = 0 ∨ t.val % 10 = 2 ∨ t.val % 10 = 5 ∨ t.val % 10 = 9)) :
    (outsAt0 m c t.val t.isLt).2.2.1 = k0_pay1 (iblk m c 1 t) (iblk m c 0 t) (iblk m c 4 t) (iblk m c 2 t) (iblk m c 5 t) (outsAt0 m c (t.val - 1) (lt_of_le_of_lt (Nat.sub_le _ _) t.isLt)).2.2.2 (outsAt0 m c (t.val - 1) (lt_of_le_of_lt (Nat.sub_le _ _) t.isLt)).2.2.1 (iblk m c 1 t) := by
  rw [outsAt0_C m c t h0 (not_not.2 h2) h2]; frame_out <;> ((try simp only [read_unread_whole]) <;> (try rfl))
theorem s1_C (t : Fin cfg0.N) (h0 : ¬(t.val % 10 = 0 ∨ t.val % 10 = 1 ∨ t.val % 10 = 3 ∨ t.val % 10 = 6)) (h2 : (t.val % 10 = 0 ∨ t.val % 10 = 2 ∨ t.val % 10 = 5 ∨ t.val % 10 = 9)) :
    (outsAt0 m c t.val t.isLt).2.2.2 = (outsAt0 m c (t.val - 1) (lt_of_le_of_lt (Nat.sub_le _ _) t.isLt)).2.2.2 := by
  rw [outsAt0_C m c t h0 (not_not.2 h2) h2]; frame_out <;> ((try simp only [read_unread_whole]) <;> (try rfl))
theorem o6_C (t : Fin cfg0.N) (h0 : ¬(t.val % 10 = 0 ∨ t.val % 10 = 1 ∨ t.val % 10 = 3 ∨ t.val % 10 = 6)) (h2 : (t.val % 10 = 0 ∨ t.val % 10 = 2 ∨ t.val % 10 = 5 ∨ t.val % 10 = 9)) :
    (outsAt0 m c t.val t.isLt).1 = k0_pay5 (outsAt0 m c t.val t.isLt).2.2.1 := by
  rw [s0_C m c t h0 h2]
  have e : (outsAt0 m c t.val t.isLt).1 = k0_pay5 (k0_pay1 (iblk m c 1 t) (iblk m c 0 t) (iblk m c 4 t) (iblk m c 2 t) (iblk m c 5 t) (outsAt0 m c (t.val - 1) (lt_of_le_of_lt (Nat.sub_le _ _) t.isLt)).2.2.2 (outsAt0 m c (t.val - 1) (lt_of_le_of_lt (Nat.sub_le _ _) t.isLt)).2.2.1 (iblk m c 1 t)) := by
    rw [outsAt0_C m c t h0 (not_not.2 h2) h2]; frame_out <;> ((try simp only [read_unread_whole]) <;> (try rfl))
  exact e
theorem o7_C (t : Fin cfg0.N) (h0 : ¬(t.val % 10 = 0 ∨ t.val % 10 = 1 ∨ t.val % 10 = 3 ∨ t.val % 10 = 6)) (h2 : (t.val % 10 = 0 ∨ t.val % 10 = 2 ∨ t.val % 10 = 5 ∨ t.val % 10 = 9)) :
    (outsAt0 m c t.val t.isLt).2.1 = k0_pay6 (outsAt0 m c t.val t.isLt).2.2.2 := by
  rw [s1_C m c t h0 h2]
  have e : (outsAt0 m c t.val t.isLt).2.1 = k0_pay6 ((outsAt0 m c (t.val - 1) (lt_of_le_of_lt (Nat.sub_le _ _) t.isLt)).2.2.2) := by
    rw [outsAt0_C m c t h0 (not_not.2 h2) h2]; frame_out <;> ((try simp only [read_unread_whole]) <;> (try rfl))
  exact e
theorem s0_D (t : Fin cfg0.N) (h0 : ¬(t.val % 10 = 0 ∨ t.val % 10 = 1 ∨ t.val % 10 = 3 ∨ t.val % 10 = 6)) (h2 : ¬(t.val % 10 = 0 ∨ t.val % 10 = 2 ∨ t.val % 10 = 5 ∨ t.val % 10 = 9)) :
    (outsAt0 m c t.val t.isLt).2.2.1 = k0_pay4 (iblk m c 1 t) (iblk m c 0 t) (iblk m c 4 t) (iblk m c 2 t) (iblk m c 5 t) (outsAt0 m c (t.val - 1) (lt_of_le_of_lt (Nat.sub_le _ _) t.isLt)).2.2.2 (outsAt0 m c (t.val - 1) (lt_of_le_of_lt (Nat.sub_le _ _) t.isLt)).2.2.1 (iblk m c 1 t) := by
  rw [outsAt0_D m c t h0 h2 h2]; frame_out <;> ((try simp only [read_unread_whole]) <;> (try rfl))
theorem s1_D (t : Fin cfg0.N) (h0 : ¬(t.val % 10 = 0 ∨ t.val % 10 = 1 ∨ t.val % 10 = 3 ∨ t.val % 10 = 6)) (h2 : ¬(t.val % 10 = 0 ∨ t.val % 10 = 2 ∨ t.val % 10 = 5 ∨ t.val % 10 = 9)) :
    (outsAt0 m c t.val t.isLt).2.2.2 = (outsAt0 m c (t.val - 1) (lt_of_le_of_lt (Nat.sub_le _ _) t.isLt)).2.2.2 := by
  rw [outsAt0_D m c t h0 h2 h2]; frame_out <;> ((try simp only [read_unread_whole]) <;> (try rfl))

/-! ## The input blocks -/

theorem ri_lt (t : ℕ) : ri t < 4 := by unfold ri; split_ifs <;> omega
theorem cj_lt (t : ℕ) : cj t < 4 := by unfold cj; split_ifs <;> omega
theorem blk0 (t : Fin cfg0.N) (a : Fin 1024) (d : Fin 128) (H1 : ri t * 1024 + a < 4096) (H2 : t.val / 10 * 128 + d < 1024) :
    iblk m c 0 t (ix2 a d) = V m c main_v6 (ix2 ⟨ri t * 1024 + a, H1⟩ ⟨t.val / 10 * 128 + d, H2⟩) := by
  blk_point [iblk, V, idx t]
theorem blk1 (t : Fin cfg0.N) (a : Fin 1024) (d : Fin 128) (H1 : cj t * 1024 + a < 4096) (H2 : t.val / 10 * 128 + d < 1024) :
    iblk m c 1 t (ix2 a d) = V m c main_v9 (ix2 ⟨cj t * 1024 + a, H1⟩ ⟨t.val / 10 * 128 + d, H2⟩) := by
  blk_point [iblk, V, idx t]
theorem blk2 (t : Fin cfg0.N) (a : Fin 1024) (d : Fin 128) (H1 : cj t * 1024 + a < 4096) (H2 : t.val / 10 * 128 + d < 1024) :
    iblk m c 2 t (ix2 a d) = V m c main_v12 (ix2 ⟨cj t * 1024 + a, H1⟩ ⟨t.val / 10 * 128 + d, H2⟩) := by
  blk_point [iblk, V, idx t]
theorem blk3 (t : Fin cfg0.N) (a : Fin 1024) (d : Fin 128) (H1 : ri t * 1024 + a < 4096) (H2 : t.val / 10 * 128 + d < 1024) :
    iblk m c 3 t (ix2 a d) = V m c main_v46 (ix2 ⟨ri t * 1024 + a, H1⟩ ⟨t.val / 10 * 128 + d, H2⟩) := by
  blk_point [iblk, V, idx t]
theorem blk5 (t : Fin cfg0.N) (a : Fin 1024) (d : Fin 128) (H1 : ri t * 1024 + a < 4096) (H2 : t.val / 10 * 128 + d < 1024) :
    iblk m c 5 t (ix2 a d) = V m c main_v16 (ix2 ⟨ri t * 1024 + a, H1⟩ ⟨t.val / 10 * 128 + d, H2⟩) := by
  blk_point [iblk, V, idx t]
theorem blk4 (t : Fin cfg0.N) (b : Fin 1024) (H1 : ri t * 1024 + b < 4096) (H2 : t.val / 10 < 8) :
    iblk m c 4 t (ix3 0 0 b) = V m c main_v44 (ix3 ⟨t.val / 10, H2⟩ 0 ⟨ri t * 1024 + b, H1⟩) := by
  blk_point [iblk, V, idx t]

section
variable (hX : Fin' (a0 m c)) (hY : Fin' (a1 m c)) (hV : Fin' (a2 m c)) (hC : Fin' (a3 m c))
include hX hY hV hC

theorem is0 (t : Fin cfg0.N) : Is (φ := .bf16) (iblk m c 0 t) fun a d => rd (a0 m c) (t.val / 10) (ri t * 1024 + a) d * (cs / Real.log 2) := fun a d => by
  have ht : t.val < 80 := lt_of_lt_of_eq t.isLt (show cfg0.N = 80 from N_0)
  have h1 := ri_lt t
  have e1 : (t.val / 10 * 128 + d.val) / 128 = t.val / 10 := by omega
  have e2 : (t.val / 10 * 128 + d.val) % 128 = d.val := by omega
  rw [blk0 m c t a d (by omega) (by omega), V_v6, q_at _ hX]
  simp only [e1, e2]
theorem is1 (t : Fin cfg0.N) : Is (φ := .bf16) (iblk m c 1 t) fun a d => rd (a1 m c) (t.val / 10) (cj t * 1024 + a) d := fun a d => by
  have ht : t.val < 80 := lt_of_lt_of_eq t.isLt (show cfg0.N = 80 from N_0)
  have h1 := cj_lt t
  have e1 : (t.val / 10 * 128 + d.val) / 128 = t.val / 10 := by omega
  have e2 : (t.val / 10 * 128 + d.val) % 128 = d.val := by omega
  rw [blk1 m c t a d (by omega) (by omega), V_v9, k_at _ hY]
  simp only [e1, e2]
theorem is2 (t : Fin cfg0.N) : Is (φ := .bf16) (iblk m c 2 t) fun a d => rdV (a2 m c) (t.val / 10) (cj t * 1024 + a) d := fun a d => by
  have ht : t.val < 80 := lt_of_lt_of_eq t.isLt (show cfg0.N = 80 from N_0)
  have h1 := cj_lt t
  have e1 : (t.val / 10 * 128 + d.val) / 128 = t.val / 10 := by omega
  have e2 : (t.val / 10 * 128 + d.val) % 128 = d.val := by omega
  rw [blk2 m c t a d (by omega) (by omega), V_v12, v_at _ hV]
  simp only [e1, e2]
theorem is3 (t : Fin cfg0.N) : Is (φ := .bf16) (iblk m c 3 t) fun a d => oV (a0 m c) (a1 m c) (a2 m c) (t.val / 10) (ri t * 1024 + a) d := fun a d => by
  have ht : t.val < 80 := lt_of_lt_of_eq t.isLt (show cfg0.N = 80 from N_0)
  have h1 := ri_lt t
  have e1 : (t.val / 10 * 128 + d.val) / 128 = t.val / 10 := by omega
  have e2 : (t.val / 10 * 128 + d.val) % 128 = d.val := by omega
  rw [blk3 m c t a d (by omega) (by omega), V_v46, o_at _ _ _ hX hY hV]
  simp only [e1, e2]
theorem is5 (t : Fin cfg0.N) : Is (φ := .bf16) (iblk m c 5 t) fun a d => rdC (a3 m c) (t.val / 10) (ri t * 1024 + a) d := fun a d => by
  have ht : t.val < 80 := lt_of_lt_of_eq t.isLt (show cfg0.N = 80 from N_0)
  have h1 := ri_lt t
  have e1 : (t.val / 10 * 128 + d.val) / 128 = t.val / 10 := by omega
  have e2 : (t.val / 10 * 128 + d.val) % 128 = d.val := by omega
  rw [blk5 m c t a d (by omega) (by omega), V_v16, do_at _ hC]
  simp only [e1, e2]
theorem is4 (t : Fin cfg0.N) : IsR (φ := .f32) (iblk m c 4 t) fun b => lseV (a0 m c) (a1 m c) (t.val / 10) (ri t * 1024 + b) := fun b => by
  have ht : t.val < 80 := lt_of_lt_of_eq t.isLt (show cfg0.N = 80 from N_0)
  have h1 := ri_lt t
  rw [blk4 m c t b (by omega) (by omega), V_v44, lseA_at _ _ hX hY]

/-! ## The accumulators -/

theorem dl_is (t : Fin cfg0.N) : IsW (φ := .f32) (k0_pay3 (iblk m c 5 t) (iblk m c 3 t)) fun b => dlV (a0 m c) (a1 m c) (a2 m c) (a3 m c) (t.val / 10) (ri t.val * 1024 + b) := fun b => by
  refine (pay3_is (is5 m c hX hY hV hC t) (is3 m c hX hY hV hC t) b).trans ?_
  dsimp only
  rw [delta_blk]
/-- The step of a block off the diagonal. -/
theorem off (t : Fin cfg0.N) (h2 : ¬(t.val % 10 = 0 ∨ t.val % 10 = 2 ∨ t.val % 10 = 5 ∨ t.val % 10 = 9)) {dl : FVec Ideal S1x1024 .f32} {acc : FVec Ideal S128x1024 .f32}
    (hd : IsW dl fun b => dlV (a0 m c) (a1 m c) (a2 m c) (a3 m c) (t.val / 10) (ri t.val * 1024 + b)) (ha : IsT acc fun b d => dqP (a0 m c) (a1 m c) (a2 m c) (a3 m c) (t.val / 10) (cj t.val * 1024) (ri t.val * 1024 + b) d) :
    IsT (k0_pay4 (iblk m c 1 t) (iblk m c 0 t) (iblk m c 4 t) (iblk m c 2 t) (iblk m c 5 t) dl acc (iblk m c 1 t)) fun b d => dqP (a0 m c) (a1 m c) (a2 m c) (a3 m c) (t.val / 10) ((cj t.val + 1) * 1024) (ri t.val * 1024 + b) d := fun d b => by
  refine (pay4_is (is1 m c hX hY hV hC t) (is0 m c hX hY hV hC t) (is4 m c hX hY hV hC t) (is2 m c hX hY hV hC t) (is5 m c hX hY hV hC t) hd ha d b).trans ?_
  have h1 := ri_lt t
  have h3 : cj t.val + 1 ≤ ri t.val := by unfold cj ri; unfold cj at *; split_ifs <;> omega
  dsimp only
  rw [dqP_step]
  congr 2
  refine sum_congr rfl fun a ha => ?_
  have ha' := mem_range.1 ha
  rw [prob_blk _ _ (by omega) (by omega), ds_blk, mul_comm]
/-- The step of a block on the diagonal. -/
theorem diag (t : Fin cfg0.N) (h2 : (t.val % 10 = 0 ∨ t.val % 10 = 2 ∨ t.val % 10 = 5 ∨ t.val % 10 = 9)) {dl : FVec Ideal S1x1024 .f32} {acc : FVec Ideal S128x1024 .f32}
    (hd : IsW dl fun b => dlV (a0 m c) (a1 m c) (a2 m c) (a3 m c) (t.val / 10) (ri t.val * 1024 + b)) (ha : IsT acc fun b d => dqP (a0 m c) (a1 m c) (a2 m c) (a3 m c) (t.val / 10) (cj t.val * 1024) (ri t.val * 1024 + b) d) :
    IsT (k0_pay1 (iblk m c 1 t) (iblk m c 0 t) (iblk m c 4 t) (iblk m c 2 t) (iblk m c 5 t) dl acc (iblk m c 1 t)) fun b d => dqP (a0 m c) (a1 m c) (a2 m c) (a3 m c) (t.val / 10) ((cj t.val + 1) * 1024) (ri t.val * 1024 + b) d := fun d b => by
  refine (pay1_is (is1 m c hX hY hV hC t) (is0 m c hX hY hV hC t) (is4 m c hX hY hV hC t) (is2 m c hX hY hV hC t) (is5 m c hX hY hV hC t) hd ha d b).trans ?_
  have h1 := ri_lt t
  have h3 : cj t.val = ri t.val := by unfold cj ri; split_ifs <;> omega
  dsimp only
  rw [dqP_step]
  congr 2
  refine sum_congr rfl fun a ha => ?_
  have ha' := mem_range.1 ha
  by_cases H : a ≤ b.val
  · rw [if_pos H, prob_blk _ _ (by omega) (by omega), ds_blk, mul_comm]
  · rw [if_neg H, pS, dS_zero _ _ _ _ _ (by omega)]; ring

theorem inv (n : ℕ) : ∀ hn : n < cfg0.N, IsT (φ := .f32) (outsAt0 m c n hn).2.2.1 (fun b d => dqP (a0 m c) (a1 m c) (a2 m c) (a3 m c) (n / 10) ((cj n + 1) * 1024) (ri n * 1024 + b) d)
    ∧ IsW (φ := .f32) (outsAt0 m c n hn).2.2.2 (fun b => dlV (a0 m c) (a1 m c) (a2 m c) (a3 m c) (n / 10) (ri n * 1024 + b)) := by
  have first : ∀ (n : ℕ) (hn : n < cfg0.N), (n % 10 = 0 ∨ n % 10 = 1 ∨ n % 10 = 3 ∨ n % 10 = 6) → IsT (φ := .f32) (outsAt0 m c n hn).2.2.1 (fun b d => dqP (a0 m c) (a1 m c) (a2 m c) (a3 m c) (n / 10) ((cj n + 1) * 1024) (ri n * 1024 + b) d)
      ∧ IsW (φ := .f32) (outsAt0 m c n hn).2.2.2 (fun b => dlV (a0 m c) (a1 m c) (a2 m c) (a3 m c) (n / 10) (ri n * 1024 + b)) := by
    intro n hn h0
    have h2 : cj n = 0 := by unfold cj; split_ifs <;> omega
    have hd := dl_is m c hX hY hV hC ⟨n, hn⟩
    have ha : IsT (k0_pay2 (F := Ideal)) fun b d => dqP (a0 m c) (a1 m c) (a2 m c) (a3 m c) (n / 10) (cj n * 1024) (ri n * 1024 + b) d := fun d b => by
      refine (pay2_is d b).trans ?_
      dsimp only
      rw [h2]; simp [dqP]
    by_cases hl : n % 10 = 0 ∨ n % 10 = 2 ∨ n % 10 = 5 ∨ n % 10 = 9
    · exact ⟨fun d b => (congrFun (s0_A m c ⟨n, hn⟩ h0 hl) _).trans (diag m c hX hY hV hC ⟨n, hn⟩ hl hd ha d b),
        fun b => (congrFun (s1_A m c ⟨n, hn⟩ h0 hl) _).trans (hd b)⟩
    · exact ⟨fun d b => (congrFun (s0_B m c ⟨n, hn⟩ h0 hl) _).trans (off m c hX hY hV hC ⟨n, hn⟩ hl hd ha d b),
        fun b => (congrFun (s1_B m c ⟨n, hn⟩ h0 hl) _).trans (hd b)⟩
  induction n with
  | zero => exact fun hn => first 0 hn (by omega)
  | succ n ih =>
    intro hn
    by_cases h0 : (n + 1) % 10 = 0 ∨ (n + 1) % 10 = 1 ∨ (n + 1) % 10 = 3 ∨ (n + 1) % 10 = 6
    · exact first (n + 1) hn h0
    have hp := ih (by omega)
    have h3 : ri (n + 1) = ri n := by unfold ri; split_ifs <;> omega
    have h4 : cj (n + 1) = cj n + 1 := by unfold cj; split_ifs <;> omega
    have h5 : (n + 1) / 10 = n / 10 := by omega
    rw [← h4, ← h3, ← h5] at hp
    by_cases hl : (n + 1) % 10 = 0 ∨ (n + 1) % 10 = 2 ∨ (n + 1) % 10 = 5 ∨ (n + 1) % 10 = 9
    · exact ⟨fun d b => (congrFun (s0_C m c ⟨n + 1, hn⟩ h0 hl) _).trans (diag m c hX hY hV hC ⟨n + 1, hn⟩ hl hp.2 hp.1 d b),
        fun b => (congrFun (s1_C m c ⟨n + 1, hn⟩ h0 hl) _).trans (hp.2 b)⟩
    · exact ⟨fun d b => (congrFun (s0_D m c ⟨n + 1, hn⟩ h0 hl) _).trans (off m c hX hY hV hC ⟨n + 1, hn⟩ hl hp.2 hp.1 d b),
        fun b => (congrFun (s1_D m c ⟨n + 1, hn⟩ h0 hl) _).trans (hp.2 b)⟩

end

end Cert.KernelIdeal.Hand

end
-- ==== Proof.Final1.lean ====
/- The gradient of the queries and the row sums after the first kernel's run. -/
module

public import proofs.«01_k».proof.Proof.Acc1

@[expose] public section

set_option maxRecDepth 16384

noncomputable section

open Idealize.ShloMosaic Idealize.ShloMosaic.TcCoe Idealize.SL.Sem

namespace Cert.KernelIdeal.Hand
open Cert.KernelIdeal Cert.KernelIdeal.Gen Cert.Attn Cert.Attn.Dq Finset

variable (m : (ℓ : Loc nD τ sig) → Buf (Elt Ideal) ℓ) (c : Dev nD)
variable (hX : Fin' (a0 m c)) (hY : Fin' (a1 m c)) (hV : Fin' (a2 m c)) (hC : Fin' (a3 m c))
include hX hY hV hC

theorem out6 (t : Fin cfg0.N) (hl : t.val % 10 = 0 ∨ t.val % 10 = 2 ∨ t.val % 10 = 5 ∨ t.val % 10 = 9) :
    Is (φ := .bf16) (outsAt0 m c t.val t.isLt).1 fun b d => dqV (a0 m c) (a1 m c) (a2 m c) (a3 m c) (t.val / 10) (ri t.val * 1024 + b) d := fun b d => by
  have hr : cj t.val = ri t.val := by unfold cj ri; split_ifs <;> omega
  have h1 := ri_lt t
  have e : (outsAt0 m c t.val t.isLt).1 = k0_pay5 (outsAt0 m c t.val t.isLt).2.2.1 := by
    by_cases h0 : t.val % 10 = 0 ∨ t.val % 10 = 1 ∨ t.val % 10 = 3 ∨ t.val % 10 = 6
    · exact o6_A m c t h0 hl
    · exact o6_C m c t h0 hl
  refine (congrFun e _).trans ((pay5_is (inv m c hX hY hV hC t.val t.isLt).1 b d).trans ?_)
  dsimp only
  rw [hr, dqP_all _ _ _ _ _ (by omega) (by omega)]
theorem out7 (t : Fin cfg0.N) (hl : t.val % 10 = 0 ∨ t.val % 10 = 2 ∨ t.val % 10 = 5 ∨ t.val % 10 = 9) :
    IsR (φ := .f32) (outsAt0 m c t.val t.isLt).2.1 fun b => dlV (a0 m c) (a1 m c) (a2 m c) (a3 m c) (t.val / 10) (ri t.val * 1024 + b) := fun b => by
  have e : (outsAt0 m c t.val t.isLt).2.1 = k0_pay6 (outsAt0 m c t.val t.isLt).2.2.2 := by
    by_cases h0 : t.val % 10 = 0 ∨ t.val % 10 = 1 ∨ t.val % 10 = 3 ∨ t.val % 10 = 6
    · exact o7_A m c t h0 hl
    · exact o7_C m c t h0 hl
  exact (congrFun e _).trans (pay6_is (inv m c hX hY hV hC t.val t.isLt).2 b)

omit hX hY hV hC in
theorem last6 : ∀ t : Fin cfg0.N, (cfg0.win 6).flush t = true → t.val % 10 = 0 ∨ t.val % 10 = 2 ∨ t.val % 10 = 5 ∨ t.val % 10 = 9 :=
  (by decide +kernel : ∀ t : Fin grid0.N, (cfg0.win 6).flush t = true → t.val % 10 = 0 ∨ t.val % 10 = 2 ∨ t.val % 10 = 5 ∨ t.val % 10 = 9)
omit hX hY hV hC in
theorem last7 : ∀ t : Fin cfg0.N, (cfg0.win 7).flush t = true → t.val % 10 = 0 ∨ t.val % 10 = 2 ∨ t.val % 10 = 5 ∨ t.val % 10 = 9 :=
  (by decide +kernel : ∀ t : Fin grid0.N, (cfg0.win 7).flush t = true → t.val % 10 = 0 ∨ t.val % 10 = 2 ∨ t.val % 10 = 5 ∨ t.val % 10 = 9)

theorem final6 : (dats m 0 c).arrAt 6 (cfgs 0).N = dqG (a1 m c) (dsG (a2 m c) (a3 m c) (exA (a0 m c) (a1 m c))) := by
  refine (dats m 0 c).arrAt_eq_of_covers 6 _ (by decide +kernel) fun t hf y => ?_
  have hl := last6 t hf
  have ht : t.val < 80 := lt_of_lt_of_eq t.isLt (show cfg0.N = 80 from N_0)
  have hj := ri_lt t.val
  blk_simp
  rw [after0_6]
  idx_vars y
  have e : (((View.whole main_v47_0).slice (win0_6.rect t)).emb (ix2 y0 y1) : S4096x1024.Idx) = ix2 ⟨ri t.val * 1024 + y0.val, by omega⟩ ⟨t.val / 10 * 128 + y1.val, by omega⟩ := by
    blk_ext [idx t]
  have e1 : (t.val / 10 * 128 + y1.val) / 128 = t.val / 10 := by omega
  have e2 : (t.val / 10 * 128 + y1.val) % 128 = y1.val := by omega
  refine (out6 m c hX hY hV hC t hl y0 y1).trans ?_
  refine Eq.trans ?_ (congrArg _ e).symm
  refine Eq.trans ?_ (dqG_at _ _ _ _ hX hY hV hC _ _).symm
  simp only [e1, e2]
theorem final7 : (dats m 0 c).arrAt 7 (cfgs 0).N = dlG (a2 m c) (a3 m c) (exA (a0 m c) (a1 m c)) := by
  refine (dats m 0 c).arrAt_eq_of_covers 7 _ (by decide +kernel) fun t hf y => ?_
  have hl := last7 t hf
  have ht : t.val < 80 := lt_of_lt_of_eq t.isLt (show cfg0.N = 80 from N_0)
  have hj := ri_lt t.val
  blk_simp
  rw [after0_7]
  idx_vars y
  obtain rfl : y0 = 0 := Subsingleton.elim _ _
  obtain rfl : y1 = 0 := Subsingleton.elim _ _
  have e : (((View.whole main_v47_1).slice (win0_7.rect t)).emb (ix3 0 0 y2) : S8x1x4096.Idx) = ix3 ⟨t.val / 10, by omega⟩ 0 ⟨ri t.val * 1024 + y2.val, by omega⟩ := by
    blk_ext [idx t]
  have g := dlG_at (a0 m c) (a1 m c) (a2 m c) (a3 m c) hX hY hV hC ⟨t.val / 10, by omega⟩ 0 ⟨ri t.val * 1024 + y2.val, by omega⟩
  refine (out7 m c hX hY hV hC t hl y2).trans ?_
  refine Eq.trans ?_ (congrArg (dlG (a2 m c) (a3 m c) (exA (a0 m c) (a1 m c))) e).symm
  generalize dlG (a2 m c) (a3 m c) (exA (a0 m c) (a1 m c)) = G at g ⊢
  exact g.symm

end Cert.KernelIdeal.Hand

end
-- ==== Proof.Entry2.lean ====
/- What the second kernel finds in its operands: the prepared arrays of the arguments. -/
module

public import proofs.«01_k».proof.Proof.Prep
public import proofs.«01_k».proof.Proof.Gen.Kernel2Ideal.Value
public import Idealize.ShloMosaic.Lib.Claim

@[expose] public section

set_option maxRecDepth 16384

noncomputable section

open Idealize.ShloMosaic Idealize.ShloMosaic.TcCoe Idealize.SL.Sem

namespace Cert.Kernel2Ideal.Hand
open Cert.Kernel2Ideal Cert.Kernel2Ideal.Gen

variable (m : (ℓ : Loc nD τ sig) → Buf (Elt Ideal) ℓ) (c : Dev nD)

/-- The queries. -/
abbrev a0 : FVec Ideal S1x4096x8x96 .f32 := m ((c.tc : Thread nD τ).loc main_arg0)
/-- The keys. -/
abbrev a1 : FVec Ideal S1x4096x8x96 .f32 := m ((c.tc : Thread nD τ).loc main_arg1)
/-- The values. -/
abbrev a2 : FVec Ideal S1x4096x8x64 .f32 := m ((c.tc : Thread nD τ).loc main_arg2)
/-- The output's cotangent. -/
abbrev a3 : FVec Ideal S1x4096x512 .f32 := m ((c.tc : Thread nD τ).loc main_arg3)

theorem V_v6 : V m c main_v6 = Attn.lay96 (Attn.qsA (a0 m c)) := by
  dsimp only [V]
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil, StableHlo.TRef.binary, StableHlo.TRef.nullary, StableHlo.TRef.ternary, StableHlo.TRef.unary, StableHlo.TRef.toBuf, StableHlo.TRef.ofBuf, cast_eq]
  after_results_simp
  rfl
theorem V_v9 : V m c main_v9 = Attn.lay96 (a1 m c) := by
  dsimp only [V]
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil, StableHlo.TRef.binary, StableHlo.TRef.nullary, StableHlo.TRef.ternary, StableHlo.TRef.unary, StableHlo.TRef.toBuf, StableHlo.TRef.ofBuf, cast_eq]
  after_results_simp
  rfl
theorem V_v12 : V m c main_v12 = Attn.lay64 (a2 m c) := by
  dsimp only [V]
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil, StableHlo.TRef.binary, StableHlo.TRef.nullary, StableHlo.TRef.ternary, StableHlo.TRef.unary, StableHlo.TRef.toBuf, StableHlo.TRef.ofBuf, cast_eq]
  after_results_simp
  rfl
theorem V_v16 : V m c main_v16 = Attn.lay64 (Attn.ctA (a3 m c)) := by
  dsimp only [V]
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil, StableHlo.TRef.binary, StableHlo.TRef.nullary, StableHlo.TRef.ternary, StableHlo.TRef.unary, StableHlo.TRef.toBuf, StableHlo.TRef.ofBuf, cast_eq]
  after_results_simp
  rfl
theorem V_v44 : V m c main_v44 = Attn.lseA (a0 m c) (a1 m c) := by
  dsimp only [V]
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil, StableHlo.TRef.binary, StableHlo.TRef.nullary, StableHlo.TRef.ternary, StableHlo.TRef.unary, StableHlo.TRef.toBuf, StableHlo.TRef.ofBuf, cast_eq]
  after_results_simp
  rfl
theorem V_v52 : V m c main_v52 = Attn.dlA (a0 m c) (a1 m c) (a2 m c) (a3 m c) := by
  dsimp only [V]
  simp only [hostOps0, hostOps0_1, hostOps0_2, hostOps0_3, hostOps0_4, hostOps0_5, hostOps0_6, hostOps0_7, hostOps0_8, hostOps0_9, hostOps0_10, List.flatten_cons, List.flatten_nil, List.cons_append, List.nil_append, List.append_nil, StableHlo.TRef.binary, StableHlo.TRef.nullary, StableHlo.TRef.ternary, StableHlo.TRef.unary, StableHlo.TRef.toBuf, StableHlo.TRef.ofBuf, cast_eq]
  after_results_simp
  rfl

end Cert.Kernel2Ideal.Hand

end
-- ==== Proof.Acc2.lean ====
/- What the kernel of the keys' and values' gradients leaves in its two accumulators after each grid point. -/
module

public import proofs.«01_k».proof.Proof.Step2
public import proofs.«01_k».proof.Proof.Pure
public import proofs.«01_k».proof.Proof.Entry2
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Kernel2Ideal.Hand
open Cert.Kernel2Ideal Cert.Kernel2Ideal.Gen Cert.Attn Finset

variable (m : (ℓ : Loc nD τ sig) → Buf (Elt Ideal) ℓ) (c : Dev nD)

/-- The query block's row of a grid point. -/
def ri (t : ℕ) : ℕ := if t % 10 < 4 then t % 10 else if t % 10 < 7 then t % 10 - 3 else if t % 10 < 9 then t % 10 - 5 else 3
/-- The key block's row of a grid point. -/
def cj (t : ℕ) : ℕ := if t % 10 < 4 then 0 else if t % 10 < 7 then 1 else if t % 10 < 9 then 2 else 3

theorem idx : ∀ t : Fin cfg0.N, win0_0.index t = ![ri t.val, t.val / 10] ∧ win0_1.index t = ![cj t.val, t.val / 10] ∧ win0_2.index t = ![cj t.val, t.val / 10]
    ∧ win0_3.index t = ![t.val / 10, 0, ri t.val] ∧ win0_4.index t = ![t.val / 10, 0, ri t.val] ∧ win0_5.index t = ![ri t.val, t.val / 10]
    ∧ win0_6.index t = ![cj t.val, t.val / 10] ∧ win0_7.index t = ![cj t.val, t.val / 10] :=
  (by decide +kernel : ∀ t : Fin grid0.N, win0_0.index t = ![ri t.val, t.val / 10] ∧ win0_1.index t = ![cj t.val, t.val / 10] ∧ win0_2.index t = ![cj t.val, t.val / 10]
    ∧ win0_3.index t = ![t.val / 10, 0, ri t.val] ∧ win0_4.index t = ![t.val / 10, 0, ri t.val] ∧ win0_5.index t = ![ri t.val, t.val / 10]
    ∧ win0_6.index t = ![cj t.val, t.val / 10] ∧ win0_7.index t = ![cj t.val, t.val / 10])

/-! ## What each kind of grid point leaves -/

theorem s0_A (t : Fin cfg0.N) (h0 : (t.val % 10 = 0 ∨ t.val % 10 = 4 ∨ t.val % 10 = 7 ∨ t.val % 10 = 9)) (h2 : ¬(t.val % 10 = 3 ∨ t.val % 10 = 6 ∨ t.val % 10 = 8 ∨ t.val % 10 = 9)) :
    (outsAt0 m c t.val t.isLt).2.2.1 = k0_pay12 (k0_pay5 (iblk m c 1 t) (iblk m c 0 t) (iblk m c 3 t)) (k0_pay6 (iblk m c 5 t)) (iblk m c 2 t) (iblk m c 4 t) (k0_pay3 (F := Ideal)) (iblk m c 0 t) := by
  rw [outsAt0_A m c t h0 (not_not.2 h0) h2]; frame_out
theorem s1_A (t : Fin cfg0.N) (h0 : (t.val % 10 = 0 ∨ t.val % 10 = 4 ∨ t.val % 10 = 7 ∨ t.val % 10 = 9)) (h2 : ¬(t.val % 10 = 3 ∨ t.val % 10 = 6 ∨ t.val % 10 = 8 ∨ t.val % 10 = 9)) :
    (outsAt0 m c t.val t.isLt).2.2.2 = k0_pay7 (iblk m c 1 t) (iblk m c 0 t) (iblk m c 3 t) (iblk m c 5 t) (k0_pay4 (F := Ideal)) := by
  rw [outsAt0_A m c t h0 (not_not.2 h0) h2]; frame_out
theorem s0_B (t : Fin cfg0.N) (h0 : ¬(t.val % 10 = 0 ∨ t.val % 10 = 4 ∨ t.val % 10 = 7 ∨ t.val % 10 = 9)) (h2 : ¬(t.val % 10 = 3 ∨ t.val % 10 = 6 ∨ t.val % 10 = 8 ∨ t.val % 10 = 9)) :
    (outsAt0 m c t.val t.isLt).2.2.1 = k0_pay13 (k0_pay11 (iblk m c 1 t) (iblk m c 0 t) (iblk m c 3 t) (iblk m c 5 t) (iblk m c 2 t) (iblk m c 4 t) (outsAt0 m c (t.val - 1) (lt_of_le_of_lt (Nat.sub_le _ _) t.isLt)).2.2.1 (iblk m c 0 t)) := by
  rw [outsAt0_B m c t h0 h0 h2]; frame_out <;> (rw [read_unread_whole]; rfl)
theorem s1_B (t : Fin cfg0.N) (h0 : ¬(t.val % 10 = 0 ∨ t.val % 10 = 4 ∨ t.val % 10 = 7 ∨ t.val % 10 = 9)) (h2 : ¬(t.val % 10 = 3 ∨ t.val % 10 = 6 ∨ t.val % 10 = 8 ∨ t.val % 10 = 9)) :
    (outsAt0 m c t.val t.isLt).2.2.2 = k0_pay10 (iblk m c 1 t) (iblk m c 0 t) (iblk m c 3 t) (iblk m c 5 t) (outsAt0 m c (t.val - 1) (lt_of_le_of_lt (Nat.sub_le _ _) t.isLt)).2.2.2 := by
  rw [outsAt0_B m c t h0 h0 h2]; frame_out <;> (rw [read_unread_whole]; rfl)
theorem s0_C (t : Fin cfg0.N) (h0 : ¬(t.val % 10 = 0 ∨ t.val % 10 = 4 ∨ t.val % 10 = 7 ∨ t.val % 10 = 9)) (h2 : (t.val % 10 = 3 ∨ t.val % 10 = 6 ∨ t.val % 10 = 8 ∨ t.val % 10 = 9)) :
    (outsAt0 m c t.val t.isLt).2.2.1 = k0_pay13 (k0_pay11 (iblk m c 1 t) (iblk m c 0 t) (iblk m c 3 t) (iblk m c 5 t) (iblk m c 2 t) (iblk m c 4 t) (outsAt0 m c (t.val - 1) (lt_of_le_of_lt (Nat.sub_le _ _) t.isLt)).2.2.1 (iblk m c 0 t)) := by
  rw [outsAt0_C m c t h0 h0 h2]; frame_out <;> (rw [read_unread_whole]; rfl)
theorem s1_C (t : Fin cfg0.N) (h0 : ¬(t.val % 10 = 0 ∨ t.val % 10 = 4 ∨ t.val % 10 = 7 ∨ t.val % 10 = 9)) (h2 : (t.val % 10 = 3 ∨ t.val % 10 = 6 ∨ t.val % 10 = 8 ∨ t.val % 10 = 9)) :
    (outsAt0 m c t.val t.isLt).2.2.2 = k0_pay10 (iblk m c 1 t) (iblk m c 0 t) (iblk m c 3 t) (iblk m c 5 t) (outsAt0 m c (t.val - 1) (lt_of_le_of_lt (Nat.sub_le _ _) t.isLt)).2.2.2 := by
  rw [outsAt0_C m c t h0 h0 h2]; frame_out <;> (rw [read_unread_whole]; rfl)
theorem o6_C (t : Fin cfg0.N) (h0 : ¬(t.val % 10 = 0 ∨ t.val % 10 = 4 ∨ t.val % 10 = 7 ∨ t.val % 10 = 9)) (h2 : (t.val % 10 = 3 ∨ t.val % 10 = 6 ∨ t.val % 10 = 8 ∨ t.val % 10 = 9)) :
    (outsAt0 m c t.val t.isLt).1 = k0_pay1 (outsAt0 m c t.val t.isLt).2.2.1 := by
  rw [s0_C m c t h0 h2]
  have e : (outsAt0 m c t.val t.isLt).1 = k0_pay1 (k0_pay13 (k0_pay11 (iblk m c 1 t) (iblk m c 0 t) (iblk m c 3 t) (iblk m c 5 t) (iblk m c 2 t) (iblk m c 4 t) (outsAt0 m c (t.val - 1) (lt_of_le_of_lt (Nat.sub_le _ _) t.isLt)).2.2.1 (iblk m c 0 t))) := by
    rw [outsAt0_C m c t h0 h0 h2]; frame_out <;> (rw [read_unread_whole]; rfl)
  exact e
theorem o7_C (t : Fin cfg0.N) (h0 : ¬(t.val % 10 = 0 ∨ t.val % 10 = 4 ∨ t.val % 10 = 7 ∨ t.val % 10 = 9)) (h2 : (t.val % 10 = 3 ∨ t.val % 10 = 6 ∨ t.val % 10 = 8 ∨ t.val % 10 = 9)) :
    (outsAt0 m c t.val t.isLt).2.1 = k0_pay2 (outsAt0 m c t.val t.isLt).2.2.2 := by
  rw [s1_C m c t h0 h2]
  have e : (outsAt0 m c t.val t.isLt).2.1 = k0_pay2 (k0_pay10 (iblk m c 1 t) (iblk m c 0 t) (iblk m c 3 t) (iblk m c 5 t) (outsAt0 m c (t.val - 1) (lt_of_le_of_lt (Nat.sub_le _ _) t.isLt)).2.2.2) := by
    rw [outsAt0_C m c t h0 h0 h2]; frame_out <;> (rw [read_unread_whole]; rfl)
  exact e
theorem s0_D (t : Fin cfg0.N) (h0 : (t.val % 10 = 0 ∨ t.val % 10 = 4 ∨ t.val % 10 = 7 ∨ t.val % 10 = 9)) (h2 : (t.val % 10 = 3 ∨ t.val % 10 = 6 ∨ t.val % 10 = 8 ∨ t.val % 10 = 9)) :
    (outsAt0 m c t.val t.isLt).2.2.1 = k0_pay12 (k0_pay5 (iblk m c 1 t) (iblk m c 0 t) (iblk m c 3 t)) (k0_pay6 (iblk m c 5 t)) (iblk m c 2 t) (iblk m c 4 t) (k0_pay3 (F := Ideal)) (iblk m c 0 t) := by
  rw [outsAt0_D m c t h0 (not_not.2 h0) h2]; frame_out
theorem s1_D (t : Fin cfg0.N) (h0 : (t.val % 10 = 0 ∨ t.val % 10 = 4 ∨ t.val % 10 = 7 ∨ t.val % 10 = 9)) (h2 : (t.val % 10 = 3 ∨ t.val % 10 = 6 ∨ t.val % 10 = 8 ∨ t.val % 10 = 9)) :
    (outsAt0 m c t.val t.isLt).2.2.2 = k0_pay7 (iblk m c 1 t) (iblk m c 0 t) (iblk m c 3 t) (iblk m c 5 t) (k0_pay4 (F := Ideal)) := by
  rw [outsAt0_D m c t h0 (not_not.2 h0) h2]; frame_out
theorem o6_D (t : Fin cfg0.N) (h0 : (t.val % 10 = 0 ∨ t.val % 10 = 4 ∨ t.val % 10 = 7 ∨ t.val % 10 = 9)) (h2 : (t.val % 10 = 3 ∨ t.val % 10 = 6 ∨ t.val % 10 = 8 ∨ t.val % 10 = 9)) :
    (outsAt0 m c t.val t.isLt).1 = k0_pay1 (outsAt0 m c t.val t.isLt).2.2.1 := by
  rw [s0_D m c t h0 h2]
  have e : (outsAt0 m c t.val t.isLt).1 = k0_pay1 (k0_pay12 (k0_pay5 (iblk m c 1 t) (iblk m c 0 t) (iblk m c 3 t)) (k0_pay6 (iblk m c 5 t)) (iblk m c 2 t) (iblk m c 4 t) (k0_pay3 (F := Ideal)) (iblk m c 0 t)) := by
    rw [outsAt0_D m c t h0 (not_not.2 h0) h2]; frame_out
  exact e
theorem o7_D (t : Fin cfg0.N) (h0 : (t.val % 10 = 0 ∨ t.val % 10 = 4 ∨ t.val % 10 = 7 ∨ t.val % 10 = 9)) (h2 : (t.val % 10 = 3 ∨ t.val % 10 = 6 ∨ t.val % 10 = 8 ∨ t.val % 10 = 9)) :
    (outsAt0 m c t.val t.isLt).2.1 = k0_pay2 (outsAt0 m c t.val t.isLt).2.2.2 := by
  rw [s1_D m c t h0 h2]
  have e : (outsAt0 m c t.val t.isLt).2.1 = k0_pay2 (k0_pay7 (iblk m c 1 t) (iblk m c 0 t) (iblk m c 3 t) (iblk m c 5 t) (k0_pay4 (F := Ideal))) := by
    rw [outsAt0_D m c t h0 (not_not.2 h0) h2]; frame_out
  exact e

/-! ## The input blocks -/

theorem ri_lt (t : ℕ) : ri t < 4 := by unfold ri; split_ifs <;> omega
theorem cj_lt (t : ℕ) : cj t < 4 := by unfold cj; split_ifs <;> omega
theorem blk0 (t : Fin cfg0.N) (a : Fin 1024) (d : Fin 128) (H1 : ri t * 1024 + a < 4096) (H2 : t.val / 10 * 128 + d < 1024) :
    iblk m c 0 t (ix2 a d) = V m c main_v6 (ix2 ⟨ri t * 1024 + a, H1⟩ ⟨t.val / 10 * 128 + d, H2⟩) := by
  blk_point [iblk, V, idx t]
theorem blk1 (t : Fin cfg0.N) (a : Fin 1024) (d : Fin 128) (H1 : cj t * 1024 + a < 4096) (H2 : t.val / 10 * 128 + d < 1024) :
    iblk m c 1 t (ix2 a d) = V m c main_v9 (ix2 ⟨cj t * 1024 + a, H1⟩ ⟨t.val / 10 * 128 + d, H2⟩) := by
  blk_point [iblk, V, idx t]
theorem blk2 (t : Fin cfg0.N) (a : Fin 1024) (d : Fin 128) (H1 : cj t * 1024 + a < 4096) (H2 : t.val / 10 * 128 + d < 1024) :
    iblk m c 2 t (ix2 a d) = V m c main_v12 (ix2 ⟨cj t * 1024 + a, H1⟩ ⟨t.val / 10 * 128 + d, H2⟩) := by
  blk_point [iblk, V, idx t]
theorem blk5 (t : Fin cfg0.N) (a : Fin 1024) (d : Fin 128) (H1 : ri t * 1024 + a < 4096) (H2 : t.val / 10 * 128 + d < 1024) :
    iblk m c 5 t (ix2 a d) = V m c main_v16 (ix2 ⟨ri t * 1024 + a, H1⟩ ⟨t.val / 10 * 128 + d, H2⟩) := by
  blk_point [iblk, V, idx t]
theorem blk3 (t : Fin cfg0.N) (b : Fin 1024) (H1 : ri t * 1024 + b < 4096) (H2 : t.val / 10 < 8) :
    iblk m c 3 t (ix3 0 0 b) = V m c main_v44 (ix3 ⟨t.val / 10, H2⟩ 0 ⟨ri t * 1024 + b, H1⟩) := by
  blk_point [iblk, V, idx t]
theorem blk4 (t : Fin cfg0.N) (b : Fin 1024) (H1 : ri t * 1024 + b < 4096) (H2 : t.val / 10 < 8) :
    iblk m c 4 t (ix3 0 0 b) = V m c main_v52 (ix3 ⟨t.val / 10, H2⟩ 0 ⟨ri t * 1024 + b, H1⟩) := by
  blk_point [iblk, V, idx t]

section
variable (hX : Fin' (a0 m c)) (hY : Fin' (a1 m c)) (hV : Fin' (a2 m c)) (hC : Fin' (a3 m c))
include hX hY hV hC

theorem is0 (t : Fin cfg0.N) : Is (φ := .bf16) (iblk m c 0 t) fun a d => rd (a0 m c) (t.val / 10) (ri t * 1024 + a) d * (cs / Real.log 2) := fun a d => by
  have ht : t.val < 80 := lt_of_lt_of_eq t.isLt (show cfg0.N = 80 from N_0)
  have h1 := ri_lt t
  have e1 : (t.val / 10 * 128 + d.val) / 128 = t.val / 10 := by omega
  have e2 : (t.val / 10 * 128 + d.val) % 128 = d.val := by omega
  rw [blk0 m c t a d (by omega) (by omega), V_v6, q_at _ hX]
  simp only [e1, e2]
theorem is1 (t : Fin cfg0.N) : Is (φ := .bf16) (iblk m c 1 t) fun a d => rd (a1 m c) (t.val / 10) (cj t * 1024 + a) d := fun a d => by
  have ht : t.val < 80 := lt_of_lt_of_eq t.isLt (show cfg0.N = 80 from N_0)
  have h1 := cj_lt t
  have e1 : (t.val / 10 * 128 + d.val) / 128 = t.val / 10 := by omega
  have e2 : (t.val / 10 * 128 + d.val) % 128 = d.val := by omega
  rw [blk1 m c t a d (by omega) (by omega), V_v9, k_at _ hY]
  simp only [e1, e2]
theorem is2 (t : Fin cfg0.N) : Is (φ := .bf16) (iblk m c 2 t) fun a d => rdV (a2 m c) (t.val / 10) (cj t * 1024 + a) d := fun a d => by
  have ht : t.val < 80 := lt_of_lt_of_eq t.isLt (show cfg0.N = 80 from N_0)
  have h1 := cj_lt t
  have e1 : (t.val / 10 * 128 + d.val) / 128 = t.val / 10 := by omega
  have e2 : (t.val / 10 * 128 + d.val) % 128 = d.val := by omega
  rw [blk2 m c t a d (by omega) (by omega), V_v12, v_at _ hV]
  simp only [e1, e2]
theorem is5 (t : Fin cfg0.N) : Is (φ := .bf16) (iblk m c 5 t) fun a d => rdC (a3 m c) (t.val / 10) (ri t * 1024 + a) d := fun a d => by
  have ht : t.val < 80 := lt_of_lt_of_eq t.isLt (show cfg0.N = 80 from N_0)
  have h1 := ri_lt t
  have e1 : (t.val / 10 * 128 + d.val) / 128 = t.val / 10 := by omega
  have e2 : (t.val / 10 * 128 + d.val) % 128 = d.val := by omega
  rw [blk5 m c t a d (by omega) (by omega), V_v16, do_at _ hC]
  simp only [e1, e2]
theorem is3 (t : Fin cfg0.N) : IsR (φ := .f32) (iblk m c 3 t) fun b => lseV (a0 m c) (a1 m c) (t.val / 10) (ri t * 1024 + b) := fun b => by
  have ht : t.val < 80 := lt_of_lt_of_eq t.isLt (show cfg0.N = 80 from N_0)
  have h1 := ri_lt t
  rw [blk3 m c t b (by omega) (by omega), V_v44, lseA_at _ _ hX hY]
theorem is4 (t : Fin cfg0.N) : IsR (φ := .f32) (iblk m c 4 t) fun b => dlV (a0 m c) (a1 m c) (a2 m c) (a3 m c) (t.val / 10) (ri t * 1024 + b) := fun b => by
  have ht : t.val < 80 := lt_of_lt_of_eq t.isLt (show cfg0.N = 80 from N_0)
  have h1 := ri_lt t
  rw [blk4 m c t b (by omega) (by omega), V_v52, dlA_at _ _ _ _ hX hY hV hC]

/-! ## The probabilities of a block -/

theorem pr_off (t : Fin cfg0.N) (h0 : ¬(t.val % 10 = 0 ∨ t.val % 10 = 4 ∨ t.val % 10 = 7 ∨ t.val % 10 = 9)) :
    IsS (k0_pay8 (iblk m c 1 t) (iblk m c 0 t) (iblk m c 3 t)) fun a b => pP (a0 m c) (a1 m c) (t.val / 10) (ri t * 1024 + b) (cj t * 1024 + a) := fun a b => by
  rw [pay8_is (is1 m c hX hY hV hC t) (is0 m c hX hY hV hC t) (is3 m c hX hY hV hC t) a b]
  have h1 := ri_lt t
  have h2 : cj t + 1 ≤ ri t := by unfold cj ri; split_ifs <;> omega
  dsimp only
  rw [prob_blk _ _ (by omega) (by omega)]
theorem pr_diag (t : Fin cfg0.N) (h0 : (t.val % 10 = 0 ∨ t.val % 10 = 4 ∨ t.val % 10 = 7 ∨ t.val % 10 = 9)) :
    IsS (k0_pay5 (iblk m c 1 t) (iblk m c 0 t) (iblk m c 3 t)) fun a b => pP (a0 m c) (a1 m c) (t.val / 10) (ri t * 1024 + b) (cj t * 1024 + a) := fun a b => by
  rw [pay5_is (is1 m c hX hY hV hC t) (is0 m c hX hY hV hC t) (is3 m c hX hY hV hC t) a b]
  have h1 := ri_lt t
  have h2 : cj t = ri t := by unfold cj ri; split_ifs <;> omega
  dsimp only
  by_cases H : (a : ℕ) ≤ b
  · rw [if_pos H, prob_blk _ _ (by omega) (by omega)]
  · rw [if_neg H, pP, P_zero _ _ _ (by omega)]

/-! ## The accumulators -/

theorem inv (n : ℕ) : ∀ hn : n < cfg0.N, Is (φ := .f32) (outsAt0 m c n hn).2.2.1 (fun a d => dkP (a0 m c) (a1 m c) (a2 m c) (a3 m c) (n / 10) ((ri n + 1) * 1024) (cj n * 1024 + a) d)
    ∧ Is (φ := .f32) (outsAt0 m c n hn).2.2.2 (fun a d => dvP (a0 m c) (a1 m c) (a3 m c) (n / 10) ((ri n + 1) * 1024) (cj n * 1024 + a) d) := by
  have first : ∀ (n : ℕ) (hn : n < cfg0.N), (n % 10 = 0 ∨ n % 10 = 4 ∨ n % 10 = 7 ∨ n % 10 = 9) → Is (φ := .f32) (outsAt0 m c n hn).2.2.1 (fun a d => dkP (a0 m c) (a1 m c) (a2 m c) (a3 m c) (n / 10) ((ri n + 1) * 1024) (cj n * 1024 + a) d)
      ∧ Is (φ := .f32) (outsAt0 m c n hn).2.2.2 (fun a d => dvP (a0 m c) (a1 m c) (a3 m c) (n / 10) ((ri n + 1) * 1024) (cj n * 1024 + a) d) := by
    intro n hn h0
    have hd := pr_diag m c hX hY hV hC ⟨n, hn⟩ h0
    have h2 : cj n = ri n := by unfold cj ri; split_ifs <;> omega
    have e0 := pay12_is hd (pay6_is (is5 m c hX hY hV hC ⟨n, hn⟩)) (is2 m c hX hY hV hC ⟨n, hn⟩) (is4 m c hX hY hV hC ⟨n, hn⟩) pay3_is (is0 m c hX hY hV hC ⟨n, hn⟩)
    have e1 := pay7_is hd (is5 m c hX hY hV hC ⟨n, hn⟩) pay4_is
    refine ⟨fun a d => ?_, fun a d => ?_⟩
    · refine Eq.trans ?_ ((e0 a d).trans ?_)
      · by_cases hl : n % 10 = 3 ∨ n % 10 = 6 ∨ n % 10 = 8 ∨ n % 10 = 9
        · exact congrFun (s0_D m c ⟨n, hn⟩ h0 hl) _
        · exact congrFun (s0_A m c ⟨n, hn⟩ h0 hl) _
      · simp only [ds_blk]
        rw [dkP_step, dkP_zero _ _ _ _ _ (by omega)]
    · refine Eq.trans ?_ ((e1 a d).trans ?_)
      · by_cases hl : n % 10 = 3 ∨ n % 10 = 6 ∨ n % 10 = 8 ∨ n % 10 = 9
        · exact congrFun (s1_D m c ⟨n, hn⟩ h0 hl) _
        · exact congrFun (s1_A m c ⟨n, hn⟩ h0 hl) _
      · dsimp only; rw [dvP_step, dvP_zero _ _ _ _ (by omega)]
  induction n with
  | zero => exact fun hn => first 0 hn (by omega)
  | succ n ih =>
    intro hn
    by_cases h0 : (n + 1) % 10 = 0 ∨ (n + 1) % 10 = 4 ∨ (n + 1) % 10 = 7 ∨ (n + 1) % 10 = 9
    · exact first (n + 1) hn h0
    have hp := ih (by omega)
    have h3 : cj (n + 1) = cj n := by unfold cj; split_ifs <;> omega
    have h4 : ri (n + 1) = ri n + 1 := by unfold ri; split_ifs <;> omega
    have h5 : (n + 1) / 10 = n / 10 := by omega
    have hd := pr_off m c hX hY hV hC ⟨n + 1, hn⟩ h0
    have e0 := pay13_is (pay11_is hd (is5 m c hX hY hV hC ⟨n + 1, hn⟩) (is2 m c hX hY hV hC ⟨n + 1, hn⟩) (is4 m c hX hY hV hC ⟨n + 1, hn⟩) hp.1 (is0 m c hX hY hV hC ⟨n + 1, hn⟩))
    have e1 := pay10_is hd (is5 m c hX hY hV hC ⟨n + 1, hn⟩) hp.2
    refine ⟨fun a d => ?_, fun a d => ?_⟩
    · refine Eq.trans ?_ ((e0 a d).trans ?_)
      · by_cases hl : (n + 1) % 10 = 3 ∨ (n + 1) % 10 = 6 ∨ (n + 1) % 10 = 8 ∨ (n + 1) % 10 = 9
        · exact congrFun (s0_C m c ⟨n + 1, hn⟩ h0 hl) _
        · exact congrFun (s0_B m c ⟨n + 1, hn⟩ h0 hl) _
      · simp only [ds_blk]
        rw [h3, h4, h5, dkP_step _ _ _ _ _ (ri n + 1)]
    · refine Eq.trans ?_ ((e1 a d).trans ?_)
      · by_cases hl : (n + 1) % 10 = 3 ∨ (n + 1) % 10 = 6 ∨ (n + 1) % 10 = 8 ∨ (n + 1) % 10 = 9
        · exact congrFun (s1_C m c ⟨n + 1, hn⟩ h0 hl) _
        · exact congrFun (s1_B m c ⟨n + 1, hn⟩ h0 hl) _
      · dsimp only; rw [h3, h4, h5, dvP_step _ _ _ _ (ri n + 1)]

end

end Cert.Kernel2Ideal.Hand

end
-- ==== Proof.Final2.lean ====
/- The gradients of the keys and of the values after the second kernel's run. -/
module

public import proofs.«01_k».proof.Proof.Acc2

@[expose] public section

set_option maxRecDepth 16384

noncomputable section

open Idealize.ShloMosaic Idealize.ShloMosaic.TcCoe Idealize.SL.Sem

namespace Cert.Kernel2Ideal.Hand
open Cert.Kernel2Ideal Cert.Kernel2Ideal.Gen Cert.Attn Finset

variable (m : (ℓ : Loc nD τ sig) → Buf (Elt Ideal) ℓ) (c : Dev nD)
variable (hX : Fin' (a0 m c)) (hY : Fin' (a1 m c)) (hV : Fin' (a2 m c)) (hC : Fin' (a3 m c))
include hX hY hV hC

theorem out6 (t : Fin cfg0.N) (hl : t.val % 10 = 3 ∨ t.val % 10 = 6 ∨ t.val % 10 = 8 ∨ t.val % 10 = 9) :
    Is (φ := .bf16) (outsAt0 m c t.val t.isLt).1 fun a d => dkV (a0 m c) (a1 m c) (a2 m c) (a3 m c) (t.val / 10) (cj t.val * 1024 + a) d := fun a d => by
  have hr : ri t.val = 3 := by unfold ri; split_ifs <;> omega
  have e : (outsAt0 m c t.val t.isLt).1 = k0_pay1 (outsAt0 m c t.val t.isLt).2.2.1 := by
    by_cases h0 : t.val % 10 = 0 ∨ t.val % 10 = 4 ∨ t.val % 10 = 7 ∨ t.val % 10 = 9
    · exact o6_D m c t h0 hl
    · exact o6_C m c t h0 hl
  refine (congrFun e _).trans ((pay1_is (inv m c hX hY hV hC t.val t.isLt).1 a d).trans ?_)
  dsimp only
  rw [hr, ← dkP_all]
theorem out7 (t : Fin cfg0.N) (hl : t.val % 10 = 3 ∨ t.val % 10 = 6 ∨ t.val % 10 = 8 ∨ t.val % 10 = 9) :
    Is (φ := .bf16) (outsAt0 m c t.val t.isLt).2.1 fun a d => dvV (a0 m c) (a1 m c) (a3 m c) (t.val / 10) (cj t.val * 1024 + a) d := fun a d => by
  have hr : ri t.val = 3 := by unfold ri; split_ifs <;> omega
  have e : (outsAt0 m c t.val t.isLt).2.1 = k0_pay2 (outsAt0 m c t.val t.isLt).2.2.2 := by
    by_cases h0 : t.val % 10 = 0 ∨ t.val % 10 = 4 ∨ t.val % 10 = 7 ∨ t.val % 10 = 9
    · exact o7_D m c t h0 hl
    · exact o7_C m c t h0 hl
  refine (congrFun e _).trans ((pay2_is (inv m c hX hY hV hC t.val t.isLt).2 a d).trans ?_)
  dsimp only
  rw [hr, ← dvP_all]

omit hX hY hV hC in
theorem last6 : ∀ t : Fin cfg0.N, (cfg0.win 6).flush t = true → t.val % 10 = 3 ∨ t.val % 10 = 6 ∨ t.val % 10 = 8 ∨ t.val % 10 = 9 :=
  (by decide +kernel : ∀ t : Fin grid0.N, (cfg0.win 6).flush t = true → t.val % 10 = 3 ∨ t.val % 10 = 6 ∨ t.val % 10 = 8 ∨ t.val % 10 = 9)
omit hX hY hV hC in
theorem last7 : ∀ t : Fin cfg0.N, (cfg0.win 7).flush t = true → t.val % 10 = 3 ∨ t.val % 10 = 6 ∨ t.val % 10 = 8 ∨ t.val % 10 = 9 :=
  (by decide +kernel : ∀ t : Fin grid0.N, (cfg0.win 7).flush t = true → t.val % 10 = 3 ∨ t.val % 10 = 6 ∨ t.val % 10 = 8 ∨ t.val % 10 = 9)

theorem final6 : (dats m 0 c).arrAt 6 (cfgs 0).N = dkG (a0 m c) (dsG (a2 m c) (a3 m c) (exA (a0 m c) (a1 m c))) := by
  refine (dats m 0 c).arrAt_eq_of_covers 6 _ (by decide +kernel) fun t hf y => ?_
  have hl := last6 t hf
  have ht : t.val < 80 := lt_of_lt_of_eq t.isLt (show cfg0.N = 80 from N_0)
  have hj := cj_lt t.val
  blk_simp
  rw [after0_6]
  idx_vars y
  have e : (((View.whole main_v53_0).slice (win0_6.rect t)).emb (ix2 y0 y1) : S4096x1024.Idx) = ix2 ⟨cj t.val * 1024 + y0.val, by omega⟩ ⟨t.val / 10 * 128 + y1.val, by omega⟩ := by
    blk_ext [idx t]
  have e1 : (t.val / 10 * 128 + y1.val) / 128 = t.val / 10 := by omega
  have e2 : (t.val / 10 * 128 + y1.val) % 128 = y1.val := by omega
  refine (out6 m c hX hY hV hC t hl y0 y1).trans ?_
  refine Eq.trans ?_ (congrArg _ e).symm
  refine Eq.trans ?_ (dkG_at _ _ _ _ hX hY hV hC _ _).symm
  simp only [e1, e2]
theorem final7 : (dats m 0 c).arrAt 7 (cfgs 0).N = dvG (a3 m c) (prA (a0 m c) (a1 m c)) := by
  refine (dats m 0 c).arrAt_eq_of_covers 7 _ (by decide +kernel) fun t hf y => ?_
  have hl := last7 t hf
  have ht : t.val < 80 := lt_of_lt_of_eq t.isLt (show cfg0.N = 80 from N_0)
  have hj := cj_lt t.val
  blk_simp
  rw [after0_7]
  idx_vars y
  have e : (((View.whole main_v53_1).slice (win0_7.rect t)).emb (ix2 y0 y1) : S4096x1024.Idx) = ix2 ⟨cj t.val * 1024 + y0.val, by omega⟩ ⟨t.val / 10 * 128 + y1.val, by omega⟩ := by
    blk_ext [idx t]
  have e1 : (t.val / 10 * 128 + y1.val) / 128 = t.val / 10 := by omega
  have e2 : (t.val / 10 * 128 + y1.val) % 128 = y1.val := by omega
  refine (out7 m c hX hY hV hC t hl y0 y1).trans ?_
  refine Eq.trans ?_ (congrArg _ e).symm
  refine Eq.trans ?_ (dvG_at _ _ _ hX hY hC _ _).symm
  simp only [e1, e2]

end Cert.Kernel2Ideal.Hand

end
-- ==== Proof.Finite.lean ====
/- What the precondition says: every element of the four arguments is a real number. -/
module

public import proofs.«01_k».proof.Defs
public import proofs.«01_k».proof.Proof.Gen.Pre_finite
public import proofs.«01_k».proof.Proof.Entry1
public import proofs.«01_k».proof.Proof.Entry2
public import Idealize.ShloMosaic.Lib.ReduceAll

@[expose] public section

set_option maxRecDepth 16384

noncomputable section

open Idealize.ShloMosaic Idealize.ShloMosaic.TcCoe Idealize.SL.Sem

namespace Cert.Attn
open Cert.Pre_finite

theorem one_of_and {x y : BitVec 1} (h : IntOp.andi x y = 1#1) : x = 1#1 ∧ y = 1#1 := by
  revert h; revert x y; decide

theorem fin_of_lt {x : EReal} (h : FloatOps.cmpf (F := Ideal) (φ := .f32) .olt (FloatOps.absf x) (FloatOps.ofBits (F := Ideal) .f32 0x7F800000#32) = 1#1) :
    x ≠ ⊤ ∧ x ≠ ⊥ := by
  have e : FloatOps.ofBits (F := Ideal) .f32 0x7F800000#32 = (⊤ : EReal) := by
    show Ideal.ofBits .f32 0x7F800000#32 = ⊤
    simp [Ideal.ofBits, Ideal.ieee]
  rw [e] at h
  have h : max x (-x) < ⊤ := by
    by_contra hc
    have : Ideal.cmp .olt (max x (-x)) ⊤ = 1#1 := h
    simp [Ideal.cmp, hc] at this
  constructor
  · rintro rfl; simp at h
  · rintro rfl; simp at h

theorem fin_args [hf : Cert.Pre_finite.Facts] (A0 : FVec Ideal S1x4096x8x96 .f32) (A1 : FVec Ideal S1x4096x8x96 .f32)
    (A2 : FVec Ideal S1x4096x8x64 .f32) (A3 : FVec Ideal S1x4096x512 .f32)
    (h : Cert.Pre_finite.fn (F := Ideal) A0 A1 A2 A3 = fun _ => 1#1) : Fin' A0 ∧ Fin' A1 ∧ Fin' A2 ∧ Fin' A3 := by
  have h := congrFun h default
  dsimp only [fn, fn_part1] at h
  obtain ⟨h, h3⟩ := one_of_and h
  obtain ⟨h, h2⟩ := one_of_and h
  obtain ⟨h0, h1⟩ := one_of_and h
  exact ⟨fun i => fin_of_lt (Host.reduce_andi_all _ _ _ _ _ h0 i), fun i => fin_of_lt (Host.reduce_andi_all _ _ _ _ _ h1 i),
    fun i => fin_of_lt (Host.reduce_andi_all _ _ _ _ _ h2 i), fun i => fin_of_lt (Host.reduce_andi_all _ _ _ _ _ h3 i)⟩

theorem fin1 (m : (ℓ : Loc Cert.KernelIdeal.nD Cert.KernelIdeal.τ Cert.KernelIdeal.sig) → Buf (Elt Ideal) ℓ) (h : Cert.Pre_KernelIdeal_finite m)
    (c : Dev Cert.KernelIdeal.nD) : Fin' (Cert.KernelIdeal.Hand.a0 m c) ∧ Fin' (Cert.KernelIdeal.Hand.a1 m c) ∧ Fin' (Cert.KernelIdeal.Hand.a2 m c) ∧ Fin' (Cert.KernelIdeal.Hand.a3 m c) := by
  exact fin_args (Cert.KernelIdeal.Hand.a0 m c) (Cert.KernelIdeal.Hand.a1 m c) (Cert.KernelIdeal.Hand.a2 m c) (Cert.KernelIdeal.Hand.a3 m c) (h c)

theorem fin2 (m : (ℓ : Loc Cert.Kernel2Ideal.nD Cert.Kernel2Ideal.τ Cert.Kernel2Ideal.sig) → Buf (Elt Ideal) ℓ) (h : Cert.Pre_Kernel2Ideal_finite m)
    (c : Dev Cert.Kernel2Ideal.nD) : Fin' (Cert.Kernel2Ideal.Hand.a0 m c) ∧ Fin' (Cert.Kernel2Ideal.Hand.a1 m c) ∧ Fin' (Cert.Kernel2Ideal.Hand.a2 m c) ∧ Fin' (Cert.Kernel2Ideal.Hand.a3 m c) := by
  exact fin_args (Cert.Kernel2Ideal.Hand.a0 m c) (Cert.Kernel2Ideal.Hand.a1 m c) (Cert.Kernel2Ideal.Hand.a2 m c) (Cert.Kernel2Ideal.Hand.a3 m c) (h c)

end Cert.Attn

end
-- ==== Proof.Ffn.lean ====
/- What the modules on the feed-forward calls share: the half, and sums cut into equal blocks. -/
module

public import proofs.«01_k».proof.Proof.Model
public import Idealize.ShloMosaic.Lib.Pipeline.ValueKit
public import Idealize.ShloMosaic.Lib.Pointwise
public import Idealize.ShloMosaic.Lib.Claim

@[expose] public section

set_option maxRecDepth 16384

noncomputable section

open Idealize.ShloMosaic

namespace Cert.Ffn

/-- The half. -/
abbrev half : EReal := Ideal.ofBits .f32 0x3F000000#32

theorem half_eq : half = ((1 / 2 : ℝ) : EReal) := by
  simp [half, Ideal.ofBits, Ideal.ieee]
  rw [← EReal.coe_mul]
  norm_num

theorem half_nonneg : 0 ≤ half := by
  rw [half_eq]; exact EReal.coe_nonneg.2 (by norm_num)
theorem half_ne_top : half ≠ ⊤ := by
  rw [half_eq]; exact EReal.coe_ne_top _

theorem half_mul_add (x y : EReal) : half * (x + y) = half * x + half * y :=
  EReal.left_distrib_of_nonneg_of_ne_top half_nonneg half_ne_top x y

theorem half_mul_sum {ι : Type} (s : Finset ι) (f : ι → EReal) : half * ∑ i ∈ s, f i = ∑ i ∈ s, half * f i := by
  classical
  induction s using Finset.induction_on with
  | empty => simp
  | insert a s ha ih => rw [Finset.sum_insert ha, Finset.sum_insert ha, half_mul_add, ih]

/-- A sum over 4096 in four blocks of 1024, added up from the left. -/
theorem sum_four (f : Fin 4096 → EReal) :
    ∑ s : Fin 4096, f s = (((0 + ∑ k : Fin 1024, f ⟨0 * 1024 + k.val, by omega⟩) + ∑ k : Fin 1024, f ⟨1 * 1024 + k.val, by omega⟩)
      + ∑ k : Fin 1024, f ⟨2 * 1024 + k.val, by omega⟩) + ∑ k : Fin 1024, f ⟨3 * 1024 + k.val, by omega⟩ := by
  rw [Fin.sum_univ_tiles 4 1024 rfl f, Fin.sum_univ_four, zero_add]
  rfl

end Cert.Ffn

end
-- ==== Proof.Dw3.lean ====
/- The gradient of the second weight of the feed-forward lines after the call that computes it. -/
module

public import proofs.«01_k».proof.Proof.Gen.Kernel3Ideal.Value
public import proofs.«01_k».proof.Proof.Gen.Reference3Ideal.Run
public import proofs.«01_k».proof.Proof.Ffn

@[expose] public section

set_option maxRecDepth 16384

noncomputable section

open Idealize.ShloMosaic Idealize.ShloMosaic.TcCoe Idealize.SL.Sem

namespace Cert.Reference3Ideal.Hand
open Cert.Reference3Ideal Cert.Reference3Ideal.Gen

/-- The reference's result. -/
def REF (A : FVec Ideal S4096x2816 .f32) (D : FVec Ideal S4096x1024 .f32) : FVec Ideal S2816x1024 .f32 :=
  transpose S2816x1024 [1, 0] (Host.dotGeneral dot_S4096x1024_S4096x2816_S1024x2816_0_0_1_1_n_n none (mulf (broadcastInDim S4096x1024 ![] bcast_S_S4096x1024 (constant S_ .f32 0x3F000000#32)) D) A) transposes_S1024x2816_S2816x1024_1_0

theorem REF_at (A : FVec Ideal S4096x2816 .f32) (D : FVec Ideal S4096x1024 .f32) (f : Fin 2816) (d : Fin 1024) :
    REF A D (ix2 f d) = ∑ s : Fin 4096, Ffn.half * D (ix2 s d) * A (ix2 s f) := by
  pointwise [REF]

end Cert.Reference3Ideal.Hand

namespace Cert.Kernel3Ideal.Hand
open Cert.Kernel3Ideal Cert.Kernel3Ideal.Gen

theorem pay1_at (j : S1408x1024.Idx) : k0_pay1 (F := Ideal) j = 0 := by pointwise [k0_pay1]
theorem pay2_at (acc : FVec Ideal S1408x1024 .f32) (x : FVec Ideal S1x1024x1408 .bf16) (w : FVec Ideal S1024x1024 .f32) (f : Fin 1408) (d : Fin 1024) :
    k0_pay2 (F := Ideal) acc x w (ix2 f d) = acc (ix2 f d) + ∑ k : Fin 1024, x (ix3 0 k f) * w (ix2 k d) := by
  pointwise [k0_pay2]
theorem pay3_at (acc : FVec Ideal S1408x1024 .f32) (j : S1408x1024.Idx) :
    k0_pay3 (F := Ideal) acc j = Ffn.half * acc j := by
  idx_vars j
  pointwise [k0_pay3]

variable (m : (ℓ : Loc nD τ sig) → Buf (Elt Ideal) ℓ) (c : Dev nD)

/-- The activations. -/
abbrev a0 : FVec Ideal S4096x2816 .f32 := m ((c.tc : Thread nD τ).loc main_arg0)
/-- The output's cotangent. -/
abbrev a2 : FVec Ideal S4096x1024 .f32 := m ((c.tc : Thread nD τ).loc main_arg2)

theorem idx : ∀ t : Fin cfg0.N, win0_0.index t = ![t.val / 4, t.val % 4, 0] ∧ win0_1.index t = ![t.val % 4, 0] ∧ win0_2.index t = ![t.val / 4, 0] := (by decide +kernel : ∀ t : Fin grid0.N, _)

theorem blk0 (t : Fin cfg0.N) (k : Fin 1024) (f : Fin 1408) (ht : t.val < 8) :
    (iblk m c 0 t : FVec Ideal S1x1024x1408 .bf16) (ix3 0 k f) = a0 m c (ix2 ⟨t.val % 4 * 1024 + k.val, by omega⟩ ⟨t.val / 4 * 1408 + f.val, by omega⟩) := by
  blk_point [iblk, V, idx t]
theorem blk1 (t : Fin cfg0.N) (k : Fin 1024) (d : Fin 1024) (ht : t.val < 8) :
    (iblk m c 1 t : FVec Ideal S1024x1024 .f32) (ix2 k d) = a2 m c (ix2 ⟨t.val % 4 * 1024 + k.val, by omega⟩ d) := by
  blk_point [iblk, V, idx t]

/-- The block `p` of an entry's sum over the rows. -/
def prt (A : FVec Ideal S4096x2816 .f32) (D : FVec Ideal S4096x1024 .f32) (p : ℕ) (hp : p < 4) (F : Fin 2816) (d : Fin 1024) : EReal :=
  ∑ k : Fin 1024, A (ix2 ⟨p * 1024 + k.val, by omega⟩ F) * D (ix2 ⟨p * 1024 + k.val, by omega⟩ d)

theorem pay2_prt (A : FVec Ideal S4096x2816 .f32) (D : FVec Ideal S4096x1024 .f32) (acc : FVec Ideal S1408x1024 .f32) (x : FVec Ideal S1x1024x1408 .bf16) (w : FVec Ideal S1024x1024 .f32)
    (p : ℕ) (hp : p < 4) (F : Fin 2816) (f : Fin 1408) (d : Fin 1024)
    (hx : ∀ k : Fin 1024, x (ix3 0 k f) = A (ix2 ⟨p * 1024 + k.val, by omega⟩ F)) (hw : ∀ k : Fin 1024, w (ix2 k d) = D (ix2 ⟨p * 1024 + k.val, by omega⟩ d)) :
    k0_pay2 (F := Ideal) acc x w (ix2 f d) = acc (ix2 f d) + prt A D p hp F d := by
  rw [pay2_at, prt]
  simp only [hx, hw]

theorem REF_prt (A : FVec Ideal S4096x2816 .f32) (D : FVec Ideal S4096x1024 .f32) (F : Fin 2816) (d : Fin 1024) :
    Ffn.half * ((((0 + prt A D 0 (by omega) F d) + prt A D 1 (by omega) F d) + prt A D 2 (by omega) F d) + prt A D 3 (by omega) F d)
      = Cert.Reference3Ideal.Hand.REF A D (ix2 F d) := by
  rw [Cert.Reference3Ideal.Hand.REF_at]
  refine (congrArg (Ffn.half * ·) (Ffn.sum_four fun s => A (ix2 s F) * D (ix2 s d)).symm).trans ?_
  rw [Ffn.half_mul_sum]
  exact Finset.sum_congr rfl fun s _ => by rw [mul_assoc, mul_comm (D _)]

theorem stA (n : ℕ) (h : n < cfg0.N) (hn : n < 8) (p : ℕ) (hp : n % 4 = p) (hp4 : p < 4) (h0 : n % 4 = 0) (f : Fin 1408) (d : Fin 1024) (F : Fin 2816) (hF : F.val = n / 4 * 1408 + f.val) :
    outsAt0 m c n h (ix2 f d) = 0 + prt (a0 m c) (a2 m c) p hp4 F d := by
  subst hp
  obtain ⟨F, hF'⟩ := F
  dsimp only at hF
  subst hF
  refine (congrFun (outsAt0_A m c ⟨n, h⟩ h0 (by dsimp only; omega)) _).trans ((congrFun (Value.out_A_2_eq ..) _).trans ?_)
  rw [pay2_prt (a0 m c) (a2 m c) _ _ _ (n % 4) hp4 _ f d (fun k => blk0 m c ⟨n, h⟩ k f hn) (fun k => blk1 m c ⟨n, h⟩ k d hn), pay1_at]
theorem stB (n : ℕ) (h : n < cfg0.N) (hn : n < 8) (p : ℕ) (hp : n % 4 = p) (hp4 : p < 4) (h0 : ¬ n % 4 = 0) (h1 : ¬ n % 4 = 3) (f : Fin 1408) (d : Fin 1024) (F : Fin 2816) (hF : F.val = n / 4 * 1408 + f.val) :
    outsAt0 m c n h (ix2 f d) = outsAt0 m c (n - 1) (Nat.lt_of_le_of_lt (Nat.sub_le _ _) h) (ix2 f d) + prt (a0 m c) (a2 m c) p hp4 F d := by
  subst hp
  obtain ⟨F, hF'⟩ := F
  dsimp only at hF
  subst hF
  refine (congrFun (outsAt0_B m c ⟨n, h⟩ h0 h1) _).trans ((congrFun (Value.out_B_2_eq ..) _).trans ?_)
  exact pay2_prt (a0 m c) (a2 m c) _ _ _ (n % 4) hp4 _ f d (fun k => blk0 m c ⟨n, h⟩ k f hn) (fun k => blk1 m c ⟨n, h⟩ k d hn)
theorem stC (n : ℕ) (h : n < cfg0.N) (hn : n < 8) (p : ℕ) (hp : n % 4 = p) (hp4 : p < 4) (h1 : n % 4 = 3) (f : Fin 1408) (d : Fin 1024) (F : Fin 2816) (hF : F.val = n / 4 * 1408 + f.val) :
    outsAt0 m c n h (ix2 f d) = Ffn.half * (outsAt0 m c (n - 1) (Nat.lt_of_le_of_lt (Nat.sub_le _ _) h) (ix2 f d) + prt (a0 m c) (a2 m c) p hp4 F d) := by
  subst hp
  obtain ⟨F, hF'⟩ := F
  dsimp only at hF
  subst hF
  refine (congrFun (outsAt0_C m c ⟨n, h⟩ (by dsimp only; omega) h1) _).trans ((congrFun (Value.out_C_2_eq ..) _).trans ?_)
  rw [pay3_at]
  exact congrArg (Ffn.half * ·) (pay2_prt (a0 m c) (a2 m c) _ _ _ (n % 4) hp4 _ f d (fun k => blk0 m c ⟨n, h⟩ k f hn) (fun k => blk1 m c ⟨n, h⟩ k d hn))

theorem point (t : Fin cfg0.N) (h8 : t.val < 8) (ht : t.val % 4 = 3) (f : Fin 1408) (d : Fin 1024) (hf : t.val / 4 * 1408 + f.val < 2816) :
    outsAt0 m c t.val t.isLt (ix2 f d) = Cert.Reference3Ideal.Hand.REF (a0 m c) (a2 m c) (ix2 ⟨t.val / 4 * 1408 + f.val, hf⟩ d) := by
  obtain ⟨t, h⟩ := t
  dsimp only at ht hf h8 ⊢
  rw [stC m c t h h8 3 ht (by omega) ht f d ⟨_, hf⟩ rfl,
    stB m c (t - 1) _ (by omega) 2 (by omega) (by omega) (by omega) (by omega) f d ⟨_, hf⟩ (by dsimp only; omega),
    stB m c (t - 1 - 1) _ (by omega) 1 (by omega) (by omega) (by omega) (by omega) f d ⟨_, hf⟩ (by dsimp only; omega),
    stA m c (t - 1 - 1 - 1) _ (by omega) 0 (by omega) (by omega) (by omega) f d ⟨_, hf⟩ (by dsimp only; omega), REF_prt]

theorem final : (dats m 0 c).arrAt 2 (cfgs 0).N = Cert.Reference3Ideal.Hand.REF (a0 m c) (a2 m c) := by
  refine (dats m 0 c).arrAt_eq_of_covers 2 _ (by decide +kernel) fun t hf y => ?_
  have hm := (flush0_2 t).mp hf
  have ht : t.val < 8 := lt_of_lt_of_eq t.isLt N_0
  blk_simp
  rw [after0_2]
  idx_vars y
  have e : (((View.whole main_v3).slice (win0_2.rect t)).emb (ix2 y0 y1) : S2816x1024.Idx) = ix2 ⟨t.val / 4 * 1408 + y0.val, by omega⟩ y1 := by
    blk_ext [idx t]
  exact (point m c t ht hm y0 y1 (by omega)).trans (congrArg _ e).symm

end Cert.Kernel3Ideal.Hand
end
-- ==== Proof.Pair3.lean ====
/- The pair of programs Kernel3Ideal and Reference3Ideal: the reference's run, and the kernel's results equal to the reference's. -/
module

public import proofs.«01_k».proof.Defs
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.Dw3
public import Idealize.ShloMosaic.Lib.Claim
public import Idealize.ShloMosaic.Adequacy
public import Idealize.ShloMosaic.Init

@[expose] public section

noncomputable section

namespace Cert.Proof

open Idealize.ShloMosaic Idealize.SL.Sem

theorem frameR3 : Cert.quiescent_Reference3Ideal := fun m g _ =>
  (θ_run _ _ _).mono (fun _ h => ⟨fun c => (h c).2, sem_eq_zero_of_no_sems (by decide) _⟩) (Cert.Reference3Ideal.Value.run m g)

theorem value3_0 (m : (ℓ : Loc Cert.Kernel3Ideal.nD Cert.Kernel3Ideal.τ Cert.Kernel3Ideal.sig) → Buf (Elt Ideal) ℓ)
    (m' : (ℓ : Loc Cert.Reference3Ideal.nD Cert.Reference3Ideal.τ Cert.Reference3Ideal.sig) → Buf (Elt Ideal) ℓ)
    (c : Dev Cert.Kernel3Ideal.nD) (hagree : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) :
    Cert.Reference3Ideal.Hand.REF (m' ((c.tc : Thread Cert.Reference3Ideal.nD Cert.Reference3Ideal.τ).loc Cert.Reference3Ideal.main_arg0)) (m' ((c.tc : Thread Cert.Reference3Ideal.nD Cert.Reference3Ideal.τ).loc Cert.Reference3Ideal.main_arg2))
      = (Cert.Kernel3Ideal.Gen.dats m 0 c).arrAt 2 (Cert.Kernel3Ideal.cfgs 0).N := by
  obtain ⟨e0, e1, e2⟩ := hagree
  refine Eq.trans ?_ (Cert.Kernel3Ideal.Hand.final m c).symm
  rw [e0, e2]

set_option maxHeartbeats 1600000 in
theorem algebraic3 : Cert.algebraic_Kernel3Ideal_Reference3Ideal := by
  pair_intro
  · run_from Cert.Kernel3Ideal.Gen.run_main m g
  · exact (θ_run _ _ _).mono (fun _ h c => ⟨(h c).1.trans (value3_0 m m' c (hagree c)), (h c).2⟩) (Cert.Reference3Ideal.Value.run m' g')

end Cert.Proof

end
-- ==== Proof.Dw4.lean ====
/- The gradient of the first weight of the feed-forward lines after the call that computes it. -/
module

public import proofs.«01_k».proof.Proof.Gen.Kernel4Ideal.Value
public import proofs.«01_k».proof.Proof.Gen.Reference4Ideal.Run
public import proofs.«01_k».proof.Proof.Ffn

@[expose] public section

set_option maxRecDepth 16384

noncomputable section

open Idealize.ShloMosaic Idealize.ShloMosaic.TcCoe Idealize.SL.Sem

namespace Cert.Reference4Ideal.Hand
open Cert.Reference4Ideal Cert.Reference4Ideal.Gen

/-- The reference's result. -/
def REF (H : FVec Ideal S4096x1024 .f32) (D : FVec Ideal S4096x5632 .f32) : FVec Ideal S4x1024x1408 .f32 :=
  transpose S4x1024x1408 [1, 0, 2] (shapeCast _ (transpose S1024x5632 [1, 0] (Host.dotGeneral dot_S4096x5632_S4096x1024_S5632x1024_0_0_1_1_n_n none D H) transposes_S5632x1024_S1024x5632_1_0) shapeCasts_S1024x5632_S1024x4x1408) transposes_S1024x4x1408_S4x1024x1408_1_0_2

theorem REF_at (H : FVec Ideal S4096x1024 .f32) (D : FVec Ideal S4096x5632 .f32) (q : Fin 4) (e : Fin 1024) (f : Fin 1408) :
    REF H D (ix3 q e f) = ∑ s : Fin 4096, D (ix2 s ⟨q.val * 1408 + f.val, by omega⟩) * H (ix2 s e) := by
  pointwise [REF]

end Cert.Reference4Ideal.Hand

namespace Cert.Kernel4Ideal.Hand
open Cert.Kernel4Ideal Cert.Kernel4Ideal.Gen

theorem pay1_at (j : S1x1024x1408.Idx) : k0_pay1 (F := Ideal) j = 0 := by idx_vars j; pointwise [k0_pay1]
theorem pay2_at (acc : FVec Ideal S1x1024x1408 .f32) (x : FVec Ideal S1024x1024 .bf16) (w : FVec Ideal S1x1024x1408 .bf16) (e : Fin 1024) (f : Fin 1408) :
    k0_pay2 (F := Ideal) acc x w (ix3 0 e f) = acc (ix3 0 e f) + ∑ k : Fin 1024, x (ix2 k e) * w (ix3 0 k f) := by
  pointwise [k0_pay2]

variable (m : (ℓ : Loc nD τ sig) → Buf (Elt Ideal) ℓ) (c : Dev nD)

/-- The normalised rows. -/
abbrev a0 : FVec Ideal S4096x1024 .f32 := m ((c.tc : Thread nD τ).loc main_arg0)
/-- The hidden rows' cotangent. -/
abbrev a2 : FVec Ideal S4096x5632 .f32 := m ((c.tc : Thread nD τ).loc main_arg2)

theorem idx : ∀ t : Fin cfg0.N, win0_0.index t = ![t.val % 4, 0] ∧ win0_1.index t = ![t.val / 4, t.val % 4, 0] ∧ win0_2.index t = ![t.val / 4, 0, 0] := (by decide +kernel : ∀ t : Fin grid0.N, _)

theorem blk0 (t : Fin cfg0.N) (k : Fin 1024) (e : Fin 1024) (ht : t.val < 16) :
    (iblk m c 0 t : FVec Ideal S1024x1024 .bf16) (ix2 k e) = a0 m c (ix2 ⟨t.val % 4 * 1024 + k.val, by omega⟩ e) := by
  blk_point [iblk, V, idx t]
theorem blk1 (t : Fin cfg0.N) (k : Fin 1024) (f : Fin 1408) (ht : t.val < 16) :
    (iblk m c 1 t : FVec Ideal S1x1024x1408 .bf16) (ix3 0 k f) = a2 m c (ix2 ⟨t.val % 4 * 1024 + k.val, by omega⟩ ⟨t.val / 4 * 1408 + f.val, by omega⟩) := by
  blk_point [iblk, V, idx t]

/-- The block `p` of an entry's sum over the rows. -/
def prt (H : FVec Ideal S4096x1024 .f32) (D : FVec Ideal S4096x5632 .f32) (p : ℕ) (hp : p < 4) (e : Fin 1024) (F : Fin 5632) : EReal :=
  ∑ k : Fin 1024, H (ix2 ⟨p * 1024 + k.val, by omega⟩ e) * D (ix2 ⟨p * 1024 + k.val, by omega⟩ F)

theorem pay2_prt (H : FVec Ideal S4096x1024 .f32) (D : FVec Ideal S4096x5632 .f32) (acc : FVec Ideal S1x1024x1408 .f32) (x : FVec Ideal S1024x1024 .bf16) (w : FVec Ideal S1x1024x1408 .bf16)
    (p : ℕ) (hp : p < 4) (F : Fin 5632) (f : Fin 1408) (e : Fin 1024)
    (hx : ∀ k : Fin 1024, x (ix2 k e) = H (ix2 ⟨p * 1024 + k.val, by omega⟩ e)) (hw : ∀ k : Fin 1024, w (ix3 0 k f) = D (ix2 ⟨p * 1024 + k.val, by omega⟩ F)) :
    k0_pay2 (F := Ideal) acc x w (ix3 0 e f) = acc (ix3 0 e f) + prt H D p hp e F := by
  rw [pay2_at, prt]
  simp only [hx, hw]

theorem REF_prt (H : FVec Ideal S4096x1024 .f32) (D : FVec Ideal S4096x5632 .f32) (q : Fin 4) (e : Fin 1024) (f : Fin 1408) (F : Fin 5632) (hF : F.val = q.val * 1408 + f.val) :
    (((0 + prt H D 0 (by omega) e F) + prt H D 1 (by omega) e F) + prt H D 2 (by omega) e F) + prt H D 3 (by omega) e F
      = Cert.Reference4Ideal.Hand.REF H D (ix3 q e f) := by
  obtain ⟨F, hF'⟩ := F
  dsimp only at hF
  subst hF
  rw [Cert.Reference4Ideal.Hand.REF_at]
  refine (Ffn.sum_four fun s => H (ix2 s e) * D (ix2 s ⟨q.val * 1408 + f.val, hF'⟩)).symm.trans ?_
  exact Finset.sum_congr rfl fun s _ => mul_comm _ _

theorem stA (n : ℕ) (h : n < cfg0.N) (hn : n < 16) (p : ℕ) (hp : n % 4 = p) (hp4 : p < 4) (h0 : n % 4 = 0) (f : Fin 1408) (e : Fin 1024) (F : Fin 5632) (hF : F.val = n / 4 * 1408 + f.val) :
    outsAt0 m c n h (ix3 0 e f) = 0 + prt (a0 m c) (a2 m c) p hp4 e F := by
  subst hp
  obtain ⟨F, hF'⟩ := F
  dsimp only at hF
  subst hF
  refine (congrFun (outsAt0_A m c ⟨n, h⟩ h0) _).trans ((congrFun (Value.out_A_2_eq ..) _).trans ?_)
  rw [pay2_prt (a0 m c) (a2 m c) _ _ _ (n % 4) hp4 _ f e (fun k => blk0 m c ⟨n, h⟩ k e hn) (fun k => blk1 m c ⟨n, h⟩ k f hn), pay1_at]
theorem stB (n : ℕ) (h : n < cfg0.N) (hn : n < 16) (p : ℕ) (hp : n % 4 = p) (hp4 : p < 4) (h0 : ¬ n % 4 = 0) (f : Fin 1408) (e : Fin 1024) (F : Fin 5632) (hF : F.val = n / 4 * 1408 + f.val) :
    outsAt0 m c n h (ix3 0 e f) = outsAt0 m c (n - 1) (Nat.lt_of_le_of_lt (Nat.sub_le _ _) h) (ix3 0 e f) + prt (a0 m c) (a2 m c) p hp4 e F := by
  subst hp
  obtain ⟨F, hF'⟩ := F
  dsimp only at hF
  subst hF
  refine (congrFun (outsAt0_B m c ⟨n, h⟩ h0) _).trans ((congrFun (Value.out_B_2_eq ..) _).trans ?_)
  exact pay2_prt (a0 m c) (a2 m c) _ _ _ (n % 4) hp4 _ f e (fun k => blk0 m c ⟨n, h⟩ k e hn) (fun k => blk1 m c ⟨n, h⟩ k f hn)

theorem point (t : Fin cfg0.N) (h8 : t.val < 16) (ht : t.val % 4 = 3) (f : Fin 1408) (e : Fin 1024) :
    outsAt0 m c t.val t.isLt (ix3 0 e f) = Cert.Reference4Ideal.Hand.REF (a0 m c) (a2 m c) (ix3 ⟨t.val / 4, by omega⟩ e f) := by
  obtain ⟨t, h⟩ := t
  dsimp only at ht h8 ⊢
  rw [stB m c t h h8 3 ht (by omega) (by omega) f e ⟨t / 4 * 1408 + f.val, by omega⟩ rfl,
    stB m c (t - 1) _ (by omega) 2 (by omega) (by omega) (by omega) f e ⟨t / 4 * 1408 + f.val, by omega⟩ (by dsimp only; omega),
    stB m c (t - 1 - 1) _ (by omega) 1 (by omega) (by omega) (by omega) f e ⟨t / 4 * 1408 + f.val, by omega⟩ (by dsimp only; omega),
    stA m c (t - 1 - 1 - 1) _ (by omega) 0 (by omega) (by omega) (by omega) f e ⟨t / 4 * 1408 + f.val, by omega⟩ (by dsimp only; omega),
    REF_prt _ _ ⟨t / 4, by omega⟩ e f _ rfl]

theorem final : (dats m 0 c).arrAt 2 (cfgs 0).N = Cert.Reference4Ideal.Hand.REF (a0 m c) (a2 m c) := by
  refine (dats m 0 c).arrAt_eq_of_covers 2 _ (by decide +kernel) fun t hf y => ?_
  have hm := (flush0_2 t).mp hf
  have ht : t.val < 16 := lt_of_lt_of_eq t.isLt N_0
  blk_simp
  rw [after0_2]
  idx_vars y
  obtain rfl : y0 = 0 := Subsingleton.elim _ _
  have e : (((View.whole main_v4).slice (win0_2.rect t)).emb (ix3 0 y1 y2) : S4x1024x1408.Idx) = ix3 ⟨t.val / 4, by omega⟩ y1 y2 := by
    blk_ext [idx t]
  exact (point m c t ht hm y2 y1).trans (congrArg _ e).symm

end Cert.Kernel4Ideal.Hand

end
-- ==== Proof.Pair4.lean ====
/- The pair of programs Kernel4Ideal and Reference4Ideal: the reference's run, and the kernel's results equal to the reference's. -/
module

public import proofs.«01_k».proof.Defs
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Dw4
public import Idealize.ShloMosaic.Lib.Claim
public import Idealize.ShloMosaic.Adequacy
public import Idealize.ShloMosaic.Init

@[expose] public section

noncomputable section

namespace Cert.Proof

open Idealize.ShloMosaic Idealize.SL.Sem

theorem frameR4 : Cert.quiescent_Reference4Ideal := fun m g _ =>
  (θ_run _ _ _).mono (fun _ h => ⟨fun c => (h c).2, sem_eq_zero_of_no_sems (by decide) _⟩) (Cert.Reference4Ideal.Value.run m g)

theorem value4_0 (m : (ℓ : Loc Cert.Kernel4Ideal.nD Cert.Kernel4Ideal.τ Cert.Kernel4Ideal.sig) → Buf (Elt Ideal) ℓ)
    (m' : (ℓ : Loc Cert.Reference4Ideal.nD Cert.Reference4Ideal.τ Cert.Reference4Ideal.sig) → Buf (Elt Ideal) ℓ)
    (c : Dev Cert.Kernel4Ideal.nD) (hagree : m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) :
    Cert.Reference4Ideal.Hand.REF (m' ((c.tc : Thread Cert.Reference4Ideal.nD Cert.Reference4Ideal.τ).loc Cert.Reference4Ideal.main_arg0)) (m' ((c.tc : Thread Cert.Reference4Ideal.nD Cert.Reference4Ideal.τ).loc Cert.Reference4Ideal.main_arg2))
      = (Cert.Kernel4Ideal.Gen.dats m 0 c).arrAt 2 (Cert.Kernel4Ideal.cfgs 0).N := by
  obtain ⟨e0, e1, e2⟩ := hagree
  refine Eq.trans ?_ (Cert.Kernel4Ideal.Hand.final m c).symm
  rw [e0, e2]

set_option maxHeartbeats 1600000 in
theorem algebraic4 : Cert.algebraic_Kernel4Ideal_Reference4Ideal := by
  pair_intro
  · run_from Cert.Kernel4Ideal.Gen.run_main m g
  · exact (θ_run _ _ _).mono (fun _ h c => ⟨(h c).1.trans (value4_0 m m' c (hagree c)), (h c).2⟩) (Cert.Reference4Ideal.Value.run m' g')

end Cert.Proof

end
-- ==== Proof.Dact5.lean ====
/- The gradient of the gates and ups of the feed-forward lines after the call that computes it. -/
module

public import proofs.«01_k».proof.Proof.Gen.Kernel5Ideal.Value
public import proofs.«01_k».proof.Proof.Gen.Reference5Ideal.Run
public import proofs.«01_k».proof.Proof.Ffn

@[expose] public section

set_option maxRecDepth 16384

noncomputable section

open Idealize.ShloMosaic Idealize.ShloMosaic.TcCoe Idealize.SL.Sem

namespace Cert.Ffn
/-- The logistic function. -/
def sg (g : EReal) : EReal := Ideal.div 1 (1 + Ideal.exp (-g))
/-- The gate's gradient as the kernel forms it, of the activation's gradient, the gate and the up. -/
def dgK (D g u : EReal) : EReal := D * u * (sg g * (1 + g * (1 - sg g)))
/-- The up's gradient as the kernel forms it. -/
def duK (D g : EReal) : EReal := D * g * sg g
/-- The gate's gradient as the reference forms it. -/
def dgR (D g u : EReal) : EReal := D * u * sg g + g * (D * u) * (sg g * (1 - sg g))
/-- The up's gradient as the reference forms it. -/
def duR (D g : EReal) : EReal := g * sg g * D

theorem du_eq (D g : EReal) : duK D g = duR D g := by
  rw [duK, duR, mul_assoc, mul_comm]
theorem sg_coe (g : ℝ) : ∃ s : ℝ, sg (g : EReal) = (s : EReal) := by
  have e : Ideal.exp (-(g : EReal)) = ((Real.exp (-g) : ℝ) : EReal) := rfl
  have h : (1 + Real.exp (-g) : ℝ) ≠ 0 := by positivity
  refine ⟨1 / (1 + Real.exp (-g)), ?_⟩
  rw [sg, e]
  exact Attn.div_coe_coe (a := 1) h
theorem dg_eq (D u : ℝ) (g : EReal) : dgK D g u = dgR D g u := by
  induction g with
  | bot =>
    have hs : sg ⊥ = 0 := by
      rw [sg, EReal.neg_bot, show Ideal.exp ⊤ = ⊤ from rfl, show (1 : EReal) + ⊤ = ⊤ from EReal.coe_add_top 1]
      simp [Ideal.div]
    rw [dgK, dgR, hs]
    simp
  | top =>
    have hs : sg ⊤ = 1 := by
      rw [sg, EReal.neg_top, show Ideal.exp ⊥ = 0 from rfl]
      simp [Ideal.div]
    have h0 : (1 : EReal) - 1 = 0 := by
      rw [← EReal.coe_one, ← EReal.coe_sub, sub_self, EReal.coe_zero]
    rw [dgK, dgR, hs, h0]
    simp
  | coe g =>
    obtain ⟨s, hs⟩ := sg_coe g
    rw [dgK, dgR, hs]
    norm_cast
    ring
end Cert.Ffn

namespace Cert.Reference5Ideal.Hand
open Cert.Reference5Ideal Cert.Reference5Ideal.Gen

section
variable (U : FVec Ideal S4096x5632 .f32) (W : FVec Ideal S2816x1024 .f32) (Y : FVec Ideal S4096x1024 .f32)
/-- The activation's gradient. -/
def dR : FVec Ideal S4096x2816 .f32 := Host.dotGeneral dot_S4096x1024_S2816x1024_S4096x2816_1_1_0_0_n_n none (mulf (broadcastInDim S4096x1024 ![] bcast_S_S4096x1024 (constant S_ .f32 0x3F000000#32)) Y) W
/-- The gates. -/
def gR : FVec Ideal S4096x2816 .f32 := extractStridedSlice S4096x2816 ![0, 0] U slices_S4096x5632_S4096x2816_0_0
/-- The ups. -/
def uR : FVec Ideal S4096x2816 .f32 := extractStridedSlice S4096x2816 ![0, 2816] U slices_S4096x5632_S4096x2816_0_2816
/-- The logistic function of the gates. -/
def sR (g : FVec Ideal S4096x2816 .f32) : FVec Ideal S4096x2816 .f32 := Host.divf (broadcastInDim S4096x2816 ![] bcast_S_S4096x2816 (constant S_ .f32 0x3F800000#32)) (addf (broadcastInDim S4096x2816 ![] bcast_S_S4096x2816 (constant S_ .f32 0x3F800000#32)) (Host.exp (Host.negf g)))
/-- The gates' gradient. -/
def dgateR (D g u : FVec Ideal S4096x2816 .f32) : FVec Ideal S4096x2816 .f32 :=
  addf (mulf (mulf D u) (sR g)) (mulf (mulf g (mulf D u)) (mulf (sR g) (subf (broadcastInDim S4096x2816 ![] bcast_S_S4096x2816 (constant S_ .f32 0x3F800000#32)) (sR g))))
/-- The ups' gradient. -/
def dupR (D g : FVec Ideal S4096x2816 .f32) : FVec Ideal S4096x2816 .f32 := mulf (mulf g (sR g)) D
/-- Two halves side by side, the columns then in four blocks. -/
def lay (v w : FVec Ideal S4096x2816 .f32) : FVec Ideal S4x4096x1408 .bf16 :=
  truncf .bf16 (transpose S4x4096x1408 [1, 0, 2] (shapeCast _ (concatenate S4096x5632 1 [⟨S4096x2816, v⟩, ⟨S4096x2816, w⟩] concatenates_S4096x2816_S4096x2816_S4096x5632_d1) shapeCasts_S4096x5632_S4096x4x1408) transposes_S4096x4x1408_S4x4096x1408_1_0_2) bitsLt_bf16_f32
/-- The reference's result. -/
def REF : FVec Ideal S4x4096x1408 .bf16 := lay (dgateR (dR W Y) (gR U) (uR U)) (dupR (dR W Y) (gR U))

theorem dR_at (r : Fin 4096) (f : Fin 2816) : dR W Y (ix2 r f) = Ffn.half * ∑ d : Fin 1024, Y (ix2 r d) * W (ix2 f d) := by
  rw [Ffn.half_mul_sum]
  simp only [← mul_assoc]
  pointwise [dR, Ffn.half]
theorem dR_fin (hW : ∀ i, W i ≠ ⊤ ∧ W i ≠ ⊥) (hY : ∀ i, Y i ≠ ⊤ ∧ Y i ≠ ⊥) (r : Fin 4096) (f : Fin 2816) : dR W Y (ix2 r f) ≠ ⊤ ∧ dR W Y (ix2 r f) ≠ ⊥ := by
  have h : ∀ d : Fin 1024, Y (ix2 r d) * W (ix2 f d) = (((Y (ix2 r d)).toReal * (W (ix2 f d)).toReal : ℝ) : EReal) := fun d => by
    rw [EReal.coe_mul, EReal.coe_toReal (hY _).1 (hY _).2, EReal.coe_toReal (hW _).1 (hW _).2]
  rw [dR_at, Ffn.half_eq]
  simp only [h]
  rw [Attn.coe_sum, ← EReal.coe_mul]
  exact ⟨EReal.coe_ne_top _, EReal.coe_ne_bot _⟩
theorem gR_at (r : Fin 4096) (f : Fin 2816) : gR U (ix2 r f) = U (ix2 r ⟨f.val, by omega⟩) := by
  pointwise [gR]
theorem uR_at (r : Fin 4096) (f : Fin 2816) : uR U (ix2 r f) = U (ix2 r ⟨2816 + f.val, by omega⟩) := by
  pointwise [uR]
theorem dgateR_at (D g u : FVec Ideal S4096x2816 .f32) (r : Fin 4096) (f : Fin 2816) : dgateR D g u (ix2 r f) = Ffn.dgR (D (ix2 r f)) (g (ix2 r f)) (u (ix2 r f)) := by
  pointwise [dgateR, sR, Ffn.dgR, Ffn.sg]
theorem dupR_at (D g : FVec Ideal S4096x2816 .f32) (r : Fin 4096) (f : Fin 2816) : dupR D g (ix2 r f) = Ffn.duR (D (ix2 r f)) (g (ix2 r f)) := by
  pointwise [dupR, sR, Ffn.duR, Ffn.sg]
theorem lay_lo (v w : FVec Ideal S4096x2816 .f32) (q : Fin 4) (hq : q.val < 2) (r : Fin 4096) (f : Fin 1408) : lay v w (ix3 q r f) = v (ix2 r ⟨q.val * 1408 + f.val, by omega⟩) := by
  pointwise [lay]
  rw [dif_pos (by omega)]
theorem lay_hi (v w : FVec Ideal S4096x2816 .f32) (q : Fin 4) (hq : ¬ q.val < 2) (r : Fin 4096) (f : Fin 1408) : lay v w (ix3 q r f) = w (ix2 r ⟨(q.val - 2) * 1408 + f.val, by omega⟩) := by
  pointwise [lay]
  rw [dif_neg (by omega)]
  have e : q.val * 1408 + f.val - 2816 = (q.val - 2) * 1408 + f.val := by omega
  simp only [e]
end

end Cert.Reference5Ideal.Hand

namespace Cert.Kernel5Ideal.Hand
open Cert.Kernel5Ideal Cert.Kernel5Ideal.Gen Cert.Reference5Ideal.Hand

section
variable (b0 : FVec Ideal S512x1024 .f32) (b1 : FVec Ideal S2816x1024 .bf16) (b2 : FVec Ideal S2x512x1408 .bf16) (b3 : FVec Ideal S2x512x1408 .bf16)

/-- An entry of a row block's gradient of the activations. -/
def dK (r : Fin 512) (f : Fin 2816) : EReal := Ffn.half * ∑ d : Fin 1024, b0 (ix2 r d) * b1 (ix2 f d)
/-- An entry of a row block's result. -/
def oK (q : Fin 4) (r : Fin 512) (f : Fin 1408) : EReal :=
  if h : q.val < 2 then Ffn.dgK (dK b0 b1 r ⟨q.val * 1408 + f.val, by omega⟩) (b2 (ix3 ⟨q.val, h⟩ r f)) (b3 (ix3 ⟨q.val, h⟩ r f))
  else Ffn.duK (dK b0 b1 r ⟨(q.val - 2) * 1408 + f.val, by omega⟩) (b2 (ix3 ⟨q.val - 2, by omega⟩ r f))

theorem out4_at (q : Fin 4) (r : Fin 512) (f : Fin 1408) : out0_4 (F := Ideal) b0 b1 b2 b3 (ix3 q r f) = oK b0 b1 b2 b3 q r f := by
  unfold_out out0_4
  canon_tiles x h
  case piece0 =>
    idx_vars x
    obtain rfl : r = x1 := Fin.ext h1
    obtain rfl : f = x2 := Fin.ext h2
    obtain rfl : q = 3 := Fin.ext (h0.trans (by omega))
    refine Eq.trans ?_ (dif_neg (by decide)).symm
    pointwise [k0_pay1, k0_pay13, k0_pay9, k0_pay2, k0_pay10, k0_pay11, dK, Ffn.half, Ffn.duK, Ffn.sg]
    simp only [zero_sub]
  case piece1 =>
    idx_vars x
    obtain rfl : r = x1 := Fin.ext h1
    obtain rfl : f = x2 := Fin.ext h2
    obtain rfl : q = 1 := Fin.ext (h0.trans (by omega))
    refine Eq.trans ?_ (dif_pos (by decide)).symm
    pointwise [k0_pay12, k0_pay9, k0_pay2, k0_pay10, k0_pay11, dK, Ffn.half, Ffn.dgK, Ffn.sg]
    simp only [zero_sub]
  case piece2 =>
    idx_vars x
    obtain rfl : r = x1 := Fin.ext h1
    obtain rfl : f = x2 := Fin.ext h2
    obtain rfl : q = 2 := Fin.ext (h0.trans (by omega))
    refine Eq.trans ?_ (dif_neg (by decide)).symm
    pointwise [k0_pay8, k0_pay7, k0_pay3, k0_pay2, k0_pay4, k0_pay5, dK, Ffn.half, Ffn.duK, Ffn.sg]
    simp only [zero_sub]
  case piece3 =>
    idx_vars x
    obtain rfl : r = x1 := Fin.ext h1
    obtain rfl : f = x2 := Fin.ext h2
    obtain rfl : q = 0 := Fin.ext (h0.trans (by omega))
    refine Eq.trans ?_ (dif_pos (by decide)).symm
    pointwise [k0_pay6, k0_pay3, k0_pay2, k0_pay4, k0_pay5, dK, Ffn.half, Ffn.dgK, Ffn.sg]
    simp only [zero_sub]

variable (U : FVec Ideal S4096x5632 .f32) (W : FVec Ideal S2816x1024 .f32) (Y : FVec Ideal S4096x1024 .f32) (R : Fin 4096) (r : Fin 512)
  (h0 : ∀ d : Fin 1024, b0 (ix2 r d) = Y (ix2 R d)) (h1 : ∀ (f : Fin 2816) (d : Fin 1024), b1 (ix2 f d) = W (ix2 f d))
include h0 h1
theorem dK_ref (f : Fin 2816) : dK b0 b1 r f = dR W Y (ix2 R f) := by
  rw [dR_at]
  unfold dK
  simp only [h0, h1]
variable (h2 : ∀ (q : Fin 2) (f : Fin 1408), b2 (ix3 q r f) = U (ix2 R ⟨q.val * 1408 + f.val, by omega⟩))
  (h3 : ∀ (q : Fin 2) (f : Fin 1408), b3 (ix3 q r f) = U (ix2 R ⟨2816 + (q.val * 1408 + f.val), by omega⟩))
  (hW : ∀ i, W i ≠ ⊤ ∧ W i ≠ ⊥) (hY : ∀ i, Y i ≠ ⊤ ∧ Y i ≠ ⊥) (hU : ∀ i, uR U i ≠ ⊤ ∧ uR U i ≠ ⊥)
include h2 h3 hW hY hU
theorem out4_ref (q : Fin 4) (f : Fin 1408) : out0_4 (F := Ideal) b0 b1 b2 b3 (ix3 q r f) = REF U W Y (ix3 q R f) := by
  rw [out4_at, oK, REF]
  by_cases hq : q.val < 2
  · rw [dif_pos hq, lay_lo _ _ _ hq, dgateR_at, dK_ref b0 b1 W Y R r h0 h1, h2, h3, gR_at]
    have hu := hU (ix2 R ⟨q.val * 1408 + f.val, by omega⟩)
    rw [uR_at] at hu ⊢
    have hD := dR_fin W Y hW hY R ⟨q.val * 1408 + f.val, by omega⟩
    lift U (ix2 R ⟨2816 + (q.val * 1408 + f.val), by omega⟩) to ℝ using hu with u hu'
    lift dR W Y (ix2 R ⟨q.val * 1408 + f.val, by omega⟩) to ℝ using hD with D hD'
    exact Ffn.dg_eq D u _
  · rw [dif_neg hq, lay_hi _ _ _ hq, dupR_at, dK_ref b0 b1 W Y R r h0 h1, h2, gR_at, Ffn.du_eq]
end

variable (m : (ℓ : Loc nD τ sig) → Buf (Elt Ideal) ℓ) (c : Dev nD)

/-- The gates and ups side by side. -/
abbrev a0 : FVec Ideal S4096x5632 .f32 := m ((c.tc : Thread nD τ).loc main_arg0)
/-- The second weight. -/
abbrev a1 : FVec Ideal S2816x1024 .f32 := m ((c.tc : Thread nD τ).loc main_arg1)
/-- The output's cotangent. -/
abbrev a2 : FVec Ideal S4096x1024 .f32 := m ((c.tc : Thread nD τ).loc main_arg2)

theorem idx : ∀ t : Fin cfg0.N, win0_0.index t = ![t.val, 0] ∧ win0_1.index t = ![0, 0] ∧ win0_2.index t = ![0, t.val, 0] ∧ win0_3.index t = ![0, t.val, 0]
    ∧ win0_4.index t = ![0, t.val, 0] := (by decide +kernel : ∀ t : Fin grid0.N, _)

theorem blk0 (t : Fin cfg0.N) (r : Fin 512) (ht : t.val < 8) (d : Fin 1024) :
    (iblk m c 0 t : FVec Ideal S512x1024 .f32) (ix2 r d) = a2 m c (ix2 ⟨t.val * 512 + r.val, by omega⟩ d) := by
  blk_point [iblk, V, idx t]
theorem blk1 (t : Fin cfg0.N) (f : Fin 2816) (d : Fin 1024) :
    (iblk m c 1 t : FVec Ideal S2816x1024 .bf16) (ix2 f d) = a1 m c (ix2 f d) := by
  blk_point [iblk, V, idx t]
theorem blk2 (t : Fin cfg0.N) (r : Fin 512) (ht : t.val < 8) (q : Fin 2) (f : Fin 1408) :
    (iblk m c 2 t : FVec Ideal S2x512x1408 .bf16) (ix3 q r f) = a0 m c (ix2 ⟨t.val * 512 + r.val, by omega⟩ ⟨q.val * 1408 + f.val, by omega⟩) := by
  blk_point [iblk, V, idx t]
theorem blk3 (t : Fin cfg0.N) (r : Fin 512) (ht : t.val < 8) (q : Fin 2) (f : Fin 1408) :
    (iblk m c 3 t : FVec Ideal S2x512x1408 .bf16) (ix3 q r f) = a0 m c (ix2 ⟨t.val * 512 + r.val, by omega⟩ ⟨2816 + (q.val * 1408 + f.val), by omega⟩) := by
  blk_point [iblk, V, idx t]

theorem final (hW : ∀ i, a1 m c i ≠ ⊤ ∧ a1 m c i ≠ ⊥) (hY : ∀ i, a2 m c i ≠ ⊤ ∧ a2 m c i ≠ ⊥) (hU : ∀ i, uR (a0 m c) i ≠ ⊤ ∧ uR (a0 m c) i ≠ ⊥) :
    (dats m 0 c).arrAt 4 (cfgs 0).N = Cert.Reference5Ideal.Hand.REF (a0 m c) (a1 m c) (a2 m c) := by
  refine (dats m 0 c).arrAt_eq_of_covers 4 _ (by decide +kernel) fun t hf y => ?_
  have ht : t.val < 8 := lt_of_lt_of_eq t.isLt N_0
  blk_simp
  rw [after0_4]
  idx_vars y
  have e : (((View.whole main_v6).slice (win0_4.rect t)).emb (ix3 y0 y1 y2) : S4x4096x1408.Idx) = ix3 y0 ⟨t.val * 512 + y1.val, by omega⟩ y2 := by
    blk_ext [idx t]
  exact (out4_ref _ _ _ _ (a0 m c) (a1 m c) (a2 m c) ⟨t.val * 512 + y1.val, by omega⟩ y1 (blk0 m c t y1 ht) (blk1 m c t) (blk2 m c t y1 ht) (blk3 m c t y1 ht) hW hY hU y0 y2).trans (congrArg _ e).symm

end Cert.Kernel5Ideal.Hand

end
-- ==== Proof.Pair5.lean ====
/- The pair of programs Kernel5Ideal and Reference5Ideal: the reference's run, and the kernel's results equal to the reference's. -/
module

public import proofs.«01_k».proof.Defs
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Dact5
public import proofs.«01_k».proof.Proof.Gen.Pre_finite5
public import proofs.«01_k».proof.Proof.Finite
public import Idealize.ShloMosaic.Lib.Claim
public import Idealize.ShloMosaic.Adequacy
public import Idealize.ShloMosaic.Init

@[expose] public section

noncomputable section

namespace Cert.Proof

open Idealize.ShloMosaic Idealize.SL.Sem
open Cert.Attn

theorem frameR5 : Cert.quiescent_Reference5Ideal := fun m g _ =>
  (θ_run _ _ _).mono (fun _ h => ⟨fun c => (h c).2, sem_eq_zero_of_no_sems (by decide) _⟩) (Cert.Reference5Ideal.Value.run m g)

theorem fin5 (m : (ℓ : Loc Cert.Kernel5Ideal.nD Cert.Kernel5Ideal.τ Cert.Kernel5Ideal.sig) → Buf (Elt Ideal) ℓ) (h : Cert.Pre_Kernel5Ideal_finite5 m) (c : Dev Cert.Kernel5Ideal.nD) :
    (∀ i, Cert.Kernel5Ideal.Hand.a1 m c i ≠ ⊤ ∧ Cert.Kernel5Ideal.Hand.a1 m c i ≠ ⊥) ∧ (∀ i, Cert.Kernel5Ideal.Hand.a2 m c i ≠ ⊤ ∧ Cert.Kernel5Ideal.Hand.a2 m c i ≠ ⊥)
      ∧ ∀ i, Cert.Reference5Ideal.Hand.uR (Cert.Kernel5Ideal.Hand.a0 m c) i ≠ ⊤ ∧ Cert.Reference5Ideal.Hand.uR (Cert.Kernel5Ideal.Hand.a0 m c) i ≠ ⊥ := by
  have h := congrFun (h c) default
  dsimp only [Cert.Pre_finite5.fn] at h
  obtain ⟨h, h2⟩ := one_of_and h
  obtain ⟨h0, h1⟩ := one_of_and h
  exact ⟨fun i => fin_of_lt (Host.reduce_andi_all _ _ _ _ _ h1 i), fun i => fin_of_lt (Host.reduce_andi_all _ _ _ _ _ h2 i),
    fun i => fin_of_lt (Host.reduce_andi_all _ _ _ _ _ h0 i)⟩

theorem value5_0 (m : (ℓ : Loc Cert.Kernel5Ideal.nD Cert.Kernel5Ideal.τ Cert.Kernel5Ideal.sig) → Buf (Elt Ideal) ℓ)
    (m' : (ℓ : Loc Cert.Reference5Ideal.nD Cert.Reference5Ideal.τ Cert.Reference5Ideal.sig) → Buf (Elt Ideal) ℓ) (hpre : Cert.Pre_Kernel5Ideal_finite5 m)
    (c : Dev Cert.Kernel5Ideal.nD) (hagree : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) :
    Cert.Reference5Ideal.Hand.REF (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1)) (m' ((c.tc : Thread Cert.Reference5Ideal.nD Cert.Reference5Ideal.τ).loc Cert.Reference5Ideal.main_arg2))
      = (Cert.Kernel5Ideal.Gen.dats m 0 c).arrAt 4 (Cert.Kernel5Ideal.cfgs 0).N := by
  obtain ⟨e0, e1, e2⟩ := hagree
  obtain ⟨hW, hY, hU⟩ := fin5 m hpre c
  refine Eq.trans ?_ (Cert.Kernel5Ideal.Hand.final m c hW hY hU).symm
  rw [e0, e1, e2]

set_option maxHeartbeats 1600000 in
theorem algebraic5 : Cert.algebraic_Kernel5Ideal_Reference5Ideal_pre_finite5 := by
  pair_intro
  · run_from Cert.Kernel5Ideal.Gen.run_main m g
  · exact (θ_run _ _ _).mono (fun _ h c => ⟨(h c).1.trans (value5_0 m m' hpre c (hagree c)), (h c).2⟩) (Cert.Reference5Ideal.Value.run m' g')

end Cert.Proof

end
-- ==== Proof.Dx6.lean ====
/- The gradients of the rows and of the gain of the feed-forward lines after the call that computes it. -/
module

public import proofs.«01_k».proof.Proof.Gen.Kernel6Ideal.Value
public import proofs.«01_k».proof.Proof.Gen.Reference6Ideal.Run
public import proofs.«01_k».proof.Proof.Ffn

@[expose] public section

set_option maxRecDepth 16384

noncomputable section

open Idealize.ShloMosaic Idealize.ShloMosaic.TcCoe Idealize.SL.Sem

namespace Cert.Ffn
/-- The mean square of a row, the small constant added. -/
def ms (x : Fin 1024 → EReal) : EReal :=
  Ideal.div (∑ d : Fin 1024, x d * x d) (Ideal.ofBits .f32 0x44800000#32) + Ideal.ofBits .f32 0x358637BD#32
/-- A row's gradient as the kernel forms it: of the cotangent, the product with the gain, the row's entry, the mean square and the row's sum. -/
def dxK (y u x v s : EReal) : EReal :=
  y + Ideal.rsqrt v * u - x * (Ideal.rsqrt v * Ideal.rsqrt v * Ideal.rsqrt v) * Ideal.div s (Ideal.ofBits .f32 0x44800000#32)
/-- The part of a row's gradient that goes through the mean square, as the reference forms it; it is added twice. -/
def dxS (x v s : EReal) : EReal :=
  x * Ideal.div (s * (Ideal.ofBits .f32 0xBF000000#32 * Ideal.div (Ideal.rsqrt v) v)) (Ideal.ofBits .f32 0x44800000#32)
/-- A row's gradient as the reference forms it. -/
def dxR (y u x v s : EReal) : EReal := y + u * Ideal.rsqrt v + dxS x v s + dxS x v s

theorem ofBits_1024 : Ideal.ofBits .f32 0x44800000#32 = ((1024 : ℝ) : EReal) := by
  simp [Ideal.ofBits, Ideal.ieee]
  rw [← EReal.coe_mul]
  norm_num
theorem ofBits_mhalf : Ideal.ofBits .f32 0xBF000000#32 = ((-(1 / 2) : ℝ) : EReal) := by
  simp [Ideal.ofBits, Ideal.ieee]
  rw [← EReal.coe_mul]
  norm_num
theorem eps_pos : 0 < Ideal.ofBits .f32 0x358637BD#32 := by
  simp [Ideal.ofBits, Ideal.ieee]
  rw [← EReal.coe_mul]
  exact EReal.coe_pos.2 (by norm_num)

theorem div_1024 (s : EReal) : Ideal.div s (Ideal.ofBits .f32 0x44800000#32) = s * ((1024⁻¹ : ℝ) : EReal) := by
  rw [ofBits_1024, Ideal.div, if_neg (by norm_num), EReal.coe_inv]

theorem ms_pos (x : Fin 1024 → EReal) : 0 < ms x := by
  have h : ∀ a : EReal, 0 ≤ a * a := fun a => by
    induction a with
    | bot => simp
    | top => simp
    | coe a => rw [← EReal.coe_mul]; exact EReal.coe_nonneg.2 (mul_self_nonneg a)
  rw [ms, div_1024]
  exact lt_of_lt_of_le eps_pos (le_add_of_nonneg_left (mul_nonneg (Finset.sum_nonneg fun d _ => h _) (EReal.coe_nonneg.2 (by norm_num))))

theorem sub_eq_twice (A T : EReal) : A - T = A + ((-(1 / 2) : ℝ) : EReal) * T + ((-(1 / 2) : ℝ) : EReal) * T := by
  rw [add_assoc, sub_eq_add_neg]
  congr 1
  induction T with
  | bot => rw [EReal.coe_mul_bot_of_neg (by norm_num)]; rfl
  | top => rw [EReal.coe_mul_top_of_neg (by norm_num)]; rfl
  | coe t => rw [← EReal.coe_mul, ← EReal.coe_add, ← EReal.coe_neg]; congr 1; ring

theorem dx_eq (y u x s : EReal) {v : EReal} (hv : 0 < v) : dxK y u x v s = dxR y u x v s := by
  rw [dxK, dxR, mul_comm u]
  induction v with
  | bot => exact absurd hv (by simp)
  | top =>
    have h0 : Ideal.div 0 (⊤ : EReal) = 0 := by simp [Ideal.div]
    rw [dxS, show Ideal.rsqrt ⊤ = 0 from rfl, h0, div_1024, div_1024]
    simp
  | coe v =>
    have hv : 0 < v := EReal.coe_pos.1 hv
    have hr : Ideal.rsqrt (v : EReal) = (((Real.sqrt v)⁻¹ : ℝ) : EReal) := by
      show (if v < 0 then ⊥ else if v = 0 then ⊤ else (((Real.sqrt v)⁻¹ : ℝ) : EReal)) = _
      rw [if_neg (not_lt.2 hv.le), if_neg hv.ne']
    have hq : Real.sqrt v * Real.sqrt v = v := Real.mul_self_sqrt hv.le
    have hs : Real.sqrt v ≠ 0 := (Real.sqrt_pos.2 hv).ne'
    have e : (Real.sqrt v)⁻¹ / v = (Real.sqrt v)⁻¹ * (Real.sqrt v)⁻¹ * (Real.sqrt v)⁻¹ := by
      rw [div_eq_mul_inv, mul_assoc, ← mul_inv, ← mul_inv, ← mul_inv, hq, mul_comm]
    have ht : dxS x v s = ((-(1 / 2) : ℝ) : EReal) * (x * (Ideal.rsqrt v * Ideal.rsqrt v * Ideal.rsqrt v) * Ideal.div s (Ideal.ofBits .f32 0x44800000#32)) := by
      rw [dxS, ofBits_mhalf, hr, Attn.div_coe_coe hv.ne', e, div_1024, div_1024, EReal.coe_mul, EReal.coe_mul]
      ac_rfl
    rw [ht, sub_eq_twice]
end Cert.Ffn

namespace Cert.Reference6Ideal.Hand
open Cert.Reference6Ideal Cert.Reference6Ideal.Gen

section
variable (X : FVec Ideal S4096x1024 .f32) (G : FVec Ideal S1024 .f32) (W : FVec Ideal S1024x5632 .f32) (Y : FVec Ideal S4096x1024 .f32) (D : FVec Ideal S4096x5632 .f32)
/-- The gradient of the normalised rows. -/
def dhR : FVec Ideal S4096x1024 .f32 := Host.dotGeneral dot_S4096x5632_S1024x5632_S4096x1024_1_1_0_0_n_n none D W
/-- The mean squares, the small constant added. -/
def msR : FVec Ideal S4096x1 .f32 := addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
/-- The gradient of the normalised rows times the gain. -/
def uR : FVec Ideal S4096x1024 .f32 := mulf (dhR W D) (broadcastInDim S4096x1024 ![0, 1] bcast_S1x1024_S4096x1024_0_1 (broadcastInDim S1x1024 ![1] bcast_S1024_S1x1024_1 G))
/-- The part that goes through the mean square, but for the factor of the row. -/
def cR (u : FVec Ideal S4096x1024 .f32) : FVec Ideal S4096x1024 .f32 := broadcastInDim S4096x1024 ![0] bcast_S4096_S4096x1024_0 (Host.reduceAdd (Host.divf (mulf (shapeCast _ (Host.reduceAdd (mulf X u) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (msR X)) (msR X)))) (broadcastInDim S4096x1 ![] bcast_S_S4096x1 (constant S_ .f32 0x44800000#32))) (constant S_ .f32 0x00000000#32) reducesTo_S4096x1_S4096_d1 h_S_)
/-- The reference's gradient of the rows. -/
def DX : FVec Ideal S4096x1024 .f32 :=
  addf (addf (addf Y (mulf (uR G W D) (broadcastInDim S4096x1024 ![0, 1] bcast_S4096x1_S4096x1024_0_1 (Host.rsqrt (msR X))))) (mulf X (cR X (uR G W D)))) (mulf (cR X (uR G W D)) X)
/-- The reference's gradient of the gain. -/
def DG : FVec Ideal S1x1024 .f32 :=
  broadcastInDim S1x1024 ![1] bcast_S1024_S1x1024_1 (Host.reduceAdd (shapeCast _ (Host.reduceAdd (mulf (mulf X (broadcastInDim S4096x1024 ![0, 1] bcast_S4096x1_S4096x1024_0_1 (Host.rsqrt (msR X)))) (dhR W D)) (constant S_ .f32 0x00000000#32) reducesTo_S4096x1024_S1024_d0 h_S_) shapeCasts_S1024_S1x1024) (constant S_ .f32 0x00000000#32) reducesTo_S1x1024_S1024_d0 h_S_)

theorem dhR_at (r : Fin 4096) (d : Fin 1024) : dhR W D (ix2 r d) = ∑ f : Fin 5632, D (ix2 r f) * W (ix2 d f) := by
  pointwise [dhR]
theorem msR_at (r : Fin 4096) : msR X (ix2 r 0) = Ffn.ms fun d => X (ix2 r d) := by
  pointwise [msR, Ffn.ms]
theorem uR_at (r : Fin 4096) (d : Fin 1024) : uR G W D (ix2 r d) = dhR W D (ix2 r d) * G (ix1 d) := by
  pointwise [uR]
theorem cR_at (u : FVec Ideal S4096x1024 .f32) (r : Fin 4096) (d : Fin 1024) : X (ix2 r d) * cR X u (ix2 r d) = Ffn.dxS (X (ix2 r d)) (msR X (ix2 r 0)) (∑ e : Fin 1024, X (ix2 r e) * u (ix2 r e)) := by
  pointwise [cR, Ffn.dxS]
  rw [Fin.sum_univ_one]
theorem DX_at (r : Fin 4096) (d : Fin 1024) : DX X G W Y D (ix2 r d) = Ffn.dxR (Y (ix2 r d)) (uR G W D (ix2 r d)) (X (ix2 r d)) (msR X (ix2 r 0)) (∑ e : Fin 1024, X (ix2 r e) * uR G W D (ix2 r e)) := by
  rw [Ffn.dxR, ← cR_at]
  pointwise [DX]
  rw [mul_comm (cR X (uR G W D) (ix2 r d))]
theorem DG_at (d : Fin 1024) : DG X W D (ix2 0 d) = ∑ r : Fin 4096, X (ix2 r d) * Ideal.rsqrt (msR X (ix2 r 0)) * dhR W D (ix2 r d) := by
  pointwise [DG]
  rw [Fin.sum_univ_one]
end

end Cert.Reference6Ideal.Hand

namespace Cert.Kernel6Ideal.Hand
open Cert.Kernel6Ideal Cert.Kernel6Ideal.Gen Cert.Reference6Ideal.Hand

section
variable (b2 : FVec Ideal S512x1024 .f32) (b3 : FVec Ideal S1x1024 .f32) (b4 : FVec Ideal S512x1024 .f32)

theorem dhK_at (l0 l2 l4 l6 : FVec Ideal S1x512x1408 .bf16) (l1 l3 l5 l7 : FVec Ideal S1x1024x1408 .bf16) (r : Fin 512) (d : Fin 1024) :
    k0_pay2 (F := Ideal) l0 l1 l2 l3 l4 l5 (ix2 r d) + k0_pay3 (F := Ideal) l6 l7 (ix2 r d)
      = ∑ f : Fin 1408, l0 (ix3 0 r f) * l1 (ix3 0 d f) + ∑ f : Fin 1408, l2 (ix3 0 r f) * l3 (ix3 0 d f)
        + ∑ f : Fin 1408, l4 (ix3 0 r f) * l5 (ix3 0 d f) + ∑ f : Fin 1408, l6 (ix3 0 r f) * l7 (ix3 0 d f) := by
  pointwise [k0_pay2, k0_pay3]
theorem ldA (b : FVec Ideal S4x512x1408 .bf16) (q : Fin 4) (h) (r : Fin 512) (f : Fin 1408) :
    (View.ld (Val := Elt Ideal) (S := S4x512x1408) (e' := .bf16) b (Rect.unit (s := S4x512x1408) ![q.val, 0, 0] ![1, 512, 1408] h)) (ix3 (0 : Fin 1) r f) = b (ix3 q r f) := by
  refine View.ld_unit_apply_of _ _ _ _ _ _ fun a => ?_
  fin_cases a
  · exact (Nat.add_zero q.val).symm
  · exact (Nat.zero_add r.val).symm
  · exact (Nat.zero_add f.val).symm
theorem ldB (b : FVec Ideal S4x1024x1408 .bf16) (q : Fin 4) (h) (r : Fin 1024) (f : Fin 1408) :
    (View.ld (Val := Elt Ideal) (S := S4x1024x1408) (e' := .bf16) b (Rect.unit (s := S4x1024x1408) ![q.val, 0, 0] ![1, 1024, 1408] h)) (ix3 (0 : Fin 1) r f) = b (ix3 q r f) := by
  refine View.ld_unit_apply_of _ _ _ _ _ _ fun a => ?_
  fin_cases a
  · exact (Nat.add_zero q.val).symm
  · exact (Nat.zero_add r.val).symm
  · exact (Nat.zero_add f.val).symm
theorem pay4_at (a b : FVec Ideal S512x1024 .f32) (j) : k0_pay4 (F := Ideal) a b j = a j + b j := by pointwise [k0_pay4]
theorem pay5_at (x : FVec Ideal S512x1024 .f32) (r : Fin 512) : k0_pay5 (F := Ideal) x (ix2 r 0) = Ideal.rsqrt (Ffn.ms fun d => x (ix2 r d)) := by
  pointwise [k0_pay5, Ffn.ms]
theorem pay6_at (a b x : FVec Ideal S512x1024 .f32) (g : FVec Ideal S1x1024 .f32) (y : FVec Ideal S512x1024 .f32) (r : Fin 512) (d : Fin 1024) :
    k0_pay6 (F := Ideal) a b x g y (ix2 r d) = Ffn.dxK (y (ix2 r d)) ((a (ix2 r d) + b (ix2 r d)) * g (ix2 0 d)) (x (ix2 r d)) (Ffn.ms fun d => x (ix2 r d))
      (∑ e : Fin 1024, x (ix2 r e) * ((a (ix2 r e) + b (ix2 r e)) * g (ix2 0 e))) := by
  rw [Ffn.dxK, ← pay5_at]
  pointwise [k0_pay6, k0_pay4]
theorem pay7_at (a b x : FVec Ideal S512x1024 .f32) (o : FVec Ideal S1x1024 .f32) (d : Fin 1024) :
    k0_pay7 (F := Ideal) a b x o (ix2 0 d) = o (ix2 0 d) + ∑ r : Fin 512, (a (ix2 r d) + b (ix2 r d)) * x (ix2 r d) * Ideal.rsqrt (Ffn.ms fun d => x (ix2 r d)) := by
  simp only [← pay5_at]
  pointwise [k0_pay7, k0_pay4]

variable (X : FVec Ideal S4096x1024 .f32) (G : FVec Ideal S1024 .f32) (W : FVec Ideal S1024x5632 .f32) (Y : FVec Ideal S4096x1024 .f32) (D : FVec Ideal S4096x5632 .f32)

/-- The part of the gain's gradient out of one block of rows. -/
def tR (p : ℕ) (hp : p < 8) (d : Fin 1024) : EReal :=
  ∑ r : Fin 512, X (ix2 ⟨p * 512 + r.val, by omega⟩ d) * Ideal.rsqrt (Ffn.ms fun e => X (ix2 ⟨p * 512 + r.val, by omega⟩ e)) * dhR W D (ix2 ⟨p * 512 + r.val, by omega⟩ d)

theorem DG_tiles (d : Fin 1024) : DG X W D (ix2 0 d) = ∑ p : Fin 8, tR X W D p.val p.isLt d := by
  rw [DG_at, Fin.sum_univ_tiles 8 512 rfl]
  simp only [msR_at]
  rfl

section
/-- A load of one of the four blocks of columns of a block of rows. -/
def isA (p : ℕ) (hp : p < 8) (q : Fin 4) (l : FVec Ideal S1x512x1408 .bf16) : Prop :=
  ∀ (r : Fin 512) (f : Fin 1408), l (ix3 0 r f) = D (ix2 ⟨p * 512 + r.val, by omega⟩ ⟨q.val * 1408 + f.val, by omega⟩)
/-- A load of one of the four blocks of columns of the weight. -/
def isB (q : Fin 4) (l : FVec Ideal S1x1024x1408 .bf16) : Prop :=
  ∀ (d : Fin 1024) (f : Fin 1408), l (ix3 0 d f) = W (ix2 d ⟨q.val * 1408 + f.val, by omega⟩)

variable (l0 l2 l4 l6 : FVec Ideal S1x512x1408 .bf16) (l1 l3 l5 l7 : FVec Ideal S1x1024x1408 .bf16) (p : ℕ) (hp : p < 8)
variable (h0 : isA D p hp 0 l0) (h1 : isB W 0 l1) (h2 : isA D p hp 1 l2) (h3 : isB W 1 l3) (h4 : isA D p hp 2 l4) (h5 : isB W 2 l5) (h6 : isA D p hp 3 l6) (h7 : isB W 3 l7)
include h0 h1 h2 h3 h4 h5 h6 h7

theorem dhK_ref (r : Fin 512) (d : Fin 1024) :
    k0_pay2 (F := Ideal) l0 l1 l2 l3 l4 l5 (ix2 r d) + k0_pay3 (F := Ideal) l6 l7 (ix2 r d) = dhR W D (ix2 ⟨p * 512 + r.val, by omega⟩ d) := by
  rw [dhK_at, dhR_at, Fin.sum_univ_tiles 4 1408 rfl, Fin.sum_univ_four]
  exact congrArg₂ (· + ·) (congrArg₂ (· + ·) (congrArg₂ (· + ·) (Finset.sum_congr rfl fun f _ => by rw [h0, h1]) (Finset.sum_congr rfl fun f _ => by rw [h2, h3]))
    (Finset.sum_congr rfl fun f _ => by rw [h4, h5])) (Finset.sum_congr rfl fun f _ => by rw [h6, h7])

theorem dx_ref (hx : ∀ (r : Fin 512) (d : Fin 1024), b2 (ix2 r d) = X (ix2 ⟨p * 512 + r.val, by omega⟩ d)) (hg : ∀ d : Fin 1024, b3 (ix2 0 d) = G (ix1 d))
    (hy : ∀ (r : Fin 512) (d : Fin 1024), b4 (ix2 r d) = Y (ix2 ⟨p * 512 + r.val, by omega⟩ d)) (r : Fin 512) (d : Fin 1024) :
    k0_pay6 (F := Ideal) (k0_pay2 (F := Ideal) l0 l1 l2 l3 l4 l5) (k0_pay3 (F := Ideal) l6 l7) b2 b3 b4 (ix2 r d) = DX X G W Y D (ix2 ⟨p * 512 + r.val, by omega⟩ d) := by
  rw [pay6_at, DX_at, ← Ffn.dx_eq _ _ _ _ (by rw [msR_at]; exact Ffn.ms_pos _), msR_at]
  simp only [dhK_ref W D l0 l2 l4 l6 l1 l3 l5 l7 p hp h0 h1 h2 h3 h4 h5 h6 h7, hx, hg, hy, uR_at]

theorem dg_ref (o : FVec Ideal S1x1024 .f32) (hx : ∀ (r : Fin 512) (d : Fin 1024), b2 (ix2 r d) = X (ix2 ⟨p * 512 + r.val, by omega⟩ d)) (d : Fin 1024) :
    k0_pay7 (F := Ideal) (k0_pay2 (F := Ideal) l0 l1 l2 l3 l4 l5) (k0_pay3 (F := Ideal) l6 l7) b2 o (ix2 0 d) = o (ix2 0 d) + tR X W D p hp d := by
  rw [pay7_at, tR]
  refine congrArg (o (ix2 0 d) + ·) (Finset.sum_congr rfl fun r _ => ?_)
  rw [dhK_ref W D l0 l2 l4 l6 l1 l3 l5 l7 p hp h0 h1 h2 h3 h4 h5 h6 h7]
  simp only [hx]
  ac_rfl
end
theorem pay1_at (j) : k0_pay1 (F := Ideal) j = 0 := by pointwise [k0_pay1]
end

variable (m : (ℓ : Loc nD τ sig) → Buf (Elt Ideal) ℓ) (c : Dev nD)

/-- The rows. -/
abbrev a0 : FVec Ideal S4096x1024 .f32 := m ((c.tc : Thread nD τ).loc main_arg0)
/-- The gain. -/
abbrev a1 : FVec Ideal S1024 .f32 := m ((c.tc : Thread nD τ).loc main_arg1)
/-- The first weight. -/
abbrev a2 : FVec Ideal S1024x5632 .f32 := m ((c.tc : Thread nD τ).loc main_arg2)
/-- The output's cotangent. -/
abbrev a3 : FVec Ideal S4096x1024 .f32 := m ((c.tc : Thread nD τ).loc main_arg3)
/-- The gradient of the gates and ups. -/
abbrev a4 : FVec Ideal S4096x5632 .f32 := m ((c.tc : Thread nD τ).loc main_arg4)

theorem idx : ∀ t : Fin cfg0.N, win0_0.index t = ![0, t.val, 0] ∧ win0_1.index t = ![0, 0, 0] ∧ win0_2.index t = ![t.val, 0] ∧ win0_3.index t = ![0, 0]
    ∧ win0_4.index t = ![t.val, 0] ∧ win0_5.index t = ![t.val, 0] ∧ win0_6.index t = ![0, 0] := (by decide +kernel : ∀ t : Fin grid0.N, _)

theorem blk0 (t : Fin cfg0.N) (ht : t.val < 8) (q : Fin 4) (r : Fin 512) (f : Fin 1408) :
    (iblk m c 0 t : FVec Ideal S4x512x1408 .bf16) (ix3 q r f) = a4 m c (ix2 ⟨t.val * 512 + r.val, by omega⟩ ⟨q.val * 1408 + f.val, by omega⟩) := by
  blk_point [iblk, V, idx t]
theorem blk1 (t : Fin cfg0.N) (q : Fin 4) (d : Fin 1024) (f : Fin 1408) :
    (iblk m c 1 t : FVec Ideal S4x1024x1408 .bf16) (ix3 q d f) = a2 m c (ix2 d ⟨q.val * 1408 + f.val, by omega⟩) := by
  blk_point [iblk, V, idx t]
theorem blk2 (t : Fin cfg0.N) (ht : t.val < 8) (r : Fin 512) (d : Fin 1024) :
    (iblk m c 2 t : FVec Ideal S512x1024 .f32) (ix2 r d) = a0 m c (ix2 ⟨t.val * 512 + r.val, by omega⟩ d) := by
  blk_point [iblk, V, idx t]
theorem blk3 (t : Fin cfg0.N) (d : Fin 1024) :
    (iblk m c 3 t : FVec Ideal S1x1024 .f32) (ix2 0 d) = a1 m c (ix1 d) := by
  blk_point [iblk, V, idx t]
theorem blk4 (t : Fin cfg0.N) (ht : t.val < 8) (r : Fin 512) (d : Fin 1024) :
    (iblk m c 4 t : FVec Ideal S512x1024 .f32) (ix2 r d) = a3 m c (ix2 ⟨t.val * 512 + r.val, by omega⟩ d) := by
  blk_point [iblk, V, idx t]

theorem dx_out (t : Fin cfg0.N) (ht : t.val < 8) (r : Fin 512) (d : Fin 1024) : (outsAt0 m c t.val t.isLt).1 (ix2 r d)
    = DX (a0 m c) (a1 m c) (a2 m c) (a3 m c) (a4 m c) (ix2 ⟨t.val * 512 + r.val, by omega⟩ d) := by
  by_cases h0 : t.val % 8 = 0
  · rw [outsAt0_A m c t h0]
    frame_out
    exact dx_ref _ _ _ (a0 m c) (a1 m c) (a2 m c) (a3 m c) (a4 m c) _ _ _ _ _ _ _ _ t.val ht
      (fun r f => (ldA _ 0 _ r f).trans (blk0 m c t ht 0 r f)) (fun d f => (ldB _ 0 _ d f).trans (blk1 m c t 0 d f))
      (fun r f => (ldA _ 1 _ r f).trans (blk0 m c t ht 1 r f)) (fun d f => (ldB _ 1 _ d f).trans (blk1 m c t 1 d f))
      (fun r f => (ldA _ 2 _ r f).trans (blk0 m c t ht 2 r f)) (fun d f => (ldB _ 2 _ d f).trans (blk1 m c t 2 d f))
      (fun r f => (ldA _ 3 _ r f).trans (blk0 m c t ht 3 r f)) (fun d f => (ldB _ 3 _ d f).trans (blk1 m c t 3 d f))
      (blk2 m c t ht) (blk3 m c t) (blk4 m c t ht) r d
  · rw [outsAt0_B m c t h0]
    frame_out
    exact dx_ref _ _ _ (a0 m c) (a1 m c) (a2 m c) (a3 m c) (a4 m c) _ _ _ _ _ _ _ _ t.val ht
      (fun r f => (ldA _ 0 _ r f).trans (blk0 m c t ht 0 r f)) (fun d f => (ldB _ 0 _ d f).trans (blk1 m c t 0 d f))
      (fun r f => (ldA _ 1 _ r f).trans (blk0 m c t ht 1 r f)) (fun d f => (ldB _ 1 _ d f).trans (blk1 m c t 1 d f))
      (fun r f => (ldA _ 2 _ r f).trans (blk0 m c t ht 2 r f)) (fun d f => (ldB _ 2 _ d f).trans (blk1 m c t 2 d f))
      (fun r f => (ldA _ 3 _ r f).trans (blk0 m c t ht 3 r f)) (fun d f => (ldB _ 3 _ d f).trans (blk1 m c t 3 d f))
      (blk2 m c t ht) (blk3 m c t) (blk4 m c t ht) r d
theorem dg_A (t : Fin cfg0.N) (ht : t.val < 8) (h0 : t.val % 8 = 0) (d : Fin 1024) :
    (outsAt0 m c t.val t.isLt).2 (ix2 0 d) = 0 + tR (a0 m c) (a2 m c) (a4 m c) t.val ht d := by
  rw [outsAt0_A m c t h0]
  frame_out
  refine (dg_ref _ (a0 m c) (a2 m c) (a4 m c) _ _ _ _ _ _ _ _ t.val ht
      (fun r f => (ldA _ 0 _ r f).trans (blk0 m c t ht 0 r f)) (fun d f => (ldB _ 0 _ d f).trans (blk1 m c t 0 d f))
      (fun r f => (ldA _ 1 _ r f).trans (blk0 m c t ht 1 r f)) (fun d f => (ldB _ 1 _ d f).trans (blk1 m c t 1 d f))
      (fun r f => (ldA _ 2 _ r f).trans (blk0 m c t ht 2 r f)) (fun d f => (ldB _ 2 _ d f).trans (blk1 m c t 2 d f))
      (fun r f => (ldA _ 3 _ r f).trans (blk0 m c t ht 3 r f)) (fun d f => (ldB _ 3 _ d f).trans (blk1 m c t 3 d f))
      _ (blk2 m c t ht) d).trans ?_
  rw [pay1_at]
theorem dg_B (t : Fin cfg0.N) (ht : t.val < 8) (h0 : ¬ t.val % 8 = 0) (d : Fin 1024) :
    (outsAt0 m c t.val t.isLt).2 (ix2 0 d) = (outsAt0 m c (t.val - 1) (Nat.lt_of_le_of_lt (Nat.sub_le _ _) t.isLt)).2 (ix2 0 d) + tR (a0 m c) (a2 m c) (a4 m c) t.val ht d := by
  rw [outsAt0_B m c t h0]
  frame_out
  exact dg_ref _ (a0 m c) (a2 m c) (a4 m c) _ _ _ _ _ _ _ _ t.val ht
      (fun r f => (ldA _ 0 _ r f).trans (blk0 m c t ht 0 r f)) (fun d f => (ldB _ 0 _ d f).trans (blk1 m c t 0 d f))
      (fun r f => (ldA _ 1 _ r f).trans (blk0 m c t ht 1 r f)) (fun d f => (ldB _ 1 _ d f).trans (blk1 m c t 1 d f))
      (fun r f => (ldA _ 2 _ r f).trans (blk0 m c t ht 2 r f)) (fun d f => (ldB _ 2 _ d f).trans (blk1 m c t 2 d f))
      (fun r f => (ldA _ 3 _ r f).trans (blk0 m c t ht 3 r f)) (fun d f => (ldB _ 3 _ d f).trans (blk1 m c t 3 d f))
      _ (blk2 m c t ht) d

theorem dg_last (t : Fin cfg0.N) (ht : t.val = 7) (d : Fin 1024) : (outsAt0 m c t.val t.isLt).2 (ix2 0 d) = DG (a0 m c) (a2 m c) (a4 m c) (ix2 0 d) := by
  have h8 : ∀ t : Fin cfg0.N, t.val < 8 := fun t => lt_of_lt_of_eq t.isLt N_0
  refine (Pipeline.eq_sum_fin_of_reset_step_apply_last (M := EReal) (ι := Fin 1024) (fun n h d => (outsAt0 m c n h).2 (ix2 0 d)) 8 (fun _ => 0)
    (fun p d => tR (a0 m c) (a2 m c) (a4 m c) p.val (h8 p) d) (fun t h d => dg_A m c t (h8 t) h d) (fun t h d => dg_B m c t (h8 t) h d)
    (le_of_eq N_0) t (ht.symm ▸ N_0.symm) d).trans ?_
  rw [zero_add, DG_tiles]
  exact Fintype.sum_equiv (finCongr N_0) _ _ fun p => rfl

theorem final5 : (dats m 0 c).arrAt 5 (cfgs 0).N = DX (a0 m c) (a1 m c) (a2 m c) (a3 m c) (a4 m c) := by
  refine (dats m 0 c).arrAt_eq_of_covers 5 _ (by decide +kernel) fun t hf y => ?_
  have ht : t.val < 8 := lt_of_lt_of_eq t.isLt N_0
  blk_simp
  rw [after0_5]
  idx_vars y
  have e : (((View.whole main_v7_0).slice (win0_5.rect t)).emb (ix2 y0 y1) : S4096x1024.Idx) = ix2 ⟨t.val * 512 + y0.val, by omega⟩ y1 := by
    blk_ext [idx t]
  exact (dx_out m c t ht y0 y1).trans (congrArg _ e).symm

theorem final6 : (dats m 0 c).arrAt 6 (cfgs 0).N = DG (a0 m c) (a2 m c) (a4 m c) := by
  refine (dats m 0 c).arrAt_eq_of_covers 6 _ (by decide +kernel) fun t hf y => ?_
  have h7 := (flush0_6 t).mp hf
  have ht : t.val < 8 := lt_of_lt_of_eq t.isLt N_0
  blk_simp
  rw [after0_6]
  idx_vars y
  obtain rfl : y0 = 0 := Subsingleton.elim _ _
  have e : (((View.whole main_v7_1).slice (win0_6.rect t)).emb (ix2 0 y1) : S1x1024.Idx) = ix2 0 y1 := by
    blk_ext [idx t]
  exact (dg_last m c t (by omega) y1).trans (congrArg _ e).symm

end Cert.Kernel6Ideal.Hand

end
-- ==== Proof.Pair6.lean ====
/- The pair of programs Kernel6Ideal and Reference6Ideal: the reference's run, and the kernel's results equal to the reference's. -/
module

public import proofs.«01_k».proof.Defs
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Dx6
public import Idealize.ShloMosaic.Lib.Claim
public import Idealize.ShloMosaic.Adequacy
public import Idealize.ShloMosaic.Init

@[expose] public section

noncomputable section

namespace Cert.Proof

open Idealize.ShloMosaic Idealize.SL.Sem

theorem frameR6 : Cert.quiescent_Reference6Ideal := fun m g _ =>
  (θ_run _ _ _).mono (fun _ h => ⟨fun c => (h c).2.2, sem_eq_zero_of_no_sems (by decide) _⟩) (Cert.Reference6Ideal.Value.run m g)

theorem value6_0 (m : (ℓ : Loc Cert.Kernel6Ideal.nD Cert.Kernel6Ideal.τ Cert.Kernel6Ideal.sig) → Buf (Elt Ideal) ℓ)
    (m' : (ℓ : Loc Cert.Reference6Ideal.nD Cert.Reference6Ideal.τ Cert.Reference6Ideal.sig) → Buf (Elt Ideal) ℓ)
    (c : Dev Cert.Kernel6Ideal.nD) (hagree : m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) :
    Cert.Reference6Ideal.Hand.DX (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4))
      = (Cert.Kernel6Ideal.Gen.dats m 0 c).arrAt 5 (Cert.Kernel6Ideal.cfgs 0).N := by
  obtain ⟨e0, e1, e2, e3, e4⟩ := hagree
  refine Eq.trans ?_ (Cert.Kernel6Ideal.Hand.final5 m c).symm
  rw [e0, e1, e2, e3, e4]

theorem value6_1 (m : (ℓ : Loc Cert.Kernel6Ideal.nD Cert.Kernel6Ideal.τ Cert.Kernel6Ideal.sig) → Buf (Elt Ideal) ℓ)
    (m' : (ℓ : Loc Cert.Reference6Ideal.nD Cert.Reference6Ideal.τ Cert.Reference6Ideal.sig) → Buf (Elt Ideal) ℓ)
    (c : Dev Cert.Kernel6Ideal.nD) (hagree : m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) :
    Cert.Reference6Ideal.Hand.DG (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg2)) (m' ((c.tc : Thread Cert.Reference6Ideal.nD Cert.Reference6Ideal.τ).loc Cert.Reference6Ideal.main_arg4))
      = (Cert.Kernel6Ideal.Gen.dats m 0 c).arrAt 6 (Cert.Kernel6Ideal.cfgs 0).N := by
  obtain ⟨e0, e1, e2, e3, e4⟩ := hagree
  refine Eq.trans ?_ (Cert.Kernel6Ideal.Hand.final6 m c).symm
  rw [e0, e2, e4]

theorem res6 (m : (ℓ : Loc Cert.Reference6Ideal.nD Cert.Reference6Ideal.τ Cert.Reference6Ideal.sig) → Buf (Elt Ideal) ℓ) (c : Dev Cert.Reference6Ideal.nD) :
    Cert.Reference6Ideal.Value.res_main_v38 m c = Cert.Reference6Ideal.Hand.DX (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) := by
  unfold Cert.Reference6Ideal.Value.res_main_v38 Cert.Reference6Ideal.Hand.DX
  rfl

set_option maxHeartbeats 1600000 in
theorem algebraic6 : Cert.algebraic_Kernel6Ideal_Reference6Ideal := by
  pair_intro
  · run_from Cert.Kernel6Ideal.Gen.run_main m g
  · exact (θ_run _ _ _).mono (fun _ h c => ⟨(h c).1.trans ((res6 m' c).trans (value6_0 m m' c (hagree c))), (h c).2.1.trans (value6_1 m m' c (hagree c)), (h c).2.2⟩) (Cert.Reference6Ideal.Value.run m' g')

end Cert.Proof

end
-- ==== Proof.In7.lean ====
/- The normalised rows, gates, ups and activations of the feed-forward lines after the call that computes it. -/
module

public import proofs.«01_k».proof.Proof.Gen.Kernel7Ideal.Value
public import proofs.«01_k».proof.Proof.Gen.Reference7Ideal.Run
public import proofs.«01_k».proof.Proof.Ffn

@[expose] public section

set_option maxRecDepth 16384

noncomputable section

open Idealize.ShloMosaic Idealize.ShloMosaic.TcCoe Idealize.SL.Sem

namespace Cert.Ffn

/-- One over the root mean square of a row, the small constant added. -/
def rs (x : Fin 1024 → EReal) : EReal :=
  Ideal.rsqrt (Ideal.div (∑ d : Fin 1024, x d * x d) (Ideal.ofBits .f32 0x44800000#32) + Ideal.ofBits .f32 0x358637BD#32)
/-- The gate's activation times the up. -/
def sw (g u : EReal) : EReal := g * Ideal.div 1 (1 + Ideal.exp (-g)) * u

end Cert.Ffn

namespace Cert.Reference7Ideal.Hand
open Cert.Reference7Ideal Cert.Reference7Ideal.Gen

section
variable (X : FVec Ideal S4096x1024 .f32) (G : FVec Ideal S1024 .f32) (W : FVec Ideal S1024x5632 .f32)
/-- The normalised rows. -/
def hR : FVec Ideal S4096x1024 .f32 :=
  mulf (mulf X (broadcastInDim S4096x1024 ![0, 1] bcast_S4096x1_S4096x1024_0_1 (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 G))
/-- The gates. -/
def gateR : FVec Ideal S4096x2816 .f32 := extractStridedSlice S4096x2816 ![0, 0] (Host.dotGeneral dot_S4096x1024_S1024x5632_S4096x5632_1_0_0_1_n_n none (hR X G) W) slices_S4096x5632_S4096x2816_0_0
/-- The ups. -/
def upR : FVec Ideal S4096x2816 .f32 := extractStridedSlice S4096x2816 ![0, 2816] (Host.dotGeneral dot_S4096x1024_S1024x5632_S4096x5632_1_0_0_1_n_n none (hR X G) W) slices_S4096x5632_S4096x2816_0_2816
/-- The activations, of gates `g` and ups `u`. -/
def actR (g u : FVec Ideal S4096x2816 .f32) : FVec Ideal S4096x2816 .f32 :=
  mulf (mulf g (Host.divf (broadcastInDim S4096x2816 ![] bcast_S_S4096x2816 (constant S_ .f32 0x3F800000#32)) (addf (broadcastInDim S4096x2816 ![] bcast_S_S4096x2816 (constant S_ .f32 0x3F800000#32)) (Host.exp (Host.negf g))))) u
/-- The columns in two blocks. -/
def lay (v : FVec Ideal S4096x2816 .f32) : FVec Ideal S2x4096x1408 .bf16 :=
  truncf .bf16 (transpose S2x4096x1408 [1, 0, 2] (shapeCast _ v shapeCasts_S4096x2816_S4096x2x1408) transposes_S4096x2x1408_S2x4096x1408_1_0_2) bitsLt_bf16_f32
/-- The normalised rows as they leave. -/
def hL : FVec Ideal S4096x1024 .bf16 := truncf .bf16 (hR X G) bitsLt_bf16_f32

theorem hR_at (r : Fin 4096) (d : Fin 1024) : hR X G (ix2 r d) = X (ix2 r d) * Ffn.rs (fun d => X (ix2 r d)) * G (ix1 d) := by
  pointwise [hR, Ffn.rs]
theorem gateR_at (r : Fin 4096) (f : Fin 2816) : gateR X G W (ix2 r f) = ∑ d : Fin 1024, hR X G (ix2 r d) * W (ix2 d ⟨f.val, by omega⟩) := by
  pointwise [gateR]
theorem upR_at (r : Fin 4096) (f : Fin 2816) : upR X G W (ix2 r f) = ∑ d : Fin 1024, hR X G (ix2 r d) * W (ix2 d ⟨2816 + f.val, by omega⟩) := by
  pointwise [upR]
theorem actR_at (g u : FVec Ideal S4096x2816 .f32) (r : Fin 4096) (f : Fin 2816) : actR g u (ix2 r f) = Ffn.sw (g (ix2 r f)) (u (ix2 r f)) := by
  pointwise [actR, Ffn.sw]
theorem lay_at (v : FVec Ideal S4096x2816 .f32) (q : Fin 2) (r : Fin 4096) (f : Fin 1408) : lay v (ix3 q r f) = v (ix2 r ⟨q.val * 1408 + f.val, by omega⟩) := by
  pointwise [lay]
end

end Cert.Reference7Ideal.Hand

namespace Cert.Kernel7Ideal.Hand
open Cert.Kernel7Ideal Cert.Kernel7Ideal.Gen Cert.Reference7Ideal.Hand

section
variable (b0 : FVec Ideal S512x1024 .f32) (b1 : FVec Ideal S1x1024 .f32) (b2 : FVec Ideal S4x1024x1408 .bf16)

/-- An entry of a row block's normalised rows. -/
def hK (r : Fin 512) (d : Fin 1024) : EReal := b0 (ix2 r d) * Ffn.rs (fun d => b0 (ix2 r d)) * b1 (ix2 0 d)
/-- An entry of a row block's products with one block of columns. -/
def gK (r : Fin 512) (q : Fin 4) (f : Fin 1408) : EReal := ∑ d : Fin 1024, hK b0 b1 r d * b2 (ix3 q d f)

theorem pay2_at (r : Fin 512) (d : Fin 1024) : k0_pay2 (F := Ideal) b0 b1 (ix2 r d) = hK b0 b1 r d := by
  pointwise [k0_pay2, hK, Ffn.rs]
theorem out3_at (r : Fin 512) (d : Fin 1024) : out0_3 (F := Ideal) b0 b1 b2 (ix2 r d) = hK b0 b1 r d := by
  frame_out
  exact pay2_at b0 b1 r d

theorem out4_at (q : Fin 2) (r : Fin 512) (f : Fin 1408) : out0_4 (F := Ideal) b0 b1 b2 (ix3 q r f) = gK b0 b1 b2 r ⟨q.val, by omega⟩ f := by
  unfold_out out0_4
  canon_tiles x h
  case piece0 =>
    idx_vars x
    obtain rfl : r = x1 := Fin.ext h1
    obtain rfl : f = x2 := Fin.ext h2
    obtain rfl : q = 1 := Fin.ext (h0.trans (by omega))
    pointwise [k0_pay12, k0_pay10, k0_pay2, gK, hK, Ffn.rs, Ffn.sw]
  case piece1 =>
    idx_vars x
    obtain rfl : r = x1 := Fin.ext h1
    obtain rfl : f = x2 := Fin.ext h2
    obtain rfl : q = 0 := Fin.ext (h0.trans (by omega))
    pointwise [k0_pay5, k0_pay3, k0_pay2, gK, hK, Ffn.rs, Ffn.sw]
theorem out5_at (q : Fin 2) (r : Fin 512) (f : Fin 1408) : out0_5 (F := Ideal) b0 b1 b2 (ix3 q r f) = gK b0 b1 b2 r ⟨2 + q.val, by omega⟩ f := by
  unfold_out out0_5
  canon_tiles x h
  case piece0 =>
    idx_vars x
    obtain rfl : r = x1 := Fin.ext h1
    obtain rfl : f = x2 := Fin.ext h2
    obtain rfl : q = 1 := Fin.ext (h0.trans (by omega))
    pointwise [k0_pay13, k0_pay11, k0_pay2, gK, hK, Ffn.rs, Ffn.sw]
  case piece1 =>
    idx_vars x
    obtain rfl : r = x1 := Fin.ext h1
    obtain rfl : f = x2 := Fin.ext h2
    obtain rfl : q = 0 := Fin.ext (h0.trans (by omega))
    pointwise [k0_pay6, k0_pay4, k0_pay2, gK, hK, Ffn.rs, Ffn.sw]
theorem out6_at (q : Fin 2) (r : Fin 512) (f : Fin 1408) : out0_6 (F := Ideal) b0 b1 b2 (ix3 q r f) = Ffn.sw (gK b0 b1 b2 r ⟨q.val, by omega⟩ f) (gK b0 b1 b2 r ⟨2 + q.val, by omega⟩ f) := by
  unfold_out out0_6
  canon_tiles x h
  case piece0 =>
    idx_vars x
    obtain rfl : r = x1 := Fin.ext h1
    obtain rfl : f = x2 := Fin.ext h2
    obtain rfl : q = 1 := Fin.ext (h0.trans (by omega))
    pointwise [k0_pay1, k0_pay14, k0_pay15, k0_pay16, k0_pay10, k0_pay11, k0_pay2, gK, hK, Ffn.rs, Ffn.sw]
    rw [zero_sub]
  case piece1 =>
    idx_vars x
    obtain rfl : r = x1 := Fin.ext h1
    obtain rfl : f = x2 := Fin.ext h2
    obtain rfl : q = 0 := Fin.ext (h0.trans (by omega))
    pointwise [k0_pay9, k0_pay7, k0_pay8, k0_pay3, k0_pay4, k0_pay2, gK, hK, Ffn.rs, Ffn.sw]
    rw [zero_sub]

variable (X : FVec Ideal S4096x1024 .f32) (G : FVec Ideal S1024 .f32) (W : FVec Ideal S1024x5632 .f32) (R : Fin 4096) (r : Fin 512)

theorem hK_ref (h0 : ∀ d : Fin 1024, b0 (ix2 r d) = X (ix2 R d)) (h1 : ∀ d : Fin 1024, b1 (ix2 0 d) = G (ix1 d)) (d : Fin 1024) :
    hK b0 b1 r d = hR X G (ix2 R d) := by
  rw [hR_at]
  unfold hK
  simp only [h0, h1]
theorem gK_ref (h0 : ∀ d : Fin 1024, b0 (ix2 r d) = X (ix2 R d)) (h1 : ∀ d : Fin 1024, b1 (ix2 0 d) = G (ix1 d)) (q : Fin 4) (f : Fin 1408)
    (h2 : ∀ d : Fin 1024, b2 (ix3 q d f) = W (ix2 d ⟨q.val * 1408 + f.val, by omega⟩)) :
    gK b0 b1 b2 r q f = ∑ d : Fin 1024, hR X G (ix2 R d) * W (ix2 d ⟨q.val * 1408 + f.val, by omega⟩) := by
  unfold gK
  exact Finset.sum_congr rfl fun d _ => by rw [hK_ref b0 b1 X G R r h0 h1 d, h2]

theorem out3_ref (h0 : ∀ d : Fin 1024, b0 (ix2 r d) = X (ix2 R d)) (h1 : ∀ d : Fin 1024, b1 (ix2 0 d) = G (ix1 d)) (d : Fin 1024) :
    out0_3 (F := Ideal) b0 b1 b2 (ix2 r d) = hL X G (ix2 R d) :=
  (out3_at b0 b1 b2 r d).trans (hK_ref b0 b1 X G R r h0 h1 d)
variable (h0 : ∀ d : Fin 1024, b0 (ix2 r d) = X (ix2 R d)) (h1 : ∀ d : Fin 1024, b1 (ix2 0 d) = G (ix1 d))
  (h2 : ∀ (q : Fin 4) (d : Fin 1024) (f : Fin 1408), b2 (ix3 q d f) = W (ix2 d ⟨q.val * 1408 + f.val, by omega⟩))
include h0 h1 h2
theorem gate_ref (q : Fin 2) (f : Fin 1408) : gK b0 b1 b2 r ⟨q.val, by omega⟩ f = gateR X G W (ix2 R ⟨q.val * 1408 + f.val, by omega⟩) := by
  rw [gateR_at, gK_ref b0 b1 b2 X G W R r h0 h1 _ f (fun d => h2 _ d f)]
theorem up_ref (q : Fin 2) (f : Fin 1408) : gK b0 b1 b2 r ⟨2 + q.val, by omega⟩ f = upR X G W (ix2 R ⟨q.val * 1408 + f.val, by omega⟩) := by
  rw [upR_at, gK_ref b0 b1 b2 X G W R r h0 h1 _ f (fun d => h2 _ d f)]
  have e : (2 + q.val) * 1408 + f.val = 2816 + (q.val * 1408 + f.val) := by omega
  simp only [e]
theorem out4_ref (q : Fin 2) (f : Fin 1408) : out0_4 (F := Ideal) b0 b1 b2 (ix3 q r f) = lay (gateR X G W) (ix3 q R f) := by
  rw [out4_at, lay_at, gate_ref b0 b1 b2 X G W R r h0 h1 h2]
theorem out5_ref (q : Fin 2) (f : Fin 1408) : out0_5 (F := Ideal) b0 b1 b2 (ix3 q r f) = lay (upR X G W) (ix3 q R f) := by
  rw [out5_at, lay_at, up_ref b0 b1 b2 X G W R r h0 h1 h2]
theorem out6_ref (q : Fin 2) (f : Fin 1408) : out0_6 (F := Ideal) b0 b1 b2 (ix3 q r f) = lay (actR (gateR X G W) (upR X G W)) (ix3 q R f) := by
  rw [out6_at, lay_at, actR_at, gate_ref b0 b1 b2 X G W R r h0 h1 h2, up_ref b0 b1 b2 X G W R r h0 h1 h2]
end

variable (m : (ℓ : Loc nD τ sig) → Buf (Elt Ideal) ℓ) (c : Dev nD)

/-- The rows. -/
abbrev a0 : FVec Ideal S4096x1024 .f32 := m ((c.tc : Thread nD τ).loc main_arg0)
/-- The gain. -/
abbrev a1 : FVec Ideal S1024 .f32 := m ((c.tc : Thread nD τ).loc main_arg1)
/-- The first weight. -/
abbrev a2 : FVec Ideal S1024x5632 .f32 := m ((c.tc : Thread nD τ).loc main_arg2)

theorem idx : ∀ t : Fin cfg0.N, win0_0.index t = ![t.val, 0] ∧ win0_1.index t = ![0, 0] ∧ win0_2.index t = ![0, 0, 0] ∧ win0_3.index t = ![t.val, 0]
    ∧ win0_4.index t = ![0, t.val, 0] ∧ win0_5.index t = ![0, t.val, 0] ∧ win0_6.index t = ![0, t.val, 0] := (by decide +kernel : ∀ t : Fin grid0.N, _)

theorem blk0 (t : Fin cfg0.N) (r : Fin 512) (ht : t.val < 8) (d : Fin 1024) :
    (iblk m c 0 t : FVec Ideal S512x1024 .f32) (ix2 r d) = a0 m c (ix2 ⟨t.val * 512 + r.val, by omega⟩ d) := by
  blk_point [iblk, V, idx t]
theorem blk1 (t : Fin cfg0.N) (d : Fin 1024) :
    (iblk m c 1 t : FVec Ideal S1x1024 .f32) (ix2 0 d) = a1 m c (ix1 d) := by
  blk_point [iblk, V, idx t]
theorem blk2 (t : Fin cfg0.N) (q : Fin 4) (d : Fin 1024) (f : Fin 1408) :
    (iblk m c 2 t : FVec Ideal S4x1024x1408 .bf16) (ix3 q d f) = a2 m c (ix2 d ⟨q.val * 1408 + f.val, by omega⟩) := by
  blk_point [iblk, V, idx t]

theorem final3 : (dats m 0 c).arrAt 3 (cfgs 0).N = Cert.Reference7Ideal.Hand.hL (a0 m c) (a1 m c) := by
  refine (dats m 0 c).arrAt_eq_of_covers 3 _ (by decide +kernel) fun t hf y => ?_
  have ht : t.val < 8 := lt_of_lt_of_eq t.isLt N_0
  blk_simp
  rw [after0_3]
  idx_vars y
  have e : (((View.whole main_v4_0).slice (win0_3.rect t)).emb (ix2 y0 y1) : S4096x1024.Idx) = ix2 ⟨t.val * 512 + y0.val, by omega⟩ y1 := by
    blk_ext [idx t]
  exact (out3_ref _ _ _ (a0 m c) (a1 m c) ⟨t.val * 512 + y0.val, by omega⟩ y0 (blk0 m c t y0 ht) (blk1 m c t) y1).trans (congrArg _ e).symm

theorem final4 : (dats m 0 c).arrAt 4 (cfgs 0).N = lay (gateR (a0 m c) (a1 m c) (a2 m c)) := by
  refine (dats m 0 c).arrAt_eq_of_covers 4 _ (by decide +kernel) fun t hf y => ?_
  have ht : t.val < 8 := lt_of_lt_of_eq t.isLt N_0
  blk_simp
  rw [after0_4]
  idx_vars y
  have e : (((View.whole main_v4_1).slice (win0_4.rect t)).emb (ix3 y0 y1 y2) : S2x4096x1408.Idx) = ix3 y0 ⟨t.val * 512 + y1.val, by omega⟩ y2 := by
    blk_ext [idx t]
  exact (out4_ref _ _ _ (a0 m c) (a1 m c) (a2 m c) ⟨t.val * 512 + y1.val, by omega⟩ y1 (blk0 m c t y1 ht) (blk1 m c t) (blk2 m c t) y0 y2).trans (congrArg _ e).symm

theorem final5 : (dats m 0 c).arrAt 5 (cfgs 0).N = lay (upR (a0 m c) (a1 m c) (a2 m c)) := by
  refine (dats m 0 c).arrAt_eq_of_covers 5 _ (by decide +kernel) fun t hf y => ?_
  have ht : t.val < 8 := lt_of_lt_of_eq t.isLt N_0
  blk_simp
  rw [after0_5]
  idx_vars y
  have e : (((View.whole main_v4_2).slice (win0_5.rect t)).emb (ix3 y0 y1 y2) : S2x4096x1408.Idx) = ix3 y0 ⟨t.val * 512 + y1.val, by omega⟩ y2 := by
    blk_ext [idx t]
  exact (out5_ref _ _ _ (a0 m c) (a1 m c) (a2 m c) ⟨t.val * 512 + y1.val, by omega⟩ y1 (blk0 m c t y1 ht) (blk1 m c t) (blk2 m c t) y0 y2).trans (congrArg _ e).symm

theorem final6 : (dats m 0 c).arrAt 6 (cfgs 0).N = lay (actR (gateR (a0 m c) (a1 m c) (a2 m c)) (upR (a0 m c) (a1 m c) (a2 m c))) := by
  refine (dats m 0 c).arrAt_eq_of_covers 6 _ (by decide +kernel) fun t hf y => ?_
  have ht : t.val < 8 := lt_of_lt_of_eq t.isLt N_0
  blk_simp
  rw [after0_6]
  idx_vars y
  have e : (((View.whole main_v4_3).slice (win0_6.rect t)).emb (ix3 y0 y1 y2) : S2x4096x1408.Idx) = ix3 y0 ⟨t.val * 512 + y1.val, by omega⟩ y2 := by
    blk_ext [idx t]
  exact (out6_ref _ _ _ (a0 m c) (a1 m c) (a2 m c) ⟨t.val * 512 + y1.val, by omega⟩ y1 (blk0 m c t y1 ht) (blk1 m c t) (blk2 m c t) y0 y2).trans (congrArg _ e).symm

end Cert.Kernel7Ideal.Hand

end
-- ==== Proof.Pair7.lean ====
/- The pair of programs Kernel7Ideal and Reference7Ideal: the reference's run, and the kernel's results equal to the reference's. -/
module

public import proofs.«01_k».proof.Defs
public import proofs.«01_k».proof.Proof.Gen.Kernel7Ideal
public import proofs.«01_k».proof.Proof.Gen.Kernel7Ideal.Frame
public import proofs.«01_k».proof.Proof.Gen.Reference7Ideal
public import proofs.«01_k».proof.Proof.Gen.Reference7Ideal.Run
public import proofs.«01_k».proof.Proof.In7
public import Idealize.ShloMosaic.Lib.Claim
public import Idealize.ShloMosaic.Adequacy
public import Idealize.ShloMosaic.Init

@[expose] public section

noncomputable section

namespace Cert.Proof

open Idealize.ShloMosaic Idealize.SL.Sem

theorem frameR7 : Cert.quiescent_Reference7Ideal := fun m g _ =>
  (θ_run _ _ _).mono (fun _ h => ⟨fun c => (h c).2.2.2.2, sem_eq_zero_of_no_sems (by decide) _⟩) (Cert.Reference7Ideal.Value.run m g)

theorem value7_0 (m : (ℓ : Loc Cert.Kernel7Ideal.nD Cert.Kernel7Ideal.τ Cert.Kernel7Ideal.sig) → Buf (Elt Ideal) ℓ)
    (m' : (ℓ : Loc Cert.Reference7Ideal.nD Cert.Reference7Ideal.τ Cert.Reference7Ideal.sig) → Buf (Elt Ideal) ℓ)
    (c : Dev Cert.Kernel7Ideal.nD) (hagree : m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) :
    Cert.Reference7Ideal.Hand.hL (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1))
      = (Cert.Kernel7Ideal.Gen.dats m 0 c).arrAt 3 (Cert.Kernel7Ideal.cfgs 0).N := by
  obtain ⟨e0, e1, e2⟩ := hagree
  refine Eq.trans ?_ (Cert.Kernel7Ideal.Hand.final3 m c).symm
  rw [e0, e1]

theorem value7_1 (m : (ℓ : Loc Cert.Kernel7Ideal.nD Cert.Kernel7Ideal.τ Cert.Kernel7Ideal.sig) → Buf (Elt Ideal) ℓ)
    (m' : (ℓ : Loc Cert.Reference7Ideal.nD Cert.Reference7Ideal.τ Cert.Reference7Ideal.sig) → Buf (Elt Ideal) ℓ)
    (c : Dev Cert.Kernel7Ideal.nD) (hagree : m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) :
    Cert.Reference7Ideal.Hand.lay (Cert.Reference7Ideal.Hand.gateR (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)))
      = (Cert.Kernel7Ideal.Gen.dats m 0 c).arrAt 4 (Cert.Kernel7Ideal.cfgs 0).N := by
  obtain ⟨e0, e1, e2⟩ := hagree
  refine Eq.trans ?_ (Cert.Kernel7Ideal.Hand.final4 m c).symm
  rw [e0, e1, e2]

theorem value7_2 (m : (ℓ : Loc Cert.Kernel7Ideal.nD Cert.Kernel7Ideal.τ Cert.Kernel7Ideal.sig) → Buf (Elt Ideal) ℓ)
    (m' : (ℓ : Loc Cert.Reference7Ideal.nD Cert.Reference7Ideal.τ Cert.Reference7Ideal.sig) → Buf (Elt Ideal) ℓ)
    (c : Dev Cert.Kernel7Ideal.nD) (hagree : m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) :
    Cert.Reference7Ideal.Hand.lay (Cert.Reference7Ideal.Hand.upR (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2)))
      = (Cert.Kernel7Ideal.Gen.dats m 0 c).arrAt 5 (Cert.Kernel7Ideal.cfgs 0).N := by
  obtain ⟨e0, e1, e2⟩ := hagree
  refine Eq.trans ?_ (Cert.Kernel7Ideal.Hand.final5 m c).symm
  rw [e0, e1, e2]

theorem value7_3 (m : (ℓ : Loc Cert.Kernel7Ideal.nD Cert.Kernel7Ideal.τ Cert.Kernel7Ideal.sig) → Buf (Elt Ideal) ℓ)
    (m' : (ℓ : Loc Cert.Reference7Ideal.nD Cert.Reference7Ideal.τ Cert.Reference7Ideal.sig) → Buf (Elt Ideal) ℓ)
    (c : Dev Cert.Kernel7Ideal.nD) (hagree : m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) :
    Cert.Reference7Ideal.Hand.lay (Cert.Reference7Ideal.Hand.actR (Cert.Reference7Ideal.Hand.gateR (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2))) (Cert.Reference7Ideal.Hand.upR (m' ((c.tc : Thread Cert.Reference7Ideal.nD Cert.Reference7Ideal.τ).loc Cert.Reference7Ideal.main_arg0)) (m' ((c.tc : Thread Cert.Reference7Ideal.nD Cert.Reference7Ideal.τ).loc Cert.Reference7Ideal.main_arg1)) (m' ((c.tc : Thread Cert.Reference7Ideal.nD Cert.Reference7Ideal.τ).loc Cert.Reference7Ideal.main_arg2))))
      = (Cert.Kernel7Ideal.Gen.dats m 0 c).arrAt 6 (Cert.Kernel7Ideal.cfgs 0).N := by
  obtain ⟨e0, e1, e2⟩ := hagree
  refine Eq.trans ?_ (Cert.Kernel7Ideal.Hand.final6 m c).symm
  rw [e0, e1, e2]

set_option maxHeartbeats 1600000 in
theorem algebraic7 : Cert.algebraic_Kernel7Ideal_Reference7Ideal := by
  pair_intro
  · run_from Cert.Kernel7Ideal.Gen.run_main m g
  · exact (θ_run _ _ _).mono (fun _ h c => ⟨(h c).1.trans (value7_0 m m' c (hagree c)), (h c).2.1.trans (value7_1 m m' c (hagree c)), (h c).2.2.1.trans (value7_2 m m' c (hagree c)), (h c).2.2.2.1.trans (value7_3 m m' c (hagree c)), (h c).2.2.2.2⟩) (Cert.Reference7Ideal.Value.run m' g')

end Cert.Proof

end
-- ==== Proof.Out8.lean ====
/- The feed-forward lines' output after the call that computes it. -/
module

public import proofs.«01_k».proof.Proof.Gen.Kernel8Ideal.Value
public import proofs.«01_k».proof.Proof.Gen.Reference8Ideal.Run
public import proofs.«01_k».proof.Proof.Ffn

@[expose] public section

set_option maxRecDepth 16384

noncomputable section

open Idealize.ShloMosaic Idealize.ShloMosaic.TcCoe Idealize.SL.Sem

namespace Cert.Reference8Ideal.Hand
open Cert.Reference8Ideal Cert.Reference8Ideal.Gen

/-- The reference's result. -/
def REF (A : FVec Ideal S4096x2816 .f32) (W : FVec Ideal S2816x1024 .f32) (X : FVec Ideal S4096x1024 .f32) : FVec Ideal S4096x1024 .f32 :=
  addf X (mulf (broadcastInDim S4096x1024 ![] bcast_S_S4096x1024 (constant S_ .f32 0x3F000000#32)) (Host.dotGeneral dot_S4096x2816_S2816x1024_S4096x1024_1_0_0_1_n_n none A W))

theorem REF_at (A : FVec Ideal S4096x2816 .f32) (W : FVec Ideal S2816x1024 .f32) (X : FVec Ideal S4096x1024 .f32) (r : Fin 4096) (d : Fin 1024) :
    REF A W X (ix2 r d) = X (ix2 r d) + Ffn.half * ∑ k : Fin 2816, A (ix2 r k) * W (ix2 k d) := by
  pointwise [REF]

end Cert.Reference8Ideal.Hand

namespace Cert.Kernel8Ideal.Hand
open Cert.Kernel8Ideal Cert.Kernel8Ideal.Gen

theorem pay1_at (v0 : FVec Ideal S1x512x1408 .bf16) (v2 : FVec Ideal S1408x1024 .bf16) (v5 : FVec Ideal S1x512x1408 .bf16) (v7 : FVec Ideal S1408x1024 .bf16) (v11 : FVec Ideal S512x1024 .f32) (r : Fin 512) (d : Fin 1024) :
    k0_pay1 (F := Ideal) v0 v2 v5 v7 v11 (ix2 r d) = v11 (ix2 r d) + Ffn.half * ((∑ k : Fin 1408, v0 (ix3 0 r k) * v2 (ix2 k d)) + ∑ k : Fin 1408, v5 (ix3 0 r k) * v7 (ix2 k d)) := by
  pointwise [k0_pay1]

theorem out_at (x0 : FVec Ideal S2x512x1408 .bf16) (x1 : FVec Ideal S2816x1024 .bf16) (x2 : FVec Ideal S512x1024 .f32) (r : Fin 512) (d : Fin 1024) :
    out0_3 (F := Ideal) x0 x1 x2 (ix2 r d) = x2 (ix2 r d) + Ffn.half * ((∑ k : Fin 1408, x0 (ix3 0 r k) * x1 (ix2 ⟨k.val, by omega⟩ d)) + ∑ k : Fin 1408, x0 (ix3 1 r k) * x1 (ix2 ⟨1408 + k.val, by omega⟩ d)) := by
  frame_out
  rw [pay1_at]
  pointwise

theorem out_ref (x0 : FVec Ideal S2x512x1408 .bf16) (x1 : FVec Ideal S2816x1024 .bf16) (x2 : FVec Ideal S512x1024 .f32)
    (A : FVec Ideal S4096x2816 .f32) (W : FVec Ideal S2816x1024 .f32) (X : FVec Ideal S4096x1024 .f32) (r : Fin 512) (d : Fin 1024) (R : Fin 4096)
    (h0 : ∀ (q : Fin 2) (k : Fin 1408), x0 (ix3 q r k) = A (ix2 R ⟨q.val * 1408 + k.val, by omega⟩)) (h1 : ∀ k : Fin 2816, x1 (ix2 k d) = W (ix2 k d)) (h2 : x2 (ix2 r d) = X (ix2 R d)) :
    out0_3 (F := Ideal) x0 x1 x2 (ix2 r d) = Cert.Reference8Ideal.Hand.REF A W X (ix2 R d) := by
  rw [out_at, Cert.Reference8Ideal.Hand.REF_at, h2, Fin.sum_univ_two_halves 1408 1408 rfl fun k : Fin 2816 => A (ix2 R k) * W (ix2 k d)]
  simp only [h0, h1]
  refine congrArg (fun z => X (ix2 R d) + Ffn.half * z) (congrArg₂ (· + ·) (Finset.sum_congr rfl fun k _ => ?_) (Finset.sum_congr rfl fun k _ => ?_))
  · have e : (⟨(0 : Fin 2).val * 1408 + k.val, by have := k.isLt; simp only [Fin.val_zero]; omega⟩ : Fin 2816) = ⟨k.val, by omega⟩ := Fin.ext (by simp)
    exact congrArg (fun z => A (ix2 R z) * W (ix2 ⟨k.val, by omega⟩ d)) e
  · have e : (⟨(1 : Fin 2).val * 1408 + k.val, by have := k.isLt; simp only [Fin.val_one]; omega⟩ : Fin 2816) = ⟨1408 + k.val, by omega⟩ := Fin.ext (by simp)
    exact congrArg (fun z => A (ix2 R z) * W (ix2 ⟨1408 + k.val, by omega⟩ d)) e

variable (m : (ℓ : Loc nD τ sig) → Buf (Elt Ideal) ℓ) (c : Dev nD)

/-- The activations. -/
abbrev a0 : FVec Ideal S4096x2816 .f32 := m ((c.tc : Thread nD τ).loc main_arg0)
/-- The second weight. -/
abbrev a1 : FVec Ideal S2816x1024 .f32 := m ((c.tc : Thread nD τ).loc main_arg1)
/-- The rows the lines start from. -/
abbrev a2 : FVec Ideal S4096x1024 .f32 := m ((c.tc : Thread nD τ).loc main_arg2)

theorem idx : ∀ t : Fin cfg0.N, win0_0.index t = ![0, t.val, 0] ∧ win0_1.index t = ![0, 0] ∧ win0_2.index t = ![t.val, 0] ∧ win0_3.index t = ![t.val, 0] := (by decide +kernel : ∀ t : Fin grid0.N, _)

theorem blk0 (t : Fin cfg0.N) (q : Fin 2) (r : Fin 512) (k : Fin 1408) (ht : t.val < 8) :
    (iblk m c 0 t : FVec Ideal S2x512x1408 .bf16) (ix3 q r k) = a0 m c (ix2 ⟨t.val * 512 + r.val, by omega⟩ ⟨q.val * 1408 + k.val, by omega⟩) := by
  blk_point [iblk, V, idx t]
theorem blk1 (t : Fin cfg0.N) (k : Fin 2816) (d : Fin 1024) :
    (iblk m c 1 t : FVec Ideal S2816x1024 .bf16) (ix2 k d) = a1 m c (ix2 k d) := by
  blk_point [iblk, V, idx t]
theorem blk2 (t : Fin cfg0.N) (r : Fin 512) (d : Fin 1024) (ht : t.val < 8) :
    (iblk m c 2 t : FVec Ideal S512x1024 .f32) (ix2 r d) = a2 m c (ix2 ⟨t.val * 512 + r.val, by omega⟩ d) := by
  blk_point [iblk, V, idx t]

theorem final : (dats m 0 c).arrAt 3 (cfgs 0).N = Cert.Reference8Ideal.Hand.REF (a0 m c) (a1 m c) (a2 m c) := by
  refine (dats m 0 c).arrAt_eq_of_covers 3 _ (by decide +kernel) fun t hf y => ?_
  have ht : t.val < 8 := lt_of_lt_of_eq t.isLt N_0
  blk_simp
  rw [after0_3]
  idx_vars y
  have e : (((View.whole main_v4).slice (win0_3.rect t)).emb (ix2 y0 y1) : S4096x1024.Idx) = ix2 ⟨t.val * 512 + y0.val, by omega⟩ y1 := by
    blk_ext [idx t]
  exact (out_ref _ _ _ (a0 m c) (a1 m c) (a2 m c) y0 y1 ⟨t.val * 512 + y0.val, by omega⟩ (fun q k => blk0 m c t q y0 k ht) (fun k => blk1 m c t k y1) (blk2 m c t y0 y1 ht)).trans (congrArg _ e).symm

end Cert.Kernel8Ideal.Hand

end
-- ==== Proof.Pair8.lean ====
/- The pair of programs Kernel8Ideal and Reference8Ideal: the reference's run, and the kernel's results equal to the reference's. -/
module

public import proofs.«01_k».proof.Defs
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Out8
public import Idealize.ShloMosaic.Lib.Claim
public import Idealize.ShloMosaic.Adequacy
public import Idealize.ShloMosaic.Init

@[expose] public section

noncomputable section

namespace Cert.Proof

open Idealize.ShloMosaic Idealize.SL.Sem

theorem frameR8 : Cert.quiescent_Reference8Ideal := fun m g _ =>
  (θ_run _ _ _).mono (fun _ h => ⟨fun c => (h c).2, sem_eq_zero_of_no_sems (by decide) _⟩) (Cert.Reference8Ideal.Value.run m g)

theorem value8_0 (m : (ℓ : Loc Cert.Kernel8Ideal.nD Cert.Kernel8Ideal.τ Cert.Kernel8Ideal.sig) → Buf (Elt Ideal) ℓ)
    (m' : (ℓ : Loc Cert.Reference8Ideal.nD Cert.Reference8Ideal.τ Cert.Reference8Ideal.sig) → Buf (Elt Ideal) ℓ)
    (c : Dev Cert.Kernel8Ideal.nD) (hagree : m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) :
    Cert.Reference8Ideal.Hand.REF (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2))
      = (Cert.Kernel8Ideal.Gen.dats m 0 c).arrAt 3 (Cert.Kernel8Ideal.cfgs 0).N := by
  obtain ⟨e0, e1, e2⟩ := hagree
  refine Eq.trans ?_ (Cert.Kernel8Ideal.Hand.final m c).symm
  rw [e0, e1, e2]

set_option maxHeartbeats 1600000 in
theorem algebraic8 : Cert.algebraic_Kernel8Ideal_Reference8Ideal := by
  pair_intro
  · run_from Cert.Kernel8Ideal.Gen.run_main m g
  · exact (θ_run _ _ _).mono (fun _ h c => ⟨(h c).1.trans (value8_0 m m' c (hagree c)), (h c).2⟩) (Cert.Reference8Ideal.Value.run m' g')

end Cert.Proof

end
-- ==== Proof.Proj9.lean ====
/- The normalised rows and their products with the two groups of columns of the mixer's combined weight after the call that computes them. -/
module

public import proofs.«01_k».proof.Proof.Gen.Kernel9Ideal.Value
public import proofs.«01_k».proof.Proof.Gen.Reference9Ideal.Run
public import proofs.«01_k».proof.Proof.In7

@[expose] public section

set_option maxRecDepth 16384

noncomputable section

open Idealize.ShloMosaic Idealize.ShloMosaic.TcCoe Idealize.SL.Sem

namespace Cert.Reference9Ideal.Hand
open Cert.Reference9Ideal Cert.Reference9Ideal.Gen

section
variable (X : FVec Ideal S4096x1024 .f32) (G : FVec Ideal S1024 .f32) (W : FVec Ideal S1024x6144 .f32) (T : FVec Ideal S1024x1536 .f32)
/-- The normalised rows. -/
def hR : FVec Ideal S4096x1024 .f32 :=
  mulf (mulf X (broadcastInDim S4096x1024 ![0, 1] bcast_S4096x1_S4096x1024_0_1 (Host.rsqrt (addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32)))))) (broadcastInDim S4096x1024 ![0, 1] bcast_S1x1024_S4096x1024_0_1 (broadcastInDim S1x1024 ![1] bcast_S1024_S1x1024_1 G))
/-- The normalised rows as they leave. -/
def hL : FVec Ideal S4096x1024 .bf16 := truncf .bf16 (hR X G) bitsLt_bf16_f32
/-- The products with the first group of columns. -/
def pM : FVec Ideal S4096x6144 .bf16 := truncf .bf16 (Host.dotGeneral dot_S4096x1024_S1024x6144_S4096x6144_1_0_0_1_n_n none (hR X G) W) bitsLt_bf16_f32
/-- The products with the second group of columns. -/
def pT : FVec Ideal S4096x1536 .f32 := Host.dotGeneral dot_S4096x1024_S1024x1536_S4096x1536_1_0_0_1_n_n none (hR X G) T

theorem hR_at (r : Fin 4096) (d : Fin 1024) : hR X G (ix2 r d) = X (ix2 r d) * Ffn.rs (fun d => X (ix2 r d)) * G (ix1 d) := by
  pointwise [hR, Ffn.rs]
theorem pM_at (r : Fin 4096) (f : Fin 6144) : pM X G W (ix2 r f) = ∑ d : Fin 1024, hR X G (ix2 r d) * W (ix2 d f) := by
  pointwise [pM]
theorem pT_at (r : Fin 4096) (f : Fin 1536) : pT X G T (ix2 r f) = ∑ d : Fin 1024, hR X G (ix2 r d) * T (ix2 d f) := by
  pointwise [pT]
end

end Cert.Reference9Ideal.Hand

namespace Cert.Kernel9Ideal.Hand
open Cert.Kernel9Ideal Cert.Kernel9Ideal.Gen Cert.Reference9Ideal.Hand

section
variable (b0 : FVec Ideal S512x1024 .f32) (b1 : FVec Ideal S1x1024 .f32) (b2 : FVec Ideal S1024x6144 .bf16) (b3 : FVec Ideal S1024x1536 .bf16)

/-- An entry of a row block's normalised rows. -/
def hK (r : Fin 512) (d : Fin 1024) : EReal := b0 (ix2 r d) * Ffn.rs (fun d => b0 (ix2 r d)) * b1 (ix2 0 d)

theorem pay1_at (r : Fin 512) (d : Fin 1024) : k0_pay1 (F := Ideal) b0 b1 (ix2 r d) = hK b0 b1 r d := by
  pointwise [k0_pay1, hK, Ffn.rs]
theorem out4_at (r : Fin 512) (d : Fin 1024) : out0_4 (F := Ideal) b0 b1 b2 b3 (ix2 r d) = hK b0 b1 r d := by
  frame_out
  exact pay1_at b0 b1 r d
theorem out5_at (r : Fin 512) (f : Fin 6144) : out0_5 (F := Ideal) b0 b1 b2 b3 (ix2 r f) = ∑ d : Fin 1024, hK b0 b1 r d * b2 (ix2 d f) := by
  frame_out
  pointwise [k0_pay2, k0_pay1, hK, Ffn.rs]
theorem out6_at (r : Fin 512) (f : Fin 1536) : out0_6 (F := Ideal) b0 b1 b2 b3 (ix2 r f) = ∑ d : Fin 1024, hK b0 b1 r d * b3 (ix2 d f) := by
  frame_out
  pointwise [k0_pay3, k0_pay1, hK, Ffn.rs]

variable (X : FVec Ideal S4096x1024 .f32) (G : FVec Ideal S1024 .f32) (W : FVec Ideal S1024x6144 .f32) (T : FVec Ideal S1024x1536 .f32) (R : Fin 4096) (r : Fin 512)
variable (h0 : ∀ d : Fin 1024, b0 (ix2 r d) = X (ix2 R d)) (h1 : ∀ d : Fin 1024, b1 (ix2 0 d) = G (ix1 d))
include h0 h1

theorem hK_ref (d : Fin 1024) : hK b0 b1 r d = hR X G (ix2 R d) := by
  rw [hR_at]
  unfold hK
  simp only [h0, h1]
theorem out4_ref (d : Fin 1024) : out0_4 (F := Ideal) b0 b1 b2 b3 (ix2 r d) = hL X G (ix2 R d) :=
  (out4_at b0 b1 b2 b3 r d).trans (hK_ref b0 b1 X G R r h0 h1 d)
theorem out5_ref (h2 : ∀ (d : Fin 1024) (f : Fin 6144), b2 (ix2 d f) = W (ix2 d f)) (f : Fin 6144) :
    out0_5 (F := Ideal) b0 b1 b2 b3 (ix2 r f) = pM X G W (ix2 R f) := by
  rw [out5_at, pM_at]
  exact Finset.sum_congr rfl fun d _ => by rw [hK_ref b0 b1 X G R r h0 h1 d, h2]
theorem out6_ref (h3 : ∀ (d : Fin 1024) (f : Fin 1536), b3 (ix2 d f) = T (ix2 d f)) (f : Fin 1536) :
    out0_6 (F := Ideal) b0 b1 b2 b3 (ix2 r f) = pT X G T (ix2 R f) := by
  rw [out6_at, pT_at]
  exact Finset.sum_congr rfl fun d _ => by rw [hK_ref b0 b1 X G R r h0 h1 d, h3]
end

variable (m : (ℓ : Loc nD τ sig) → Buf (Elt Ideal) ℓ) (c : Dev nD)

/-- The rows. -/
abbrev a0 : FVec Ideal S4096x1024 .f32 := m ((c.tc : Thread nD τ).loc main_arg0)
/-- The gain. -/
abbrev a1 : FVec Ideal S1024 .f32 := m ((c.tc : Thread nD τ).loc main_arg1)
/-- The weight's first group of columns. -/
abbrev a2 : FVec Ideal S1024x6144 .f32 := m ((c.tc : Thread nD τ).loc main_arg2)
/-- The weight's second group of columns. -/
abbrev a3 : FVec Ideal S1024x1536 .f32 := m ((c.tc : Thread nD τ).loc main_arg3)

theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![t.val, 0] ∧ win0_6.index t = ![t.val, 0] := (by decide +kernel : ∀ t : Fin grid0.N, _)

theorem blk0 (t : Fin cfg0.N) (r : Fin 512) (ht : t.val < 8) (d : Fin 1024) :
    (iblk m c 0 t : FVec Ideal S512x1024 .f32) (ix2 r d) = a0 m c (ix2 ⟨t.val * 512 + r.val, by omega⟩ d) := by
  blk_point [iblk, V, idx t]
theorem blk1 (t : Fin cfg0.N) (d : Fin 1024) :
    (iblk m c 1 t : FVec Ideal S1x1024 .f32) (ix2 0 d) = a1 m c (ix1 d) := by
  blk_point [iblk, V, idx t]
theorem blk2 (t : Fin cfg0.N) (d : Fin 1024) (f : Fin 6144) :
    (iblk m c 2 t : FVec Ideal S1024x6144 .bf16) (ix2 d f) = a2 m c (ix2 d f) := by
  blk_point [iblk, V, idx t]
theorem blk3 (t : Fin cfg0.N) (d : Fin 1024) (f : Fin 1536) :
    (iblk m c 3 t : FVec Ideal S1024x1536 .bf16) (ix2 d f) = a3 m c (ix2 d f) := by
  blk_point [iblk, V, idx t]

theorem final4 : (dats m 0 c).arrAt 4 (cfgs 0).N = hL (a0 m c) (a1 m c) := by
  refine (dats m 0 c).arrAt_eq_of_covers 4 _ (by decide +kernel) fun t hf y => ?_
  have ht : t.val < 8 := lt_of_lt_of_eq t.isLt N_0
  blk_simp
  rw [after0_4]
  idx_vars y
  have e : (((View.whole main_v3_0).slice (win0_4.rect t)).emb (ix2 y0 y1) : S4096x1024.Idx) = ix2 ⟨t.val * 512 + y0.val, by omega⟩ y1 := by
    blk_ext [idx t]
  exact (out4_ref _ _ _ _ (a0 m c) (a1 m c) ⟨t.val * 512 + y0.val, by omega⟩ y0 (blk0 m c t y0 ht) (blk1 m c t) y1).trans (congrArg _ e).symm

theorem final5 : (dats m 0 c).arrAt 5 (cfgs 0).N = pM (a0 m c) (a1 m c) (a2 m c) := by
  refine (dats m 0 c).arrAt_eq_of_covers 5 _ (by decide +kernel) fun t hf y => ?_
  have ht : t.val < 8 := lt_of_lt_of_eq t.isLt N_0
  blk_simp
  rw [after0_5]
  idx_vars y
  have e : (((View.whole main_v3_1).slice (win0_5.rect t)).emb (ix2 y0 y1) : S4096x6144.Idx) = ix2 ⟨t.val * 512 + y0.val, by omega⟩ y1 := by
    blk_ext [idx t]
  exact (out5_ref _ _ _ _ (a0 m c) (a1 m c) (a2 m c) ⟨t.val * 512 + y0.val, by omega⟩ y0 (blk0 m c t y0 ht) (blk1 m c t) (blk2 m c t) y1).trans (congrArg _ e).symm

theorem final6 : (dats m 0 c).arrAt 6 (cfgs 0).N = pT (a0 m c) (a1 m c) (a3 m c) := by
  refine (dats m 0 c).arrAt_eq_of_covers 6 _ (by decide +kernel) fun t hf y => ?_
  have ht : t.val < 8 := lt_of_lt_of_eq t.isLt N_0
  blk_simp
  rw [after0_6]
  idx_vars y
  have e : (((View.whole main_v3_2).slice (win0_6.rect t)).emb (ix2 y0 y1) : S4096x1536.Idx) = ix2 ⟨t.val * 512 + y0.val, by omega⟩ y1 := by
    blk_ext [idx t]
  exact (out6_ref _ _ _ _ (a0 m c) (a1 m c) (a3 m c) ⟨t.val * 512 + y0.val, by omega⟩ y0 (blk0 m c t y0 ht) (blk1 m c t) (blk3 m c t) y1).trans (congrArg _ e).symm

end Cert.Kernel9Ideal.Hand

end
-- ==== Proof.Pair9.lean ====
/- The pair of programs Kernel9Ideal and Reference9Ideal: the reference's run, and the kernel's results equal to the reference's. -/
module

public import proofs.«01_k».proof.Defs
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Proj9
public import Idealize.ShloMosaic.Lib.Claim
public import Idealize.ShloMosaic.Adequacy
public import Idealize.ShloMosaic.Init

@[expose] public section

noncomputable section

namespace Cert.Proof

open Idealize.ShloMosaic Idealize.SL.Sem

theorem frameR9 : Cert.quiescent_Reference9Ideal := fun m g _ =>
  (θ_run _ _ _).mono (fun _ h => ⟨fun c => (h c).2.2.2, sem_eq_zero_of_no_sems (by decide) _⟩) (Cert.Reference9Ideal.Value.run m g)

theorem value9_0 (m : (ℓ : Loc Cert.Kernel9Ideal.nD Cert.Kernel9Ideal.τ Cert.Kernel9Ideal.sig) → Buf (Elt Ideal) ℓ)
    (m' : (ℓ : Loc Cert.Reference9Ideal.nD Cert.Reference9Ideal.τ Cert.Reference9Ideal.sig) → Buf (Elt Ideal) ℓ)
    (c : Dev Cert.Kernel9Ideal.nD) (hagree : m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) :
    Cert.Reference9Ideal.Hand.hL (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1))
      = (Cert.Kernel9Ideal.Gen.dats m 0 c).arrAt 4 (Cert.Kernel9Ideal.cfgs 0).N := by
  obtain ⟨e0, e1, e2, e3⟩ := hagree
  refine Eq.trans ?_ (Cert.Kernel9Ideal.Hand.final4 m c).symm
  rw [e0, e1]

theorem value9_1 (m : (ℓ : Loc Cert.Kernel9Ideal.nD Cert.Kernel9Ideal.τ Cert.Kernel9Ideal.sig) → Buf (Elt Ideal) ℓ)
    (m' : (ℓ : Loc Cert.Reference9Ideal.nD Cert.Reference9Ideal.τ Cert.Reference9Ideal.sig) → Buf (Elt Ideal) ℓ)
    (c : Dev Cert.Kernel9Ideal.nD) (hagree : m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) :
    Cert.Reference9Ideal.Hand.pM (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2))
      = (Cert.Kernel9Ideal.Gen.dats m 0 c).arrAt 5 (Cert.Kernel9Ideal.cfgs 0).N := by
  obtain ⟨e0, e1, e2, e3⟩ := hagree
  refine Eq.trans ?_ (Cert.Kernel9Ideal.Hand.final5 m c).symm
  rw [e0, e1, e2]

theorem value9_2 (m : (ℓ : Loc Cert.Kernel9Ideal.nD Cert.Kernel9Ideal.τ Cert.Kernel9Ideal.sig) → Buf (Elt Ideal) ℓ)
    (m' : (ℓ : Loc Cert.Reference9Ideal.nD Cert.Reference9Ideal.τ Cert.Reference9Ideal.sig) → Buf (Elt Ideal) ℓ)
    (c : Dev Cert.Kernel9Ideal.nD) (hagree : m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) :
    Cert.Reference9Ideal.Hand.pT (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg3))
      = (Cert.Kernel9Ideal.Gen.dats m 0 c).arrAt 6 (Cert.Kernel9Ideal.cfgs 0).N := by
  obtain ⟨e0, e1, e2, e3⟩ := hagree
  refine Eq.trans ?_ (Cert.Kernel9Ideal.Hand.final6 m c).symm
  rw [e0, e1, e3]

set_option maxHeartbeats 1600000 in
theorem algebraic9 : Cert.algebraic_Kernel9Ideal_Reference9Ideal := by
  pair_intro
  · run_from Cert.Kernel9Ideal.Gen.run_main m g
  · exact (θ_run _ _ _).mono (fun _ h c => ⟨(h c).1.trans (value9_0 m m' c (hagree c)), (h c).2.1.trans (value9_1 m m' c (hagree c)), (h c).2.2.1.trans (value9_2 m m' c (hagree c)), (h c).2.2.2⟩) (Cert.Reference9Ideal.Value.run m' g')

end Cert.Proof

end
-- ==== Proof.MixDx10.lean ====
/- The gradients of the rows and of the gain of the mixer's combined projection after the call that computes it. -/
module

public import proofs.«01_k».proof.Proof.Gen.Kernel10Ideal.Value
public import proofs.«01_k».proof.Proof.Gen.Reference10Ideal.Run
public import proofs.«01_k».proof.Proof.Dx6

@[expose] public section

set_option maxRecDepth 16384

noncomputable section

open Idealize.ShloMosaic Idealize.ShloMosaic.TcCoe Idealize.SL.Sem

namespace Cert.Reference10Ideal.Hand
open Cert.Reference10Ideal Cert.Reference10Ideal.Gen

section
variable (X : FVec Ideal S4096x1024 .f32) (G : FVec Ideal S1024 .f32) (W : FVec Ideal S1024x6144 .f32) (T : FVec Ideal S1024x1536 .f32) (Y : FVec Ideal S4096x1024 .f32)
  (D : FVec Ideal S4096x6144 .f32) (E : FVec Ideal S4096x1536 .f32)
/-- The gradient of the normalised rows. -/
def dhR : FVec Ideal S4096x1024 .f32 := addf (Host.dotGeneral dot_S4096x1536_S1024x1536_S4096x1024_1_1_0_0_n_n none E T) (Host.dotGeneral dot_S4096x6144_S1024x6144_S4096x1024_1_1_0_0_n_n none D W)
/-- The mean squares, the small constant added. -/
def msR : FVec Ideal S4096x1 .f32 := addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))
/-- The gradient of the normalised rows times the gain. -/
def uR : FVec Ideal S4096x1024 .f32 := mulf (dhR W T D E) (broadcastInDim S4096x1024 ![0, 1] bcast_S1x1024_S4096x1024_0_1 (broadcastInDim S1x1024 ![1] bcast_S1024_S1x1024_1 G))
/-- The part that goes through the mean square, but for the factor of the row. -/
def cR (u : FVec Ideal S4096x1024 .f32) : FVec Ideal S4096x1024 .f32 := broadcastInDim S4096x1024 ![0] bcast_S4096_S4096x1024_0 (Host.reduceAdd (Host.divf (mulf (shapeCast _ (Host.reduceAdd (mulf X u) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (msR X)) (msR X)))) (broadcastInDim S4096x1 ![] bcast_S_S4096x1 (constant S_ .f32 0x44800000#32))) (constant S_ .f32 0x00000000#32) reducesTo_S4096x1_S4096_d1 h_S_)
/-- The reference's gradient of the rows. -/
def DX : FVec Ideal S4096x1024 .f32 :=
  addf (addf (addf Y (mulf (uR G W T D E) (broadcastInDim S4096x1024 ![0, 1] bcast_S4096x1_S4096x1024_0_1 (Host.rsqrt (msR X))))) (mulf X (cR X (uR G W T D E)))) (mulf (cR X (uR G W T D E)) X)
/-- The reference's gradient of the gain. -/
def DG : FVec Ideal S1x1024 .f32 :=
  broadcastInDim S1x1024 ![1] bcast_S1024_S1x1024_1 (Host.reduceAdd (shapeCast _ (Host.reduceAdd (mulf (mulf X (broadcastInDim S4096x1024 ![0, 1] bcast_S4096x1_S4096x1024_0_1 (Host.rsqrt (msR X)))) (dhR W T D E)) (constant S_ .f32 0x00000000#32) reducesTo_S4096x1024_S1024_d0 h_S_) shapeCasts_S1024_S1x1024) (constant S_ .f32 0x00000000#32) reducesTo_S1x1024_S1024_d0 h_S_)

theorem dhR_at (r : Fin 4096) (d : Fin 1024) : dhR W T D E (ix2 r d) = ∑ f : Fin 6144, D (ix2 r f) * W (ix2 d f) + ∑ f : Fin 1536, E (ix2 r f) * T (ix2 d f) := by
  rw [add_comm]
  pointwise [dhR]
theorem msR_at (r : Fin 4096) : msR X (ix2 r 0) = Ffn.ms fun d => X (ix2 r d) := by
  pointwise [msR, Ffn.ms]
theorem uR_at (r : Fin 4096) (d : Fin 1024) : uR G W T D E (ix2 r d) = dhR W T D E (ix2 r d) * G (ix1 d) := by
  pointwise [uR]
theorem cR_at (u : FVec Ideal S4096x1024 .f32) (r : Fin 4096) (d : Fin 1024) : X (ix2 r d) * cR X u (ix2 r d) = Ffn.dxS (X (ix2 r d)) (msR X (ix2 r 0)) (∑ e : Fin 1024, X (ix2 r e) * u (ix2 r e)) := by
  pointwise [cR, Ffn.dxS]
  rw [Fin.sum_univ_one]
theorem DX_at (r : Fin 4096) (d : Fin 1024) : DX X G W T Y D E (ix2 r d) = Ffn.dxR (Y (ix2 r d)) (uR G W T D E (ix2 r d)) (X (ix2 r d)) (msR X (ix2 r 0)) (∑ e : Fin 1024, X (ix2 r e) * uR G W T D E (ix2 r e)) := by
  rw [Ffn.dxR, ← cR_at]
  pointwise [DX]
  rw [mul_comm (cR X (uR G W T D E) (ix2 r d))]
theorem DG_at (d : Fin 1024) : DG X W T D E (ix2 0 d) = ∑ r : Fin 4096, X (ix2 r d) * Ideal.rsqrt (msR X (ix2 r 0)) * dhR W T D E (ix2 r d) := by
  pointwise [DG]
  rw [Fin.sum_univ_one]
end

end Cert.Reference10Ideal.Hand

namespace Cert.Kernel10Ideal.Hand
open Cert.Kernel10Ideal Cert.Kernel10Ideal.Gen Cert.Reference10Ideal.Hand

section
variable (b0 : FVec Ideal S512x6144 .bf16) (b1 : FVec Ideal S512x1536 .bf16) (b2 : FVec Ideal S1024x6144 .bf16) (b3 : FVec Ideal S1024x1536 .bf16)
  (b4 : FVec Ideal S512x1024 .f32) (b5 : FVec Ideal S1x1024 .f32) (b6 : FVec Ideal S512x1024 .f32)

/-- An entry of the gradient of a row block's normalised rows. -/
def dhK (r : Fin 512) (d : Fin 1024) : EReal := ∑ f : Fin 6144, b0 (ix2 r f) * b2 (ix2 d f) + ∑ f : Fin 1536, b1 (ix2 r f) * b3 (ix2 d f)

theorem pay3_at (j) : k0_pay3 (F := Ideal) j = 0 := by pointwise [k0_pay3]
theorem pay4_at (r : Fin 512) (d : Fin 1024) : k0_pay4 (F := Ideal) b0 b2 b1 b3 (ix2 r d) = dhK b0 b1 b2 b3 r d := by
  pointwise [k0_pay4, dhK]
theorem pay5_at (r : Fin 512) : k0_pay5 (F := Ideal) b4 (ix2 r 0) = Ideal.rsqrt (Ffn.ms fun d => b4 (ix2 r d)) := by
  pointwise [k0_pay5, Ffn.ms]
theorem pay6_at (r : Fin 512) (d : Fin 1024) : k0_pay6 (F := Ideal) b0 b2 b1 b3 b5 (ix2 r d) = dhK b0 b1 b2 b3 r d * b5 (ix2 0 d) := by
  rw [← pay4_at]
  pointwise [k0_pay6]
theorem pay1_at (r : Fin 512) (d : Fin 1024) :
    k0_pay1 (F := Ideal) (k0_pay7 (F := Ideal) b0 b2 b1 b3 b4 b5 b6) (k0_pay8 (F := Ideal) b4) (k0_pay9 (F := Ideal) b0 b2 b1 b3 b4 b5) (ix2 r d)
      = Ffn.dxK (b6 (ix2 r d)) (dhK b0 b1 b2 b3 r d * b5 (ix2 0 d)) (b4 (ix2 r d)) (Ffn.ms fun d => b4 (ix2 r d)) (∑ e : Fin 1024, b4 (ix2 r e) * (dhK b0 b1 b2 b3 r e * b5 (ix2 0 e))) := by
  rw [Ffn.dxK, ← pay5_at]
  simp only [← pay6_at]
  pointwise [k0_pay1, k0_pay7, k0_pay8, k0_pay9]
theorem pay2_at (o : FVec Ideal S1x1024 .f32) (d : Fin 1024) :
    k0_pay2 (F := Ideal) (k0_pay4 (F := Ideal) b0 b2 b1 b3) b4 (k0_pay5 (F := Ideal) b4) o (ix2 0 d)
      = o (ix2 0 d) + ∑ r : Fin 512, dhK b0 b1 b2 b3 r d * b4 (ix2 r d) * Ideal.rsqrt (Ffn.ms fun d => b4 (ix2 r d)) := by
  simp only [← pay5_at, ← pay4_at]
  pointwise [k0_pay2]

variable (X : FVec Ideal S4096x1024 .f32) (G : FVec Ideal S1024 .f32) (W : FVec Ideal S1024x6144 .f32) (T : FVec Ideal S1024x1536 .f32) (Y : FVec Ideal S4096x1024 .f32)
  (D : FVec Ideal S4096x6144 .f32) (E : FVec Ideal S4096x1536 .f32)

/-- The part of the gain's gradient out of one block of rows. -/
def tR (p : ℕ) (hp : p < 8) (d : Fin 1024) : EReal :=
  ∑ r : Fin 512, X (ix2 ⟨p * 512 + r.val, by omega⟩ d) * Ideal.rsqrt (Ffn.ms fun e => X (ix2 ⟨p * 512 + r.val, by omega⟩ e)) * dhR W T D E (ix2 ⟨p * 512 + r.val, by omega⟩ d)

theorem DG_tiles (d : Fin 1024) : DG X W T D E (ix2 0 d) = ∑ p : Fin 8, tR X W T D E p.val p.isLt d := by
  rw [DG_at, Fin.sum_univ_tiles 8 512 rfl]
  simp only [msR_at]
  rfl

variable (p : ℕ) (hp : p < 8) (h0 : ∀ (r : Fin 512) (f : Fin 6144), b0 (ix2 r f) = D (ix2 ⟨p * 512 + r.val, by omega⟩ f))
  (h1 : ∀ (r : Fin 512) (f : Fin 1536), b1 (ix2 r f) = E (ix2 ⟨p * 512 + r.val, by omega⟩ f))
  (h2 : ∀ (d : Fin 1024) (f : Fin 6144), b2 (ix2 d f) = W (ix2 d f)) (h3 : ∀ (d : Fin 1024) (f : Fin 1536), b3 (ix2 d f) = T (ix2 d f))
include h0 h1 h2 h3

theorem dhK_ref (r : Fin 512) (d : Fin 1024) : dhK b0 b1 b2 b3 r d = dhR W T D E (ix2 ⟨p * 512 + r.val, by omega⟩ d) := by
  rw [dhR_at, dhK]
  simp only [h0, h1, h2, h3]

variable (hx : ∀ (r : Fin 512) (d : Fin 1024), b4 (ix2 r d) = X (ix2 ⟨p * 512 + r.val, by omega⟩ d))
include hx

theorem dx_ref (hg : ∀ d : Fin 1024, b5 (ix2 0 d) = G (ix1 d)) (hy : ∀ (r : Fin 512) (d : Fin 1024), b6 (ix2 r d) = Y (ix2 ⟨p * 512 + r.val, by omega⟩ d)) (r : Fin 512) (d : Fin 1024) :
    k0_pay1 (F := Ideal) (k0_pay7 (F := Ideal) b0 b2 b1 b3 b4 b5 b6) (k0_pay8 (F := Ideal) b4) (k0_pay9 (F := Ideal) b0 b2 b1 b3 b4 b5) (ix2 r d)
      = DX X G W T Y D E (ix2 ⟨p * 512 + r.val, by omega⟩ d) := by
  rw [pay1_at, DX_at, ← Ffn.dx_eq _ _ _ _ (by rw [msR_at]; exact Ffn.ms_pos _), msR_at]
  simp only [dhK_ref b0 b1 b2 b3 W T D E p hp h0 h1 h2 h3, hx, hg, hy, uR_at]

theorem dg_ref (o : FVec Ideal S1x1024 .f32) (d : Fin 1024) :
    k0_pay2 (F := Ideal) (k0_pay4 (F := Ideal) b0 b2 b1 b3) b4 (k0_pay5 (F := Ideal) b4) o (ix2 0 d) = o (ix2 0 d) + tR X W T D E p hp d := by
  rw [pay2_at, tR]
  refine congrArg (o (ix2 0 d) + ·) (Finset.sum_congr rfl fun r _ => ?_)
  rw [dhK_ref b0 b1 b2 b3 W T D E p hp h0 h1 h2 h3]
  simp only [hx]
  ac_rfl
end

variable (m : (ℓ : Loc nD τ sig) → Buf (Elt Ideal) ℓ) (c : Dev nD)

/-- The rows. -/
abbrev a0 : FVec Ideal S4096x1024 .f32 := m ((c.tc : Thread nD τ).loc main_arg0)
/-- The gain. -/
abbrev a1 : FVec Ideal S1024 .f32 := m ((c.tc : Thread nD τ).loc main_arg1)
/-- The weight's first group of columns. -/
abbrev a2 : FVec Ideal S1024x6144 .f32 := m ((c.tc : Thread nD τ).loc main_arg2)
/-- The weight's second group of columns. -/
abbrev a3 : FVec Ideal S1024x1536 .f32 := m ((c.tc : Thread nD τ).loc main_arg3)
/-- The output's cotangent. -/
abbrev a4 : FVec Ideal S4096x1024 .f32 := m ((c.tc : Thread nD τ).loc main_arg4)
/-- The cotangent of the products with the first group. -/
abbrev a5 : FVec Ideal S4096x6144 .f32 := m ((c.tc : Thread nD τ).loc main_arg5)
/-- The cotangent of the products with the second group. -/
abbrev a6 : FVec Ideal S4096x1536 .f32 := m ((c.tc : Thread nD τ).loc main_arg6)

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![0, 0] ∧ win0_6.index t = ![t.val, 0] ∧ win0_7.index t = ![t.val, 0] ∧ win0_8.index t = ![0, 0] := (by decide +kernel : ∀ t : Fin grid0.N, _)

theorem blk0 (t : Fin cfg0.N) (ht : t.val < 8) (r : Fin 512) (f : Fin 6144) :
    (iblk m c 0 t : FVec Ideal S512x6144 .bf16) (ix2 r f) = a5 m c (ix2 ⟨t.val * 512 + r.val, by omega⟩ f) := by
  blk_point [iblk, V, idx t]
theorem blk1 (t : Fin cfg0.N) (ht : t.val < 8) (r : Fin 512) (f : Fin 1536) :
    (iblk m c 1 t : FVec Ideal S512x1536 .bf16) (ix2 r f) = a6 m c (ix2 ⟨t.val * 512 + r.val, by omega⟩ f) := by
  blk_point [iblk, V, idx t]
theorem blk2 (t : Fin cfg0.N) (d : Fin 1024) (f : Fin 6144) :
    (iblk m c 2 t : FVec Ideal S1024x6144 .bf16) (ix2 d f) = a2 m c (ix2 d f) := by
  blk_point [iblk, V, idx t]
theorem blk3 (t : Fin cfg0.N) (d : Fin 1024) (f : Fin 1536) :
    (iblk m c 3 t : FVec Ideal S1024x1536 .bf16) (ix2 d f) = a3 m c (ix2 d f) := by
  blk_point [iblk, V, idx t]
theorem blk4 (t : Fin cfg0.N) (ht : t.val < 8) (r : Fin 512) (d : Fin 1024) :
    (iblk m c 4 t : FVec Ideal S512x1024 .f32) (ix2 r d) = a0 m c (ix2 ⟨t.val * 512 + r.val, by omega⟩ d) := by
  blk_point [iblk, V, idx t]
theorem blk5 (t : Fin cfg0.N) (d : Fin 1024) :
    (iblk m c 5 t : FVec Ideal S1x1024 .f32) (ix2 0 d) = a1 m c (ix1 d) := by
  blk_point [iblk, V, idx t]
theorem blk6 (t : Fin cfg0.N) (ht : t.val < 8) (r : Fin 512) (d : Fin 1024) :
    (iblk m c 6 t : FVec Ideal S512x1024 .f32) (ix2 r d) = a4 m c (ix2 ⟨t.val * 512 + r.val, by omega⟩ d) := by
  blk_point [iblk, V, idx t]

theorem dx_out (t : Fin cfg0.N) (ht : t.val < 8) (r : Fin 512) (d : Fin 1024) : (outsAt0 m c t.val t.isLt).1 (ix2 r d)
    = DX (a0 m c) (a1 m c) (a2 m c) (a3 m c) (a4 m c) (a5 m c) (a6 m c) (ix2 ⟨t.val * 512 + r.val, by omega⟩ d) := by
  by_cases h0 : t.val % 8 = 0
  · rw [outsAt0_A m c t h0]
    frame_out
    exact dx_ref _ _ _ _ _ _ _ (a0 m c) (a1 m c) (a2 m c) (a3 m c) (a4 m c) (a5 m c) (a6 m c) t.val ht (blk0 m c t ht) (blk1 m c t ht) (blk2 m c t) (blk3 m c t)
      (blk4 m c t ht) (blk5 m c t) (blk6 m c t ht) r d
  · rw [outsAt0_B m c t h0]
    frame_out
    exact dx_ref _ _ _ _ _ _ _ (a0 m c) (a1 m c) (a2 m c) (a3 m c) (a4 m c) (a5 m c) (a6 m c) t.val ht (blk0 m c t ht) (blk1 m c t ht) (blk2 m c t) (blk3 m c t)
      (blk4 m c t ht) (blk5 m c t) (blk6 m c t ht) r d
theorem dg_A (t : Fin cfg0.N) (ht : t.val < 8) (h0 : t.val % 8 = 0) (d : Fin 1024) :
    (outsAt0 m c t.val t.isLt).2 (ix2 0 d) = 0 + tR (a0 m c) (a2 m c) (a3 m c) (a5 m c) (a6 m c) t.val ht d := by
  rw [outsAt0_A m c t h0]
  frame_out
  refine (dg_ref _ _ _ _ _ (a0 m c) (a2 m c) (a3 m c) (a5 m c) (a6 m c) t.val ht (blk0 m c t ht) (blk1 m c t ht) (blk2 m c t) (blk3 m c t) (blk4 m c t ht) _ d).trans ?_
  rw [pay3_at]
theorem dg_B (t : Fin cfg0.N) (ht : t.val < 8) (h0 : ¬ t.val % 8 = 0) (d : Fin 1024) :
    (outsAt0 m c t.val t.isLt).2 (ix2 0 d) = (outsAt0 m c (t.val - 1) (Nat.lt_of_le_of_lt (Nat.sub_le _ _) t.isLt)).2 (ix2 0 d)
      + tR (a0 m c) (a2 m c) (a3 m c) (a5 m c) (a6 m c) t.val ht d := by
  rw [outsAt0_B m c t h0]
  frame_out
  exact dg_ref _ _ _ _ _ (a0 m c) (a2 m c) (a3 m c) (a5 m c) (a6 m c) t.val ht (blk0 m c t ht) (blk1 m c t ht) (blk2 m c t) (blk3 m c t) (blk4 m c t ht) _ d

theorem dg_last (t : Fin cfg0.N) (ht : t.val = 7) (d : Fin 1024) : (outsAt0 m c t.val t.isLt).2 (ix2 0 d) = DG (a0 m c) (a2 m c) (a3 m c) (a5 m c) (a6 m c) (ix2 0 d) := by
  have h8 : ∀ t : Fin cfg0.N, t.val < 8 := fun t => lt_of_lt_of_eq t.isLt N_0
  refine (Pipeline.eq_sum_fin_of_reset_step_apply_last (M := EReal) (ι := Fin 1024) (fun n h d => (outsAt0 m c n h).2 (ix2 0 d)) 8 (fun _ => 0)
    (fun p d => tR (a0 m c) (a2 m c) (a3 m c) (a5 m c) (a6 m c) p.val (h8 p) d) (fun t h d => dg_A m c t (h8 t) h d) (fun t h d => dg_B m c t (h8 t) h d)
    (le_of_eq N_0) t (ht.symm ▸ N_0.symm) d).trans ?_
  rw [zero_add, DG_tiles]
  exact Fintype.sum_equiv (finCongr N_0) _ _ fun p => rfl

theorem final7 : (dats m 0 c).arrAt 7 (cfgs 0).N = DX (a0 m c) (a1 m c) (a2 m c) (a3 m c) (a4 m c) (a5 m c) (a6 m c) := by
  refine (dats m 0 c).arrAt_eq_of_covers 7 _ (by decide +kernel) fun t hf y => ?_
  have ht : t.val < 8 := lt_of_lt_of_eq t.isLt N_0
  blk_simp
  rw [after0_7]
  idx_vars y
  have e : (((View.whole main_v5_0).slice (win0_7.rect t)).emb (ix2 y0 y1) : S4096x1024.Idx) = ix2 ⟨t.val * 512 + y0.val, by omega⟩ y1 := by
    blk_ext [idx t]
  exact (dx_out m c t ht y0 y1).trans (congrArg _ e).symm

theorem final8 : (dats m 0 c).arrAt 8 (cfgs 0).N = DG (a0 m c) (a2 m c) (a3 m c) (a5 m c) (a6 m c) := by
  refine (dats m 0 c).arrAt_eq_of_covers 8 _ (by decide +kernel) fun t hf y => ?_
  have h7 := (flush0_8 t).mp hf
  have ht : t.val < 8 := lt_of_lt_of_eq t.isLt N_0
  blk_simp
  rw [after0_8]
  idx_vars y
  obtain rfl : y0 = 0 := Subsingleton.elim _ _
  have e : (((View.whole main_v5_1).slice (win0_8.rect t)).emb (ix2 0 y1) : S1x1024.Idx) = ix2 0 y1 := by
    blk_ext [idx t]
  exact (dg_last m c t (by omega) y1).trans (congrArg _ e).symm

end Cert.Kernel10Ideal.Hand

end
-- ==== Proof.Pair10.lean ====
/- The pair of programs Kernel10Ideal and Reference10Ideal: the reference's run, and the kernel's results equal to the reference's. -/
module

public import proofs.«01_k».proof.Defs
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.MixDx10
public import Idealize.ShloMosaic.Lib.Claim
public import Idealize.ShloMosaic.Adequacy
public import Idealize.ShloMosaic.Init

@[expose] public section

noncomputable section

namespace Cert.Proof

open Idealize.ShloMosaic Idealize.SL.Sem

theorem frameR10 : Cert.quiescent_Reference10Ideal := fun m g _ =>
  (θ_run _ _ _).mono (fun _ h => ⟨fun c => (h c).2.2, sem_eq_zero_of_no_sems (by decide) _⟩) (Cert.Reference10Ideal.Value.run m g)

theorem value10_0 (m : (ℓ : Loc Cert.Kernel10Ideal.nD Cert.Kernel10Ideal.τ Cert.Kernel10Ideal.sig) → Buf (Elt Ideal) ℓ)
    (m' : (ℓ : Loc Cert.Reference10Ideal.nD Cert.Reference10Ideal.τ Cert.Reference10Ideal.sig) → Buf (Elt Ideal) ℓ)
    (c : Dev Cert.Kernel10Ideal.nD) (hagree : m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) :
    Cert.Reference10Ideal.Hand.DX (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg1)) (m' ((c.tc : Thread Cert.Reference10Ideal.nD Cert.Reference10Ideal.τ).loc Cert.Reference10Ideal.main_arg2)) (m' ((c.tc : Thread Cert.Reference10Ideal.nD Cert.Reference10Ideal.τ).loc Cert.Reference10Ideal.main_arg3)) (m' ((c.tc : Thread Cert.Reference10Ideal.nD Cert.Reference10Ideal.τ).loc Cert.Reference10Ideal.main_arg4)) (m' ((c.tc : Thread Cert.Reference10Ideal.nD Cert.Reference10Ideal.τ).loc Cert.Reference10Ideal.main_arg5)) (m' ((c.tc : Thread Cert.Reference10Ideal.nD Cert.Reference10Ideal.τ).loc Cert.Reference10Ideal.main_arg6))
      = (Cert.Kernel10Ideal.Gen.dats m 0 c).arrAt 7 (Cert.Kernel10Ideal.cfgs 0).N := by
  obtain ⟨e0, e1, e2, e3, e4, e5, e6⟩ := hagree
  refine Eq.trans ?_ (Cert.Kernel10Ideal.Hand.final7 m c).symm
  rw [e0, e1, e2, e3, e4, e5, e6]

theorem value10_1 (m : (ℓ : Loc Cert.Kernel10Ideal.nD Cert.Kernel10Ideal.τ Cert.Kernel10Ideal.sig) → Buf (Elt Ideal) ℓ)
    (m' : (ℓ : Loc Cert.Reference10Ideal.nD Cert.Reference10Ideal.τ Cert.Reference10Ideal.sig) → Buf (Elt Ideal) ℓ)
    (c : Dev Cert.Kernel10Ideal.nD) (hagree : m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) :
    Cert.Reference10Ideal.Hand.DG (m' ((c.tc : Thread Cert.Reference10Ideal.nD Cert.Reference10Ideal.τ).loc Cert.Reference10Ideal.main_arg0)) (m' ((c.tc : Thread Cert.Reference10Ideal.nD Cert.Reference10Ideal.τ).loc Cert.Reference10Ideal.main_arg2)) (m' ((c.tc : Thread Cert.Reference10Ideal.nD Cert.Reference10Ideal.τ).loc Cert.Reference10Ideal.main_arg3)) (m' ((c.tc : Thread Cert.Reference10Ideal.nD Cert.Reference10Ideal.τ).loc Cert.Reference10Ideal.main_arg5)) (m' ((c.tc : Thread Cert.Reference10Ideal.nD Cert.Reference10Ideal.τ).loc Cert.Reference10Ideal.main_arg6))
      = (Cert.Kernel10Ideal.Gen.dats m 0 c).arrAt 8 (Cert.Kernel10Ideal.cfgs 0).N := by
  obtain ⟨e0, e1, e2, e3, e4, e5, e6⟩ := hagree
  refine Eq.trans ?_ (Cert.Kernel10Ideal.Hand.final8 m c).symm
  rw [e0, e2, e3, e5, e6]

theorem res10 (m : (ℓ : Loc Cert.Reference10Ideal.nD Cert.Reference10Ideal.τ Cert.Reference10Ideal.sig) → Buf (Elt Ideal) ℓ) (c : Dev Cert.Reference10Ideal.nD) :
    Cert.Reference10Ideal.Value.res_main_v41 m c = Cert.Reference10Ideal.Hand.DX (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6)) := by
  unfold Cert.Reference10Ideal.Value.res_main_v41 Cert.Reference10Ideal.Hand.DX
  rfl

set_option maxHeartbeats 1600000 in
theorem algebraic10 : Cert.algebraic_Kernel10Ideal_Reference10Ideal := by
  pair_intro
  · run_from Cert.Kernel10Ideal.Gen.run_main m g
  · exact (θ_run _ _ _).mono (fun _ h c => ⟨(h c).1.trans ((res10 m' c).trans (value10_0 m m' c (hagree c))), (h c).2.1.trans (value10_1 m m' c (hagree c)), (h c).2.2⟩) (Cert.Reference10Ideal.Value.run m' g')

end Cert.Proof

end
-- ==== Proof.DwMain11.lean ====
/- The gradient of the first group of columns of the mixer's combined weight after the call that computes it. -/
module

public import proofs.«01_k».proof.Proof.Gen.Kernel11Ideal.Value
public import proofs.«01_k».proof.Proof.Gen.Reference11Ideal.Run
public import proofs.«01_k».proof.Proof.Ffn
public import Idealize.ShloMosaic.Lib.Pipeline.ReadBack

@[expose] public section

set_option maxRecDepth 16384

noncomputable section

open Idealize.ShloMosaic Idealize.ShloMosaic.TcCoe Idealize.SL.Sem

namespace Cert.Reference11Ideal.Hand
open Cert.Reference11Ideal Cert.Reference11Ideal.Gen

/-- The reference's result. -/
def REF (H : FVec Ideal S4096x1024 .f32) (D : FVec Ideal S4096x6144 .f32) : FVec Ideal S1024x6144 .f32 :=
  transpose S1024x6144 [1, 0] (Host.dotGeneral dot_S4096x6144_S4096x1024_S6144x1024_0_0_1_1_n_n none D H) transposes_S6144x1024_S1024x6144_1_0

theorem REF_at (H : FVec Ideal S4096x1024 .f32) (D : FVec Ideal S4096x6144 .f32) (e : Fin 1024) (f : Fin 6144) :
    REF H D (ix2 e f) = ∑ s : Fin 4096, D (ix2 s f) * H (ix2 s e) := by
  pointwise [REF]

end Cert.Reference11Ideal.Hand

namespace Cert.Kernel11Ideal.Hand
open Cert.Kernel11Ideal Cert.Kernel11Ideal.Gen

theorem pay1_at (j : S1024x1024.Idx) : k0_pay1 (F := Ideal) j = 0 := by pointwise [k0_pay1]
theorem pay2_at (acc : FVec Ideal S1024x1024 .f32) (x : FVec Ideal S1024x1024 .bf16) (w : FVec Ideal S1024x1024 .bf16) (e : Fin 1024) (f : Fin 1024) :
    k0_pay2 (F := Ideal) acc x w (ix2 e f) = acc (ix2 e f) + ∑ k : Fin 1024, x (ix2 k e) * w (ix2 k f) := by
  pointwise [k0_pay2]

variable (m : (ℓ : Loc nD τ sig) → Buf (Elt Ideal) ℓ) (c : Dev nD)

/-- The normalised rows. -/
abbrev a0 : FVec Ideal S4096x1024 .f32 := m ((c.tc : Thread nD τ).loc main_arg0)
/-- The products' cotangent. -/
abbrev a2 : FVec Ideal S4096x6144 .f32 := m ((c.tc : Thread nD τ).loc main_arg2)

theorem idx : ∀ t : Fin cfg0.N, win0_0.index t = ![t.val % 4, 0] ∧ win0_1.index t = ![t.val % 4, t.val / 4] ∧ win0_2.index t = ![0, t.val / 4] := (by decide +kernel : ∀ t : Fin grid0.N, _)

theorem blk0 (t : Fin cfg0.N) (k : Fin 1024) (e : Fin 1024) (ht : t.val < 24) :
    (iblk m c 0 t : FVec Ideal S1024x1024 .bf16) (ix2 k e) = a0 m c (ix2 ⟨t.val % 4 * 1024 + k.val, by omega⟩ e) := by
  blk_point [iblk, V, idx t]
theorem blk1 (t : Fin cfg0.N) (k : Fin 1024) (f : Fin 1024) (ht : t.val < 24) :
    (iblk m c 1 t : FVec Ideal S1024x1024 .bf16) (ix2 k f) = a2 m c (ix2 ⟨t.val % 4 * 1024 + k.val, by omega⟩ ⟨t.val / 4 * 1024 + f.val, by omega⟩) := by
  blk_point [iblk, V, idx t]

/-- The block `p` of an entry's sum over the rows. -/
def prt (H : FVec Ideal S4096x1024 .f32) (D : FVec Ideal S4096x6144 .f32) (p : ℕ) (hp : p < 4) (e : Fin 1024) (F : Fin 6144) : EReal :=
  ∑ k : Fin 1024, H (ix2 ⟨p * 1024 + k.val, by omega⟩ e) * D (ix2 ⟨p * 1024 + k.val, by omega⟩ F)

theorem pay2_prt (H : FVec Ideal S4096x1024 .f32) (D : FVec Ideal S4096x6144 .f32) (acc : FVec Ideal S1024x1024 .f32) (x : FVec Ideal S1024x1024 .bf16) (w : FVec Ideal S1024x1024 .bf16)
    (p : ℕ) (hp : p < 4) (F : Fin 6144) (e : Fin 1024) (f : Fin 1024)
    (hx : ∀ k : Fin 1024, x (ix2 k e) = H (ix2 ⟨p * 1024 + k.val, by omega⟩ e)) (hw : ∀ k : Fin 1024, w (ix2 k f) = D (ix2 ⟨p * 1024 + k.val, by omega⟩ F)) :
    k0_pay2 (F := Ideal) acc x w (ix2 e f) = acc (ix2 e f) + prt H D p hp e F := by
  rw [pay2_at, prt]
  simp only [hx, hw]

theorem REF_prt (H : FVec Ideal S4096x1024 .f32) (D : FVec Ideal S4096x6144 .f32) (e : Fin 1024) (F : Fin 6144) :
    (((0 + prt H D 0 (by omega) e F) + prt H D 1 (by omega) e F) + prt H D 2 (by omega) e F) + prt H D 3 (by omega) e F
      = Cert.Reference11Ideal.Hand.REF H D (ix2 e F) := by
  rw [Cert.Reference11Ideal.Hand.REF_at]
  refine (Ffn.sum_four fun s => H (ix2 s e) * D (ix2 s F)).symm.trans ?_
  exact Finset.sum_congr rfl fun s _ => mul_comm _ _

theorem stA (n : ℕ) (h : n < cfg0.N) (hn : n < 24) (p : ℕ) (hp : n % 4 = p) (hp4 : p < 4) (h0 : n % 4 = 0) (e : Fin 1024) (f : Fin 1024) (F : Fin 6144) (hF : F.val = n / 4 * 1024 + f.val) :
    (outsAt0 m c n h).2 (ix2 e f) = 0 + prt (a0 m c) (a2 m c) p hp4 e F := by
  subst hp
  obtain ⟨F, hF'⟩ := F
  dsimp only at hF
  subst hF
  rw [outsAt0_A m c ⟨n, h⟩ h0 (by dsimp only; omega)]
  frame_out
  rw [pay2_prt (a0 m c) (a2 m c) _ _ _ (n % 4) hp4 _ e f (fun k => blk0 m c ⟨n, h⟩ k e hn) (fun k => blk1 m c ⟨n, h⟩ k f hn), pay1_at]
theorem stB (n : ℕ) (h : n < cfg0.N) (hn : n < 24) (p : ℕ) (hp : n % 4 = p) (hp4 : p < 4) (h0 : ¬ n % 4 = 0) (h1 : ¬ n % 4 = 3) (e : Fin 1024) (f : Fin 1024) (F : Fin 6144) (hF : F.val = n / 4 * 1024 + f.val) :
    (outsAt0 m c n h).2 (ix2 e f) = (outsAt0 m c (n - 1) (Nat.lt_of_le_of_lt (Nat.sub_le _ _) h)).2 (ix2 e f) + prt (a0 m c) (a2 m c) p hp4 e F := by
  subst hp
  obtain ⟨F, hF'⟩ := F
  dsimp only at hF
  subst hF
  rw [outsAt0_B m c ⟨n, h⟩ h0 h1]
  frame_out
  rw [read_unread_whole]
  exact pay2_prt (a0 m c) (a2 m c) _ _ _ (n % 4) hp4 _ e f (fun k => blk0 m c ⟨n, h⟩ k e hn) (fun k => blk1 m c ⟨n, h⟩ k f hn)
theorem stC (n : ℕ) (h : n < cfg0.N) (hn : n < 24) (p : ℕ) (hp : n % 4 = p) (hp4 : p < 4) (h1 : n % 4 = 3) (e : Fin 1024) (f : Fin 1024) (F : Fin 6144) (hF : F.val = n / 4 * 1024 + f.val) :
    (outsAt0 m c n h).1 (ix2 e f) = (outsAt0 m c (n - 1) (Nat.lt_of_le_of_lt (Nat.sub_le _ _) h)).2 (ix2 e f) + prt (a0 m c) (a2 m c) p hp4 e F := by
  subst hp
  obtain ⟨F, hF'⟩ := F
  dsimp only at hF
  subst hF
  rw [outsAt0_C m c ⟨n, h⟩ (by dsimp only; omega) h1]
  frame_out
  rw [read_unread_whole]
  exact pay2_prt (a0 m c) (a2 m c) _ _ _ (n % 4) hp4 _ e f (fun k => blk0 m c ⟨n, h⟩ k e hn) (fun k => blk1 m c ⟨n, h⟩ k f hn)

theorem point (t : Fin cfg0.N) (h8 : t.val < 24) (ht : t.val % 4 = 3) (e : Fin 1024) (f : Fin 1024) (hf : t.val / 4 * 1024 + f.val < 6144) :
    (outsAt0 m c t.val t.isLt).1 (ix2 e f) = Cert.Reference11Ideal.Hand.REF (a0 m c) (a2 m c) (ix2 e ⟨t.val / 4 * 1024 + f.val, hf⟩) := by
  obtain ⟨t, h⟩ := t
  dsimp only at ht hf h8 ⊢
  rw [stC m c t h h8 3 ht (by omega) ht e f ⟨_, hf⟩ rfl,
    stB m c (t - 1) _ (by omega) 2 (by omega) (by omega) (by omega) (by omega) e f ⟨_, hf⟩ (by dsimp only; omega),
    stB m c (t - 1 - 1) _ (by omega) 1 (by omega) (by omega) (by omega) (by omega) e f ⟨_, hf⟩ (by dsimp only; omega),
    stA m c (t - 1 - 1 - 1) _ (by omega) 0 (by omega) (by omega) (by omega) e f ⟨_, hf⟩ (by dsimp only; omega), REF_prt]

theorem final : (dats m 0 c).arrAt 2 (cfgs 0).N = Cert.Reference11Ideal.Hand.REF (a0 m c) (a2 m c) := by
  refine (dats m 0 c).arrAt_eq_of_covers 2 _ (by decide +kernel) fun t hf y => ?_
  have hm := (flush0_2 t).mp hf
  have ht : t.val < 24 := lt_of_lt_of_eq t.isLt N_0
  blk_simp
  rw [after0_2]
  idx_vars y
  have e : (((View.whole main_v2).slice (win0_2.rect t)).emb (ix2 y0 y1) : S1024x6144.Idx) = ix2 y0 ⟨t.val / 4 * 1024 + y1.val, by omega⟩ := by
    blk_ext [idx t]
  exact (point m c t ht hm y0 y1 (by omega)).trans (congrArg _ e).symm

end Cert.Kernel11Ideal.Hand
end
-- ==== Proof.Pair11.lean ====
/- The pair of programs Kernel11Ideal and Reference11Ideal: the reference's run, and the kernel's results equal to the reference's. -/
module

public import proofs.«01_k».proof.Defs
public import proofs.«01_k».proof.Proof.Gen.Kernel11Ideal
public import proofs.«01_k».proof.Proof.Gen.Kernel11Ideal.Frame
public import proofs.«01_k».proof.Proof.Gen.Reference11Ideal
public import proofs.«01_k».proof.Proof.Gen.Reference11Ideal.Run
public import proofs.«01_k».proof.Proof.DwMain11
public import Idealize.ShloMosaic.Lib.Claim
public import Idealize.ShloMosaic.Adequacy
public import Idealize.ShloMosaic.Init

@[expose] public section

noncomputable section

namespace Cert.Proof

open Idealize.ShloMosaic Idealize.SL.Sem

theorem frameR11 : Cert.quiescent_Reference11Ideal := fun m g _ =>
  (θ_run _ _ _).mono (fun _ h => ⟨fun c => (h c).2, sem_eq_zero_of_no_sems (by decide) _⟩) (Cert.Reference11Ideal.Value.run m g)

theorem value11_0 (m : (ℓ : Loc Cert.Kernel11Ideal.nD Cert.Kernel11Ideal.τ Cert.Kernel11Ideal.sig) → Buf (Elt Ideal) ℓ)
    (m' : (ℓ : Loc Cert.Reference11Ideal.nD Cert.Reference11Ideal.τ Cert.Reference11Ideal.sig) → Buf (Elt Ideal) ℓ)
    (c : Dev Cert.Kernel11Ideal.nD) (hagree : m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) :
    Cert.Reference11Ideal.Hand.REF (m' ((c.tc : Thread Cert.Reference11Ideal.nD Cert.Reference11Ideal.τ).loc Cert.Reference11Ideal.main_arg0)) (m' ((c.tc : Thread Cert.Reference11Ideal.nD Cert.Reference11Ideal.τ).loc Cert.Reference11Ideal.main_arg2))
      = (Cert.Kernel11Ideal.Gen.dats m 0 c).arrAt 2 (Cert.Kernel11Ideal.cfgs 0).N := by
  obtain ⟨e0, e1, e2⟩ := hagree
  refine Eq.trans ?_ (Cert.Kernel11Ideal.Hand.final m c).symm
  rw [e0, e2]

set_option maxHeartbeats 1600000 in
theorem algebraic11 : Cert.algebraic_Kernel11Ideal_Reference11Ideal := by
  pair_intro
  · run_from Cert.Kernel11Ideal.Gen.run_main m g
  · exact (θ_run _ _ _).mono (fun _ h c => ⟨(h c).1.trans (value11_0 m m' c (hagree c)), (h c).2⟩) (Cert.Reference11Ideal.Value.run m' g')

end Cert.Proof

end
-- ==== Proof.DwTail12.lean ====
/- The gradient of the second group of columns of the mixer's combined weight after the call that computes it. -/
module

public import proofs.«01_k».proof.Proof.Gen.Kernel12Ideal.Value
public import proofs.«01_k».proof.Proof.Gen.Reference12Ideal.Run
public import proofs.«01_k».proof.Proof.Ffn
public import Idealize.ShloMosaic.Lib.Pipeline.ReadBack

@[expose] public section

set_option maxRecDepth 16384

noncomputable section

open Idealize.ShloMosaic Idealize.ShloMosaic.TcCoe Idealize.SL.Sem

namespace Cert.Reference12Ideal.Hand
open Cert.Reference12Ideal Cert.Reference12Ideal.Gen

/-- The reference's result. -/
def REF (H : FVec Ideal S4096x1024 .f32) (D : FVec Ideal S4096x1536 .f32) : FVec Ideal S1024x1536 .f32 :=
  transpose S1024x1536 [1, 0] (Host.dotGeneral dot_S4096x1536_S4096x1024_S1536x1024_0_0_1_1_n_n none D H) transposes_S1536x1024_S1024x1536_1_0

theorem REF_at (H : FVec Ideal S4096x1024 .f32) (D : FVec Ideal S4096x1536 .f32) (e : Fin 1024) (f : Fin 1536) :
    REF H D (ix2 e f) = ∑ s : Fin 4096, D (ix2 s f) * H (ix2 s e) := by
  pointwise [REF]

end Cert.Reference12Ideal.Hand

namespace Cert.Kernel12Ideal.Hand
open Cert.Kernel12Ideal Cert.Kernel12Ideal.Gen

theorem pay1_at (j : S1024x768.Idx) : k0_pay1 (F := Ideal) j = 0 := by pointwise [k0_pay1]
theorem pay2_at (acc : FVec Ideal S1024x768 .f32) (x : FVec Ideal S1024x1024 .bf16) (w : FVec Ideal S1024x768 .bf16) (e : Fin 1024) (f : Fin 768) :
    k0_pay2 (F := Ideal) acc x w (ix2 e f) = acc (ix2 e f) + ∑ k : Fin 1024, x (ix2 k e) * w (ix2 k f) := by
  pointwise [k0_pay2]

variable (m : (ℓ : Loc nD τ sig) → Buf (Elt Ideal) ℓ) (c : Dev nD)

/-- The normalised rows. -/
abbrev a0 : FVec Ideal S4096x1024 .f32 := m ((c.tc : Thread nD τ).loc main_arg0)
/-- The products' cotangent. -/
abbrev a2 : FVec Ideal S4096x1536 .f32 := m ((c.tc : Thread nD τ).loc main_arg2)

theorem idx : ∀ t : Fin cfg0.N, win0_0.index t = ![t.val % 4, 0] ∧ win0_1.index t = ![t.val % 4, t.val / 4] ∧ win0_2.index t = ![0, t.val / 4] := (by decide +kernel : ∀ t : Fin grid0.N, _)

theorem blk0 (t : Fin cfg0.N) (k : Fin 1024) (e : Fin 1024) (ht : t.val < 8) :
    (iblk m c 0 t : FVec Ideal S1024x1024 .bf16) (ix2 k e) = a0 m c (ix2 ⟨t.val % 4 * 1024 + k.val, by omega⟩ e) := by
  blk_point [iblk, V, idx t]
theorem blk1 (t : Fin cfg0.N) (k : Fin 1024) (f : Fin 768) (ht : t.val < 8) :
    (iblk m c 1 t : FVec Ideal S1024x768 .bf16) (ix2 k f) = a2 m c (ix2 ⟨t.val % 4 * 1024 + k.val, by omega⟩ ⟨t.val / 4 * 768 + f.val, by omega⟩) := by
  blk_point [iblk, V, idx t]

/-- The block `p` of an entry's sum over the rows. -/
def prt (H : FVec Ideal S4096x1024 .f32) (D : FVec Ideal S4096x1536 .f32) (p : ℕ) (hp : p < 4) (e : Fin 1024) (F : Fin 1536) : EReal :=
  ∑ k : Fin 1024, H (ix2 ⟨p * 1024 + k.val, by omega⟩ e) * D (ix2 ⟨p * 1024 + k.val, by omega⟩ F)

theorem pay2_prt (H : FVec Ideal S4096x1024 .f32) (D : FVec Ideal S4096x1536 .f32) (acc : FVec Ideal S1024x768 .f32) (x : FVec Ideal S1024x1024 .bf16) (w : FVec Ideal S1024x768 .bf16)
    (p : ℕ) (hp : p < 4) (F : Fin 1536) (e : Fin 1024) (f : Fin 768)
    (hx : ∀ k : Fin 1024, x (ix2 k e) = H (ix2 ⟨p * 1024 + k.val, by omega⟩ e)) (hw : ∀ k : Fin 1024, w (ix2 k f) = D (ix2 ⟨p * 1024 + k.val, by omega⟩ F)) :
    k0_pay2 (F := Ideal) acc x w (ix2 e f) = acc (ix2 e f) + prt H D p hp e F := by
  rw [pay2_at, prt]
  simp only [hx, hw]

theorem REF_prt (H : FVec Ideal S4096x1024 .f32) (D : FVec Ideal S4096x1536 .f32) (e : Fin 1024) (F : Fin 1536) :
    (((0 + prt H D 0 (by omega) e F) + prt H D 1 (by omega) e F) + prt H D 2 (by omega) e F) + prt H D 3 (by omega) e F
      = Cert.Reference12Ideal.Hand.REF H D (ix2 e F) := by
  rw [Cert.Reference12Ideal.Hand.REF_at]
  refine (Ffn.sum_four fun s => H (ix2 s e) * D (ix2 s F)).symm.trans ?_
  exact Finset.sum_congr rfl fun s _ => mul_comm _ _

theorem stA (n : ℕ) (h : n < cfg0.N) (hn : n < 8) (p : ℕ) (hp : n % 4 = p) (hp4 : p < 4) (h0 : n % 4 = 0) (e : Fin 1024) (f : Fin 768) (F : Fin 1536) (hF : F.val = n / 4 * 768 + f.val) :
    (outsAt0 m c n h).2 (ix2 e f) = 0 + prt (a0 m c) (a2 m c) p hp4 e F := by
  subst hp
  obtain ⟨F, hF'⟩ := F
  dsimp only at hF
  subst hF
  rw [outsAt0_A m c ⟨n, h⟩ h0 (by dsimp only; omega)]
  frame_out
  rw [pay2_prt (a0 m c) (a2 m c) _ _ _ (n % 4) hp4 _ e f (fun k => blk0 m c ⟨n, h⟩ k e hn) (fun k => blk1 m c ⟨n, h⟩ k f hn), pay1_at]
theorem stB (n : ℕ) (h : n < cfg0.N) (hn : n < 8) (p : ℕ) (hp : n % 4 = p) (hp4 : p < 4) (h0 : ¬ n % 4 = 0) (h1 : ¬ n % 4 = 3) (e : Fin 1024) (f : Fin 768) (F : Fin 1536) (hF : F.val = n / 4 * 768 + f.val) :
    (outsAt0 m c n h).2 (ix2 e f) = (outsAt0 m c (n - 1) (Nat.lt_of_le_of_lt (Nat.sub_le _ _) h)).2 (ix2 e f) + prt (a0 m c) (a2 m c) p hp4 e F := by
  subst hp
  obtain ⟨F, hF'⟩ := F
  dsimp only at hF
  subst hF
  rw [outsAt0_B m c ⟨n, h⟩ h0 h1]
  frame_out
  rw [read_unread_whole]
  exact pay2_prt (a0 m c) (a2 m c) _ _ _ (n % 4) hp4 _ e f (fun k => blk0 m c ⟨n, h⟩ k e hn) (fun k => blk1 m c ⟨n, h⟩ k f hn)
theorem stC (n : ℕ) (h : n < cfg0.N) (hn : n < 8) (p : ℕ) (hp : n % 4 = p) (hp4 : p < 4) (h1 : n % 4 = 3) (e : Fin 1024) (f : Fin 768) (F : Fin 1536) (hF : F.val = n / 4 * 768 + f.val) :
    (outsAt0 m c n h).1 (ix2 e f) = (outsAt0 m c (n - 1) (Nat.lt_of_le_of_lt (Nat.sub_le _ _) h)).2 (ix2 e f) + prt (a0 m c) (a2 m c) p hp4 e F := by
  subst hp
  obtain ⟨F, hF'⟩ := F
  dsimp only at hF
  subst hF
  rw [outsAt0_C m c ⟨n, h⟩ (by dsimp only; omega) h1]
  frame_out
  rw [read_unread_whole]
  exact pay2_prt (a0 m c) (a2 m c) _ _ _ (n % 4) hp4 _ e f (fun k => blk0 m c ⟨n, h⟩ k e hn) (fun k => blk1 m c ⟨n, h⟩ k f hn)

theorem point (t : Fin cfg0.N) (h8 : t.val < 8) (ht : t.val % 4 = 3) (e : Fin 1024) (f : Fin 768) (hf : t.val / 4 * 768 + f.val < 1536) :
    (outsAt0 m c t.val t.isLt).1 (ix2 e f) = Cert.Reference12Ideal.Hand.REF (a0 m c) (a2 m c) (ix2 e ⟨t.val / 4 * 768 + f.val, hf⟩) := by
  obtain ⟨t, h⟩ := t
  dsimp only at ht hf h8 ⊢
  rw [stC m c t h h8 3 ht (by omega) ht e f ⟨_, hf⟩ rfl,
    stB m c (t - 1) _ (by omega) 2 (by omega) (by omega) (by omega) (by omega) e f ⟨_, hf⟩ (by dsimp only; omega),
    stB m c (t - 1 - 1) _ (by omega) 1 (by omega) (by omega) (by omega) (by omega) e f ⟨_, hf⟩ (by dsimp only; omega),
    stA m c (t - 1 - 1 - 1) _ (by omega) 0 (by omega) (by omega) (by omega) e f ⟨_, hf⟩ (by dsimp only; omega), REF_prt]

theorem final : (dats m 0 c).arrAt 2 (cfgs 0).N = Cert.Reference12Ideal.Hand.REF (a0 m c) (a2 m c) := by
  refine (dats m 0 c).arrAt_eq_of_covers 2 _ (by decide +kernel) fun t hf y => ?_
  have hm := (flush0_2 t).mp hf
  have ht : t.val < 8 := lt_of_lt_of_eq t.isLt N_0
  blk_simp
  rw [after0_2]
  idx_vars y
  have e : (((View.whole main_v2).slice (win0_2.rect t)).emb (ix2 y0 y1) : S1024x1536.Idx) = ix2 y0 ⟨t.val / 4 * 768 + y1.val, by omega⟩ := by
    blk_ext [idx t]
  exact (point m c t ht hm y0 y1 (by omega)).trans (congrArg _ e).symm

end Cert.Kernel12Ideal.Hand
end
-- ==== Proof.Pair12.lean ====
/- The pair of programs Kernel12Ideal and Reference12Ideal: the reference's run, and the kernel's results equal to the reference's. -/
module

public import proofs.«01_k».proof.Defs
public import proofs.«01_k».proof.Proof.Gen.Kernel12Ideal
public import proofs.«01_k».proof.Proof.Gen.Kernel12Ideal.Frame
public import proofs.«01_k».proof.Proof.Gen.Reference12Ideal
public import proofs.«01_k».proof.Proof.Gen.Reference12Ideal.Run
public import proofs.«01_k».proof.Proof.DwTail12
public import Idealize.ShloMosaic.Lib.Claim
public import Idealize.ShloMosaic.Adequacy
public import Idealize.ShloMosaic.Init

@[expose] public section

noncomputable section

namespace Cert.Proof

open Idealize.ShloMosaic Idealize.SL.Sem

theorem frameR12 : Cert.quiescent_Reference12Ideal := fun m g _ =>
  (θ_run _ _ _).mono (fun _ h => ⟨fun c => (h c).2, sem_eq_zero_of_no_sems (by decide) _⟩) (Cert.Reference12Ideal.Value.run m g)

theorem value12_0 (m : (ℓ : Loc Cert.Kernel12Ideal.nD Cert.Kernel12Ideal.τ Cert.Kernel12Ideal.sig) → Buf (Elt Ideal) ℓ)
    (m' : (ℓ : Loc Cert.Reference12Ideal.nD Cert.Reference12Ideal.τ Cert.Reference12Ideal.sig) → Buf (Elt Ideal) ℓ)
    (c : Dev Cert.Kernel12Ideal.nD) (hagree : m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) :
    Cert.Reference12Ideal.Hand.REF (m' ((c.tc : Thread Cert.Reference12Ideal.nD Cert.Reference12Ideal.τ).loc Cert.Reference12Ideal.main_arg0)) (m' ((c.tc : Thread Cert.Reference12Ideal.nD Cert.Reference12Ideal.τ).loc Cert.Reference12Ideal.main_arg2))
      = (Cert.Kernel12Ideal.Gen.dats m 0 c).arrAt 2 (Cert.Kernel12Ideal.cfgs 0).N := by
  obtain ⟨e0, e1, e2⟩ := hagree
  refine Eq.trans ?_ (Cert.Kernel12Ideal.Hand.final m c).symm
  rw [e0, e2]

set_option maxHeartbeats 1600000 in
theorem algebraic12 : Cert.algebraic_Kernel12Ideal_Reference12Ideal := by
  pair_intro
  · run_from Cert.Kernel12Ideal.Gen.run_main m g
  · exact (θ_run _ _ _).mono (fun _ h c => ⟨(h c).1.trans (value12_0 m m' c (hagree c)), (h c).2⟩) (Cert.Reference12Ideal.Value.run m' g')

end Cert.Proof

end
-- ==== Proof.Merge13.lean ====
/- The merged branches and the mixer's output after the call that computes them. -/
module

public import proofs.«01_k».proof.Proof.Gen.Kernel13Ideal.Value
public import proofs.«01_k».proof.Proof.Gen.Reference13Ideal.Run
public import proofs.«01_k».proof.Proof.Dact5

@[expose] public section

set_option maxRecDepth 16384

noncomputable section

open Idealize.ShloMosaic Idealize.ShloMosaic.TcCoe Idealize.SL.Sem

namespace Cert.Reference13Ideal.Hand
open Cert.Reference13Ideal Cert.Reference13Ideal.Gen

section
variable (P : FVec Ideal S4096x6144 .f32) (A : FVec Ideal S4096x512 .f32) (B C : FVec Ideal S4096x1024 .f32)
  (U : FVec Ideal S512x1024 .f32) (V W Z : FVec Ideal S1024x1024 .f32) (X : FVec Ideal S4096x1024 .f32)
/-- The logistic function of the gates, the branches one after the other. -/
def sR : FVec Ideal S4096x3x1024 .f32 :=
  shapeCast _ (Host.divf (broadcastInDim S4096x3072 ![] bcast_S_S4096x3072 (constant S_ .f32 0x3F800000#32)) (addf (broadcastInDim S4096x3072 ![] bcast_S_S4096x3072 (constant S_ .f32 0x3F800000#32)) (Host.exp (Host.negf (extractStridedSlice S4096x3072 ![0, 3072] P slices_S4096x6144_S4096x3072_0_3072))))) shapeCasts_S4096x3072_S4096x3x1024
/-- The merged branches. -/
def mR : FVec Ideal S4096x1024 .f32 :=
  addf (addf (mulf (shapeCast _ (extractStridedSlice S4096x1x1024 ![0, 0, 0] (sR P) slices_S4096x3x1024_S4096x1x1024_0_0_0) shapeCasts_S4096x1x1024_S4096x1024) (Host.dotGeneral dot_S4096x512_S512x1024_S4096x1024_1_0_0_1_n_n none A U))
    (mulf (shapeCast _ (extractStridedSlice S4096x1x1024 ![0, 1, 0] (sR P) slices_S4096x3x1024_S4096x1x1024_0_1_0) shapeCasts_S4096x1x1024_S4096x1024) (Host.dotGeneral dot_S4096x1024_S1024x1024_S4096x1024_1_0_0_1_n_n none B V)))
    (mulf (shapeCast _ (extractStridedSlice S4096x1x1024 ![0, 2, 0] (sR P) slices_S4096x3x1024_S4096x1x1024_0_2_0) shapeCasts_S4096x1x1024_S4096x1024) (Host.dotGeneral dot_S4096x1024_S1024x1024_S4096x1024_1_0_0_1_n_n none C W))
/-- The merged branches as they leave. -/
def mL : FVec Ideal S4096x1024 .bf16 := truncf .bf16 (mR P A B C U V W) bitsLt_bf16_f32
/-- The output. -/
def yR : FVec Ideal S4096x1024 .f32 := addf X (Host.dotGeneral dot_S4096x1024_S1024x1024_S4096x1024_1_0_0_1_n_n none (mR P A B C U V W) Z)

theorem sR_at (r : Fin 4096) (i : Fin 3) (d : Fin 1024) : sR P (ix3 r i d) = Ffn.sg (P (ix2 r ⟨3072 + (i.val * 1024 + d.val), by omega⟩)) := by
  pointwise [sR, Ffn.sg]
theorem mR_at (r : Fin 4096) (d : Fin 1024) :
    mR P A B C U V W (ix2 r d) = sR P (ix3 r 0 d) * (∑ k : Fin 512, A (ix2 r k) * U (ix2 k d)) + sR P (ix3 r 1 d) * (∑ k : Fin 1024, B (ix2 r k) * V (ix2 k d)) + sR P (ix3 r 2 d) * ∑ k : Fin 1024, C (ix2 r k) * W (ix2 k d) := by
  pointwise [mR]
theorem yR_at (r : Fin 4096) (d : Fin 1024) : yR P A B C U V W Z X (ix2 r d) = X (ix2 r d) + ∑ e : Fin 1024, mR P A B C U V W (ix2 r e) * Z (ix2 e d) := by
  pointwise [yR]
end

end Cert.Reference13Ideal.Hand

namespace Cert.Kernel13Ideal.Hand
open Cert.Kernel13Ideal Cert.Kernel13Ideal.Gen Cert.Reference13Ideal.Hand

section
variable (b0 : FVec Ideal S512x3072 .bf16) (b1 : FVec Ideal S512x512 .bf16) (b2 b3 : FVec Ideal S512x1024 .bf16)
  (b4 : FVec Ideal S512x1024 .bf16) (b5 b6 b7 : FVec Ideal S1024x1024 .bf16) (b8 : FVec Ideal S512x1024 .f32)

/-- An entry of a row block's merged branches. -/
def mK (r : Fin 512) (d : Fin 1024) : EReal :=
  Ffn.sg (b0 (ix2 r ⟨d.val, by omega⟩)) * (∑ k : Fin 512, b1 (ix2 r k) * b4 (ix2 k d)) + Ffn.sg (b0 (ix2 r ⟨1024 + d.val, by omega⟩)) * (∑ k : Fin 1024, b2 (ix2 r k) * b5 (ix2 k d))
    + Ffn.sg (b0 (ix2 r ⟨2048 + d.val, by omega⟩)) * ∑ k : Fin 1024, b3 (ix2 r k) * b6 (ix2 k d)

theorem pay3_at (v1 : FVec Ideal S512x512 .bf16) (v3 v6 v18 : FVec Ideal S512x1024 .bf16) (v20 : FVec Ideal S1024x1024 .bf16) (v23 : FVec Ideal S512x1024 .bf16) (r : Fin 512) (d : Fin 1024) :
    k0_pay3 (F := Ideal) v1 v3 v6 v18 v20 v23 (ix2 r d) = Ffn.sg (v6 (ix2 r d)) * (∑ k : Fin 512, v1 (ix2 r k) * v3 (ix2 k d)) + Ffn.sg (v23 (ix2 r d)) * ∑ k : Fin 1024, v18 (ix2 r k) * v20 (ix2 k d) := by
  pointwise [k0_pay3, Ffn.sg]
  simp only [zero_sub, zero_add]
theorem pay1_at (v34 : FVec Ideal S512x1024 .f32) (v35 : FVec Ideal S512x1024 .bf16) (v37 : FVec Ideal S1024x1024 .bf16) (v40 : FVec Ideal S512x1024 .bf16) (r : Fin 512) (d : Fin 1024) :
    k0_pay1 (F := Ideal) v34 v35 v37 v40 (ix2 r d) = v34 (ix2 r d) + Ffn.sg (v40 (ix2 r d)) * ∑ k : Fin 1024, v35 (ix2 r k) * v37 (ix2 k d) := by
  pointwise [k0_pay1, Ffn.sg]
  simp only [zero_sub]
theorem pay2_at (v34 : FVec Ideal S512x1024 .f32) (v35 : FVec Ideal S512x1024 .bf16) (v37 : FVec Ideal S1024x1024 .bf16) (v40 : FVec Ideal S512x1024 .bf16) (v54 : FVec Ideal S512x1024 .f32) (v55 : FVec Ideal S1024x1024 .bf16) (r : Fin 512) (d : Fin 1024) :
    k0_pay2 (F := Ideal) v34 v35 v37 v40 v54 v55 (ix2 r d) = v54 (ix2 r d) + ∑ e : Fin 1024, k0_pay1 (F := Ideal) v34 v35 v37 v40 (ix2 r e) * v55 (ix2 e d) := by
  pointwise [k0_pay2]
theorem pay4_at (r : Fin 512) (d : Fin 1024) :
    k0_pay4 (F := Ideal) b0 b1 b2 b3 b4 b5 b6 b7 b8 (ix2 r d) = Ffn.sg (b0 (ix2 r ⟨d.val, by omega⟩)) * (∑ k : Fin 512, b1 (ix2 r k) * b4 (ix2 k d)) + Ffn.sg (b0 (ix2 r ⟨1024 + d.val, by omega⟩)) * ∑ k : Fin 1024, b2 (ix2 r k) * b5 (ix2 k d) := by
  rw [k0_pay4, pay3_at]
  pointwise
theorem out9_at (r : Fin 512) (d : Fin 1024) : out0_9 (F := Ideal) b0 b1 b2 b3 b4 b5 b6 b7 b8 (ix2 r d) = mK b0 b1 b2 b3 b4 b5 b6 r d := by
  unfold out0_9
  canon_tiles x h
  case piece0 =>
    idx_vars x
    obtain rfl : r = x0 := Fin.ext h0
    obtain rfl : d = x1 := Fin.ext h1
    rw [pay1_at, pay4_at, mK]
    pointwise
theorem out10_at (r : Fin 512) (d : Fin 1024) : out0_10 (F := Ideal) b0 b1 b2 b3 b4 b5 b6 b7 b8 (ix2 r d) = b8 (ix2 r d) + ∑ e : Fin 1024, mK b0 b1 b2 b3 b4 b5 b6 r e * b7 (ix2 e d) := by
  unfold out0_10
  canon_tiles x h
  case piece0 =>
    idx_vars x
    obtain rfl : r = x0 := Fin.ext h0
    obtain rfl : d = x1 := Fin.ext h1
    rw [pay2_at]
    simp only [pay1_at, pay4_at, mK]
    pointwise

variable (P : FVec Ideal S4096x6144 .f32) (A : FVec Ideal S4096x512 .f32) (B C : FVec Ideal S4096x1024 .f32)
  (U : FVec Ideal S512x1024 .f32) (V W Z : FVec Ideal S1024x1024 .f32) (X : FVec Ideal S4096x1024 .f32) (R : Fin 4096) (r : Fin 512)
variable (h0 : ∀ f : Fin 3072, b0 (ix2 r f) = P (ix2 R ⟨3072 + f.val, by omega⟩)) (h1 : ∀ k : Fin 512, b1 (ix2 r k) = A (ix2 R k))
  (h2 : ∀ k : Fin 1024, b2 (ix2 r k) = B (ix2 R k)) (h3 : ∀ k : Fin 1024, b3 (ix2 r k) = C (ix2 R k))
  (h4 : ∀ (k : Fin 512) (d : Fin 1024), b4 (ix2 k d) = U (ix2 k d)) (h5 : ∀ k d : Fin 1024, b5 (ix2 k d) = V (ix2 k d)) (h6 : ∀ k d : Fin 1024, b6 (ix2 k d) = W (ix2 k d))
include h0 h1 h2 h3 h4 h5 h6

theorem mK_ref (d : Fin 1024) : mK b0 b1 b2 b3 b4 b5 b6 r d = mR P A B C U V W (ix2 R d) := by
  rw [mR_at, sR_at, sR_at, sR_at]
  unfold mK
  simp only [h0, h1, h2, h3, h4, h5, h6]
  have e0 : (⟨3072 + ((0 : Fin 3).val * 1024 + d.val), by simp only [Fin.val_zero]; omega⟩ : Fin 6144) = ⟨3072 + d.val, by omega⟩ := Fin.ext (by simp)
  have e1 : (⟨3072 + ((1 : Fin 3).val * 1024 + d.val), by simp only [Fin.val_one]; omega⟩ : Fin 6144) = ⟨3072 + (1024 + d.val), by omega⟩ := Fin.ext (by simp)
  have e2 : (⟨3072 + ((2 : Fin 3).val * 1024 + d.val), by simp only [Fin.val_two]; omega⟩ : Fin 6144) = ⟨3072 + (2048 + d.val), by omega⟩ := Fin.ext (by simp)
  rw [e0, e1, e2]
theorem out9_ref (d : Fin 1024) : out0_9 (F := Ideal) b0 b1 b2 b3 b4 b5 b6 b7 b8 (ix2 r d) = mL P A B C U V W (ix2 R d) :=
  (out9_at b0 b1 b2 b3 b4 b5 b6 b7 b8 r d).trans (mK_ref b0 b1 b2 b3 b4 b5 b6 P A B C U V W R r h0 h1 h2 h3 h4 h5 h6 d)
theorem out10_ref (h7 : ∀ k d : Fin 1024, b7 (ix2 k d) = Z (ix2 k d)) (h8 : ∀ d : Fin 1024, b8 (ix2 r d) = X (ix2 R d)) (d : Fin 1024) :
    out0_10 (F := Ideal) b0 b1 b2 b3 b4 b5 b6 b7 b8 (ix2 r d) = yR P A B C U V W Z X (ix2 R d) := by
  rw [out10_at, yR_at, h8]
  exact congrArg (X (ix2 R d) + ·) (Finset.sum_congr rfl fun e _ => by rw [mK_ref b0 b1 b2 b3 b4 b5 b6 P A B C U V W R r h0 h1 h2 h3 h4 h5 h6 e, h7])
end

variable (m : (ℓ : Loc nD τ sig) → Buf (Elt Ideal) ℓ) (c : Dev nD)

/-- The first column group of the mixer's products, its last half the gates. -/
abbrev a0 : FVec Ideal S4096x6144 .f32 := m ((c.tc : Thread nD τ).loc main_arg0)
/-- The first branch's output. -/
abbrev a1 : FVec Ideal S4096x512 .f32 := m ((c.tc : Thread nD τ).loc main_arg1)
/-- The second branch's output. -/
abbrev a2 : FVec Ideal S4096x1024 .f32 := m ((c.tc : Thread nD τ).loc main_arg2)
/-- The third branch's output. -/
abbrev a3 : FVec Ideal S4096x1024 .f32 := m ((c.tc : Thread nD τ).loc main_arg3)
/-- The first branch's weight. -/
abbrev a4 : FVec Ideal S512x1024 .f32 := m ((c.tc : Thread nD τ).loc main_arg4)
/-- The second branch's weight. -/
abbrev a5 : FVec Ideal S1024x1024 .f32 := m ((c.tc : Thread nD τ).loc main_arg5)
/-- The third branch's weight. -/
abbrev a6 : FVec Ideal S1024x1024 .f32 := m ((c.tc : Thread nD τ).loc main_arg6)
/-- The output weight. -/
abbrev a7 : FVec Ideal S1024x1024 .f32 := m ((c.tc : Thread nD τ).loc main_arg7)
/-- The rows the mixer starts from. -/
abbrev a8 : FVec Ideal S4096x1024 .f32 := m ((c.tc : Thread nD τ).loc main_arg8)

theorem idx : ∀ t : Fin cfg0.N, win0_0.index t = ![t.val, 1] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0] ∧ win0_8.index t = ![t.val, 0]
    ∧ win0_9.index t = ![t.val, 0] ∧ win0_10.index t = ![t.val, 0] := (by decide +kernel : ∀ t : Fin grid0.N, _)

theorem blk0 (t : Fin cfg0.N) (r : Fin 512) (ht : t.val < 8) (f : Fin 3072) :
    (iblk m c 0 t : FVec Ideal S512x3072 .bf16) (ix2 r f) = a0 m c (ix2 ⟨t.val * 512 + r.val, by omega⟩ ⟨3072 + f.val, by omega⟩) := by
  blk_point [iblk, V, idx t]
theorem blk1 (t : Fin cfg0.N) (r : Fin 512) (ht : t.val < 8) (k : Fin 512) :
    (iblk m c 1 t : FVec Ideal S512x512 .bf16) (ix2 r k) = a1 m c (ix2 ⟨t.val * 512 + r.val, by omega⟩ k) := by
  blk_point [iblk, V, idx t]
theorem blk2 (t : Fin cfg0.N) (r : Fin 512) (ht : t.val < 8) (k : Fin 1024) :
    (iblk m c 2 t : FVec Ideal S512x1024 .bf16) (ix2 r k) = a2 m c (ix2 ⟨t.val * 512 + r.val, by omega⟩ k) := by
  blk_point [iblk, V, idx t]
theorem blk3 (t : Fin cfg0.N) (r : Fin 512) (ht : t.val < 8) (k : Fin 1024) :
    (iblk m c 3 t : FVec Ideal S512x1024 .bf16) (ix2 r k) = a3 m c (ix2 ⟨t.val * 512 + r.val, by omega⟩ k) := by
  blk_point [iblk, V, idx t]
theorem blk4 (t : Fin cfg0.N) (k : Fin 512) (d : Fin 1024) : (iblk m c 4 t : FVec Ideal S512x1024 .bf16) (ix2 k d) = a4 m c (ix2 k d) := by
  blk_point [iblk, V, idx t]
theorem blk5 (t : Fin cfg0.N) (k d : Fin 1024) : (iblk m c 5 t : FVec Ideal S1024x1024 .bf16) (ix2 k d) = a5 m c (ix2 k d) := by
  blk_point [iblk, V, idx t]
theorem blk6 (t : Fin cfg0.N) (k d : Fin 1024) : (iblk m c 6 t : FVec Ideal S1024x1024 .bf16) (ix2 k d) = a6 m c (ix2 k d) := by
  blk_point [iblk, V, idx t]
theorem blk7 (t : Fin cfg0.N) (k d : Fin 1024) : (iblk m c 7 t : FVec Ideal S1024x1024 .bf16) (ix2 k d) = a7 m c (ix2 k d) := by
  blk_point [iblk, V, idx t]
theorem blk8 (t : Fin cfg0.N) (r : Fin 512) (ht : t.val < 8) (d : Fin 1024) :
    (iblk m c 8 t : FVec Ideal S512x1024 .f32) (ix2 r d) = a8 m c (ix2 ⟨t.val * 512 + r.val, by omega⟩ d) := by
  blk_point [iblk, V, idx t]

theorem final9 : (dats m 0 c).arrAt 9 (cfgs 0).N = mL (a0 m c) (a1 m c) (a2 m c) (a3 m c) (a4 m c) (a5 m c) (a6 m c) := by
  refine (dats m 0 c).arrAt_eq_of_covers 9 _ (by decide +kernel) fun t hf y => ?_
  have ht : t.val < 8 := lt_of_lt_of_eq t.isLt N_0
  blk_simp
  rw [after0_9]
  idx_vars y
  have e : (((View.whole main_v8_0).slice (win0_9.rect t)).emb (ix2 y0 y1) : S4096x1024.Idx) = ix2 ⟨t.val * 512 + y0.val, by omega⟩ y1 := by
    blk_ext [idx t]
  exact (out9_ref _ _ _ _ _ _ _ _ _ (a0 m c) (a1 m c) (a2 m c) (a3 m c) (a4 m c) (a5 m c) (a6 m c) ⟨t.val * 512 + y0.val, by omega⟩ y0 (blk0 m c t y0 ht) (blk1 m c t y0 ht) (blk2 m c t y0 ht) (blk3 m c t y0 ht) (blk4 m c t) (blk5 m c t) (blk6 m c t) y1).trans (congrArg _ e).symm

theorem final10 : (dats m 0 c).arrAt 10 (cfgs 0).N = yR (a0 m c) (a1 m c) (a2 m c) (a3 m c) (a4 m c) (a5 m c) (a6 m c) (a7 m c) (a8 m c) := by
  refine (dats m 0 c).arrAt_eq_of_covers 10 _ (by decide +kernel) fun t hf y => ?_
  have ht : t.val < 8 := lt_of_lt_of_eq t.isLt N_0
  blk_simp
  rw [after0_10]
  idx_vars y
  have e : (((View.whole main_v8_1).slice (win0_10.rect t)).emb (ix2 y0 y1) : S4096x1024.Idx) = ix2 ⟨t.val * 512 + y0.val, by omega⟩ y1 := by
    blk_ext [idx t]
  exact (out10_ref _ _ _ _ _ _ _ _ _ (a0 m c) (a1 m c) (a2 m c) (a3 m c) (a4 m c) (a5 m c) (a6 m c) (a7 m c) (a8 m c) ⟨t.val * 512 + y0.val, by omega⟩ y0 (blk0 m c t y0 ht) (blk1 m c t y0 ht) (blk2 m c t y0 ht) (blk3 m c t y0 ht) (blk4 m c t) (blk5 m c t) (blk6 m c t) (blk7 m c t) (blk8 m c t y0 ht) y1).trans (congrArg _ e).symm

end Cert.Kernel13Ideal.Hand

end
-- ==== Proof.Pair13.lean ====
/- The pair of programs Kernel13Ideal and Reference13Ideal: the reference's run, and the kernel's results equal to the reference's. -/
module

public import proofs.«01_k».proof.Defs
public import proofs.«01_k».proof.Proof.Gen.Kernel13Ideal
public import proofs.«01_k».proof.Proof.Gen.Kernel13Ideal.Frame
public import proofs.«01_k».proof.Proof.Gen.Reference13Ideal
public import proofs.«01_k».proof.Proof.Gen.Reference13Ideal.Run
public import proofs.«01_k».proof.Proof.Merge13
public import Idealize.ShloMosaic.Lib.Claim
public import Idealize.ShloMosaic.Adequacy
public import Idealize.ShloMosaic.Init

@[expose] public section

noncomputable section

namespace Cert.Proof

open Idealize.ShloMosaic Idealize.SL.Sem

theorem frameR13 : Cert.quiescent_Reference13Ideal := fun m g _ =>
  (θ_run _ _ _).mono (fun _ h => ⟨fun c => (h c).2.2, sem_eq_zero_of_no_sems (by decide) _⟩) (Cert.Reference13Ideal.Value.run m g)

theorem value13_0 (m : (ℓ : Loc Cert.Kernel13Ideal.nD Cert.Kernel13Ideal.τ Cert.Kernel13Ideal.sig) → Buf (Elt Ideal) ℓ)
    (m' : (ℓ : Loc Cert.Reference13Ideal.nD Cert.Reference13Ideal.τ Cert.Reference13Ideal.sig) → Buf (Elt Ideal) ℓ)
    (c : Dev Cert.Kernel13Ideal.nD) (hagree : m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)
      ∧ m' ((c.tc : Thread Cert.Reference13Ideal.nD Cert.Reference13Ideal.τ).loc Cert.Reference13Ideal.main_arg8) = m ((c.tc : Thread Cert.Kernel13Ideal.nD Cert.Kernel13Ideal.τ).loc Cert.Kernel13Ideal.main_arg8)) :
    Cert.Reference13Ideal.Hand.mL (m' ((c.tc : Thread Cert.Reference13Ideal.nD Cert.Reference13Ideal.τ).loc Cert.Reference13Ideal.main_arg0)) (m' ((c.tc : Thread Cert.Reference13Ideal.nD Cert.Reference13Ideal.τ).loc Cert.Reference13Ideal.main_arg1)) (m' ((c.tc : Thread Cert.Reference13Ideal.nD Cert.Reference13Ideal.τ).loc Cert.Reference13Ideal.main_arg2)) (m' ((c.tc : Thread Cert.Reference13Ideal.nD Cert.Reference13Ideal.τ).loc Cert.Reference13Ideal.main_arg3)) (m' ((c.tc : Thread Cert.Reference13Ideal.nD Cert.Reference13Ideal.τ).loc Cert.Reference13Ideal.main_arg4)) (m' ((c.tc : Thread Cert.Reference13Ideal.nD Cert.Reference13Ideal.τ).loc Cert.Reference13Ideal.main_arg5)) (m' ((c.tc : Thread Cert.Reference13Ideal.nD Cert.Reference13Ideal.τ).loc Cert.Reference13Ideal.main_arg6))
      = (Cert.Kernel13Ideal.Gen.dats m 0 c).arrAt 9 (Cert.Kernel13Ideal.cfgs 0).N := by
  obtain ⟨e0, e1, e2, e3, e4, e5, e6, e7, e8⟩ := hagree
  refine Eq.trans ?_ (Cert.Kernel13Ideal.Hand.final9 m c).symm
  rw [e0, e1, e2, e3, e4, e5, e6]

theorem value13_1 (m : (ℓ : Loc Cert.Kernel13Ideal.nD Cert.Kernel13Ideal.τ Cert.Kernel13Ideal.sig) → Buf (Elt Ideal) ℓ)
    (m' : (ℓ : Loc Cert.Reference13Ideal.nD Cert.Reference13Ideal.τ Cert.Reference13Ideal.sig) → Buf (Elt Ideal) ℓ)
    (c : Dev Cert.Kernel13Ideal.nD) (hagree : m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)
      ∧ m' ((c.tc : Thread Cert.Reference13Ideal.nD Cert.Reference13Ideal.τ).loc Cert.Reference13Ideal.main_arg8) = m ((c.tc : Thread Cert.Kernel13Ideal.nD Cert.Kernel13Ideal.τ).loc Cert.Kernel13Ideal.main_arg8)) :
    Cert.Reference13Ideal.Hand.yR (m' ((c.tc : Thread Cert.Reference13Ideal.nD Cert.Reference13Ideal.τ).loc Cert.Reference13Ideal.main_arg0)) (m' ((c.tc : Thread Cert.Reference13Ideal.nD Cert.Reference13Ideal.τ).loc Cert.Reference13Ideal.main_arg1)) (m' ((c.tc : Thread Cert.Reference13Ideal.nD Cert.Reference13Ideal.τ).loc Cert.Reference13Ideal.main_arg2)) (m' ((c.tc : Thread Cert.Reference13Ideal.nD Cert.Reference13Ideal.τ).loc Cert.Reference13Ideal.main_arg3)) (m' ((c.tc : Thread Cert.Reference13Ideal.nD Cert.Reference13Ideal.τ).loc Cert.Reference13Ideal.main_arg4)) (m' ((c.tc : Thread Cert.Reference13Ideal.nD Cert.Reference13Ideal.τ).loc Cert.Reference13Ideal.main_arg5)) (m' ((c.tc : Thread Cert.Reference13Ideal.nD Cert.Reference13Ideal.τ).loc Cert.Reference13Ideal.main_arg6)) (m' ((c.tc : Thread Cert.Reference13Ideal.nD Cert.Reference13Ideal.τ).loc Cert.Reference13Ideal.main_arg7)) (m' ((c.tc : Thread Cert.Reference13Ideal.nD Cert.Reference13Ideal.τ).loc Cert.Reference13Ideal.main_arg8))
      = (Cert.Kernel13Ideal.Gen.dats m 0 c).arrAt 10 (Cert.Kernel13Ideal.cfgs 0).N := by
  obtain ⟨e0, e1, e2, e3, e4, e5, e6, e7, e8⟩ := hagree
  refine Eq.trans ?_ (Cert.Kernel13Ideal.Hand.final10 m c).symm
  rw [e0, e1, e2, e3, e4, e5, e6, e7, e8]

set_option maxHeartbeats 1600000 in
theorem algebraic13 : Cert.algebraic_Kernel13Ideal_Reference13Ideal := by
  pair_intro
  · run_from Cert.Kernel13Ideal.Gen.run_main m g
  · exact (θ_run _ _ _).mono (fun _ h c => ⟨(h c).1.trans (value13_0 m m' c (hagree c)), (h c).2.1.trans (value13_1 m m' c (hagree c)), (h c).2.2⟩) (Cert.Reference13Ideal.Value.run m' g')

end Cert.Proof

end
-- ==== Proof.MergeBwd14.lean ====
/- The gradients of the gates, of the branches' products and of the branches after the call that computes them. -/
module

public import proofs.«01_k».proof.Proof.Gen.Kernel14Ideal.Value
public import proofs.«01_k».proof.Proof.Gen.Reference14Ideal.Run
public import proofs.«01_k».proof.Proof.Dact5

@[expose] public section

set_option maxRecDepth 16384

noncomputable section

open Idealize.ShloMosaic Idealize.ShloMosaic.TcCoe Idealize.SL.Sem

namespace Cert.Reference14Ideal.Hand
open Cert.Reference14Ideal Cert.Reference14Ideal.Gen

section
variable (P : FVec Ideal S4096x6144 .f32) (A : FVec Ideal S4096x512 .f32) (B C : FVec Ideal S4096x1024 .f32)
  (U : FVec Ideal S512x1024 .f32) (V W Z : FVec Ideal S1024x1024 .f32) (Y : FVec Ideal S4096x1024 .f32)
/-- The logistic function of the gates. -/
def sR : FVec Ideal S4096x3072 .f32 :=
  Host.divf (broadcastInDim S4096x3072 ![] bcast_S_S4096x3072 (constant S_ .f32 0x3F800000#32)) (addf (broadcastInDim S4096x3072 ![] bcast_S_S4096x3072 (constant S_ .f32 0x3F800000#32)) (Host.exp (Host.negf (extractStridedSlice S4096x3072 ![0, 3072] P slices_S4096x6144_S4096x3072_0_3072))))
/-- The cotangent of the merged branches. -/
def mR : FVec Ideal S4096x1024 .f32 := Host.dotGeneral dot_S4096x1024_S1024x1024_S4096x1024_1_1_0_0_n_n none Y Z
/-- The cotangent of the first branch's product. -/
def dR0 : FVec Ideal S4096x1024 .f32 := mulf (shapeCast _ (extractStridedSlice S4096x1x1024 ![0, 0, 0] (shapeCast _ (sR P) shapeCasts_S4096x3072_S4096x3x1024) slices_S4096x3x1024_S4096x1x1024_0_0_0) shapeCasts_S4096x1x1024_S4096x1024) (mR Z Y)
/-- The cotangent of the second branch's product. -/
def dR1 : FVec Ideal S4096x1024 .f32 := mulf (shapeCast _ (extractStridedSlice S4096x1x1024 ![0, 1, 0] (shapeCast _ (sR P) shapeCasts_S4096x3072_S4096x3x1024) slices_S4096x3x1024_S4096x1x1024_0_1_0) shapeCasts_S4096x1x1024_S4096x1024) (mR Z Y)
/-- The cotangent of the third branch's product. -/
def dR2 : FVec Ideal S4096x1024 .f32 := mulf (shapeCast _ (extractStridedSlice S4096x1x1024 ![0, 2, 0] (shapeCast _ (sR P) shapeCasts_S4096x3072_S4096x3x1024) slices_S4096x3x1024_S4096x1x1024_0_2_0) shapeCasts_S4096x1x1024_S4096x1024) (mR Z Y)
/-- The three as they leave. -/
def dL0 : FVec Ideal S4096x1024 .bf16 := truncf .bf16 (dR0 P Z Y) bitsLt_bf16_f32
def dL1 : FVec Ideal S4096x1024 .bf16 := truncf .bf16 (dR1 P Z Y) bitsLt_bf16_f32
def dL2 : FVec Ideal S4096x1024 .bf16 := truncf .bf16 (dR2 P Z Y) bitsLt_bf16_f32
/-- The branches' products by the cotangent of the merged branches. -/
def pR0 : FVec Ideal S4096x1024 .f32 := mulf (mR Z Y) (Host.dotGeneral dot_S4096x512_S512x1024_S4096x1024_1_0_0_1_n_n none A U)
def pR (B : FVec Ideal S4096x1024 .f32) (V : FVec Ideal S1024x1024 .f32) : FVec Ideal S4096x1024 .f32 := mulf (mR Z Y) (Host.dotGeneral dot_S4096x1024_S1024x1024_S4096x1024_1_0_0_1_n_n none B V)
/-- Three arrays, the columns of one after those of another. -/
def lay (p q s : FVec Ideal S4096x1024 .f32) : FVec Ideal S4096x3x1024 .f32 :=
  addf (addf (pad S4096x3x1024 ![0, 2, 0] ![0, 0, 0] ![0, 0, 0] (broadcastInDim S4096x1x1024 ![0, 2] bcast_S4096x1024_S4096x1x1024_0_2 s) (constant S_ .f32 0x00000000#32) pads_S4096x1x1024_S4096x3x1024_000_200_000 h_S_)
    (pad S4096x3x1024 ![0, 1, 0] ![0, 1, 0] ![0, 0, 0] (broadcastInDim S4096x1x1024 ![0, 2] bcast_S4096x1024_S4096x1x1024_0_2 q) (constant S_ .f32 0x00000000#32) pads_S4096x1x1024_S4096x3x1024_000_110_000 h_S_))
    (pad S4096x3x1024 ![0, 0, 0] ![0, 2, 0] ![0, 0, 0] (broadcastInDim S4096x1x1024 ![0, 2] bcast_S4096x1024_S4096x1x1024_0_2 p) (constant S_ .f32 0x00000000#32) pads_S4096x1x1024_S4096x3x1024_000_020_000 h_S_)
/-- The gates' gradient. -/
def gL : FVec Ideal S4096x3072 .bf16 :=
  truncf .bf16 (mulf (shapeCast _ (lay (pR0 A U Z Y) (pR Z Y B V) (pR Z Y C W)) shapeCasts_S4096x3x1024_S4096x3072) (mulf (sR P) (subf (broadcastInDim S4096x3072 ![] bcast_S_S4096x3072 (constant S_ .f32 0x3F800000#32)) (sR P)))) bitsLt_bf16_f32
/-- The branches' gradients. -/
def bL0 : FVec Ideal S4096x512 .bf16 := truncf .bf16 (Host.dotGeneral dot_S4096x1024_S512x1024_S4096x512_1_1_0_0_n_n none (dR0 P Z Y) U) bitsLt_bf16_f32
def bL1 : FVec Ideal S4096x1024 .bf16 := truncf .bf16 (Host.dotGeneral dot_S4096x1024_S1024x1024_S4096x1024_1_1_0_0_n_n none (dR1 P Z Y) V) bitsLt_bf16_f32
def bR2 : FVec Ideal S4096x1024 .f32 := Host.dotGeneral dot_S4096x1024_S1024x1024_S4096x1024_1_1_0_0_n_n none (dR2 P Z Y) W

theorem sR_at (r : Fin 4096) (f : Fin 3072) : sR P (ix2 r f) = Ffn.sg (P (ix2 r ⟨3072 + f.val, by omega⟩)) := by
  pointwise [sR, Ffn.sg]
theorem mR_at (r : Fin 4096) (e : Fin 1024) : mR Z Y (ix2 r e) = ∑ d : Fin 1024, Y (ix2 r d) * Z (ix2 e d) := by
  pointwise [mR]
theorem dR0_at (r : Fin 4096) (d : Fin 1024) : dR0 P Z Y (ix2 r d) = sR P (ix2 r ⟨d.val, by omega⟩) * mR Z Y (ix2 r d) := by
  pointwise [dR0]
theorem dR1_at (r : Fin 4096) (d : Fin 1024) : dR1 P Z Y (ix2 r d) = sR P (ix2 r ⟨1024 + d.val, by omega⟩) * mR Z Y (ix2 r d) := by
  pointwise [dR1]
theorem dR2_at (r : Fin 4096) (d : Fin 1024) : dR2 P Z Y (ix2 r d) = sR P (ix2 r ⟨2048 + d.val, by omega⟩) * mR Z Y (ix2 r d) := by
  pointwise [dR2]
theorem lay0_at (p q s : FVec Ideal S4096x1024 .f32) (r : Fin 4096) (d : Fin 1024) : lay p q s (ix3 r 0 d) = p (ix2 r d) := by
  pointwise [lay]
theorem lay1_at (p q s : FVec Ideal S4096x1024 .f32) (r : Fin 4096) (d : Fin 1024) : lay p q s (ix3 r 1 d) = q (ix2 r d) := by
  pointwise [lay]
theorem lay2_at (p q s : FVec Ideal S4096x1024 .f32) (r : Fin 4096) (d : Fin 1024) : lay p q s (ix3 r 2 d) = s (ix2 r d) := by
  pointwise [lay]
theorem gL_at (r : Fin 4096) (f : Fin 3072) : gL P A B C U V W Z Y (ix2 r f)
    = lay (pR0 A U Z Y) (pR Z Y B V) (pR Z Y C W) (ix3 r ⟨f.val / 1024, by omega⟩ ⟨f.val % 1024, by omega⟩) * (sR P (ix2 r f) * (1 - sR P (ix2 r f))) := by
  pointwise [gL]
theorem pR0_at (r : Fin 4096) (d : Fin 1024) : pR0 A U Z Y (ix2 r d) = mR Z Y (ix2 r d) * ∑ k : Fin 512, A (ix2 r k) * U (ix2 k d) := by
  pointwise [pR0]
theorem pR_at (r : Fin 4096) (d : Fin 1024) : pR Z Y B V (ix2 r d) = mR Z Y (ix2 r d) * ∑ k : Fin 1024, B (ix2 r k) * V (ix2 k d) := by
  pointwise [pR]
theorem bL0_at (r : Fin 4096) (k : Fin 512) : bL0 P U Z Y (ix2 r k) = ∑ d : Fin 1024, dR0 P Z Y (ix2 r d) * U (ix2 k d) := by
  pointwise [bL0]
theorem bL1_at (r : Fin 4096) (k : Fin 1024) : bL1 P V Z Y (ix2 r k) = ∑ d : Fin 1024, dR1 P Z Y (ix2 r d) * V (ix2 k d) := by
  pointwise [bL1]
theorem bR2_at (r : Fin 4096) (k : Fin 1024) : bR2 P W Z Y (ix2 r k) = ∑ d : Fin 1024, dR2 P Z Y (ix2 r d) * W (ix2 k d) := by
  pointwise [bR2]
end

end Cert.Reference14Ideal.Hand

namespace Cert.Kernel14Ideal.Hand
open Cert.Kernel14Ideal Cert.Kernel14Ideal.Gen Cert.Reference14Ideal.Hand

section
variable (b0 : FVec Ideal S512x3072 .bf16) (b1 : FVec Ideal S512x512 .bf16) (b2 b3 : FVec Ideal S512x1024 .bf16)
  (b4 : FVec Ideal S512x1024 .bf16) (b5 b6 b7 : FVec Ideal S1024x1024 .bf16) (b8 : FVec Ideal S512x1024 .f32)

/-- An entry of a row block's cotangent of the merged branches. -/
def mK (r : Fin 512) (e : Fin 1024) : EReal := ∑ d : Fin 1024, b8 (ix2 r d) * b7 (ix2 e d)
/-- A gate's gradient, of the cotangent of the merged branches, the branch's product and the gate. -/
def dg (D t g : EReal) : EReal := D * t * Ffn.sg g * (1 - Ffn.sg g)
/-- An entry of a row block's gradient of the gates. -/
def oK (r : Fin 512) (f : Fin 3072) : EReal :=
  if f.val < 1024 then dg (mK b7 b8 r ⟨f.val % 1024, by omega⟩) (∑ k : Fin 512, b1 (ix2 r k) * b4 (ix2 k ⟨f.val % 1024, by omega⟩)) (b0 (ix2 r f))
  else if f.val < 2048 then dg (mK b7 b8 r ⟨f.val % 1024, by omega⟩) (∑ k : Fin 1024, b2 (ix2 r k) * b5 (ix2 k ⟨f.val % 1024, by omega⟩)) (b0 (ix2 r f))
  else dg (mK b7 b8 r ⟨f.val % 1024, by omega⟩) (∑ k : Fin 1024, b3 (ix2 r k) * b6 (ix2 k ⟨f.val % 1024, by omega⟩)) (b0 (ix2 r f))

theorem pay5_at (v0 : FVec Ideal S512x1024 .f32) (v2 : FVec Ideal S1024x1024 .bf16) (r : Fin 512) (e : Fin 1024) : k0_pay5 (F := Ideal) v0 v2 (ix2 r e) = mK v2 v0 r e := by
  pointwise [k0_pay5, mK]
theorem pay14_at (r : Fin 512) (e : Fin 1024) : k0_pay14 (F := Ideal) b0 b1 b2 b3 b4 b5 b6 b7 b8 (ix2 r e) = mK b7 b8 r e := by
  rw [k0_pay14, pay5_at, mK, mK]
  pointwise
theorem pay1_at (v : FVec Ideal S512x1024 .bf16) (r : Fin 512) (d : Fin 1024) : k0_pay1 (F := Ideal) v (ix2 r d) = Ffn.sg (v (ix2 r d)) := by
  pointwise [k0_pay1, Ffn.sg]
  simp only [zero_sub]
theorem pay6_at (v : FVec Ideal S512x1024 .bf16) (r : Fin 512) (d : Fin 1024) : k0_pay6 (F := Ideal) v (ix2 r d) = Ffn.sg (v (ix2 r d)) := by
  pointwise [k0_pay6, Ffn.sg]
  simp only [zero_sub]
theorem pay10_at (v : FVec Ideal S512x1024 .bf16) (r : Fin 512) (d : Fin 1024) : k0_pay10 (F := Ideal) v (ix2 r d) = Ffn.sg (v (ix2 r d)) := by
  pointwise [k0_pay10, Ffn.sg]
  simp only [zero_sub]
theorem pay7_at (v0 : FVec Ideal S512x1024 .f32) (v2 : FVec Ideal S1024x1024 .bf16) (v : FVec Ideal S512x1024 .bf16) (r : Fin 512) (d : Fin 1024) : k0_pay7 (F := Ideal) v0 v2 v (ix2 r d) = mK v2 v0 r d * Ffn.sg (v (ix2 r d)) := by
  refine Eq.trans ?_ (congrArg₂ (· * ·) (pay5_at v0 v2 r d) (pay6_at v r d))
  pointwise [k0_pay7]
theorem pay11_at (v4 : FVec Ideal S512x1024 .f32) (v : FVec Ideal S512x1024 .bf16) (r : Fin 512) (d : Fin 1024) : k0_pay11 (F := Ideal) v4 v (ix2 r d) = v4 (ix2 r d) * Ffn.sg (v (ix2 r d)) := by
  refine Eq.trans ?_ (congrArg (v4 (ix2 r d) * ·) (pay10_at v r d))
  pointwise [k0_pay11]
theorem pay2_at (v4 : FVec Ideal S512x1024 .f32) (v : FVec Ideal S512x1024 .bf16) (r : Fin 512) (d : Fin 1024) : k0_pay2 (F := Ideal) v4 v (ix2 r d) = v4 (ix2 r d) * Ffn.sg (v (ix2 r d)) := by
  refine Eq.trans ?_ (congrArg (v4 (ix2 r d) * ·) (pay1_at v r d))
  pointwise [k0_pay2]
theorem pay8_at (v0 : FVec Ideal S512x1024 .f32) (v2 : FVec Ideal S1024x1024 .bf16) (v5 : FVec Ideal S512x512 .bf16) (v7 v : FVec Ideal S512x1024 .bf16) (r : Fin 512) (d : Fin 1024) :
    k0_pay8 (F := Ideal) v0 v2 v5 v7 v (ix2 r d) = dg (mK v2 v0 r d) (∑ k : Fin 512, v5 (ix2 r k) * v7 (ix2 k d)) (v (ix2 r d)) := by
  rw [dg, ← pay5_at v0 v2 r d, ← pay6_at v r d]
  pointwise [k0_pay8]
theorem pay12_at (v4 : FVec Ideal S512x1024 .f32) (v35 : FVec Ideal S512x1024 .bf16) (v37 : FVec Ideal S1024x1024 .bf16) (v : FVec Ideal S512x1024 .bf16) (r : Fin 512) (d : Fin 1024) :
    k0_pay12 (F := Ideal) v4 v35 v37 v (ix2 r d) = dg (v4 (ix2 r d)) (∑ k : Fin 1024, v35 (ix2 r k) * v37 (ix2 k d)) (v (ix2 r d)) := by
  rw [dg, ← pay10_at v r d]
  pointwise [k0_pay12]
theorem pay3_at (v4 : FVec Ideal S512x1024 .f32) (v65 : FVec Ideal S512x1024 .bf16) (v67 : FVec Ideal S1024x1024 .bf16) (v : FVec Ideal S512x1024 .bf16) (r : Fin 512) (d : Fin 1024) :
    k0_pay3 (F := Ideal) v4 v65 v67 v (ix2 r d) = dg (v4 (ix2 r d)) (∑ k : Fin 1024, v65 (ix2 r k) * v67 (ix2 k d)) (v (ix2 r d)) := by
  rw [dg, ← pay1_at v r d]
  pointwise [k0_pay3]
theorem pay9_at (v0 : FVec Ideal S512x1024 .f32) (v2 : FVec Ideal S1024x1024 .bf16) (v v30 : FVec Ideal S512x1024 .bf16) (r k : Fin 512) :
    k0_pay9 (F := Ideal) v0 v2 v v30 (ix2 r k) = ∑ d : Fin 1024, mK v2 v0 r d * Ffn.sg (v (ix2 r d)) * v30 (ix2 k d) := by
  simp only [← pay7_at]
  pointwise [k0_pay9]
theorem pay13_at (v4 : FVec Ideal S512x1024 .f32) (v : FVec Ideal S512x1024 .bf16) (v60 : FVec Ideal S1024x1024 .bf16) (r : Fin 512) (k : Fin 1024) :
    k0_pay13 (F := Ideal) v4 v v60 (ix2 r k) = ∑ d : Fin 1024, v4 (ix2 r d) * Ffn.sg (v (ix2 r d)) * v60 (ix2 k d) := by
  simp only [← pay11_at]
  pointwise [k0_pay13]
theorem pay4_at (v4 : FVec Ideal S512x1024 .f32) (v : FVec Ideal S512x1024 .bf16) (v90 : FVec Ideal S1024x1024 .bf16) (r : Fin 512) (k : Fin 1024) :
    k0_pay4 (F := Ideal) v4 v v90 (ix2 r k) = ∑ d : Fin 1024, v4 (ix2 r d) * Ffn.sg (v (ix2 r d)) * v90 (ix2 k d) := by
  simp only [← pay2_at]
  pointwise [k0_pay4]

theorem out9_at (r : Fin 512) (d : Fin 1024) : out0_9 (F := Ideal) b0 b1 b2 b3 b4 b5 b6 b7 b8 (ix2 r d) = mK b7 b8 r d * Ffn.sg (b0 (ix2 r ⟨d.val, by omega⟩)) := by
  unfold out0_9
  canon_tiles x h
  case piece0 =>
    idx_vars x
    obtain rfl : r = x0 := Fin.ext h0
    obtain rfl : d = x1 := Fin.ext h1
    rw [pay7_at, mK, mK]
    pointwise
theorem out10_at (r : Fin 512) (d : Fin 1024) : out0_10 (F := Ideal) b0 b1 b2 b3 b4 b5 b6 b7 b8 (ix2 r d) = mK b7 b8 r d * Ffn.sg (b0 (ix2 r ⟨1024 + d.val, by omega⟩)) := by
  unfold out0_10
  canon_tiles x h
  case piece0 =>
    idx_vars x
    obtain rfl : r = x0 := Fin.ext h0
    obtain rfl : d = x1 := Fin.ext h1
    rw [pay11_at, pay14_at]
    pointwise
theorem out11_at (r : Fin 512) (d : Fin 1024) : out0_11 (F := Ideal) b0 b1 b2 b3 b4 b5 b6 b7 b8 (ix2 r d) = mK b7 b8 r d * Ffn.sg (b0 (ix2 r ⟨2048 + d.val, by omega⟩)) := by
  unfold out0_11
  canon_tiles x h
  case piece0 =>
    idx_vars x
    obtain rfl : r = x0 := Fin.ext h0
    obtain rfl : d = x1 := Fin.ext h1
    rw [pay2_at, pay14_at]
    pointwise
theorem out12_at (r : Fin 512) (f : Fin 3072) : out0_12 (F := Ideal) b0 b1 b2 b3 b4 b5 b6 b7 b8 (ix2 r f) = oK b0 b1 b2 b3 b4 b5 b6 b7 b8 r f := by
  unfold out0_12
  canon_tiles x h
  case piece0 =>
    idx_vars x
    obtain rfl : r = x0 := Fin.ext h0
    obtain ⟨f, hf⟩ := f
    dsimp only at h1
    subst h1
    have e : (⟨(2048 + x1.val) % 1024, by omega⟩ : Fin 1024) = x1 := Fin.ext (by dsimp only; omega)
    rw [oK, if_neg (by dsimp only; omega), if_neg (by dsimp only; omega), pay3_at, pay14_at]
    dsimp only
    rw [e]
    pointwise
  case piece1 =>
    idx_vars x
    obtain rfl : r = x0 := Fin.ext h0
    obtain ⟨f, hf⟩ := f
    dsimp only at h1
    subst h1
    have e : (⟨(1024 + x1.val) % 1024, by omega⟩ : Fin 1024) = x1 := Fin.ext (by dsimp only; omega)
    rw [oK, if_neg (by dsimp only; omega), if_pos (by dsimp only; omega), pay12_at, pay14_at]
    dsimp only
    rw [e]
    pointwise
  case piece2 =>
    idx_vars x
    obtain rfl : r = x0 := Fin.ext h0
    obtain ⟨f, hf⟩ := f
    dsimp only at h1
    subst h1
    have e : (⟨x1.val % 1024, by omega⟩ : Fin 1024) = x1 := Fin.ext (by dsimp only; omega)
    rw [oK, if_pos (by dsimp only; omega), pay8_at, mK, mK]
    dsimp only
    rw [e]
    pointwise
theorem out13_at (r k : Fin 512) : out0_13 (F := Ideal) b0 b1 b2 b3 b4 b5 b6 b7 b8 (ix2 r k) = ∑ d : Fin 1024, mK b7 b8 r d * Ffn.sg (b0 (ix2 r ⟨d.val, by omega⟩)) * b4 (ix2 k d) := by
  unfold out0_13
  canon_tiles x h
  case piece0 =>
    idx_vars x
    obtain rfl : r = x0 := Fin.ext h0
    obtain rfl : k = x1 := Fin.ext h1
    rw [pay9_at]
    simp only [mK]
    pointwise
theorem out14_at (r : Fin 512) (k : Fin 1024) : out0_14 (F := Ideal) b0 b1 b2 b3 b4 b5 b6 b7 b8 (ix2 r k) = ∑ d : Fin 1024, mK b7 b8 r d * Ffn.sg (b0 (ix2 r ⟨1024 + d.val, by omega⟩)) * b5 (ix2 k d) := by
  unfold out0_14
  canon_tiles x h
  case piece0 =>
    idx_vars x
    obtain rfl : r = x0 := Fin.ext h0
    obtain rfl : k = x1 := Fin.ext h1
    rw [pay13_at]
    simp only [pay14_at]
    pointwise
theorem out15_at (r : Fin 512) (k : Fin 1024) : out0_15 (F := Ideal) b0 b1 b2 b3 b4 b5 b6 b7 b8 (ix2 r k) = ∑ d : Fin 1024, mK b7 b8 r d * Ffn.sg (b0 (ix2 r ⟨2048 + d.val, by omega⟩)) * b6 (ix2 k d) := by
  unfold out0_15
  canon_tiles x h
  case piece0 =>
    idx_vars x
    obtain rfl : r = x0 := Fin.ext h0
    obtain rfl : k = x1 := Fin.ext h1
    rw [pay4_at]
    simp only [pay14_at]
    pointwise

variable (P : FVec Ideal S4096x6144 .f32) (A : FVec Ideal S4096x512 .f32) (B C : FVec Ideal S4096x1024 .f32)
  (U : FVec Ideal S512x1024 .f32) (V W Z : FVec Ideal S1024x1024 .f32) (Y : FVec Ideal S4096x1024 .f32) (R : Fin 4096) (r : Fin 512)
variable (h0 : ∀ f : Fin 3072, b0 (ix2 r f) = P (ix2 R ⟨3072 + f.val, by omega⟩)) (h7 : ∀ k d : Fin 1024, b7 (ix2 k d) = Z (ix2 k d)) (h8 : ∀ d : Fin 1024, b8 (ix2 r d) = Y (ix2 R d))
include h7 h8
theorem mK_ref (e : Fin 1024) : mK b7 b8 r e = mR Z Y (ix2 R e) := by
  rw [mR_at]
  unfold mK
  simp only [h7, h8]
include h0
theorem d0_ref (d : Fin 1024) : mK b7 b8 r d * Ffn.sg (b0 (ix2 r ⟨d.val, by omega⟩)) = dR0 P Z Y (ix2 R d) := by
  rw [dR0_at, sR_at, mK_ref b7 b8 Z Y R r h7 h8, h0, mul_comm]
theorem d1_ref (d : Fin 1024) : mK b7 b8 r d * Ffn.sg (b0 (ix2 r ⟨1024 + d.val, by omega⟩)) = dR1 P Z Y (ix2 R d) := by
  rw [dR1_at, sR_at, mK_ref b7 b8 Z Y R r h7 h8, h0, mul_comm]
theorem d2_ref (d : Fin 1024) : mK b7 b8 r d * Ffn.sg (b0 (ix2 r ⟨2048 + d.val, by omega⟩)) = dR2 P Z Y (ix2 R d) := by
  rw [dR2_at, sR_at, mK_ref b7 b8 Z Y R r h7 h8, h0, mul_comm]
theorem out9_ref (d : Fin 1024) : out0_9 (F := Ideal) b0 b1 b2 b3 b4 b5 b6 b7 b8 (ix2 r d) = dL0 P Z Y (ix2 R d) :=
  (out9_at b0 b1 b2 b3 b4 b5 b6 b7 b8 r d).trans (d0_ref b0 b7 b8 P Z Y R r h0 h7 h8 d)
theorem out10_ref (d : Fin 1024) : out0_10 (F := Ideal) b0 b1 b2 b3 b4 b5 b6 b7 b8 (ix2 r d) = dL1 P Z Y (ix2 R d) :=
  (out10_at b0 b1 b2 b3 b4 b5 b6 b7 b8 r d).trans (d1_ref b0 b7 b8 P Z Y R r h0 h7 h8 d)
theorem out11_ref (d : Fin 1024) : out0_11 (F := Ideal) b0 b1 b2 b3 b4 b5 b6 b7 b8 (ix2 r d) = dL2 P Z Y (ix2 R d) :=
  (out11_at b0 b1 b2 b3 b4 b5 b6 b7 b8 r d).trans (d2_ref b0 b7 b8 P Z Y R r h0 h7 h8 d)
theorem out13_ref (h4 : ∀ (k : Fin 512) (d : Fin 1024), b4 (ix2 k d) = U (ix2 k d)) (k : Fin 512) : out0_13 (F := Ideal) b0 b1 b2 b3 b4 b5 b6 b7 b8 (ix2 r k) = bL0 P U Z Y (ix2 R k) := by
  rw [out13_at, bL0_at]
  exact Finset.sum_congr rfl fun d _ => by rw [d0_ref b0 b7 b8 P Z Y R r h0 h7 h8 d, h4]
theorem out14_ref (h5 : ∀ k d : Fin 1024, b5 (ix2 k d) = V (ix2 k d)) (k : Fin 1024) : out0_14 (F := Ideal) b0 b1 b2 b3 b4 b5 b6 b7 b8 (ix2 r k) = bL1 P V Z Y (ix2 R k) := by
  rw [out14_at, bL1_at]
  exact Finset.sum_congr rfl fun d _ => by rw [d1_ref b0 b7 b8 P Z Y R r h0 h7 h8 d, h5]
theorem out15_ref (h6 : ∀ k d : Fin 1024, b6 (ix2 k d) = W (ix2 k d)) (k : Fin 1024) : out0_15 (F := Ideal) b0 b1 b2 b3 b4 b5 b6 b7 b8 (ix2 r k) = bR2 P W Z Y (ix2 R k) := by
  rw [out15_at, bR2_at]
  exact Finset.sum_congr rfl fun d _ => by rw [d2_ref b0 b7 b8 P Z Y R r h0 h7 h8 d, h6]
theorem out12_ref (h1 : ∀ k : Fin 512, b1 (ix2 r k) = A (ix2 R k)) (h2 : ∀ k : Fin 1024, b2 (ix2 r k) = B (ix2 R k)) (h3 : ∀ k : Fin 1024, b3 (ix2 r k) = C (ix2 R k))
    (h4 : ∀ (k : Fin 512) (d : Fin 1024), b4 (ix2 k d) = U (ix2 k d)) (h5 : ∀ k d : Fin 1024, b5 (ix2 k d) = V (ix2 k d)) (h6 : ∀ k d : Fin 1024, b6 (ix2 k d) = W (ix2 k d)) (f : Fin 3072) :
    out0_12 (F := Ideal) b0 b1 b2 b3 b4 b5 b6 b7 b8 (ix2 r f) = gL P A B C U V W Z Y (ix2 R f) := by
  rw [out12_at, gL_at, sR_at]
  unfold oK dg
  simp only [mK_ref b7 b8 Z Y R r h7 h8, h0, h1, h2, h3, h4, h5, h6]
  split_ifs with q0 q1
  · have e : (⟨f.val / 1024, by omega⟩ : Fin 3) = 0 := Fin.ext (by simp only [Fin.val_zero]; omega)
    rw [e, lay0_at, pR0_at, mul_assoc]
  · have e : (⟨f.val / 1024, by omega⟩ : Fin 3) = 1 := Fin.ext (by simp only [Fin.val_one]; omega)
    rw [e, lay1_at, pR_at, mul_assoc]
  · have e : (⟨f.val / 1024, by omega⟩ : Fin 3) = 2 := Fin.ext (by simp only [Fin.val_two]; omega)
    rw [e, lay2_at, pR_at, mul_assoc]
end

variable (m : (ℓ : Loc nD τ sig) → Buf (Elt Ideal) ℓ) (c : Dev nD)

/-- The first column group of the mixer's products, its last half the gates. -/
abbrev a0 : FVec Ideal S4096x6144 .f32 := m ((c.tc : Thread nD τ).loc main_arg0)
/-- The first branch's output. -/
abbrev a1 : FVec Ideal S4096x512 .f32 := m ((c.tc : Thread nD τ).loc main_arg1)
/-- The second branch's output. -/
abbrev a2 : FVec Ideal S4096x1024 .f32 := m ((c.tc : Thread nD τ).loc main_arg2)
/-- The third branch's output. -/
abbrev a3 : FVec Ideal S4096x1024 .f32 := m ((c.tc : Thread nD τ).loc main_arg3)
/-- The first branch's weight. -/
abbrev a4 : FVec Ideal S512x1024 .f32 := m ((c.tc : Thread nD τ).loc main_arg4)
/-- The second branch's weight. -/
abbrev a5 : FVec Ideal S1024x1024 .f32 := m ((c.tc : Thread nD τ).loc main_arg5)
/-- The third branch's weight. -/
abbrev a6 : FVec Ideal S1024x1024 .f32 := m ((c.tc : Thread nD τ).loc main_arg6)
/-- The output weight. -/
abbrev a7 : FVec Ideal S1024x1024 .f32 := m ((c.tc : Thread nD τ).loc main_arg7)
/-- The output's cotangent. -/
abbrev a8 : FVec Ideal S4096x1024 .f32 := m ((c.tc : Thread nD τ).loc main_arg8)

theorem idx : ∀ t : Fin cfg0.N, win0_0.index t = ![t.val, 1] ∧ win0_1.index t = ![t.val, 0] ∧ win0_2.index t = ![t.val, 0] ∧ win0_3.index t = ![t.val, 0]
    ∧ win0_4.index t = ![0, 0] ∧ win0_5.index t = ![0, 0] ∧ win0_6.index t = ![0, 0] ∧ win0_7.index t = ![0, 0] ∧ win0_8.index t = ![t.val, 0]
    ∧ win0_9.index t = ![t.val, 0] ∧ win0_10.index t = ![t.val, 0] ∧ win0_11.index t = ![t.val, 0] ∧ win0_12.index t = ![t.val, 0] ∧ win0_13.index t = ![t.val, 0] ∧ win0_14.index t = ![t.val, 0] ∧ win0_15.index t = ![t.val, 0] := (by decide +kernel : ∀ t : Fin grid0.N, _)

theorem blk0 (t : Fin cfg0.N) (r : Fin 512) (ht : t.val < 8) (f : Fin 3072) :
    (iblk m c 0 t : FVec Ideal S512x3072 .bf16) (ix2 r f) = a0 m c (ix2 ⟨t.val * 512 + r.val, by omega⟩ ⟨3072 + f.val, by omega⟩) := by
  blk_point [iblk, V, idx t]
theorem blk1 (t : Fin cfg0.N) (r : Fin 512) (ht : t.val < 8) (k : Fin 512) :
    (iblk m c 1 t : FVec Ideal S512x512 .bf16) (ix2 r k) = a1 m c (ix2 ⟨t.val * 512 + r.val, by omega⟩ k) := by
  blk_point [iblk, V, idx t]
theorem blk2 (t : Fin cfg0.N) (r : Fin 512) (ht : t.val < 8) (k : Fin 1024) :
    (iblk m c 2 t : FVec Ideal S512x1024 .bf16) (ix2 r k) = a2 m c (ix2 ⟨t.val * 512 + r.val, by omega⟩ k) := by
  blk_point [iblk, V, idx t]
theorem blk3 (t : Fin cfg0.N) (r : Fin 512) (ht : t.val < 8) (k : Fin 1024) :
    (iblk m c 3 t : FVec Ideal S512x1024 .bf16) (ix2 r k) = a3 m c (ix2 ⟨t.val * 512 + r.val, by omega⟩ k) := by
  blk_point [iblk, V, idx t]
theorem blk4 (t : Fin cfg0.N) (k : Fin 512) (d : Fin 1024) : (iblk m c 4 t : FVec Ideal S512x1024 .bf16) (ix2 k d) = a4 m c (ix2 k d) := by
  blk_point [iblk, V, idx t]
theorem blk5 (t : Fin cfg0.N) (k d : Fin 1024) : (iblk m c 5 t : FVec Ideal S1024x1024 .bf16) (ix2 k d) = a5 m c (ix2 k d) := by
  blk_point [iblk, V, idx t]
theorem blk6 (t : Fin cfg0.N) (k d : Fin 1024) : (iblk m c 6 t : FVec Ideal S1024x1024 .bf16) (ix2 k d) = a6 m c (ix2 k d) := by
  blk_point [iblk, V, idx t]
theorem blk7 (t : Fin cfg0.N) (k d : Fin 1024) : (iblk m c 7 t : FVec Ideal S1024x1024 .bf16) (ix2 k d) = a7 m c (ix2 k d) := by
  blk_point [iblk, V, idx t]
theorem blk8 (t : Fin cfg0.N) (r : Fin 512) (ht : t.val < 8) (d : Fin 1024) :
    (iblk m c 8 t : FVec Ideal S512x1024 .f32) (ix2 r d) = a8 m c (ix2 ⟨t.val * 512 + r.val, by omega⟩ d) := by
  blk_point [iblk, V, idx t]

theorem final9 : (dats m 0 c).arrAt 9 (cfgs 0).N = dL0 (a0 m c) (a7 m c) (a8 m c) := by
  refine (dats m 0 c).arrAt_eq_of_covers 9 _ (by decide +kernel) fun t hf y => ?_
  have ht : t.val < 8 := lt_of_lt_of_eq t.isLt N_0
  blk_simp
  rw [after0_9]
  idx_vars y
  have e : (((View.whole main_v8_0).slice (win0_9.rect t)).emb (ix2 y0 y1) : S4096x1024.Idx) = ix2 ⟨t.val * 512 + y0.val, by omega⟩ y1 := by
    blk_ext [idx t]
  exact (out9_ref _ _ _ _ _ _ _ _ _ (a0 m c) (a7 m c) (a8 m c) ⟨t.val * 512 + y0.val, by omega⟩ y0 (blk0 m c t y0 ht) (blk7 m c t) (blk8 m c t y0 ht) y1).trans (congrArg _ e).symm

theorem final10 : (dats m 0 c).arrAt 10 (cfgs 0).N = dL1 (a0 m c) (a7 m c) (a8 m c) := by
  refine (dats m 0 c).arrAt_eq_of_covers 10 _ (by decide +kernel) fun t hf y => ?_
  have ht : t.val < 8 := lt_of_lt_of_eq t.isLt N_0
  blk_simp
  rw [after0_10]
  idx_vars y
  have e : (((View.whole main_v8_1).slice (win0_10.rect t)).emb (ix2 y0 y1) : S4096x1024.Idx) = ix2 ⟨t.val * 512 + y0.val, by omega⟩ y1 := by
    blk_ext [idx t]
  exact (out10_ref _ _ _ _ _ _ _ _ _ (a0 m c) (a7 m c) (a8 m c) ⟨t.val * 512 + y0.val, by omega⟩ y0 (blk0 m c t y0 ht) (blk7 m c t) (blk8 m c t y0 ht) y1).trans (congrArg _ e).symm

theorem final11 : (dats m 0 c).arrAt 11 (cfgs 0).N = dL2 (a0 m c) (a7 m c) (a8 m c) := by
  refine (dats m 0 c).arrAt_eq_of_covers 11 _ (by decide +kernel) fun t hf y => ?_
  have ht : t.val < 8 := lt_of_lt_of_eq t.isLt N_0
  blk_simp
  rw [after0_11]
  idx_vars y
  have e : (((View.whole main_v8_2).slice (win0_11.rect t)).emb (ix2 y0 y1) : S4096x1024.Idx) = ix2 ⟨t.val * 512 + y0.val, by omega⟩ y1 := by
    blk_ext [idx t]
  exact (out11_ref _ _ _ _ _ _ _ _ _ (a0 m c) (a7 m c) (a8 m c) ⟨t.val * 512 + y0.val, by omega⟩ y0 (blk0 m c t y0 ht) (blk7 m c t) (blk8 m c t y0 ht) y1).trans (congrArg _ e).symm

theorem final12 : (dats m 0 c).arrAt 12 (cfgs 0).N = gL (a0 m c) (a1 m c) (a2 m c) (a3 m c) (a4 m c) (a5 m c) (a6 m c) (a7 m c) (a8 m c) := by
  refine (dats m 0 c).arrAt_eq_of_covers 12 _ (by decide +kernel) fun t hf y => ?_
  have ht : t.val < 8 := lt_of_lt_of_eq t.isLt N_0
  blk_simp
  rw [after0_12]
  idx_vars y
  have e : (((View.whole main_v8_3).slice (win0_12.rect t)).emb (ix2 y0 y1) : S4096x3072.Idx) = ix2 ⟨t.val * 512 + y0.val, by omega⟩ y1 := by
    blk_ext [idx t]
  exact (out12_ref _ _ _ _ _ _ _ _ _ (a0 m c) (a1 m c) (a2 m c) (a3 m c) (a4 m c) (a5 m c) (a6 m c) (a7 m c) (a8 m c) ⟨t.val * 512 + y0.val, by omega⟩ y0 (blk0 m c t y0 ht) (blk7 m c t) (blk8 m c t y0 ht) (blk1 m c t y0 ht) (blk2 m c t y0 ht) (blk3 m c t y0 ht) (blk4 m c t) (blk5 m c t) (blk6 m c t) y1).trans (congrArg _ e).symm

theorem final13 : (dats m 0 c).arrAt 13 (cfgs 0).N = bL0 (a0 m c) (a4 m c) (a7 m c) (a8 m c) := by
  refine (dats m 0 c).arrAt_eq_of_covers 13 _ (by decide +kernel) fun t hf y => ?_
  have ht : t.val < 8 := lt_of_lt_of_eq t.isLt N_0
  blk_simp
  rw [after0_13]
  idx_vars y
  have e : (((View.whole main_v8_4).slice (win0_13.rect t)).emb (ix2 y0 y1) : S4096x512.Idx) = ix2 ⟨t.val * 512 + y0.val, by omega⟩ y1 := by
    blk_ext [idx t]
  exact (out13_ref _ _ _ _ _ _ _ _ _ (a0 m c) (a4 m c) (a7 m c) (a8 m c) ⟨t.val * 512 + y0.val, by omega⟩ y0 (blk0 m c t y0 ht) (blk7 m c t) (blk8 m c t y0 ht) (blk4 m c t) y1).trans (congrArg _ e).symm

theorem final14 : (dats m 0 c).arrAt 14 (cfgs 0).N = bL1 (a0 m c) (a5 m c) (a7 m c) (a8 m c) := by
  refine (dats m 0 c).arrAt_eq_of_covers 14 _ (by decide +kernel) fun t hf y => ?_
  have ht : t.val < 8 := lt_of_lt_of_eq t.isLt N_0
  blk_simp
  rw [after0_14]
  idx_vars y
  have e : (((View.whole main_v8_5).slice (win0_14.rect t)).emb (ix2 y0 y1) : S4096x1024.Idx) = ix2 ⟨t.val * 512 + y0.val, by omega⟩ y1 := by
    blk_ext [idx t]
  exact (out14_ref _ _ _ _ _ _ _ _ _ (a0 m c) (a5 m c) (a7 m c) (a8 m c) ⟨t.val * 512 + y0.val, by omega⟩ y0 (blk0 m c t y0 ht) (blk7 m c t) (blk8 m c t y0 ht) (blk5 m c t) y1).trans (congrArg _ e).symm

theorem final15 : (dats m 0 c).arrAt 15 (cfgs 0).N = bR2 (a0 m c) (a6 m c) (a7 m c) (a8 m c) := by
  refine (dats m 0 c).arrAt_eq_of_covers 15 _ (by decide +kernel) fun t hf y => ?_
  have ht : t.val < 8 := lt_of_lt_of_eq t.isLt N_0
  blk_simp
  rw [after0_15]
  idx_vars y
  have e : (((View.whole main_v8_6).slice (win0_15.rect t)).emb (ix2 y0 y1) : S4096x1024.Idx) = ix2 ⟨t.val * 512 + y0.val, by omega⟩ y1 := by
    blk_ext [idx t]
  exact (out15_ref _ _ _ _ _ _ _ _ _ (a0 m c) (a6 m c) (a7 m c) (a8 m c) ⟨t.val * 512 + y0.val, by omega⟩ y0 (blk0 m c t y0 ht) (blk7 m c t) (blk8 m c t y0 ht) (blk6 m c t) y1).trans (congrArg _ e).symm

end Cert.Kernel14Ideal.Hand

end
-- ==== Proof.Pair14.lean ====
/- The pair of programs Kernel14Ideal and Reference14Ideal: the reference's run, and the kernel's results equal to the reference's. -/
module

public import proofs.«01_k».proof.Defs
public import proofs.«01_k».proof.Proof.Gen.Kernel14Ideal
public import proofs.«01_k».proof.Proof.Gen.Kernel14Ideal.Frame
public import proofs.«01_k».proof.Proof.Gen.Reference14Ideal
public import proofs.«01_k».proof.Proof.Gen.Reference14Ideal.Run
public import proofs.«01_k».proof.Proof.MergeBwd14
public import Idealize.ShloMosaic.Lib.Claim
public import Idealize.ShloMosaic.Adequacy
public import Idealize.ShloMosaic.Init

@[expose] public section

noncomputable section

namespace Cert.Proof

open Idealize.ShloMosaic Idealize.SL.Sem

theorem frameR14 : Cert.quiescent_Reference14Ideal := fun m g _ =>
  (θ_run _ _ _).mono (fun _ h => ⟨fun c => (h c).2.2.2.2.2.2.2, sem_eq_zero_of_no_sems (by decide) _⟩) (Cert.Reference14Ideal.Value.run m g)

theorem value14_0 (m : (ℓ : Loc Cert.Kernel14Ideal.nD Cert.Kernel14Ideal.τ Cert.Kernel14Ideal.sig) → Buf (Elt Ideal) ℓ)
    (m' : (ℓ : Loc Cert.Reference14Ideal.nD Cert.Reference14Ideal.τ Cert.Reference14Ideal.sig) → Buf (Elt Ideal) ℓ)
    (c : Dev Cert.Kernel14Ideal.nD) (hagree : m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)) :
    Cert.Reference14Ideal.Hand.dL0 (m' ((c.tc : Thread Cert.Reference14Ideal.nD Cert.Reference14Ideal.τ).loc Cert.Reference14Ideal.main_arg0)) (m' ((c.tc : Thread Cert.Reference14Ideal.nD Cert.Reference14Ideal.τ).loc Cert.Reference14Ideal.main_arg7)) (m' ((c.tc : Thread Cert.Reference14Ideal.nD Cert.Reference14Ideal.τ).loc Cert.Reference14Ideal.main_arg8))
      = (Cert.Kernel14Ideal.Gen.dats m 0 c).arrAt 9 (Cert.Kernel14Ideal.cfgs 0).N := by
  obtain ⟨e0, e1, e2, e3, e4, e5, e6, e7, e8⟩ := hagree
  refine Eq.trans ?_ (Cert.Kernel14Ideal.Hand.final9 m c).symm
  rw [e0, e7, e8]

theorem value14_1 (m : (ℓ : Loc Cert.Kernel14Ideal.nD Cert.Kernel14Ideal.τ Cert.Kernel14Ideal.sig) → Buf (Elt Ideal) ℓ)
    (m' : (ℓ : Loc Cert.Reference14Ideal.nD Cert.Reference14Ideal.τ Cert.Reference14Ideal.sig) → Buf (Elt Ideal) ℓ)
    (c : Dev Cert.Kernel14Ideal.nD) (hagree : m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)) :
    Cert.Reference14Ideal.Hand.dL1 (m' ((c.tc : Thread Cert.Reference14Ideal.nD Cert.Reference14Ideal.τ).loc Cert.Reference14Ideal.main_arg0)) (m' ((c.tc : Thread Cert.Reference14Ideal.nD Cert.Reference14Ideal.τ).loc Cert.Reference14Ideal.main_arg7)) (m' ((c.tc : Thread Cert.Reference14Ideal.nD Cert.Reference14Ideal.τ).loc Cert.Reference14Ideal.main_arg8))
      = (Cert.Kernel14Ideal.Gen.dats m 0 c).arrAt 10 (Cert.Kernel14Ideal.cfgs 0).N := by
  obtain ⟨e0, e1, e2, e3, e4, e5, e6, e7, e8⟩ := hagree
  refine Eq.trans ?_ (Cert.Kernel14Ideal.Hand.final10 m c).symm
  rw [e0, e7, e8]

theorem value14_2 (m : (ℓ : Loc Cert.Kernel14Ideal.nD Cert.Kernel14Ideal.τ Cert.Kernel14Ideal.sig) → Buf (Elt Ideal) ℓ)
    (m' : (ℓ : Loc Cert.Reference14Ideal.nD Cert.Reference14Ideal.τ Cert.Reference14Ideal.sig) → Buf (Elt Ideal) ℓ)
    (c : Dev Cert.Kernel14Ideal.nD) (hagree : m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)) :
    Cert.Reference14Ideal.Hand.dL2 (m' ((c.tc : Thread Cert.Reference14Ideal.nD Cert.Reference14Ideal.τ).loc Cert.Reference14Ideal.main_arg0)) (m' ((c.tc : Thread Cert.Reference14Ideal.nD Cert.Reference14Ideal.τ).loc Cert.Reference14Ideal.main_arg7)) (m' ((c.tc : Thread Cert.Reference14Ideal.nD Cert.Reference14Ideal.τ).loc Cert.Reference14Ideal.main_arg8))
      = (Cert.Kernel14Ideal.Gen.dats m 0 c).arrAt 11 (Cert.Kernel14Ideal.cfgs 0).N := by
  obtain ⟨e0, e1, e2, e3, e4, e5, e6, e7, e8⟩ := hagree
  refine Eq.trans ?_ (Cert.Kernel14Ideal.Hand.final11 m c).symm
  rw [e0, e7, e8]

theorem value14_3 (m : (ℓ : Loc Cert.Kernel14Ideal.nD Cert.Kernel14Ideal.τ Cert.Kernel14Ideal.sig) → Buf (Elt Ideal) ℓ)
    (m' : (ℓ : Loc Cert.Reference14Ideal.nD Cert.Reference14Ideal.τ Cert.Reference14Ideal.sig) → Buf (Elt Ideal) ℓ)
    (c : Dev Cert.Kernel14Ideal.nD) (hagree : m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)) :
    Cert.Reference14Ideal.Hand.gL (m' ((c.tc : Thread Cert.Reference14Ideal.nD Cert.Reference14Ideal.τ).loc Cert.Reference14Ideal.main_arg0)) (m' ((c.tc : Thread Cert.Reference14Ideal.nD Cert.Reference14Ideal.τ).loc Cert.Reference14Ideal.main_arg1)) (m' ((c.tc : Thread Cert.Reference14Ideal.nD Cert.Reference14Ideal.τ).loc Cert.Reference14Ideal.main_arg2)) (m' ((c.tc : Thread Cert.Reference14Ideal.nD Cert.Reference14Ideal.τ).loc Cert.Reference14Ideal.main_arg3)) (m' ((c.tc : Thread Cert.Reference14Ideal.nD Cert.Reference14Ideal.τ).loc Cert.Reference14Ideal.main_arg4)) (m' ((c.tc : Thread Cert.Reference14Ideal.nD Cert.Reference14Ideal.τ).loc Cert.Reference14Ideal.main_arg5)) (m' ((c.tc : Thread Cert.Reference14Ideal.nD Cert.Reference14Ideal.τ).loc Cert.Reference14Ideal.main_arg6)) (m' ((c.tc : Thread Cert.Reference14Ideal.nD Cert.Reference14Ideal.τ).loc Cert.Reference14Ideal.main_arg7)) (m' ((c.tc : Thread Cert.Reference14Ideal.nD Cert.Reference14Ideal.τ).loc Cert.Reference14Ideal.main_arg8))
      = (Cert.Kernel14Ideal.Gen.dats m 0 c).arrAt 12 (Cert.Kernel14Ideal.cfgs 0).N := by
  obtain ⟨e0, e1, e2, e3, e4, e5, e6, e7, e8⟩ := hagree
  refine Eq.trans ?_ (Cert.Kernel14Ideal.Hand.final12 m c).symm
  rw [e0, e1, e2, e3, e4, e5, e6, e7, e8]

theorem value14_4 (m : (ℓ : Loc Cert.Kernel14Ideal.nD Cert.Kernel14Ideal.τ Cert.Kernel14Ideal.sig) → Buf (Elt Ideal) ℓ)
    (m' : (ℓ : Loc Cert.Reference14Ideal.nD Cert.Reference14Ideal.τ Cert.Reference14Ideal.sig) → Buf (Elt Ideal) ℓ)
    (c : Dev Cert.Kernel14Ideal.nD) (hagree : m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)) :
    Cert.Reference14Ideal.Hand.bL0 (m' ((c.tc : Thread Cert.Reference14Ideal.nD Cert.Reference14Ideal.τ).loc Cert.Reference14Ideal.main_arg0)) (m' ((c.tc : Thread Cert.Reference14Ideal.nD Cert.Reference14Ideal.τ).loc Cert.Reference14Ideal.main_arg4)) (m' ((c.tc : Thread Cert.Reference14Ideal.nD Cert.Reference14Ideal.τ).loc Cert.Reference14Ideal.main_arg7)) (m' ((c.tc : Thread Cert.Reference14Ideal.nD Cert.Reference14Ideal.τ).loc Cert.Reference14Ideal.main_arg8))
      = (Cert.Kernel14Ideal.Gen.dats m 0 c).arrAt 13 (Cert.Kernel14Ideal.cfgs 0).N := by
  obtain ⟨e0, e1, e2, e3, e4, e5, e6, e7, e8⟩ := hagree
  refine Eq.trans ?_ (Cert.Kernel14Ideal.Hand.final13 m c).symm
  rw [e0, e4, e7, e8]

theorem value14_5 (m : (ℓ : Loc Cert.Kernel14Ideal.nD Cert.Kernel14Ideal.τ Cert.Kernel14Ideal.sig) → Buf (Elt Ideal) ℓ)
    (m' : (ℓ : Loc Cert.Reference14Ideal.nD Cert.Reference14Ideal.τ Cert.Reference14Ideal.sig) → Buf (Elt Ideal) ℓ)
    (c : Dev Cert.Kernel14Ideal.nD) (hagree : m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)) :
    Cert.Reference14Ideal.Hand.bL1 (m' ((c.tc : Thread Cert.Reference14Ideal.nD Cert.Reference14Ideal.τ).loc Cert.Reference14Ideal.main_arg0)) (m' ((c.tc : Thread Cert.Reference14Ideal.nD Cert.Reference14Ideal.τ).loc Cert.Reference14Ideal.main_arg5)) (m' ((c.tc : Thread Cert.Reference14Ideal.nD Cert.Reference14Ideal.τ).loc Cert.Reference14Ideal.main_arg7)) (m' ((c.tc : Thread Cert.Reference14Ideal.nD Cert.Reference14Ideal.τ).loc Cert.Reference14Ideal.main_arg8))
      = (Cert.Kernel14Ideal.Gen.dats m 0 c).arrAt 14 (Cert.Kernel14Ideal.cfgs 0).N := by
  obtain ⟨e0, e1, e2, e3, e4, e5, e6, e7, e8⟩ := hagree
  refine Eq.trans ?_ (Cert.Kernel14Ideal.Hand.final14 m c).symm
  rw [e0, e5, e7, e8]

theorem value14_6 (m : (ℓ : Loc Cert.Kernel14Ideal.nD Cert.Kernel14Ideal.τ Cert.Kernel14Ideal.sig) → Buf (Elt Ideal) ℓ)
    (m' : (ℓ : Loc Cert.Reference14Ideal.nD Cert.Reference14Ideal.τ Cert.Reference14Ideal.sig) → Buf (Elt Ideal) ℓ)
    (c : Dev Cert.Kernel14Ideal.nD) (hagree : m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)) :
    Cert.Reference14Ideal.Hand.bR2 (m' ((c.tc : Thread Cert.Reference14Ideal.nD Cert.Reference14Ideal.τ).loc Cert.Reference14Ideal.main_arg0)) (m' ((c.tc : Thread Cert.Reference14Ideal.nD Cert.Reference14Ideal.τ).loc Cert.Reference14Ideal.main_arg6)) (m' ((c.tc : Thread Cert.Reference14Ideal.nD Cert.Reference14Ideal.τ).loc Cert.Reference14Ideal.main_arg7)) (m' ((c.tc : Thread Cert.Reference14Ideal.nD Cert.Reference14Ideal.τ).loc Cert.Reference14Ideal.main_arg8))
      = (Cert.Kernel14Ideal.Gen.dats m 0 c).arrAt 15 (Cert.Kernel14Ideal.cfgs 0).N := by
  obtain ⟨e0, e1, e2, e3, e4, e5, e6, e7, e8⟩ := hagree
  refine Eq.trans ?_ (Cert.Kernel14Ideal.Hand.final15 m c).symm
  rw [e0, e6, e7, e8]

set_option maxHeartbeats 1600000 in
theorem algebraic14 : Cert.algebraic_Kernel14Ideal_Reference14Ideal := by
  pair_intro
  · run_from Cert.Kernel14Ideal.Gen.run_main m g
  · exact (θ_run _ _ _).mono (fun _ h c => ⟨(h c).1.trans (value14_0 m m' c (hagree c)), (h c).2.1.trans (value14_1 m m' c (hagree c)), (h c).2.2.1.trans (value14_2 m m' c (hagree c)), (h c).2.2.2.1.trans (value14_3 m m' c (hagree c)), (h c).2.2.2.2.1.trans (value14_4 m m' c (hagree c)), (h c).2.2.2.2.2.1.trans (value14_5 m m' c (hagree c)), (h c).2.2.2.2.2.2.1.trans (value14_6 m m' c (hagree c)), (h c).2.2.2.2.2.2.2⟩) (Cert.Reference14Ideal.Value.run m' g')

end Cert.Proof

end
-- ==== Proof.DwOut15.lean ====
/- The gradient of the mixer's output weight after the call that computes it. -/
module

public import proofs.«01_k».proof.Proof.Gen.Kernel15Ideal.Value
public import proofs.«01_k».proof.Proof.Gen.Reference15Ideal.Run
public import proofs.«01_k».proof.Proof.Ffn
public import Idealize.ShloMosaic.Lib.Pipeline.ReadBack

@[expose] public section

set_option maxRecDepth 16384

noncomputable section

open Idealize.ShloMosaic Idealize.ShloMosaic.TcCoe Idealize.SL.Sem

namespace Cert.Reference15Ideal.Hand
open Cert.Reference15Ideal Cert.Reference15Ideal.Gen

/-- The reference's result. -/
def REF (H : FVec Ideal S4096x1024 .f32) (D : FVec Ideal S4096x1024 .f32) : FVec Ideal S1024x1024 .f32 :=
  transpose S1024x1024 [1, 0] (Host.dotGeneral dot_S4096x1024_S4096x1024_S1024x1024_0_0_1_1_n_n none D H) transposes_S1024x1024_S1024x1024_1_0

theorem REF_at (H : FVec Ideal S4096x1024 .f32) (D : FVec Ideal S4096x1024 .f32) (e : Fin 1024) (f : Fin 1024) :
    REF H D (ix2 e f) = ∑ s : Fin 4096, D (ix2 s f) * H (ix2 s e) := by
  pointwise [REF]

end Cert.Reference15Ideal.Hand

namespace Cert.Kernel15Ideal.Hand
open Cert.Kernel15Ideal Cert.Kernel15Ideal.Gen

theorem pay1_at (j : S1024x1024.Idx) : k0_pay1 (F := Ideal) j = 0 := by pointwise [k0_pay1]
theorem pay2_at (acc : FVec Ideal S1024x1024 .f32) (x : FVec Ideal S1024x1024 .bf16) (w : FVec Ideal S1024x1024 .f32) (e : Fin 1024) (f : Fin 1024) :
    k0_pay2 (F := Ideal) acc x w (ix2 e f) = acc (ix2 e f) + ∑ k : Fin 1024, x (ix2 k e) * w (ix2 k f) := by
  pointwise [k0_pay2]

variable (m : (ℓ : Loc nD τ sig) → Buf (Elt Ideal) ℓ) (c : Dev nD)

/-- The merged branches. -/
abbrev a0 : FVec Ideal S4096x1024 .f32 := m ((c.tc : Thread nD τ).loc main_arg0)
/-- The output's cotangent. -/
abbrev a2 : FVec Ideal S4096x1024 .f32 := m ((c.tc : Thread nD τ).loc main_arg2)

theorem idx : ∀ t : Fin cfg0.N, win0_0.index t = ![t.val % 4, 0] ∧ win0_1.index t = ![t.val % 4, t.val / 4] ∧ win0_2.index t = ![0, t.val / 4] := (by decide +kernel : ∀ t : Fin grid0.N, _)

theorem blk0 (t : Fin cfg0.N) (k : Fin 1024) (e : Fin 1024) (ht : t.val < 4) :
    (iblk m c 0 t : FVec Ideal S1024x1024 .bf16) (ix2 k e) = a0 m c (ix2 ⟨t.val % 4 * 1024 + k.val, by omega⟩ e) := by
  blk_point [iblk, V, idx t]
theorem blk1 (t : Fin cfg0.N) (k : Fin 1024) (f : Fin 1024) (ht : t.val < 4) :
    (iblk m c 1 t : FVec Ideal S1024x1024 .f32) (ix2 k f) = a2 m c (ix2 ⟨t.val % 4 * 1024 + k.val, by omega⟩ ⟨t.val / 4 * 1024 + f.val, by omega⟩) := by
  blk_point [iblk, V, idx t]

/-- The block `p` of an entry's sum over the rows. -/
def prt (H : FVec Ideal S4096x1024 .f32) (D : FVec Ideal S4096x1024 .f32) (p : ℕ) (hp : p < 4) (e : Fin 1024) (F : Fin 1024) : EReal :=
  ∑ k : Fin 1024, H (ix2 ⟨p * 1024 + k.val, by omega⟩ e) * D (ix2 ⟨p * 1024 + k.val, by omega⟩ F)

theorem pay2_prt (H : FVec Ideal S4096x1024 .f32) (D : FVec Ideal S4096x1024 .f32) (acc : FVec Ideal S1024x1024 .f32) (x : FVec Ideal S1024x1024 .bf16) (w : FVec Ideal S1024x1024 .f32)
    (p : ℕ) (hp : p < 4) (F : Fin 1024) (e : Fin 1024) (f : Fin 1024)
    (hx : ∀ k : Fin 1024, x (ix2 k e) = H (ix2 ⟨p * 1024 + k.val, by omega⟩ e)) (hw : ∀ k : Fin 1024, w (ix2 k f) = D (ix2 ⟨p * 1024 + k.val, by omega⟩ F)) :
    k0_pay2 (F := Ideal) acc x w (ix2 e f) = acc (ix2 e f) + prt H D p hp e F := by
  rw [pay2_at, prt]
  simp only [hx, hw]

theorem REF_prt (H : FVec Ideal S4096x1024 .f32) (D : FVec Ideal S4096x1024 .f32) (e : Fin 1024) (F : Fin 1024) :
    (((0 + prt H D 0 (by omega) e F) + prt H D 1 (by omega) e F) + prt H D 2 (by omega) e F) + prt H D 3 (by omega) e F
      = Cert.Reference15Ideal.Hand.REF H D (ix2 e F) := by
  rw [Cert.Reference15Ideal.Hand.REF_at]
  refine (Ffn.sum_four fun s => H (ix2 s e) * D (ix2 s F)).symm.trans ?_
  exact Finset.sum_congr rfl fun s _ => mul_comm _ _

theorem stA (n : ℕ) (h : n < cfg0.N) (hn : n < 4) (p : ℕ) (hp : n % 4 = p) (hp4 : p < 4) (h0 : n % 4 = 0) (e : Fin 1024) (f : Fin 1024) (F : Fin 1024) (hF : F.val = n / 4 * 1024 + f.val) :
    (outsAt0 m c n h).2 (ix2 e f) = 0 + prt (a0 m c) (a2 m c) p hp4 e F := by
  subst hp
  obtain ⟨F, hF'⟩ := F
  dsimp only at hF
  subst hF
  rw [outsAt0_A m c ⟨n, h⟩ h0 (by dsimp only; omega)]
  frame_out
  rw [pay2_prt (a0 m c) (a2 m c) _ _ _ (n % 4) hp4 _ e f (fun k => blk0 m c ⟨n, h⟩ k e hn) (fun k => blk1 m c ⟨n, h⟩ k f hn), pay1_at]
theorem stB (n : ℕ) (h : n < cfg0.N) (hn : n < 4) (p : ℕ) (hp : n % 4 = p) (hp4 : p < 4) (h0 : ¬ n % 4 = 0) (h1 : ¬ n % 4 = 3) (e : Fin 1024) (f : Fin 1024) (F : Fin 1024) (hF : F.val = n / 4 * 1024 + f.val) :
    (outsAt0 m c n h).2 (ix2 e f) = (outsAt0 m c (n - 1) (Nat.lt_of_le_of_lt (Nat.sub_le _ _) h)).2 (ix2 e f) + prt (a0 m c) (a2 m c) p hp4 e F := by
  subst hp
  obtain ⟨F, hF'⟩ := F
  dsimp only at hF
  subst hF
  rw [outsAt0_B m c ⟨n, h⟩ h0 h1]
  frame_out
  rw [read_unread_whole]
  exact pay2_prt (a0 m c) (a2 m c) _ _ _ (n % 4) hp4 _ e f (fun k => blk0 m c ⟨n, h⟩ k e hn) (fun k => blk1 m c ⟨n, h⟩ k f hn)
theorem stC (n : ℕ) (h : n < cfg0.N) (hn : n < 4) (p : ℕ) (hp : n % 4 = p) (hp4 : p < 4) (h1 : n % 4 = 3) (e : Fin 1024) (f : Fin 1024) (F : Fin 1024) (hF : F.val = n / 4 * 1024 + f.val) :
    (outsAt0 m c n h).1 (ix2 e f) = (outsAt0 m c (n - 1) (Nat.lt_of_le_of_lt (Nat.sub_le _ _) h)).2 (ix2 e f) + prt (a0 m c) (a2 m c) p hp4 e F := by
  subst hp
  obtain ⟨F, hF'⟩ := F
  dsimp only at hF
  subst hF
  rw [outsAt0_C m c ⟨n, h⟩ (by dsimp only; omega) h1]
  frame_out
  rw [read_unread_whole]
  exact pay2_prt (a0 m c) (a2 m c) _ _ _ (n % 4) hp4 _ e f (fun k => blk0 m c ⟨n, h⟩ k e hn) (fun k => blk1 m c ⟨n, h⟩ k f hn)

theorem point (t : Fin cfg0.N) (h8 : t.val < 4) (ht : t.val % 4 = 3) (e : Fin 1024) (f : Fin 1024) (hf : t.val / 4 * 1024 + f.val < 1024) :
    (outsAt0 m c t.val t.isLt).1 (ix2 e f) = Cert.Reference15Ideal.Hand.REF (a0 m c) (a2 m c) (ix2 e ⟨t.val / 4 * 1024 + f.val, hf⟩) := by
  obtain ⟨t, h⟩ := t
  dsimp only at ht hf h8 ⊢
  rw [stC m c t h h8 3 ht (by omega) ht e f ⟨_, hf⟩ rfl,
    stB m c (t - 1) _ (by omega) 2 (by omega) (by omega) (by omega) (by omega) e f ⟨_, hf⟩ (by dsimp only; omega),
    stB m c (t - 1 - 1) _ (by omega) 1 (by omega) (by omega) (by omega) (by omega) e f ⟨_, hf⟩ (by dsimp only; omega),
    stA m c (t - 1 - 1 - 1) _ (by omega) 0 (by omega) (by omega) (by omega) e f ⟨_, hf⟩ (by dsimp only; omega), REF_prt]

theorem final : (dats m 0 c).arrAt 2 (cfgs 0).N = Cert.Reference15Ideal.Hand.REF (a0 m c) (a2 m c) := by
  refine (dats m 0 c).arrAt_eq_of_covers 2 _ (by decide +kernel) fun t hf y => ?_
  have hm := (flush0_2 t).mp hf
  have ht : t.val < 4 := lt_of_lt_of_eq t.isLt N_0
  blk_simp
  rw [after0_2]
  idx_vars y
  have e : (((View.whole main_v1).slice (win0_2.rect t)).emb (ix2 y0 y1) : S1024x1024.Idx) = ix2 y0 ⟨t.val / 4 * 1024 + y1.val, by omega⟩ := by
    blk_ext [idx t]
  exact (point m c t ht hm y0 y1 (by omega)).trans (congrArg _ e).symm

end Cert.Kernel15Ideal.Hand
end
-- ==== Proof.Pair15.lean ====
/- The pair of programs Kernel15Ideal and Reference15Ideal: the reference's run, and the kernel's results equal to the reference's. -/
module

public import proofs.«01_k».proof.Defs
public import proofs.«01_k».proof.Proof.Gen.Kernel15Ideal
public import proofs.«01_k».proof.Proof.Gen.Kernel15Ideal.Frame
public import proofs.«01_k».proof.Proof.Gen.Reference15Ideal
public import proofs.«01_k».proof.Proof.Gen.Reference15Ideal.Run
public import proofs.«01_k».proof.Proof.DwOut15
public import Idealize.ShloMosaic.Lib.Claim
public import Idealize.ShloMosaic.Adequacy
public import Idealize.ShloMosaic.Init

@[expose] public section

noncomputable section

namespace Cert.Proof

open Idealize.ShloMosaic Idealize.SL.Sem

theorem frameR15 : Cert.quiescent_Reference15Ideal := fun m g _ =>
  (θ_run _ _ _).mono (fun _ h => ⟨fun c => (h c).2, sem_eq_zero_of_no_sems (by decide) _⟩) (Cert.Reference15Ideal.Value.run m g)

theorem value15_0 (m : (ℓ : Loc Cert.Kernel15Ideal.nD Cert.Kernel15Ideal.τ Cert.Kernel15Ideal.sig) → Buf (Elt Ideal) ℓ)
    (m' : (ℓ : Loc Cert.Reference15Ideal.nD Cert.Reference15Ideal.τ Cert.Reference15Ideal.sig) → Buf (Elt Ideal) ℓ)
    (c : Dev Cert.Kernel15Ideal.nD) (hagree : m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) :
    Cert.Reference15Ideal.Hand.REF (m' ((c.tc : Thread Cert.Reference15Ideal.nD Cert.Reference15Ideal.τ).loc Cert.Reference15Ideal.main_arg0)) (m' ((c.tc : Thread Cert.Reference15Ideal.nD Cert.Reference15Ideal.τ).loc Cert.Reference15Ideal.main_arg2))
      = (Cert.Kernel15Ideal.Gen.dats m 0 c).arrAt 2 (Cert.Kernel15Ideal.cfgs 0).N := by
  obtain ⟨e0, e1, e2⟩ := hagree
  refine Eq.trans ?_ (Cert.Kernel15Ideal.Hand.final m c).symm
  rw [e0, e2]

set_option maxHeartbeats 1600000 in
theorem algebraic15 : Cert.algebraic_Kernel15Ideal_Reference15Ideal := by
  pair_intro
  · run_from Cert.Kernel15Ideal.Gen.run_main m g
  · exact (θ_run _ _ _).mono (fun _ h c => ⟨(h c).1.trans (value15_0 m m' c (hagree c)), (h c).2⟩) (Cert.Reference15Ideal.Value.run m' g')

end Cert.Proof

end
-- ==== Proof.DwB16.lean ====
/- The gradient of the first branch's weight after the call that computes it. -/
module

public import proofs.«01_k».proof.Proof.Gen.Kernel16Ideal.Value
public import proofs.«01_k».proof.Proof.Gen.Reference16Ideal.Run
public import proofs.«01_k».proof.Proof.Ffn
public import Idealize.ShloMosaic.Lib.Pipeline.ReadBack

@[expose] public section

set_option maxRecDepth 16384

noncomputable section

open Idealize.ShloMosaic Idealize.ShloMosaic.TcCoe Idealize.SL.Sem

namespace Cert.Reference16Ideal.Hand
open Cert.Reference16Ideal Cert.Reference16Ideal.Gen

/-- The reference's result. -/
def REF (H : FVec Ideal S4096x512 .f32) (D : FVec Ideal S4096x1024 .f32) : FVec Ideal S512x1024 .f32 :=
  transpose S512x1024 [1, 0] (Host.dotGeneral dot_S4096x1024_S4096x512_S1024x512_0_0_1_1_n_n none D H) transposes_S1024x512_S512x1024_1_0

theorem REF_at (H : FVec Ideal S4096x512 .f32) (D : FVec Ideal S4096x1024 .f32) (e : Fin 512) (f : Fin 1024) :
    REF H D (ix2 e f) = ∑ s : Fin 4096, D (ix2 s f) * H (ix2 s e) := by
  pointwise [REF]

end Cert.Reference16Ideal.Hand

namespace Cert.Kernel16Ideal.Hand
open Cert.Kernel16Ideal Cert.Kernel16Ideal.Gen

theorem pay1_at (j : S512x1024.Idx) : k0_pay1 (F := Ideal) j = 0 := by pointwise [k0_pay1]
theorem pay2_at (acc : FVec Ideal S512x1024 .f32) (x : FVec Ideal S1024x512 .bf16) (w : FVec Ideal S1024x1024 .bf16) (e : Fin 512) (f : Fin 1024) :
    k0_pay2 (F := Ideal) acc x w (ix2 e f) = acc (ix2 e f) + ∑ k : Fin 1024, x (ix2 k e) * w (ix2 k f) := by
  pointwise [k0_pay2]

variable (m : (ℓ : Loc nD τ sig) → Buf (Elt Ideal) ℓ) (c : Dev nD)

/-- The first branch's output. -/
abbrev a0 : FVec Ideal S4096x512 .f32 := m ((c.tc : Thread nD τ).loc main_arg0)
/-- The cotangent of the first branch's product. -/
abbrev a2 : FVec Ideal S4096x1024 .f32 := m ((c.tc : Thread nD τ).loc main_arg2)

theorem idx : ∀ t : Fin cfg0.N, win0_0.index t = ![t.val % 4, 0] ∧ win0_1.index t = ![t.val % 4, t.val / 4] ∧ win0_2.index t = ![0, t.val / 4] := (by decide +kernel : ∀ t : Fin grid0.N, _)

theorem blk0 (t : Fin cfg0.N) (k : Fin 1024) (e : Fin 512) (ht : t.val < 4) :
    (iblk m c 0 t : FVec Ideal S1024x512 .bf16) (ix2 k e) = a0 m c (ix2 ⟨t.val % 4 * 1024 + k.val, by omega⟩ e) := by
  blk_point [iblk, V, idx t]
theorem blk1 (t : Fin cfg0.N) (k : Fin 1024) (f : Fin 1024) (ht : t.val < 4) :
    (iblk m c 1 t : FVec Ideal S1024x1024 .bf16) (ix2 k f) = a2 m c (ix2 ⟨t.val % 4 * 1024 + k.val, by omega⟩ ⟨t.val / 4 * 1024 + f.val, by omega⟩) := by
  blk_point [iblk, V, idx t]

/-- The block `p` of an entry's sum over the rows. -/
def prt (H : FVec Ideal S4096x512 .f32) (D : FVec Ideal S4096x1024 .f32) (p : ℕ) (hp : p < 4) (e : Fin 512) (F : Fin 1024) : EReal :=
  ∑ k : Fin 1024, H (ix2 ⟨p * 1024 + k.val, by omega⟩ e) * D (ix2 ⟨p * 1024 + k.val, by omega⟩ F)

theorem pay2_prt (H : FVec Ideal S4096x512 .f32) (D : FVec Ideal S4096x1024 .f32) (acc : FVec Ideal S512x1024 .f32) (x : FVec Ideal S1024x512 .bf16) (w : FVec Ideal S1024x1024 .bf16)
    (p : ℕ) (hp : p < 4) (F : Fin 1024) (e : Fin 512) (f : Fin 1024)
    (hx : ∀ k : Fin 1024, x (ix2 k e) = H (ix2 ⟨p * 1024 + k.val, by omega⟩ e)) (hw : ∀ k : Fin 1024, w (ix2 k f) = D (ix2 ⟨p * 1024 + k.val, by omega⟩ F)) :
    k0_pay2 (F := Ideal) acc x w (ix2 e f) = acc (ix2 e f) + prt H D p hp e F := by
  rw [pay2_at, prt]
  simp only [hx, hw]

theorem REF_prt (H : FVec Ideal S4096x512 .f32) (D : FVec Ideal S4096x1024 .f32) (e : Fin 512) (F : Fin 1024) :
    (((0 + prt H D 0 (by omega) e F) + prt H D 1 (by omega) e F) + prt H D 2 (by omega) e F) + prt H D 3 (by omega) e F
      = Cert.Reference16Ideal.Hand.REF H D (ix2 e F) := by
  rw [Cert.Reference16Ideal.Hand.REF_at]
  refine (Ffn.sum_four fun s => H (ix2 s e) * D (ix2 s F)).symm.trans ?_
  exact Finset.sum_congr rfl fun s _ => mul_comm _ _

theorem stA (n : ℕ) (h : n < cfg0.N) (hn : n < 4) (p : ℕ) (hp : n % 4 = p) (hp4 : p < 4) (h0 : n % 4 = 0) (e : Fin 512) (f : Fin 1024) (F : Fin 1024) (hF : F.val = n / 4 * 1024 + f.val) :
    (outsAt0 m c n h).2 (ix2 e f) = 0 + prt (a0 m c) (a2 m c) p hp4 e F := by
  subst hp
  obtain ⟨F, hF'⟩ := F
  dsimp only at hF
  subst hF
  rw [outsAt0_A m c ⟨n, h⟩ h0 (by dsimp only; omega)]
  frame_out
  rw [pay2_prt (a0 m c) (a2 m c) _ _ _ (n % 4) hp4 _ e f (fun k => blk0 m c ⟨n, h⟩ k e hn) (fun k => blk1 m c ⟨n, h⟩ k f hn), pay1_at]
theorem stB (n : ℕ) (h : n < cfg0.N) (hn : n < 4) (p : ℕ) (hp : n % 4 = p) (hp4 : p < 4) (h0 : ¬ n % 4 = 0) (h1 : ¬ n % 4 = 3) (e : Fin 512) (f : Fin 1024) (F : Fin 1024) (hF : F.val = n / 4 * 1024 + f.val) :
    (outsAt0 m c n h).2 (ix2 e f) = (outsAt0 m c (n - 1) (Nat.lt_of_le_of_lt (Nat.sub_le _ _) h)).2 (ix2 e f) + prt (a0 m c) (a2 m c) p hp4 e F := by
  subst hp
  obtain ⟨F, hF'⟩ := F
  dsimp only at hF
  subst hF
  rw [outsAt0_B m c ⟨n, h⟩ h0 h1]
  frame_out
  rw [read_unread_whole]
  exact pay2_prt (a0 m c) (a2 m c) _ _ _ (n % 4) hp4 _ e f (fun k => blk0 m c ⟨n, h⟩ k e hn) (fun k => blk1 m c ⟨n, h⟩ k f hn)
theorem stC (n : ℕ) (h : n < cfg0.N) (hn : n < 4) (p : ℕ) (hp : n % 4 = p) (hp4 : p < 4) (h1 : n % 4 = 3) (e : Fin 512) (f : Fin 1024) (F : Fin 1024) (hF : F.val = n / 4 * 1024 + f.val) :
    (outsAt0 m c n h).1 (ix2 e f) = (outsAt0 m c (n - 1) (Nat.lt_of_le_of_lt (Nat.sub_le _ _) h)).2 (ix2 e f) + prt (a0 m c) (a2 m c) p hp4 e F := by
  subst hp
  obtain ⟨F, hF'⟩ := F
  dsimp only at hF
  subst hF
  rw [outsAt0_C m c ⟨n, h⟩ (by dsimp only; omega) h1]
  frame_out
  rw [read_unread_whole]
  exact pay2_prt (a0 m c) (a2 m c) _ _ _ (n % 4) hp4 _ e f (fun k => blk0 m c ⟨n, h⟩ k e hn) (fun k => blk1 m c ⟨n, h⟩ k f hn)

theorem point (t : Fin cfg0.N) (h8 : t.val < 4) (ht : t.val % 4 = 3) (e : Fin 512) (f : Fin 1024) (hf : t.val / 4 * 1024 + f.val < 1024) :
    (outsAt0 m c t.val t.isLt).1 (ix2 e f) = Cert.Reference16Ideal.Hand.REF (a0 m c) (a2 m c) (ix2 e ⟨t.val / 4 * 1024 + f.val, hf⟩) := by
  obtain ⟨t, h⟩ := t
  dsimp only at ht hf h8 ⊢
  rw [stC m c t h h8 3 ht (by omega) ht e f ⟨_, hf⟩ rfl,
    stB m c (t - 1) _ (by omega) 2 (by omega) (by omega) (by omega) (by omega) e f ⟨_, hf⟩ (by dsimp only; omega),
    stB m c (t - 1 - 1) _ (by omega) 1 (by omega) (by omega) (by omega) (by omega) e f ⟨_, hf⟩ (by dsimp only; omega),
    stA m c (t - 1 - 1 - 1) _ (by omega) 0 (by omega) (by omega) (by omega) e f ⟨_, hf⟩ (by dsimp only; omega), REF_prt]

theorem final : (dats m 0 c).arrAt 2 (cfgs 0).N = Cert.Reference16Ideal.Hand.REF (a0 m c) (a2 m c) := by
  refine (dats m 0 c).arrAt_eq_of_covers 2 _ (by decide +kernel) fun t hf y => ?_
  have hm := (flush0_2 t).mp hf
  have ht : t.val < 4 := lt_of_lt_of_eq t.isLt N_0
  blk_simp
  rw [after0_2]
  idx_vars y
  have e : (((View.whole main_v2).slice (win0_2.rect t)).emb (ix2 y0 y1) : S512x1024.Idx) = ix2 y0 ⟨t.val / 4 * 1024 + y1.val, by omega⟩ := by
    blk_ext [idx t]
  exact (point m c t ht hm y0 y1 (by omega)).trans (congrArg _ e).symm

end Cert.Kernel16Ideal.Hand
end
-- ==== Proof.Pair16.lean ====
/- The pair of programs Kernel16Ideal and Reference16Ideal: the reference's run, and the kernel's results equal to the reference's. -/
module

public import proofs.«01_k».proof.Defs
public import proofs.«01_k».proof.Proof.Gen.Kernel16Ideal
public import proofs.«01_k».proof.Proof.Gen.Kernel16Ideal.Frame
public import proofs.«01_k».proof.Proof.Gen.Reference16Ideal
public import proofs.«01_k».proof.Proof.Gen.Reference16Ideal.Run
public import proofs.«01_k».proof.Proof.DwB16
public import Idealize.ShloMosaic.Lib.Claim
public import Idealize.ShloMosaic.Adequacy
public import Idealize.ShloMosaic.Init

@[expose] public section

noncomputable section

namespace Cert.Proof

open Idealize.ShloMosaic Idealize.SL.Sem

theorem frameR16 : Cert.quiescent_Reference16Ideal := fun m g _ =>
  (θ_run _ _ _).mono (fun _ h => ⟨fun c => (h c).2, sem_eq_zero_of_no_sems (by decide) _⟩) (Cert.Reference16Ideal.Value.run m g)

theorem value16_0 (m : (ℓ : Loc Cert.Kernel16Ideal.nD Cert.Kernel16Ideal.τ Cert.Kernel16Ideal.sig) → Buf (Elt Ideal) ℓ)
    (m' : (ℓ : Loc Cert.Reference16Ideal.nD Cert.Reference16Ideal.τ Cert.Reference16Ideal.sig) → Buf (Elt Ideal) ℓ)
    (c : Dev Cert.Kernel16Ideal.nD) (hagree : m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) :
    Cert.Reference16Ideal.Hand.REF (m' ((c.tc : Thread Cert.Reference16Ideal.nD Cert.Reference16Ideal.τ).loc Cert.Reference16Ideal.main_arg0)) (m' ((c.tc : Thread Cert.Reference16Ideal.nD Cert.Reference16Ideal.τ).loc Cert.Reference16Ideal.main_arg2))
      = (Cert.Kernel16Ideal.Gen.dats m 0 c).arrAt 2 (Cert.Kernel16Ideal.cfgs 0).N := by
  obtain ⟨e0, e1, e2⟩ := hagree
  refine Eq.trans ?_ (Cert.Kernel16Ideal.Hand.final m c).symm
  rw [e0, e2]

set_option maxHeartbeats 1600000 in
theorem algebraic16 : Cert.algebraic_Kernel16Ideal_Reference16Ideal := by
  pair_intro
  · run_from Cert.Kernel16Ideal.Gen.run_main m g
  · exact (θ_run _ _ _).mono (fun _ h c => ⟨(h c).1.trans (value16_0 m m' c (hagree c)), (h c).2⟩) (Cert.Reference16Ideal.Value.run m' g')

end Cert.Proof

end
-- ==== Proof.DwB17.lean ====
/- The gradient of the second branch's weight after the call that computes it. -/
module

public import proofs.«01_k».proof.Proof.Gen.Kernel17Ideal.Value
public import proofs.«01_k».proof.Proof.Gen.Reference17Ideal.Run
public import proofs.«01_k».proof.Proof.Ffn
public import Idealize.ShloMosaic.Lib.Pipeline.ReadBack

@[expose] public section

set_option maxRecDepth 16384

noncomputable section

open Idealize.ShloMosaic Idealize.ShloMosaic.TcCoe Idealize.SL.Sem

namespace Cert.Reference17Ideal.Hand
open Cert.Reference17Ideal Cert.Reference17Ideal.Gen

/-- The reference's result. -/
def REF (H : FVec Ideal S4096x1024 .f32) (D : FVec Ideal S4096x1024 .f32) : FVec Ideal S1024x1024 .f32 :=
  transpose S1024x1024 [1, 0] (Host.dotGeneral dot_S4096x1024_S4096x1024_S1024x1024_0_0_1_1_n_n none D H) transposes_S1024x1024_S1024x1024_1_0

theorem REF_at (H : FVec Ideal S4096x1024 .f32) (D : FVec Ideal S4096x1024 .f32) (e : Fin 1024) (f : Fin 1024) :
    REF H D (ix2 e f) = ∑ s : Fin 4096, D (ix2 s f) * H (ix2 s e) := by
  pointwise [REF]

end Cert.Reference17Ideal.Hand

namespace Cert.Kernel17Ideal.Hand
open Cert.Kernel17Ideal Cert.Kernel17Ideal.Gen

theorem pay1_at (j : S1024x1024.Idx) : k0_pay1 (F := Ideal) j = 0 := by pointwise [k0_pay1]
theorem pay2_at (acc : FVec Ideal S1024x1024 .f32) (x : FVec Ideal S1024x1024 .bf16) (w : FVec Ideal S1024x1024 .bf16) (e : Fin 1024) (f : Fin 1024) :
    k0_pay2 (F := Ideal) acc x w (ix2 e f) = acc (ix2 e f) + ∑ k : Fin 1024, x (ix2 k e) * w (ix2 k f) := by
  pointwise [k0_pay2]

variable (m : (ℓ : Loc nD τ sig) → Buf (Elt Ideal) ℓ) (c : Dev nD)

/-- The second branch's output. -/
abbrev a0 : FVec Ideal S4096x1024 .f32 := m ((c.tc : Thread nD τ).loc main_arg0)
/-- The cotangent of the second branch's product. -/
abbrev a2 : FVec Ideal S4096x1024 .f32 := m ((c.tc : Thread nD τ).loc main_arg2)

theorem idx : ∀ t : Fin cfg0.N, win0_0.index t = ![t.val % 4, 0] ∧ win0_1.index t = ![t.val % 4, t.val / 4] ∧ win0_2.index t = ![0, t.val / 4] := (by decide +kernel : ∀ t : Fin grid0.N, _)

theorem blk0 (t : Fin cfg0.N) (k : Fin 1024) (e : Fin 1024) (ht : t.val < 4) :
    (iblk m c 0 t : FVec Ideal S1024x1024 .bf16) (ix2 k e) = a0 m c (ix2 ⟨t.val % 4 * 1024 + k.val, by omega⟩ e) := by
  blk_point [iblk, V, idx t]
theorem blk1 (t : Fin cfg0.N) (k : Fin 1024) (f : Fin 1024) (ht : t.val < 4) :
    (iblk m c 1 t : FVec Ideal S1024x1024 .bf16) (ix2 k f) = a2 m c (ix2 ⟨t.val % 4 * 1024 + k.val, by omega⟩ ⟨t.val / 4 * 1024 + f.val, by omega⟩) := by
  blk_point [iblk, V, idx t]

/-- The block `p` of an entry's sum over the rows. -/
def prt (H : FVec Ideal S4096x1024 .f32) (D : FVec Ideal S4096x1024 .f32) (p : ℕ) (hp : p < 4) (e : Fin 1024) (F : Fin 1024) : EReal :=
  ∑ k : Fin 1024, H (ix2 ⟨p * 1024 + k.val, by omega⟩ e) * D (ix2 ⟨p * 1024 + k.val, by omega⟩ F)

theorem pay2_prt (H : FVec Ideal S4096x1024 .f32) (D : FVec Ideal S4096x1024 .f32) (acc : FVec Ideal S1024x1024 .f32) (x : FVec Ideal S1024x1024 .bf16) (w : FVec Ideal S1024x1024 .bf16)
    (p : ℕ) (hp : p < 4) (F : Fin 1024) (e : Fin 1024) (f : Fin 1024)
    (hx : ∀ k : Fin 1024, x (ix2 k e) = H (ix2 ⟨p * 1024 + k.val, by omega⟩ e)) (hw : ∀ k : Fin 1024, w (ix2 k f) = D (ix2 ⟨p * 1024 + k.val, by omega⟩ F)) :
    k0_pay2 (F := Ideal) acc x w (ix2 e f) = acc (ix2 e f) + prt H D p hp e F := by
  rw [pay2_at, prt]
  simp only [hx, hw]

theorem REF_prt (H : FVec Ideal S4096x1024 .f32) (D : FVec Ideal S4096x1024 .f32) (e : Fin 1024) (F : Fin 1024) :
    (((0 + prt H D 0 (by omega) e F) + prt H D 1 (by omega) e F) + prt H D 2 (by omega) e F) + prt H D 3 (by omega) e F
      = Cert.Reference17Ideal.Hand.REF H D (ix2 e F) := by
  rw [Cert.Reference17Ideal.Hand.REF_at]
  refine (Ffn.sum_four fun s => H (ix2 s e) * D (ix2 s F)).symm.trans ?_
  exact Finset.sum_congr rfl fun s _ => mul_comm _ _

theorem stA (n : ℕ) (h : n < cfg0.N) (hn : n < 4) (p : ℕ) (hp : n % 4 = p) (hp4 : p < 4) (h0 : n % 4 = 0) (e : Fin 1024) (f : Fin 1024) (F : Fin 1024) (hF : F.val = n / 4 * 1024 + f.val) :
    (outsAt0 m c n h).2 (ix2 e f) = 0 + prt (a0 m c) (a2 m c) p hp4 e F := by
  subst hp
  obtain ⟨F, hF'⟩ := F
  dsimp only at hF
  subst hF
  rw [outsAt0_A m c ⟨n, h⟩ h0 (by dsimp only; omega)]
  frame_out
  rw [pay2_prt (a0 m c) (a2 m c) _ _ _ (n % 4) hp4 _ e f (fun k => blk0 m c ⟨n, h⟩ k e hn) (fun k => blk1 m c ⟨n, h⟩ k f hn), pay1_at]
theorem stB (n : ℕ) (h : n < cfg0.N) (hn : n < 4) (p : ℕ) (hp : n % 4 = p) (hp4 : p < 4) (h0 : ¬ n % 4 = 0) (h1 : ¬ n % 4 = 3) (e : Fin 1024) (f : Fin 1024) (F : Fin 1024) (hF : F.val = n / 4 * 1024 + f.val) :
    (outsAt0 m c n h).2 (ix2 e f) = (outsAt0 m c (n - 1) (Nat.lt_of_le_of_lt (Nat.sub_le _ _) h)).2 (ix2 e f) + prt (a0 m c) (a2 m c) p hp4 e F := by
  subst hp
  obtain ⟨F, hF'⟩ := F
  dsimp only at hF
  subst hF
  rw [outsAt0_B m c ⟨n, h⟩ h0 h1]
  frame_out
  rw [read_unread_whole]
  exact pay2_prt (a0 m c) (a2 m c) _ _ _ (n % 4) hp4 _ e f (fun k => blk0 m c ⟨n, h⟩ k e hn) (fun k => blk1 m c ⟨n, h⟩ k f hn)
theorem stC (n : ℕ) (h : n < cfg0.N) (hn : n < 4) (p : ℕ) (hp : n % 4 = p) (hp4 : p < 4) (h1 : n % 4 = 3) (e : Fin 1024) (f : Fin 1024) (F : Fin 1024) (hF : F.val = n / 4 * 1024 + f.val) :
    (outsAt0 m c n h).1 (ix2 e f) = (outsAt0 m c (n - 1) (Nat.lt_of_le_of_lt (Nat.sub_le _ _) h)).2 (ix2 e f) + prt (a0 m c) (a2 m c) p hp4 e F := by
  subst hp
  obtain ⟨F, hF'⟩ := F
  dsimp only at hF
  subst hF
  rw [outsAt0_C m c ⟨n, h⟩ (by dsimp only; omega) h1]
  frame_out
  rw [read_unread_whole]
  exact pay2_prt (a0 m c) (a2 m c) _ _ _ (n % 4) hp4 _ e f (fun k => blk0 m c ⟨n, h⟩ k e hn) (fun k => blk1 m c ⟨n, h⟩ k f hn)

theorem point (t : Fin cfg0.N) (h8 : t.val < 4) (ht : t.val % 4 = 3) (e : Fin 1024) (f : Fin 1024) (hf : t.val / 4 * 1024 + f.val < 1024) :
    (outsAt0 m c t.val t.isLt).1 (ix2 e f) = Cert.Reference17Ideal.Hand.REF (a0 m c) (a2 m c) (ix2 e ⟨t.val / 4 * 1024 + f.val, hf⟩) := by
  obtain ⟨t, h⟩ := t
  dsimp only at ht hf h8 ⊢
  rw [stC m c t h h8 3 ht (by omega) ht e f ⟨_, hf⟩ rfl,
    stB m c (t - 1) _ (by omega) 2 (by omega) (by omega) (by omega) (by omega) e f ⟨_, hf⟩ (by dsimp only; omega),
    stB m c (t - 1 - 1) _ (by omega) 1 (by omega) (by omega) (by omega) (by omega) e f ⟨_, hf⟩ (by dsimp only; omega),
    stA m c (t - 1 - 1 - 1) _ (by omega) 0 (by omega) (by omega) (by omega) e f ⟨_, hf⟩ (by dsimp only; omega), REF_prt]

theorem final : (dats m 0 c).arrAt 2 (cfgs 0).N = Cert.Reference17Ideal.Hand.REF (a0 m c) (a2 m c) := by
  refine (dats m 0 c).arrAt_eq_of_covers 2 _ (by decide +kernel) fun t hf y => ?_
  have hm := (flush0_2 t).mp hf
  have ht : t.val < 4 := lt_of_lt_of_eq t.isLt N_0
  blk_simp
  rw [after0_2]
  idx_vars y
  have e : (((View.whole main_v2).slice (win0_2.rect t)).emb (ix2 y0 y1) : S1024x1024.Idx) = ix2 y0 ⟨t.val / 4 * 1024 + y1.val, by omega⟩ := by
    blk_ext [idx t]
  exact (point m c t ht hm y0 y1 (by omega)).trans (congrArg _ e).symm

end Cert.Kernel17Ideal.Hand
end
-- ==== Proof.Pair17.lean ====
/- The pair of programs Kernel17Ideal and Reference17Ideal: the reference's run, and the kernel's results equal to the reference's. -/
module

public import proofs.«01_k».proof.Defs
public import proofs.«01_k».proof.Proof.Gen.Kernel17Ideal
public import proofs.«01_k».proof.Proof.Gen.Kernel17Ideal.Frame
public import proofs.«01_k».proof.Proof.Gen.Reference17Ideal
public import proofs.«01_k».proof.Proof.Gen.Reference17Ideal.Run
public import proofs.«01_k».proof.Proof.DwB17
public import Idealize.ShloMosaic.Lib.Claim
public import Idealize.ShloMosaic.Adequacy
public import Idealize.ShloMosaic.Init

@[expose] public section

noncomputable section

namespace Cert.Proof

open Idealize.ShloMosaic Idealize.SL.Sem

theorem frameR17 : Cert.quiescent_Reference17Ideal := fun m g _ =>
  (θ_run _ _ _).mono (fun _ h => ⟨fun c => (h c).2, sem_eq_zero_of_no_sems (by decide) _⟩) (Cert.Reference17Ideal.Value.run m g)

theorem value17_0 (m : (ℓ : Loc Cert.Kernel17Ideal.nD Cert.Kernel17Ideal.τ Cert.Kernel17Ideal.sig) → Buf (Elt Ideal) ℓ)
    (m' : (ℓ : Loc Cert.Reference17Ideal.nD Cert.Reference17Ideal.τ Cert.Reference17Ideal.sig) → Buf (Elt Ideal) ℓ)
    (c : Dev Cert.Kernel17Ideal.nD) (hagree : m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) :
    Cert.Reference17Ideal.Hand.REF (m' ((c.tc : Thread Cert.Reference17Ideal.nD Cert.Reference17Ideal.τ).loc Cert.Reference17Ideal.main_arg0)) (m' ((c.tc : Thread Cert.Reference17Ideal.nD Cert.Reference17Ideal.τ).loc Cert.Reference17Ideal.main_arg2))
      = (Cert.Kernel17Ideal.Gen.dats m 0 c).arrAt 2 (Cert.Kernel17Ideal.cfgs 0).N := by
  obtain ⟨e0, e1, e2⟩ := hagree
  refine Eq.trans ?_ (Cert.Kernel17Ideal.Hand.final m c).symm
  rw [e0, e2]

set_option maxHeartbeats 1600000 in
theorem algebraic17 : Cert.algebraic_Kernel17Ideal_Reference17Ideal := by
  pair_intro
  · run_from Cert.Kernel17Ideal.Gen.run_main m g
  · exact (θ_run _ _ _).mono (fun _ h c => ⟨(h c).1.trans (value17_0 m m' c (hagree c)), (h c).2⟩) (Cert.Reference17Ideal.Value.run m' g')

end Cert.Proof

end
-- ==== Proof.Step18.lean ====
/- One step of the attention's forward kernel over blocks of real numbers. -/
module

public import proofs.«01_k».proof.Proof.Step2
public import proofs.«01_k».proof.Proof.Gen.Kernel18Ideal.Skeleton

@[expose] public section

set_option maxRecDepth 16384

noncomputable section

open Idealize.ShloMosaic Idealize.ShloMosaic.TcCoe Idealize.SL.Sem

namespace Cert.Attn.Fwd
open Cert.Kernel18Ideal Cert.Kernel18Ideal.Gen Finset

theorem named_mask : Named.named (F := Ideal) κ "mask" (φ := .f32) 0xF149F2CA#32 = (⊥ : EReal) := by
  show (κ "mask").getD _ = _
  simp [κ]
theorem named_ln2 : Named.named (F := Ideal) κ "ln2" (φ := .f32) 0x3F317218#32 = ((Real.log 2 : ℝ) : EReal) := by
  show (κ "ln2").getD _ = _
  simp [κ]

theorem max_real {x : EReal} (hx : x ≠ ⊤) (M : ℝ) : ∃ μ : ℝ, max x (M : EReal) = (μ : EReal) := by
  induction x with
  | bot => exact ⟨M, max_eq_right bot_le⟩
  | coe r => exact (le_total r M).elim (fun h => ⟨M, max_eq_right (EReal.coe_le_coe_iff.2 h)⟩) fun h => ⟨r, max_eq_left (EReal.coe_le_coe_iff.2 h)⟩
  | top => exact absurd rfl hx

variable {k q : FVec Ideal S1024x128 .bf16} {mm l : FVec Ideal S1x1024 .f32} {acc : FVec Ideal S128x1024 .f32}
  {fk fq : ℕ → ℕ → ℝ} {b : Fin 1024} {μ : ℝ}

/-! ## A block off the diagonal -/

theorem pay1_at (hk : Is k fk) (hq : Is q fq) (a b : Fin 1024) : k0_pay1 (F := Ideal) k q (ix2 a b) = ((∑ d ∈ range 128, fk a d * fq b d : ℝ) : EReal) := by
  pointwise [k0_pay1]
  simp only [hk _ _, hq _ _, ← EReal.coe_mul]
  rw [coe_sum_fin 128 fun d => fk a d * fq b d]
theorem pay2_at (hk : Is k fk) (hq : Is q fq) (hm : mm (ix2 0 b) ≠ (⊤ : EReal)) : ∃ μ : ℝ, k0_pay2 (F := Ideal) k q mm (ix2 0 b) = (μ : EReal) := by
  pointwise [k0_pay2]
  rw [ofBits_bot]
  obtain ⟨M, hM⟩ := fold_max_real (fun a : Fin 1024 => k0_pay1 (F := Ideal) k q (ix2 a b)) (fun a => by rw [pay1_at hk hq]; exact EReal.coe_ne_top _) 0
    (by rw [pay1_at hk hq]; exact EReal.coe_ne_bot _)
  rw [hM]
  exact max_real hm M
theorem pay4_at (hk : Is k fk) (hq : Is q fq) (hμ : k0_pay2 (F := Ideal) k q mm (ix2 0 b) = (μ : EReal)) (a : Fin 1024) :
    k0_pay4 (F := Ideal) k q mm (ix2 a b) = ((Real.rpow 2 ((∑ d ∈ range 128, fk a d * fq b d) - μ) : ℝ) : EReal) := by
  pointwise [k0_pay4]
  rw [pay1_at hk hq, hμ, ← EReal.coe_sub, exp2_real]
theorem pay5_at (hk : Is k fk) (hq : Is q fq) (hμ : k0_pay2 (F := Ideal) k q mm (ix2 0 b) = (μ : EReal)) :
    k0_pay5 (F := Ideal) k q mm mm l (ix2 0 b) = Ideal.exp2 (mm (ix2 0 b) - (μ : EReal)) * l (ix2 0 b) + ((∑ a ∈ range 1024, Real.rpow 2 ((∑ d ∈ range 128, fk a d * fq b d) - μ) : ℝ) : EReal) := by
  pointwise [k0_pay5, k0_pay3]
  simp only [pay4_at hk hq hμ, hμ]
  rw [coe_sum_fin 1024 fun a => Real.rpow 2 ((∑ d ∈ range 128, fk a d * fq b d) - μ)]
  rfl

/-! ## A block on the diagonal -/

theorem pay7_at (hk : Is k fk) (hq : Is q fq) (a b : Fin 1024) :
    k0_pay7 (F := Ideal) k q (ix2 a b) = if (a : ℕ) ≤ b then ((∑ d ∈ range 128, fk a d * fq b d : ℝ) : EReal) else ⊥ := by
  pointwise [k0_pay7]
  simp only [hk _ _, hq _ _, ← EReal.coe_mul]
  simp (disch := omega) only [hlo_ix]
  rw [named_mask, coe_sum_fin 128 fun d => fk a d * fq b d]
theorem pay8_at (hk : Is k fk) (hq : Is q fq) (hm : mm (ix2 0 b) ≠ (⊤ : EReal)) : ∃ μ : ℝ, k0_pay8 (F := Ideal) k q mm (ix2 0 b) = (μ : EReal) := by
  pointwise [k0_pay8]
  rw [ofBits_bot]
  obtain ⟨M, hM⟩ := fold_max_real (fun a : Fin 1024 => k0_pay7 (F := Ideal) k q (ix2 a b)) (fun a => by rw [pay7_at hk hq]; split; exacts [EReal.coe_ne_top _, bot_ne_top]) b
    (by rw [pay7_at hk hq, if_pos le_rfl]; exact EReal.coe_ne_bot _)
  rw [hM]
  exact max_real hm M
theorem pay10_at (hk : Is k fk) (hq : Is q fq) (hμ : k0_pay8 (F := Ideal) k q mm (ix2 0 b) = (μ : EReal)) (a : Fin 1024) :
    k0_pay10 (F := Ideal) k q mm (ix2 a b) = (((if (a : ℕ) ≤ b then Real.rpow 2 ((∑ d ∈ range 128, fk a d * fq b d) - μ) else 0) : ℝ) : EReal) := by
  pointwise [k0_pay10]
  rw [pay7_at hk hq, hμ]
  by_cases H : (a : ℕ) ≤ b
  · rw [if_pos H, if_pos H, ← EReal.coe_sub, exp2_real]
  · rw [if_neg H, if_neg H, EReal.bot_sub]
    show Ideal.exp2 ⊥ = _
    rw [Ideal.exp2_bot]; rfl
theorem pay11_at (hk : Is k fk) (hq : Is q fq) (hμ : k0_pay8 (F := Ideal) k q mm (ix2 0 b) = (μ : EReal)) :
    k0_pay11 (F := Ideal) k q mm mm l (ix2 0 b) = Ideal.exp2 (mm (ix2 0 b) - (μ : EReal)) * l (ix2 0 b) + ((∑ a ∈ range 1024, (if a ≤ (b : ℕ) then Real.rpow 2 ((∑ d ∈ range 128, fk a d * fq b d) - μ) else 0) : ℝ) : EReal) := by
  pointwise [k0_pay11, k0_pay9]
  simp only [pay10_at hk hq hμ, hμ]
  rw [coe_sum_fin 1024 fun a => if a ≤ (b : ℕ) then Real.rpow 2 ((∑ d ∈ range 128, fk a d * fq b d) - μ) else 0]
  rfl

/-! ## The start, the end, and what only changes shape -/

theorem pay13_at (b : Fin 1024) : k0_pay13 (F := Ideal) (ix2 0 b) = (⊥ : EReal) := by
  pointwise [k0_pay13]
  exact named_mask
theorem pay14_at (b : Fin 1024) : k0_pay14 (F := Ideal) (ix2 0 b) = (0 : EReal) := by
  pointwise [k0_pay14]
theorem pay15_at (d : Fin 128) (b : Fin 1024) : k0_pay15 (F := Ideal) (ix2 d b) = (0 : EReal) := by
  pointwise [k0_pay15]
theorem pay16_at (x : FVec Ideal S1x1024 .f32) (b : Fin 1024) : k0_pay16 (F := Ideal) x (ix2 0 b) = x (ix2 0 b) := by
  pointwise [k0_pay16]
theorem pay17_at (x : FVec Ideal S128x1024 .f32) (d : Fin 128) (b : Fin 1024) : k0_pay17 (F := Ideal) x (ix2 d b) = x (ix2 d b) := by
  pointwise [k0_pay17]
theorem pay18_at (x : FVec Ideal S1x1024 .f32) (b : Fin 1024) : k0_pay18 (F := Ideal) x (ix2 0 b) = x (ix2 0 b) := by
  pointwise [k0_pay18]
theorem pay19_at (b : Fin 1024) (d : Fin 128) : k0_pay19 (F := Ideal) acc l (ix2 b d) = Ideal.div (acc (ix2 d b)) (l (ix2 0 b)) := by
  pointwise [k0_pay19]
theorem pay20_at (b : Fin 1024) : k0_pay20 (F := Ideal) mm l (ix3 0 0 b) = mm (ix2 0 b) + Ideal.div (Ideal.log (l (ix2 0 b))) ((Real.log 2 : ℝ) : EReal) := by
  pointwise [k0_pay20]
  rw [named_ln2]

end Cert.Attn.Fwd

end
-- ==== Proof.Vals18.lean ====
/- The attention's values and output as extended reals: a query's weights are real, so the values need not be. -/
module

public import proofs.«01_k».proof.Proof.Prep

@[expose] public section

set_option maxRecDepth 16384

noncomputable section

open Idealize.ShloMosaic Idealize.ShloMosaic.TcCoe Idealize.SL.Sem

namespace Cert.Attn
open Cert.Kernel2Ideal Cert.Kernel2Ideal.Gen Finset

/-! ## A nonnegative real factor goes into a sum -/

theorem nn_mul_add {c : ℝ} (hc : 0 ≤ c) (x y : EReal) : (c : EReal) * (x + y) = (c : EReal) * x + (c : EReal) * y :=
  EReal.left_distrib_of_nonneg_of_ne_top (EReal.coe_nonneg.2 hc) (EReal.coe_ne_top _) x y
theorem nn_mul_sum {c : ℝ} (hc : 0 ≤ c) {ι : Type} (s : Finset ι) (f : ι → EReal) : (c : EReal) * ∑ i ∈ s, f i = ∑ i ∈ s, (c : EReal) * f i := by
  classical
  induction s using Finset.induction_on with
  | empty => simp
  | insert a s ha ih => rw [sum_insert ha, sum_insert ha, nn_mul_add hc, ih]
theorem sum_blk_ext (f : ℕ → EReal) (i : ℕ) : ∑ q ∈ range ((i + 1) * 1024), f q = (∑ q ∈ range (i * 1024), f q) + ∑ b ∈ range 1024, f (i * 1024 + b) := by
  rw [Nat.add_mul, Nat.one_mul, sum_range_add]

/-! ## The values -/

variable (A0 A1 : FVec Ideal S1x4096x8x96 .f32) (A2 : FVec Ideal S1x4096x8x64 .f32)

/-- Head `h` of the values, zero outside it. -/
def rdE (h r d : ℕ) : EReal :=
  if H : r < 4096 ∧ h < 8 ∧ d < 64 then A2 (ix4 0 ⟨r, H.1⟩ ⟨h, H.2.1⟩ ⟨d, H.2.2⟩) else 0
theorem rdE_at (b : Fin 1) (r : Fin 4096) (h : Fin 8) (d : Fin 64) : A2 (ix4 b r h d) = rdE A2 h r d := by
  obtain rfl : b = 0 := Subsingleton.elim _ _
  rw [rdE, dif_pos ⟨r.2, h.2, d.2⟩]
theorem rdE_zero (h r d : ℕ) (hd : 64 ≤ d) : rdE A2 h r d = 0 := by
  rw [rdE, dif_neg (by omega)]

/-- A laid-out array of 64 lanes holds what the heads hold, and zero on the further lanes. -/
theorem lay64_ext {X : FVec Ideal S1x4096x8x64 .f32} {f : ℕ → ℕ → ℕ → EReal}
    (hf : ∀ (r : Fin 4096) (h : Fin 8) (d : Fin 64), X (ix4 0 r h d) = f h r d)
    (h0 : ∀ h r d, 64 ≤ d → f h r d = 0) (r : Fin 4096) (l : Fin 1024) :
    lay64 X (ix2 r l) = f (l / 128) r (l % 128) := by
  have hl : (l : ℕ) / 128 < 8 := by omega
  pointwise [lay64]
  split
  · exact hf _ _ _
  · rename_i H
    rw [h0 _ _ _ (by omega)]
    exact sit0
theorem v_ext (r : Fin 4096) (l : Fin 1024) : lay64 A2 (ix2 r l) = rdE A2 (l / 128) r (l % 128) :=
  lay64_ext (fun r h d => rdE_at A2 0 r h d) (rdE_zero A2) r l

/-! ## The output -/

/-- The output of a head at row `r`, lane `d`. -/
def oE (h r d : ℕ) : EReal := ∑ k ∈ range 4096, rdE A2 h k d * ((P cs (rd A0 h) (rd A1 h) r k : ℝ) : EReal)
theorem oE_zero (h r d : ℕ) (hd : 64 ≤ d) : oE A0 A1 A2 h r d = 0 :=
  sum_eq_zero fun k _ => by rw [rdE_zero A2 _ _ _ hd, zero_mul]
theorem oA_ext (hX : Fin' A0) (hY : Fin' A1) (b : Fin 1) (r : Fin 4096) (h : Fin 8) (d : Fin 64) :
    oA A0 A1 A2 (ix4 b r h d) = oE A0 A1 A2 h r d := by
  pointwise [oA]
  simp only [prA_at _ _ hX hY, rdE_at A2]
  exact (sum_range fun k => rdE A2 h k d * ((P cs (rd A0 h) (rd A1 h) r k : ℝ) : EReal)).symm

end Cert.Attn

end
-- ==== Proof.State18.lean ====
/- A query's running state in the attention's forward kernel, and what a block's step makes of it. -/
module

public import proofs.«01_k».proof.Proof.Step18
public import proofs.«01_k».proof.Proof.Vals18

@[expose] public section

set_option maxRecDepth 16384

noncomputable section

open Idealize.ShloMosaic Idealize.ShloMosaic.TcCoe Idealize.SL.Sem

namespace Cert.Attn.Fwd
open Cert.Kernel18Ideal Cert.Kernel18Ideal.Gen Finset

/-- The block of values holds `f`. -/
def IsE (X : FVec Ideal S1024x128 .bf16) (f : ℕ → ℕ → EReal) : Prop := ∀ (a : Fin 1024) (d : Fin 128), X (ix2 a d) = f a d

variable {k q v : FVec Ideal S1024x128 .bf16} {mm l : FVec Ideal S1x1024 .f32} {acc : FVec Ideal S128x1024 .f32}
  {fk fq : ℕ → ℕ → ℝ} {fv : ℕ → ℕ → EReal} {b : Fin 1024} {μ : ℝ}

theorem pay6_at (hk : Is k fk) (hq : Is q fq) (hv : IsE v fv) (hμ : k0_pay2 (F := Ideal) k q mm (ix2 0 b) = (μ : EReal)) (d : Fin 128) :
    k0_pay6 (F := Ideal) k q mm mm acc v (ix2 d b) = Ideal.exp2 (mm (ix2 0 b) - (μ : EReal)) * acc (ix2 d b) + ∑ a ∈ range 1024, fv a d * ((Real.rpow 2 ((∑ d ∈ range 128, fk a d * fq b d) - μ) : ℝ) : EReal) := by
  pointwise [k0_pay6, k0_pay3]
  simp only [pay4_at hk hq hμ, hμ, hv _ _]
  rw [sum_range fun a => fv a d * ((Real.rpow 2 ((∑ d ∈ range 128, fk a d * fq b d) - μ) : ℝ) : EReal)]
  rfl
theorem pay12_at (hk : Is k fk) (hq : Is q fq) (hv : IsE v fv) (hμ : k0_pay8 (F := Ideal) k q mm (ix2 0 b) = (μ : EReal)) (d : Fin 128) :
    k0_pay12 (F := Ideal) k q mm mm acc v (ix2 d b) = Ideal.exp2 (mm (ix2 0 b) - (μ : EReal)) * acc (ix2 d b) + ∑ a ∈ range 1024, fv a d * (((if a ≤ (b : ℕ) then Real.rpow 2 ((∑ d ∈ range 128, fk a d * fq b d) - μ) else 0) : ℝ) : EReal) := by
  pointwise [k0_pay12, k0_pay9]
  simp only [pay10_at hk hq hμ, hμ, hv _ _]
  rw [sum_range fun a => fv a d * (((if a ≤ (b : ℕ) then Real.rpow 2 ((∑ d ∈ range 128, fk a d * fq b d) - μ) else 0) : ℝ) : EReal)]
  rfl

/-- What a block's step needs of the state it finds: the weights' sum `L` and the weighted values `A` once shifted by any new maximum. -/
def Pre (x l : EReal) (a : Fin 128 → EReal) (L : ℝ) (A : ℕ → EReal) : Prop :=
  x ≠ ⊤ ∧ (∀ μ : ℝ, Ideal.exp2 (x - (μ : EReal)) * l = ((Real.exp (-(μ * Real.log 2)) * L : ℝ) : EReal))
    ∧ ∀ (μ : ℝ) (d : Fin 128), Ideal.exp2 (x - (μ : EReal)) * a d = ((Real.exp (-(μ * Real.log 2)) : ℝ) : EReal) * A d
/-- What it leaves: the sums at the shift by the real number it keeps. -/
def Post (x l : EReal) (a : Fin 128 → EReal) (L : ℝ) (A : ℕ → EReal) : Prop :=
  ∃ μ : ℝ, x = (μ : EReal) ∧ l = ((Real.exp (-(μ * Real.log 2)) * L : ℝ) : EReal) ∧ ∀ d : Fin 128, a d = ((Real.exp (-(μ * Real.log 2)) : ℝ) : EReal) * A d

theorem rpow_two (x : ℝ) : Real.rpow 2 x = Real.exp (x * Real.log 2) := by
  show (2 : ℝ) ^ x = _
  rw [Real.rpow_def_of_pos (by norm_num : (0 : ℝ) < 2), mul_comm]
theorem rpow_sub (x μ : ℝ) : Real.rpow 2 (x - μ) = Real.exp (-(μ * Real.log 2)) * Real.exp (x * Real.log 2) := by
  rw [rpow_two, ← Real.exp_add]; congr 1; ring

theorem Post.pre {x l : EReal} {a : Fin 128 → EReal} {L : ℝ} {A : ℕ → EReal} (h : Post x l a L A) : Pre x l a L A := by
  obtain ⟨ν, rfl, rfl, ha⟩ := h
  have e : ∀ (μ : ℝ), Ideal.exp2 ((ν : EReal) - (μ : EReal)) * ((Real.exp (-(ν * Real.log 2)) : ℝ) : EReal) = ((Real.exp (-(μ * Real.log 2)) : ℝ) : EReal) := fun μ => by
    rw [← EReal.coe_sub, Ideal.exp2_coe, ← EReal.coe_mul]
    congr 1
    show Real.rpow 2 (ν - μ) * _ = _
    rw [rpow_sub, mul_assoc, ← Real.exp_add]
    simp
  exact ⟨EReal.coe_ne_top _, fun μ => by rw [EReal.coe_mul, EReal.coe_mul, ← mul_assoc, e μ], fun μ d => by rw [ha, ← mul_assoc, e μ]⟩
theorem pre_start : Pre ⊥ 0 (fun _ => 0) 0 fun _ => 0 :=
  ⟨bot_ne_top, fun μ => by simp, fun μ d => by simp⟩

/-- A shift's factor goes into the sums. -/
theorem shift_sum (A : EReal) (f : ℕ → EReal) (w : ℕ → ℝ) :
    ((Real.exp (-(μ * Real.log 2)) : ℝ) : EReal) * A + ∑ a ∈ range 1024, f a * ((Real.exp (-(μ * Real.log 2)) * w a : ℝ) : EReal)
      = ((Real.exp (-(μ * Real.log 2)) : ℝ) : EReal) * (A + ∑ a ∈ range 1024, f a * ((w a : ℝ) : EReal)) := by
  rw [nn_mul_add (Real.exp_pos _).le, nn_mul_sum (Real.exp_pos _).le]
  exact congrArg _ (sum_congr rfl fun a _ => by rw [EReal.coe_mul, mul_left_comm])

theorem off_post (hk : Is k fk) (hq : Is q fq) (hv : IsE v fv) {L : ℝ} {A : ℕ → EReal} (h : Pre (mm (ix2 0 b)) (l (ix2 0 b)) (fun d => acc (ix2 d b)) L A) :
    Post (k0_pay16 (F := Ideal) (k0_pay2 (F := Ideal) k q mm) (ix2 0 b)) (k0_pay5 (F := Ideal) k q mm mm l (ix2 0 b)) (fun d => k0_pay6 (F := Ideal) k q mm mm acc v (ix2 d b))
      (L + ∑ a ∈ range 1024, Real.exp ((∑ d ∈ range 128, fk a d * fq b d) * Real.log 2))
      fun d => A d + ∑ a ∈ range 1024, fv a d * ((Real.exp ((∑ d ∈ range 128, fk a d * fq b d) * Real.log 2) : ℝ) : EReal) := by
  obtain ⟨μ, hμ⟩ := pay2_at hk hq h.1
  refine ⟨μ, (pay16_at _ _).trans hμ, ?_, fun d => ?_⟩
  · rw [pay5_at hk hq hμ, h.2.1, ← EReal.coe_add]
    simp only [rpow_sub, mul_add, mul_sum]
  · refine (pay6_at hk hq hv hμ d).trans ?_
    rw [h.2.2 μ d]
    simp only [rpow_sub]
    exact shift_sum _ _ _
theorem diag_post (hk : Is k fk) (hq : Is q fq) (hv : IsE v fv) {L : ℝ} {A : ℕ → EReal} (h : Pre (mm (ix2 0 b)) (l (ix2 0 b)) (fun d => acc (ix2 d b)) L A) :
    Post (k0_pay18 (F := Ideal) (k0_pay8 (F := Ideal) k q mm) (ix2 0 b)) (k0_pay11 (F := Ideal) k q mm mm l (ix2 0 b)) (fun d => k0_pay17 (F := Ideal) (k0_pay12 (F := Ideal) k q mm mm acc v) (ix2 d b))
      (L + ∑ a ∈ range 1024, if a ≤ (b : ℕ) then Real.exp ((∑ d ∈ range 128, fk a d * fq b d) * Real.log 2) else 0)
      fun d => A d + ∑ a ∈ range 1024, fv a d * (((if a ≤ (b : ℕ) then Real.exp ((∑ d ∈ range 128, fk a d * fq b d) * Real.log 2) else 0) : ℝ) : EReal) := by
  obtain ⟨μ, hμ⟩ := pay8_at hk hq h.1
  have e : ∀ a : ℕ, (if a ≤ (b : ℕ) then Real.rpow 2 ((∑ d ∈ range 128, fk a d * fq b d) - μ) else 0)
      = Real.exp (-(μ * Real.log 2)) * if a ≤ (b : ℕ) then Real.exp ((∑ d ∈ range 128, fk a d * fq b d) * Real.log 2) else 0 := fun a => by
    split
    · exact rpow_sub _ _
    · rw [mul_zero]
  refine ⟨μ, (pay18_at _ _).trans hμ, ?_, fun d => ?_⟩
  · rw [pay11_at hk hq hμ, h.2.1, ← EReal.coe_add]
    simp only [e, mul_add, mul_sum]
  · refine (pay17_at _ d b).trans ((pay12_at hk hq hv hμ d).trans ?_)
    rw [h.2.2 μ d]
    simp only [e]
    exact shift_sum _ _ _

end Cert.Attn.Fwd

end
-- ==== Proof.Entry18.lean ====
/- What the forward kernel finds in its operands and what each kind of grid point leaves in its results and running state. -/
module

public import proofs.«01_k».proof.Proof.Prep
public import proofs.«01_k».proof.Proof.Gen.Kernel18Ideal.Value
public import Idealize.ShloMosaic.Lib.Claim
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Kernel18Ideal.Hand
open Cert.Kernel18Ideal Cert.Kernel18Ideal.Gen

variable (m : (ℓ : Loc nD τ sig) → Buf (Elt Ideal) ℓ) (c : Dev nD)

/-- The queries. -/
abbrev a0 : FVec Ideal S1x4096x8x96 .f32 := m ((c.tc : Thread nD τ).loc main_arg0)
/-- The keys. -/
abbrev a1 : FVec Ideal S1x4096x8x96 .f32 := m ((c.tc : Thread nD τ).loc main_arg1)
/-- The values. -/
abbrev a2 : FVec Ideal S1x4096x8x64 .f32 := m ((c.tc : Thread nD τ).loc main_arg2)

theorem V_v6 : V m c main_v6 = Attn.lay96 (Attn.qsA (a0 m c)) := by
  dsimp only [V]
  simp only [hostOps0, hostOps0_1, hostOps0_2, hostOps0_3, hostOps0_4, hostOps0_5, hostOps0_6, List.flatten_cons, List.flatten_nil, List.cons_append, List.nil_append, List.append_nil, StableHlo.TRef.binary, StableHlo.TRef.nullary, StableHlo.TRef.ternary, StableHlo.TRef.unary, StableHlo.TRef.toBuf, StableHlo.TRef.ofBuf, cast_eq]
  after_results_simp
  rfl
theorem V_v9 : V m c main_v9 = Attn.lay96 (a1 m c) := by
  dsimp only [V]
  simp only [hostOps0, hostOps0_1, hostOps0_2, hostOps0_3, hostOps0_4, hostOps0_5, hostOps0_6, List.flatten_cons, List.flatten_nil, List.cons_append, List.nil_append, List.append_nil, StableHlo.TRef.binary, StableHlo.TRef.nullary, StableHlo.TRef.ternary, StableHlo.TRef.unary, StableHlo.TRef.toBuf, StableHlo.TRef.ofBuf, cast_eq]
  after_results_simp
  rfl
theorem V_v12 : V m c main_v12 = Attn.lay64 (a2 m c) := by
  dsimp only [V]
  simp only [hostOps0, hostOps0_1, hostOps0_2, hostOps0_3, hostOps0_4, hostOps0_5, hostOps0_6, List.flatten_cons, List.flatten_nil, List.cons_append, List.nil_append, List.append_nil, StableHlo.TRef.binary, StableHlo.TRef.nullary, StableHlo.TRef.ternary, StableHlo.TRef.unary, StableHlo.TRef.toBuf, StableHlo.TRef.ofBuf, cast_eq]
  after_results_simp
  rfl

/-! ## What each kind of grid point leaves -/

theorem s0_A (t : Fin cfg0.N) (h0 : (t.val % 10 = 0 ∨ t.val % 10 = 1 ∨ t.val % 10 = 3 ∨ t.val % 10 = 6)) (h2 : (t.val % 10 = 0 ∨ t.val % 10 = 2 ∨ t.val % 10 = 5 ∨ t.val % 10 = 9)) :
    (outsAt0 m c t.val t.isLt).2.2.1 = k0_pay18 (k0_pay8 (iblk m c 1 t) (iblk m c 0 t) (k0_pay13 (F := Ideal))) := by
  rw [outsAt0_A m c t h0 (not_not.2 h2) h2]; frame_out <;> ((try simp only [read_unread_whole]) <;> (try rfl))
theorem s1_A (t : Fin cfg0.N) (h0 : (t.val % 10 = 0 ∨ t.val % 10 = 1 ∨ t.val % 10 = 3 ∨ t.val % 10 = 6)) (h2 : (t.val % 10 = 0 ∨ t.val % 10 = 2 ∨ t.val % 10 = 5 ∨ t.val % 10 = 9)) :
    (outsAt0 m c t.val t.isLt).2.2.2.1 = k0_pay11 (iblk m c 1 t) (iblk m c 0 t) (k0_pay13 (F := Ideal)) (k0_pay13 (F := Ideal)) (k0_pay14 (F := Ideal)) := by
  rw [outsAt0_A m c t h0 (not_not.2 h2) h2]; frame_out <;> ((try simp only [read_unread_whole]) <;> (try rfl))
theorem s2_A (t : Fin cfg0.N) (h0 : (t.val % 10 = 0 ∨ t.val % 10 = 1 ∨ t.val % 10 = 3 ∨ t.val % 10 = 6)) (h2 : (t.val % 10 = 0 ∨ t.val % 10 = 2 ∨ t.val % 10 = 5 ∨ t.val % 10 = 9)) :
    (outsAt0 m c t.val t.isLt).2.2.2.2 = k0_pay17 (k0_pay12 (iblk m c 1 t) (iblk m c 0 t) (k0_pay13 (F := Ideal)) (k0_pay13 (F := Ideal)) (k0_pay15 (F := Ideal)) (iblk m c 2 t)) := by
  rw [outsAt0_A m c t h0 (not_not.2 h2) h2]; frame_out <;> ((try simp only [read_unread_whole]) <;> (try rfl))
theorem o3_A (t : Fin cfg0.N) (h0 : (t.val % 10 = 0 ∨ t.val % 10 = 1 ∨ t.val % 10 = 3 ∨ t.val % 10 = 6)) (h2 : (t.val % 10 = 0 ∨ t.val % 10 = 2 ∨ t.val % 10 = 5 ∨ t.val % 10 = 9)) :
    (outsAt0 m c t.val t.isLt).1 = k0_pay19 (outsAt0 m c t.val t.isLt).2.2.2.2 (outsAt0 m c t.val t.isLt).2.2.2.1 := by
  rw [s2_A m c t h0 h2, s1_A m c t h0 h2]
  have e : (outsAt0 m c t.val t.isLt).1 = k0_pay19 (k0_pay17 (k0_pay12 (iblk m c 1 t) (iblk m c 0 t) (k0_pay13 (F := Ideal)) (k0_pay13 (F := Ideal)) (k0_pay15 (F := Ideal)) (iblk m c 2 t))) (k0_pay11 (iblk m c 1 t) (iblk m c 0 t) (k0_pay13 (F := Ideal)) (k0_pay13 (F := Ideal)) (k0_pay14 (F := Ideal))) := by
    rw [outsAt0_A m c t h0 (not_not.2 h2) h2]; frame_out <;> ((try simp only [read_unread_whole]) <;> (try rfl))
  exact e
theorem o4_A (t : Fin cfg0.N) (h0 : (t.val % 10 = 0 ∨ t.val % 10 = 1 ∨ t.val % 10 = 3 ∨ t.val % 10 = 6)) (h2 : (t.val % 10 = 0 ∨ t.val % 10 = 2 ∨ t.val % 10 = 5 ∨ t.val % 10 = 9)) :
    (outsAt0 m c t.val t.isLt).2.1 = k0_pay20 (outsAt0 m c t.val t.isLt).2.2.1 (outsAt0 m c t.val t.isLt).2.2.2.1 := by
  rw [s0_A m c t h0 h2, s1_A m c t h0 h2]
  have e : (outsAt0 m c t.val t.isLt).2.1 = k0_pay20 (k0_pay18 (k0_pay8 (iblk m c 1 t) (iblk m c 0 t) (k0_pay13 (F := Ideal)))) (k0_pay11 (iblk m c 1 t) (iblk m c 0 t) (k0_pay13 (F := Ideal)) (k0_pay13 (F := Ideal)) (k0_pay14 (F := Ideal))) := by
    rw [outsAt0_A m c t h0 (not_not.2 h2) h2]; frame_out <;> ((try simp only [read_unread_whole]) <;> (try rfl))
  exact e
theorem s0_B (t : Fin cfg0.N) (h0 : (t.val % 10 = 0 ∨ t.val % 10 = 1 ∨ t.val % 10 = 3 ∨ t.val % 10 = 6)) (h2 : ¬(t.val % 10 = 0 ∨ t.val % 10 = 2 ∨ t.val % 10 = 5 ∨ t.val % 10 = 9)) :
    (outsAt0 m c t.val t.isLt).2.2.1 = k0_pay16 (k0_pay2 (iblk m c 1 t) (iblk m c 0 t) (k0_pay13 (F := Ideal))) := by
  rw [outsAt0_B m c t h0 h2 h2]; frame_out <;> ((try simp only [read_unread_whole]) <;> (try rfl))
theorem s1_B (t : Fin cfg0.N) (h0 : (t.val % 10 = 0 ∨ t.val % 10 = 1 ∨ t.val % 10 = 3 ∨ t.val % 10 = 6)) (h2 : ¬(t.val % 10 = 0 ∨ t.val % 10 = 2 ∨ t.val % 10 = 5 ∨ t.val % 10 = 9)) :
    (outsAt0 m c t.val t.isLt).2.2.2.1 = k0_pay5 (iblk m c 1 t) (iblk m c 0 t) (k0_pay13 (F := Ideal)) (k0_pay13 (F := Ideal)) (k0_pay14 (F := Ideal)) := by
  rw [outsAt0_B m c t h0 h2 h2]; frame_out <;> ((try simp only [read_unread_whole]) <;> (try rfl))
theorem s2_B (t : Fin cfg0.N) (h0 : (t.val % 10 = 0 ∨ t.val % 10 = 1 ∨ t.val % 10 = 3 ∨ t.val % 10 = 6)) (h2 : ¬(t.val % 10 = 0 ∨ t.val % 10 = 2 ∨ t.val % 10 = 5 ∨ t.val % 10 = 9)) :
    (outsAt0 m c t.val t.isLt).2.2.2.2 = k0_pay6 (iblk m c 1 t) (iblk m c 0 t) (k0_pay13 (F := Ideal)) (k0_pay13 (F := Ideal)) (k0_pay15 (F := Ideal)) (iblk m c 2 t) := by
  rw [outsAt0_B m c t h0 h2 h2]; frame_out <;> ((try simp only [read_unread_whole]) <;> (try rfl))
theorem s0_C (t : Fin cfg0.N) (h0 : ¬(t.val % 10 = 0 ∨ t.val % 10 = 1 ∨ t.val % 10 = 3 ∨ t.val % 10 = 6)) (h2 : (t.val % 10 = 0 ∨ t.val % 10 = 2 ∨ t.val % 10 = 5 ∨ t.val % 10 = 9)) :
    (outsAt0 m c t.val t.isLt).2.2.1 = k0_pay18 (k0_pay8 (iblk m c 1 t) (iblk m c 0 t) (outsAt0 m c (t.val - 1) (lt_of_le_of_lt (Nat.sub_le _ _) t.isLt)).2.2.1) := by
  rw [outsAt0_C m c t h0 (not_not.2 h2) h2]; frame_out <;> ((try simp only [read_unread_whole]) <;> (try rfl))
theorem s1_C (t : Fin cfg0.N) (h0 : ¬(t.val % 10 = 0 ∨ t.val % 10 = 1 ∨ t.val % 10 = 3 ∨ t.val % 10 = 6)) (h2 : (t.val % 10 = 0 ∨ t.val % 10 = 2 ∨ t.val % 10 = 5 ∨ t.val % 10 = 9)) :
    (outsAt0 m c t.val t.isLt).2.2.2.1 = k0_pay11 (iblk m c 1 t) (iblk m c 0 t) (outsAt0 m c (t.val - 1) (lt_of_le_of_lt (Nat.sub_le _ _) t.isLt)).2.2.1 (outsAt0 m c (t.val - 1) (lt_of_le_of_lt (Nat.sub_le _ _) t.isLt)).2.2.1 (outsAt0 m c (t.val - 1) (lt_of_le_of_lt (Nat.sub_le _ _) t.isLt)).2.2.2.1 := by
  rw [outsAt0_C m c t h0 (not_not.2 h2) h2]; frame_out <;> ((try simp only [read_unread_whole]) <;> (try rfl))
theorem s2_C (t : Fin cfg0.N) (h0 : ¬(t.val % 10 = 0 ∨ t.val % 10 = 1 ∨ t.val % 10 = 3 ∨ t.val % 10 = 6)) (h2 : (t.val % 10 = 0 ∨ t.val % 10 = 2 ∨ t.val % 10 = 5 ∨ t.val % 10 = 9)) :
    (outsAt0 m c t.val t.isLt).2.2.2.2 = k0_pay17 (k0_pay12 (iblk m c 1 t) (iblk m c 0 t) (outsAt0 m c (t.val - 1) (lt_of_le_of_lt (Nat.sub_le _ _) t.isLt)).2.2.1 (outsAt0 m c (t.val - 1) (lt_of_le_of_lt (Nat.sub_le _ _) t.isLt)).2.2.1 (outsAt0 m c (t.val - 1) (lt_of_le_of_lt (Nat.sub_le _ _) t.isLt)).2.2.2.2 (iblk m c 2 t)) := by
  rw [outsAt0_C m c t h0 (not_not.2 h2) h2]; frame_out <;> ((try simp only [read_unread_whole]) <;> (try rfl))
theorem o3_C (t : Fin cfg0.N) (h0 : ¬(t.val % 10 = 0 ∨ t.val % 10 = 1 ∨ t.val % 10 = 3 ∨ t.val % 10 = 6)) (h2 : (t.val % 10 = 0 ∨ t.val % 10 = 2 ∨ t.val % 10 = 5 ∨ t.val % 10 = 9)) :
    (outsAt0 m c t.val t.isLt).1 = k0_pay19 (outsAt0 m c t.val t.isLt).2.2.2.2 (outsAt0 m c t.val t.isLt).2.2.2.1 := by
  rw [s2_C m c t h0 h2, s1_C m c t h0 h2]
  have e : (outsAt0 m c t.val t.isLt).1 = k0_pay19 (k0_pay17 (k0_pay12 (iblk m c 1 t) (iblk m c 0 t) (outsAt0 m c (t.val - 1) (lt_of_le_of_lt (Nat.sub_le _ _) t.isLt)).2.2.1 (outsAt0 m c (t.val - 1) (lt_of_le_of_lt (Nat.sub_le _ _) t.isLt)).2.2.1 (outsAt0 m c (t.val - 1) (lt_of_le_of_lt (Nat.sub_le _ _) t.isLt)).2.2.2.2 (iblk m c 2 t))) (k0_pay11 (iblk m c 1 t) (iblk m c 0 t) (outsAt0 m c (t.val - 1) (lt_of_le_of_lt (Nat.sub_le _ _) t.isLt)).2.2.1 (outsAt0 m c (t.val - 1) (lt_of_le_of_lt (Nat.sub_le _ _) t.isLt)).2.2.1 (outsAt0 m c (t.val - 1) (lt_of_le_of_lt (Nat.sub_le _ _) t.isLt)).2.2.2.1) := by
    rw [outsAt0_C m c t h0 (not_not.2 h2) h2]; frame_out <;> ((try simp only [read_unread_whole]) <;> (try rfl))
  exact e
theorem o4_C (t : Fin cfg0.N) (h0 : ¬(t.val % 10 = 0 ∨ t.val % 10 = 1 ∨ t.val % 10 = 3 ∨ t.val % 10 = 6)) (h2 : (t.val % 10 = 0 ∨ t.val % 10 = 2 ∨ t.val % 10 = 5 ∨ t.val % 10 = 9)) :
    (outsAt0 m c t.val t.isLt).2.1 = k0_pay20 (outsAt0 m c t.val t.isLt).2.2.1 (outsAt0 m c t.val t.isLt).2.2.2.1 := by
  rw [s0_C m c t h0 h2, s1_C m c t h0 h2]
  have e : (outsAt0 m c t.val t.isLt).2.1 = k0_pay20 (k0_pay18 (k0_pay8 (iblk m c 1 t) (iblk m c 0 t) (outsAt0 m c (t.val - 1) (lt_of_le_of_lt (Nat.sub_le _ _) t.isLt)).2.2.1)) (k0_pay11 (iblk m c 1 t) (iblk m c 0 t) (outsAt0 m c (t.val - 1) (lt_of_le_of_lt (Nat.sub_le _ _) t.isLt)).2.2.1 (outsAt0 m c (t.val - 1) (lt_of_le_of_lt (Nat.sub_le _ _) t.isLt)).2.2.1 (outsAt0 m c (t.val - 1) (lt_of_le_of_lt (Nat.sub_le _ _) t.isLt)).2.2.2.1) := by
    rw [outsAt0_C m c t h0 (not_not.2 h2) h2]; frame_out <;> ((try simp only [read_unread_whole]) <;> (try rfl))
  exact e
theorem s0_D (t : Fin cfg0.N) (h0 : ¬(t.val % 10 = 0 ∨ t.val % 10 = 1 ∨ t.val % 10 = 3 ∨ t.val % 10 = 6)) (h2 : ¬(t.val % 10 = 0 ∨ t.val % 10 = 2 ∨ t.val % 10 = 5 ∨ t.val % 10 = 9)) :
    (outsAt0 m c t.val t.isLt).2.2.1 = k0_pay16 (k0_pay2 (iblk m c 1 t) (iblk m c 0 t) (outsAt0 m c (t.val - 1) (lt_of_le_of_lt (Nat.sub_le _ _) t.isLt)).2.2.1) := by
  rw [outsAt0_D m c t h0 h2 h2]; frame_out <;> ((try simp only [read_unread_whole]) <;> (try rfl))
theorem s1_D (t : Fin cfg0.N) (h0 : ¬(t.val % 10 = 0 ∨ t.val % 10 = 1 ∨ t.val % 10 = 3 ∨ t.val % 10 = 6)) (h2 : ¬(t.val % 10 = 0 ∨ t.val % 10 = 2 ∨ t.val % 10 = 5 ∨ t.val % 10 = 9)) :
    (outsAt0 m c t.val t.isLt).2.2.2.1 = k0_pay5 (iblk m c 1 t) (iblk m c 0 t) (outsAt0 m c (t.val - 1) (lt_of_le_of_lt (Nat.sub_le _ _) t.isLt)).2.2.1 (outsAt0 m c (t.val - 1) (lt_of_le_of_lt (Nat.sub_le _ _) t.isLt)).2.2.1 (outsAt0 m c (t.val - 1) (lt_of_le_of_lt (Nat.sub_le _ _) t.isLt)).2.2.2.1 := by
  rw [outsAt0_D m c t h0 h2 h2]; frame_out <;> ((try simp only [read_unread_whole]) <;> (try rfl))
theorem s2_D (t : Fin cfg0.N) (h0 : ¬(t.val % 10 = 0 ∨ t.val % 10 = 1 ∨ t.val % 10 = 3 ∨ t.val % 10 = 6)) (h2 : ¬(t.val % 10 = 0 ∨ t.val % 10 = 2 ∨ t.val % 10 = 5 ∨ t.val % 10 = 9)) :
    (outsAt0 m c t.val t.isLt).2.2.2.2 = k0_pay6 (iblk m c 1 t) (iblk m c 0 t) (outsAt0 m c (t.val - 1) (lt_of_le_of_lt (Nat.sub_le _ _) t.isLt)).2.2.1 (outsAt0 m c (t.val - 1) (lt_of_le_of_lt (Nat.sub_le _ _) t.isLt)).2.2.1 (outsAt0 m c (t.val - 1) (lt_of_le_of_lt (Nat.sub_le _ _) t.isLt)).2.2.2.2 (iblk m c 2 t) := by
  rw [outsAt0_D m c t h0 h2 h2]; frame_out <;> ((try simp only [read_unread_whole]) <;> (try rfl))

end Cert.Kernel18Ideal.Hand

end
-- ==== Proof.Acc18.lean ====
/- What the forward kernel leaves in its running state after each grid point. -/
module

public import proofs.«01_k».proof.Proof.State18
public import proofs.«01_k».proof.Proof.Pure
public import proofs.«01_k».proof.Proof.Entry18

@[expose] public section

set_option maxRecDepth 16384

noncomputable section

open Idealize.ShloMosaic Idealize.ShloMosaic.TcCoe Idealize.SL.Sem

namespace Cert.Kernel18Ideal.Hand
open Cert.Kernel18Ideal Cert.Kernel18Ideal.Gen Cert.Attn Cert.Attn.Fwd Finset

/-! ## The sums -/

section
variable (A0 A1 : FVec Ideal S1x4096x8x96 .f32) (A2 : FVec Ideal S1x4096x8x64 .f32)

/-- A head's weights, not yet normalised. -/
abbrev wV (h r k : ℕ) : ℝ := wt cs (rd A0 h) (rd A1 h) r k
/-- The sum of a query's weights over the keys below `n`. -/
def lP (h n r : ℕ) : ℝ := ∑ k ∈ range n, wV A0 A1 h r k
/-- A query's weighted values over the keys below `n`. -/
def aP (h n r d : ℕ) : EReal := ∑ k ∈ range n, rdE A2 h k d * ((wV A0 A1 h r k : ℝ) : EReal)

theorem wt_blk {h r k : ℕ} (hk : k ≤ r) : Real.exp ((∑ d ∈ range 128, rd A1 h k d * (rd A0 h r d * (cs / Real.log 2))) * Real.log 2) = wV A0 A1 h r k := by
  rw [score_blk, div_mul_cancel₀ _ log2_ne, wV, wt, if_pos hk]
theorem wV_zero {h r k : ℕ} (hk : r < k) : wV A0 A1 h r k = 0 := by
  rw [wV, wt, if_neg (by omega)]
theorem lP_step (h j r : ℕ) : lP A0 A1 h ((j + 1) * 1024) r = lP A0 A1 h (j * 1024) r + ∑ a ∈ range 1024, wV A0 A1 h r (j * 1024 + a) := sum_blk _ j
theorem aP_step (h j r d : ℕ) : aP A0 A1 A2 h ((j + 1) * 1024) r d = aP A0 A1 A2 h (j * 1024) r d + ∑ a ∈ range 1024, rdE A2 h (j * 1024 + a) d * ((wV A0 A1 h r (j * 1024 + a) : ℝ) : EReal) := sum_blk_ext _ j
theorem lP_all {h n r : ℕ} (hr : r < n) (hn : n ≤ 4096) : lP A0 A1 h n r = Z cs (rd A0 h) (rd A1 h) r := by
  refine sum_subset (range_subset_range.2 hn) fun k _ hk => wV_zero A0 A1 ?_
  have hk' : n ≤ k := by simpa using hk
  omega
theorem aP_all {h n r : ℕ} (d : ℕ) (hr : r < n) (hn : n ≤ 4096) : aP A0 A1 A2 h n r d * ((1 / Z cs (rd A0 h) (rd A1 h) r : ℝ) : EReal) = oE A0 A1 A2 h r d := by
  have e : aP A0 A1 A2 h n r d = aP A0 A1 A2 h 4096 r d := by
    refine sum_subset (range_subset_range.2 hn) fun k _ hk => ?_
    have hk' : n ≤ k := by simpa using hk
    rw [wV_zero A0 A1 (by omega), EReal.coe_zero, mul_zero]
  have hZ : 0 ≤ 1 / Z cs (rd A0 h) (rd A1 h) r := (div_pos one_pos (Z_pos cs (rd A0 h) (rd A1 h) (lt_of_lt_of_le hr hn))).le
  rw [e, aP, oE, mul_comm, nn_mul_sum hZ]
  exact sum_congr rfl fun k _ => by rw [mul_left_comm, ← EReal.coe_mul, P, one_div_mul_eq_div]
end

variable (m : (ℓ : Loc nD τ sig) → Buf (Elt Ideal) ℓ) (c : Dev nD)

/-- The query block's row of a grid point. -/
def ri (t : ℕ) : ℕ := if t % 10 < 1 then 0 else if t % 10 < 3 then 1 else if t % 10 < 6 then 2 else 3
/-- The key block's row of a grid point. -/
def cj (t : ℕ) : ℕ := if t % 10 < 1 then 0 else if t % 10 < 3 then t % 10 - 1 else if t % 10 < 6 then t % 10 - 3 else t % 10 - 6

theorem idx : ∀ t : Fin cfg0.N, win0_0.index t = ![ri t.val, t.val / 10] ∧ win0_1.index t = ![cj t.val, t.val / 10] ∧ win0_2.index t = ![cj t.val, t.val / 10]
    ∧ win0_3.index t = ![ri t.val, t.val / 10] ∧ win0_4.index t = ![t.val / 10, 0, ri t.val] :=
  (by decide +kernel : ∀ t : Fin grid0.N, win0_0.index t = ![ri t.val, t.val / 10] ∧ win0_1.index t = ![cj t.val, t.val / 10] ∧ win0_2.index t = ![cj t.val, t.val / 10]
    ∧ win0_3.index t = ![ri t.val, t.val / 10] ∧ win0_4.index t = ![t.val / 10, 0, ri t.val])

/-! ## The input blocks -/

theorem ri_lt (t : ℕ) : ri t < 4 := by unfold ri; split_ifs <;> omega
theorem cj_lt (t : ℕ) : cj t < 4 := by unfold cj; split_ifs <;> omega
theorem blk0 (t : Fin cfg0.N) (a : Fin 1024) (d : Fin 128) (H1 : ri t * 1024 + a < 4096) (H2 : t.val / 10 * 128 + d < 1024) :
    iblk m c 0 t (ix2 a d) = V m c main_v6 (ix2 ⟨ri t * 1024 + a, H1⟩ ⟨t.val / 10 * 128 + d, H2⟩) := by
  blk_point [iblk, V, idx t]
theorem blk1 (t : Fin cfg0.N) (a : Fin 1024) (d : Fin 128) (H1 : cj t * 1024 + a < 4096) (H2 : t.val / 10 * 128 + d < 1024) :
    iblk m c 1 t (ix2 a d) = V m c main_v9 (ix2 ⟨cj t * 1024 + a, H1⟩ ⟨t.val / 10 * 128 + d, H2⟩) := by
  blk_point [iblk, V, idx t]
theorem blk2 (t : Fin cfg0.N) (a : Fin 1024) (d : Fin 128) (H1 : cj t * 1024 + a < 4096) (H2 : t.val / 10 * 128 + d < 1024) :
    iblk m c 2 t (ix2 a d) = V m c main_v12 (ix2 ⟨cj t * 1024 + a, H1⟩ ⟨t.val / 10 * 128 + d, H2⟩) := by
  blk_point [iblk, V, idx t]

section
variable (hX : Fin' (a0 m c)) (hY : Fin' (a1 m c))
include hX hY

theorem is0 (t : Fin cfg0.N) : Is (φ := .bf16) (iblk m c 0 t) fun a d => rd (a0 m c) (t.val / 10) (ri t * 1024 + a) d * (cs / Real.log 2) := fun a d => by
  have ht : t.val < 80 := lt_of_lt_of_eq t.isLt (show cfg0.N = 80 from N_0)
  have h1 := ri_lt t
  have e1 : (t.val / 10 * 128 + d.val) / 128 = t.val / 10 := by omega
  have e2 : (t.val / 10 * 128 + d.val) % 128 = d.val := by omega
  rw [blk0 m c t a d (by omega) (by omega), V_v6, q_at _ hX]
  simp only [e1, e2]
theorem is1 (t : Fin cfg0.N) : Is (φ := .bf16) (iblk m c 1 t) fun a d => rd (a1 m c) (t.val / 10) (cj t * 1024 + a) d := fun a d => by
  have ht : t.val < 80 := lt_of_lt_of_eq t.isLt (show cfg0.N = 80 from N_0)
  have h1 := cj_lt t
  have e1 : (t.val / 10 * 128 + d.val) / 128 = t.val / 10 := by omega
  have e2 : (t.val / 10 * 128 + d.val) % 128 = d.val := by omega
  rw [blk1 m c t a d (by omega) (by omega), V_v9, k_at _ hY]
  simp only [e1, e2]
theorem is2 (t : Fin cfg0.N) : IsE (iblk m c 2 t) fun a d => rdE (a2 m c) (t.val / 10) (cj t * 1024 + a) d := fun a d => by
  have ht : t.val < 80 := lt_of_lt_of_eq t.isLt (show cfg0.N = 80 from N_0)
  have h1 := cj_lt t
  have e1 : (t.val / 10 * 128 + d.val) / 128 = t.val / 10 := by omega
  have e2 : (t.val / 10 * 128 + d.val) % 128 = d.val := by omega
  rw [blk2 m c t a d (by omega) (by omega), V_v12, v_ext]
  simp only [e1, e2]

/-! ## The running state -/

/-- The step of a block off the diagonal. -/
theorem off (t : Fin cfg0.N) (h2 : ¬(t.val % 10 = 0 ∨ t.val % 10 = 2 ∨ t.val % 10 = 5 ∨ t.val % 10 = 9)) {mm l : FVec Ideal S1x1024 .f32} {acc : FVec Ideal S128x1024 .f32} (b : Fin 1024)
    (h : Pre (mm (ix2 0 b)) (l (ix2 0 b)) (fun d => acc (ix2 d b)) (lP (a0 m c) (a1 m c) (t.val / 10) (cj t.val * 1024) (ri t.val * 1024 + b)) (aP (a0 m c) (a1 m c) (a2 m c) (t.val / 10) (cj t.val * 1024) (ri t.val * 1024 + b))) :
    Post (k0_pay16 (F := Ideal) (k0_pay2 (iblk m c 1 t) (iblk m c 0 t) mm) (ix2 0 b)) (k0_pay5 (F := Ideal) (iblk m c 1 t) (iblk m c 0 t) mm mm l (ix2 0 b)) (fun d => k0_pay6 (F := Ideal) (iblk m c 1 t) (iblk m c 0 t) mm mm acc (iblk m c 2 t) (ix2 d b))
      (lP (a0 m c) (a1 m c) (t.val / 10) ((cj t.val + 1) * 1024) (ri t.val * 1024 + b)) (aP (a0 m c) (a1 m c) (a2 m c) (t.val / 10) ((cj t.val + 1) * 1024) (ri t.val * 1024 + b)) := by
  have g := off_post (is1 m c hX hY t) (is0 m c hX hY t) (is2 m c hX hY t) h
  have h3 : cj t.val + 1 ≤ ri t.val := by unfold cj ri; unfold cj at *; split_ifs <;> omega
  have w : ∀ a ∈ range 1024, Real.exp ((∑ d ∈ range 128, rd (a1 m c) (t.val / 10) (cj t.val * 1024 + a) d * (rd (a0 m c) (t.val / 10) (ri t.val * 1024 + b) d * (cs / Real.log 2))) * Real.log 2)
      = wV (a0 m c) (a1 m c) (t.val / 10) (ri t.val * 1024 + b) (cj t.val * 1024 + a) := fun a ha => wt_blk _ _ (by have := mem_range.1 ha; omega)
  rw [lP_step, ← sum_congr rfl w]
  rw [show aP (a0 m c) (a1 m c) (a2 m c) (t.val / 10) ((cj t.val + 1) * 1024) (ri t.val * 1024 + b) = _ from
    funext fun d => (aP_step _ _ _ _ _ _ d).trans (congrArg _ (sum_congr rfl fun a ha => congrArg _ (congrArg _ (w a ha).symm)))]
  exact g
/-- The step of a block on the diagonal. -/
theorem diag (t : Fin cfg0.N) (h2 : (t.val % 10 = 0 ∨ t.val % 10 = 2 ∨ t.val % 10 = 5 ∨ t.val % 10 = 9)) {mm l : FVec Ideal S1x1024 .f32} {acc : FVec Ideal S128x1024 .f32} (b : Fin 1024)
    (h : Pre (mm (ix2 0 b)) (l (ix2 0 b)) (fun d => acc (ix2 d b)) (lP (a0 m c) (a1 m c) (t.val / 10) (cj t.val * 1024) (ri t.val * 1024 + b)) (aP (a0 m c) (a1 m c) (a2 m c) (t.val / 10) (cj t.val * 1024) (ri t.val * 1024 + b))) :
    Post (k0_pay18 (F := Ideal) (k0_pay8 (iblk m c 1 t) (iblk m c 0 t) mm) (ix2 0 b)) (k0_pay11 (F := Ideal) (iblk m c 1 t) (iblk m c 0 t) mm mm l (ix2 0 b)) (fun d => k0_pay17 (F := Ideal) (k0_pay12 (iblk m c 1 t) (iblk m c 0 t) mm mm acc (iblk m c 2 t)) (ix2 d b))
      (lP (a0 m c) (a1 m c) (t.val / 10) ((cj t.val + 1) * 1024) (ri t.val * 1024 + b)) (aP (a0 m c) (a1 m c) (a2 m c) (t.val / 10) ((cj t.val + 1) * 1024) (ri t.val * 1024 + b)) := by
  have g := diag_post (is1 m c hX hY t) (is0 m c hX hY t) (is2 m c hX hY t) h
  have h3 : cj t.val = ri t.val := by unfold cj ri; split_ifs <;> omega
  have w : ∀ a ∈ range 1024, (if a ≤ (b : ℕ) then Real.exp ((∑ d ∈ range 128, rd (a1 m c) (t.val / 10) (cj t.val * 1024 + a) d * (rd (a0 m c) (t.val / 10) (ri t.val * 1024 + b) d * (cs / Real.log 2))) * Real.log 2) else 0)
      = wV (a0 m c) (a1 m c) (t.val / 10) (ri t.val * 1024 + b) (cj t.val * 1024 + a) := fun a ha => by
    split
    · exact wt_blk _ _ (by omega)
    · exact (wV_zero _ _ (by omega)).symm
  rw [lP_step, ← sum_congr rfl w]
  rw [show aP (a0 m c) (a1 m c) (a2 m c) (t.val / 10) ((cj t.val + 1) * 1024) (ri t.val * 1024 + b) = _ from
    funext fun d => (aP_step _ _ _ _ _ _ d).trans (congrArg _ (sum_congr rfl fun a ha => congrArg _ (congrArg _ (w a ha).symm)))]
  exact g

theorem inv (n : ℕ) : ∀ (hn : n < cfg0.N) (b : Fin 1024), Post ((outsAt0 m c n hn).2.2.1 (ix2 0 b)) ((outsAt0 m c n hn).2.2.2.1 (ix2 0 b)) (fun d => (outsAt0 m c n hn).2.2.2.2 (ix2 d b))
    (lP (a0 m c) (a1 m c) (n / 10) ((cj n + 1) * 1024) (ri n * 1024 + b)) (aP (a0 m c) (a1 m c) (a2 m c) (n / 10) ((cj n + 1) * 1024) (ri n * 1024 + b)) := by
  have first : ∀ (n : ℕ) (hn : n < cfg0.N), (n % 10 = 0 ∨ n % 10 = 1 ∨ n % 10 = 3 ∨ n % 10 = 6) → ∀ b : Fin 1024,
      Post ((outsAt0 m c n hn).2.2.1 (ix2 0 b)) ((outsAt0 m c n hn).2.2.2.1 (ix2 0 b)) (fun d => (outsAt0 m c n hn).2.2.2.2 (ix2 d b))
        (lP (a0 m c) (a1 m c) (n / 10) ((cj n + 1) * 1024) (ri n * 1024 + b)) (aP (a0 m c) (a1 m c) (a2 m c) (n / 10) ((cj n + 1) * 1024) (ri n * 1024 + b)) := by
    intro n hn h0 b
    have h2 : cj n = 0 := by unfold cj; split_ifs <;> omega
    have hs : Pre (k0_pay13 (F := Ideal) (ix2 0 b)) (k0_pay14 (F := Ideal) (ix2 0 b)) (fun d => k0_pay15 (F := Ideal) (ix2 d b))
        (lP (a0 m c) (a1 m c) (n / 10) (cj n * 1024) (ri n * 1024 + b)) (aP (a0 m c) (a1 m c) (a2 m c) (n / 10) (cj n * 1024) (ri n * 1024 + b)) := by
      rw [h2, pay13_at, pay14_at]
      simp only [pay15_at]
      rw [show lP (a0 m c) (a1 m c) (n / 10) (0 * 1024) (ri n * 1024 + b) = 0 by simp [lP], show aP (a0 m c) (a1 m c) (a2 m c) (n / 10) (0 * 1024) (ri n * 1024 + b) = fun _ => 0 from funext fun d => by simp [aP]]
      exact pre_start
    by_cases hl : n % 10 = 0 ∨ n % 10 = 2 ∨ n % 10 = 5 ∨ n % 10 = 9
    · rw [s0_A m c ⟨n, hn⟩ h0 hl, s1_A m c ⟨n, hn⟩ h0 hl, s2_A m c ⟨n, hn⟩ h0 hl]
      exact diag m c hX hY ⟨n, hn⟩ hl b hs
    · rw [s0_B m c ⟨n, hn⟩ h0 hl, s1_B m c ⟨n, hn⟩ h0 hl, s2_B m c ⟨n, hn⟩ h0 hl]
      exact off m c hX hY ⟨n, hn⟩ hl b hs
  induction n with
  | zero => exact fun hn => first 0 hn (by omega)
  | succ n ih =>
    intro hn b
    by_cases h0 : (n + 1) % 10 = 0 ∨ (n + 1) % 10 = 1 ∨ (n + 1) % 10 = 3 ∨ (n + 1) % 10 = 6
    · exact first (n + 1) hn h0 b
    have hp := (ih (by omega) b).pre
    have h3 : ri (n + 1) = ri n := by unfold ri; split_ifs <;> omega
    have h4 : cj (n + 1) = cj n + 1 := by unfold cj; split_ifs <;> omega
    have h5 : (n + 1) / 10 = n / 10 := by omega
    rw [← h4, ← h3, ← h5] at hp
    by_cases hl : (n + 1) % 10 = 0 ∨ (n + 1) % 10 = 2 ∨ (n + 1) % 10 = 5 ∨ (n + 1) % 10 = 9
    · rw [s0_C m c ⟨n + 1, hn⟩ h0 hl, s1_C m c ⟨n + 1, hn⟩ h0 hl, s2_C m c ⟨n + 1, hn⟩ h0 hl]
      exact diag m c hX hY ⟨n + 1, hn⟩ hl b hp
    · rw [s0_D m c ⟨n + 1, hn⟩ h0 hl, s1_D m c ⟨n + 1, hn⟩ h0 hl, s2_D m c ⟨n + 1, hn⟩ h0 hl]
      exact off m c hX hY ⟨n + 1, hn⟩ hl b hp

end

end Cert.Kernel18Ideal.Hand

end
-- ==== Proof.Ref18.lean ====
/- The forward call's references over queries and keys that are real numbers. -/
module

public import proofs.«01_k».proof.Proof.Vals18
public import proofs.«01_k».proof.Proof.Gen.Reference18Ideal.Run

@[expose] public section

set_option maxRecDepth 16384

noncomputable section

open Idealize.ShloMosaic Idealize.ShloMosaic.TcCoe Idealize.SL.Sem

namespace Cert.Reference18Ideal.Hand
open Cert.Reference18Ideal Cert.Reference18Ideal.Gen Cert.Attn Finset

variable (A0 A1 : FVec Ideal S1x4096x8x96 .f32) (A2 : FVec Ideal S1x4096x8x64 .f32)

/-- The output, its heads laid out on 128 lanes. -/
def OR : FVec Ideal S4096x1024 .bf16 :=
  lay64 (shapeCast S1x4096x8x64 (shapeCast S1x4096x512 (oA A0 A1 A2) shapeCasts_S1x4096x8x64_S1x4096x512) shapeCasts_S1x4096x512_S1x4096x8x64)
/-- The logarithms in base two of the rows' sums of exponentials. -/
def LR : FVec Ideal S8x1x4096 .f32 :=
  shapeCast S8x1x4096 (Host.divf (Host.log (Host.reduceAdd (Host.exp (scA A0 A1)) (constant S_ .f32 0x00000000#32) reducesTo_S1x8x4096x4096_S1x8x4096_d3 h_S_)) (broadcastInDim S1x8x4096 ![] bcast_S_S1x8x4096 (Host.log (constant S_ .f32 0x40000000#32)))) shapeCasts_S1x8x4096_S8x1x4096

variable (hX : Fin' A0) (hY : Fin' A1)

include hX hY in
theorem OR_at (r : Fin 4096) (l : Fin 1024) : OR A0 A1 A2 (ix2 r l) = oE A0 A1 A2 (l / 128) r (l % 128) := by
  refine lay64_ext (f := oE A0 A1 A2) (fun r h d => ?_) (oE_zero A0 A1 A2) r l
  rw [← oA_ext A0 A1 A2 hX hY 0 r h d]
  pointwise

include hX hY in
theorem LR_at (h : Fin 8) (z : Fin 1) (r : Fin 4096) : LR A0 A1 (ix3 h z r) = ((Real.log (Z cs (rd A0 h) (rd A1 h) r) / Real.log 2 : ℝ) : EReal) := by
  have e : ∀ k : Fin 4096, Ideal.exp (scA A0 A1 (ix4 0 h r k)) = ((wt cs (rd A0 h) (rd A1 h) r k : ℝ) : EReal) := fun k => by
    rw [scA_at _ _ hX hY, wt]
    split
    · rw [Ideal.exp_coe]
    · rw [Ideal.exp_bot, EReal.coe_zero]
  pointwise [LR]
  simp only [e]
  rw [coe_sum_fin 4096 fun k => wt cs (rd A0 h) (rd A1 h) r k, log_two]
  have hZ := Z_pos cs (rd A0 h) (rd A1 h) r.2
  rw [show (∑ k ∈ range 4096, wt cs (rd A0 h) (rd A1 h) r k) = Z cs (rd A0 h) (rd A1 h) r from rfl]
  rw [Ideal.log_coe, if_neg (not_le.2 hZ), div_coe_coe log2_ne]

end Cert.Reference18Ideal.Hand

end
-- ==== Proof.Final18.lean ====
/- The output and the rows' saved logarithms after the forward kernel's run. -/
module

public import proofs.«01_k».proof.Proof.Acc18
public import proofs.«01_k».proof.Proof.Ref18

@[expose] public section

set_option maxRecDepth 16384

noncomputable section

open Idealize.ShloMosaic Idealize.ShloMosaic.TcCoe Idealize.SL.Sem

namespace Cert.Kernel18Ideal.Hand
open Cert.Kernel18Ideal Cert.Kernel18Ideal.Gen Cert.Attn Cert.Attn.Fwd Finset

variable (m : (ℓ : Loc nD τ sig) → Buf (Elt Ideal) ℓ) (c : Dev nD)
variable (hX : Fin' (a0 m c)) (hY : Fin' (a1 m c))
include hX hY

theorem done (t : Fin cfg0.N) (hl : t.val % 10 = 0 ∨ t.val % 10 = 2 ∨ t.val % 10 = 5 ∨ t.val % 10 = 9) (b : Fin 1024) :
    Post ((outsAt0 m c t.val t.isLt).2.2.1 (ix2 0 b)) ((outsAt0 m c t.val t.isLt).2.2.2.1 (ix2 0 b)) (fun d => (outsAt0 m c t.val t.isLt).2.2.2.2 (ix2 d b))
      (Z cs (rd (a0 m c) (t.val / 10)) (rd (a1 m c) (t.val / 10)) (ri t.val * 1024 + b)) (aP (a0 m c) (a1 m c) (a2 m c) (t.val / 10) ((ri t.val + 1) * 1024) (ri t.val * 1024 + b)) := by
  have hr : cj t.val = ri t.val := by unfold cj ri; split_ifs <;> omega
  have h1 := ri_lt t
  have g := inv m c hX hY t.val t.isLt b
  rw [hr, lP_all _ _ (by omega) (by omega)] at g
  exact g
theorem out3 (t : Fin cfg0.N) (hl : t.val % 10 = 0 ∨ t.val % 10 = 2 ∨ t.val % 10 = 5 ∨ t.val % 10 = 9) :
    IsE (outsAt0 m c t.val t.isLt).1 fun b d => oE (a0 m c) (a1 m c) (a2 m c) (t.val / 10) (ri t.val * 1024 + b) d := fun b d => by
  have h1 := ri_lt t
  have e : (outsAt0 m c t.val t.isLt).1 = k0_pay19 (outsAt0 m c t.val t.isLt).2.2.2.2 (outsAt0 m c t.val t.isLt).2.2.2.1 := by
    by_cases h0 : t.val % 10 = 0 ∨ t.val % 10 = 1 ∨ t.val % 10 = 3 ∨ t.val % 10 = 6
    · exact o3_A m c t h0 hl
    · exact o3_C m c t h0 hl
  obtain ⟨μ, _, el, ea⟩ := done m c hX hY t hl b
  have hZ := Z_pos cs (rd (a0 m c) (t.val / 10)) (rd (a1 m c) (t.val / 10)) (q := ri t.val * 1024 + b) (by omega)
  refine (congrFun e _).trans ((pay19_at b d).trans ?_)
  have hE := mul_pos (Real.exp_pos (-(μ * Real.log 2))) hZ
  rw [el, show (outsAt0 m c t.val t.isLt).2.2.2.2 (ix2 d b) = _ from ea d, Ideal.div_coe hE.ne', mul_right_comm, mul_comm, ← EReal.coe_mul]
  rw [show Real.exp (-(μ * Real.log 2)) * (1 / (Real.exp (-(μ * Real.log 2)) * Z cs (rd (a0 m c) (t.val / 10)) (rd (a1 m c) (t.val / 10)) (ri t.val * 1024 + b))) = 1 / Z cs (rd (a0 m c) (t.val / 10)) (rd (a1 m c) (t.val / 10)) (ri t.val * 1024 + b) by
    rw [mul_one_div, div_mul_cancel_left₀ (Real.exp_ne_zero _), one_div]]
  exact aP_all _ _ _ _ (by omega) (by omega)
theorem out4 (t : Fin cfg0.N) (hl : t.val % 10 = 0 ∨ t.val % 10 = 2 ∨ t.val % 10 = 5 ∨ t.val % 10 = 9) :
    IsR (φ := .f32) (outsAt0 m c t.val t.isLt).2.1 fun b => Real.log (Z cs (rd (a0 m c) (t.val / 10)) (rd (a1 m c) (t.val / 10)) (ri t.val * 1024 + b)) / Real.log 2 := fun b => by
  have h1 := ri_lt t
  have e : (outsAt0 m c t.val t.isLt).2.1 = k0_pay20 (outsAt0 m c t.val t.isLt).2.2.1 (outsAt0 m c t.val t.isLt).2.2.2.1 := by
    by_cases h0 : t.val % 10 = 0 ∨ t.val % 10 = 1 ∨ t.val % 10 = 3 ∨ t.val % 10 = 6
    · exact o4_A m c t h0 hl
    · exact o4_C m c t h0 hl
  obtain ⟨μ, em, el, _⟩ := done m c hX hY t hl b
  have hZ := Z_pos cs (rd (a0 m c) (t.val / 10)) (rd (a1 m c) (t.val / 10)) (q := ri t.val * 1024 + b) (by omega)
  refine (congrFun e _).trans ((pay20_at b).trans ?_)
  rw [em, el, Ideal.log_coe, if_neg (not_le.2 (mul_pos (Real.exp_pos _) hZ)), div_coe_coe log2_ne, ← EReal.coe_add, Real.log_mul (Real.exp_ne_zero _) hZ.ne', Real.log_exp]
  have h2 := log2_ne
  congr 1
  field_simp
  ring

omit hX hY in
theorem last3 : ∀ t : Fin cfg0.N, (cfg0.win 3).flush t = true → t.val % 10 = 0 ∨ t.val % 10 = 2 ∨ t.val % 10 = 5 ∨ t.val % 10 = 9 :=
  (by decide +kernel : ∀ t : Fin grid0.N, (cfg0.win 3).flush t = true → t.val % 10 = 0 ∨ t.val % 10 = 2 ∨ t.val % 10 = 5 ∨ t.val % 10 = 9)
omit hX hY in
theorem last4 : ∀ t : Fin cfg0.N, (cfg0.win 4).flush t = true → t.val % 10 = 0 ∨ t.val % 10 = 2 ∨ t.val % 10 = 5 ∨ t.val % 10 = 9 :=
  (by decide +kernel : ∀ t : Fin grid0.N, (cfg0.win 4).flush t = true → t.val % 10 = 0 ∨ t.val % 10 = 2 ∨ t.val % 10 = 5 ∨ t.val % 10 = 9)

theorem final3 : (dats m 0 c).arrAt 3 (cfgs 0).N = Cert.Reference18Ideal.Hand.OR (a0 m c) (a1 m c) (a2 m c) := by
  refine (dats m 0 c).arrAt_eq_of_covers 3 _ (by decide +kernel) fun t hf y => ?_
  have hl := last3 t hf
  have ht : t.val < 80 := lt_of_lt_of_eq t.isLt (show cfg0.N = 80 from N_0)
  have hj := ri_lt t.val
  blk_simp
  rw [after0_3]
  idx_vars y
  have e : (((View.whole main_v13_0).slice (win0_3.rect t)).emb (ix2 y0 y1) : S4096x1024.Idx) = ix2 ⟨ri t.val * 1024 + y0.val, by omega⟩ ⟨t.val / 10 * 128 + y1.val, by omega⟩ := by
    blk_ext [idx t]
  have e1 : (t.val / 10 * 128 + y1.val) / 128 = t.val / 10 := by omega
  have e2 : (t.val / 10 * 128 + y1.val) % 128 = y1.val := by omega
  refine (out3 m c hX hY t hl y0 y1).trans ?_
  refine Eq.trans ?_ (congrArg _ e).symm
  refine Eq.trans ?_ (Cert.Reference18Ideal.Hand.OR_at _ _ _ hX hY _ _).symm
  simp only [e1, e2]
theorem final4 : (dats m 0 c).arrAt 4 (cfgs 0).N = Cert.Reference18Ideal.Hand.LR (a0 m c) (a1 m c) := by
  refine (dats m 0 c).arrAt_eq_of_covers 4 _ (by decide +kernel) fun t hf y => ?_
  have hl := last4 t hf
  have ht : t.val < 80 := lt_of_lt_of_eq t.isLt (show cfg0.N = 80 from N_0)
  have hj := ri_lt t.val
  blk_simp
  rw [after0_4]
  idx_vars y
  obtain rfl : y0 = 0 := Subsingleton.elim _ _
  obtain rfl : y1 = 0 := Subsingleton.elim _ _
  have e : (((View.whole main_v13_1).slice (win0_4.rect t)).emb (ix3 0 0 y2) : S8x1x4096.Idx) = ix3 ⟨t.val / 10, by omega⟩ 0 ⟨ri t.val * 1024 + y2.val, by omega⟩ := by
    blk_ext [idx t]
  have g := Cert.Reference18Ideal.Hand.LR_at (a0 m c) (a1 m c) hX hY ⟨t.val / 10, by omega⟩ 0 ⟨ri t.val * 1024 + y2.val, by omega⟩
  refine (out4 m c hX hY t hl y2).trans ?_
  refine Eq.trans ?_ (congrArg (Cert.Reference18Ideal.Hand.LR (a0 m c) (a1 m c)) e).symm
  generalize Cert.Reference18Ideal.Hand.LR (a0 m c) (a1 m c) = G at g ⊢
  exact g.symm

end Cert.Kernel18Ideal.Hand

end
-- ==== Proof.Pair18.lean ====
/- The pair of programs Kernel18Ideal and Reference18Ideal: the reference's run, and the kernel's results equal to the reference's. -/
module

public import proofs.«01_k».proof.Defs
public import proofs.«01_k».proof.Proof.Gen.Kernel18Ideal
public import proofs.«01_k».proof.Proof.Gen.Kernel18Ideal.Frame
public import proofs.«01_k».proof.Proof.Gen.Reference18Ideal
public import proofs.«01_k».proof.Proof.Gen.Reference18Ideal.Run
public import proofs.«01_k».proof.Proof.Final18
public import proofs.«01_k».proof.Proof.Gen.Pre_finite18
public import proofs.«01_k».proof.Proof.Finite
public import Idealize.ShloMosaic.Lib.Claim
public import Idealize.ShloMosaic.Adequacy
public import Idealize.ShloMosaic.Init

@[expose] public section

noncomputable section

namespace Cert.Proof

open Idealize.ShloMosaic Idealize.SL.Sem
open Cert.Attn

theorem frameR18 : Cert.quiescent_Reference18Ideal := fun m g _ =>
  (θ_run _ _ _).mono (fun _ h => ⟨fun c => (h c).2.2, sem_eq_zero_of_no_sems (by decide) _⟩) (Cert.Reference18Ideal.Value.run m g)

theorem fin18 (m : (ℓ : Loc Cert.Kernel18Ideal.nD Cert.Kernel18Ideal.τ Cert.Kernel18Ideal.sig) → Buf (Elt Ideal) ℓ) (h : Cert.Pre_Kernel18Ideal_finite18 m) (c : Dev Cert.Kernel18Ideal.nD) :
    Fin' (Cert.Kernel18Ideal.Hand.a0 m c) ∧ Fin' (Cert.Kernel18Ideal.Hand.a1 m c) := by
  have h := congrFun (h c) default
  dsimp only [Cert.Pre_finite18.fn] at h
  obtain ⟨h0, h1⟩ := one_of_and h
  exact ⟨fun i => fin_of_lt (Host.reduce_andi_all _ _ _ _ _ h0 i), fun i => fin_of_lt (Host.reduce_andi_all _ _ _ _ _ h1 i)⟩

theorem value18_0 (m : (ℓ : Loc Cert.Kernel18Ideal.nD Cert.Kernel18Ideal.τ Cert.Kernel18Ideal.sig) → Buf (Elt Ideal) ℓ)
    (m' : (ℓ : Loc Cert.Reference18Ideal.nD Cert.Reference18Ideal.τ Cert.Reference18Ideal.sig) → Buf (Elt Ideal) ℓ) (hpre : Cert.Pre_Kernel18Ideal_finite18 m)
    (c : Dev Cert.Kernel18Ideal.nD) (hagree : m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) :
    Cert.Reference18Ideal.Hand.OR (m' ((c.tc : Thread Cert.Reference18Ideal.nD Cert.Reference18Ideal.τ).loc Cert.Reference18Ideal.main_arg0)) (m' ((c.tc : Thread Cert.Reference18Ideal.nD Cert.Reference18Ideal.τ).loc Cert.Reference18Ideal.main_arg1)) (m' ((c.tc : Thread Cert.Reference18Ideal.nD Cert.Reference18Ideal.τ).loc Cert.Reference18Ideal.main_arg2))
      = (Cert.Kernel18Ideal.Gen.dats m 0 c).arrAt 3 (Cert.Kernel18Ideal.cfgs 0).N := by
  obtain ⟨e0, e1, e2⟩ := hagree
  obtain ⟨hX, hY⟩ := fin18 m hpre c
  refine Eq.trans ?_ (Cert.Kernel18Ideal.Hand.final3 m c hX hY).symm
  rw [e0, e1, e2]

theorem value18_1 (m : (ℓ : Loc Cert.Kernel18Ideal.nD Cert.Kernel18Ideal.τ Cert.Kernel18Ideal.sig) → Buf (Elt Ideal) ℓ)
    (m' : (ℓ : Loc Cert.Reference18Ideal.nD Cert.Reference18Ideal.τ Cert.Reference18Ideal.sig) → Buf (Elt Ideal) ℓ) (hpre : Cert.Pre_Kernel18Ideal_finite18 m)
    (c : Dev Cert.Kernel18Ideal.nD) (hagree : m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) :
    Cert.Reference18Ideal.Hand.LR (m' ((c.tc : Thread Cert.Reference18Ideal.nD Cert.Reference18Ideal.τ).loc Cert.Reference18Ideal.main_arg0)) (m' ((c.tc : Thread Cert.Reference18Ideal.nD Cert.Reference18Ideal.τ).loc Cert.Reference18Ideal.main_arg1))
      = (Cert.Kernel18Ideal.Gen.dats m 0 c).arrAt 4 (Cert.Kernel18Ideal.cfgs 0).N := by
  obtain ⟨e0, e1, e2⟩ := hagree
  obtain ⟨hX, hY⟩ := fin18 m hpre c
  refine Eq.trans ?_ (Cert.Kernel18Ideal.Hand.final4 m c hX hY).symm
  rw [e0, e1]

theorem res18 (m : (ℓ : Loc Cert.Reference18Ideal.nD Cert.Reference18Ideal.τ Cert.Reference18Ideal.sig) → Buf (Elt Ideal) ℓ) (c : Dev Cert.Reference18Ideal.nD) :
    Cert.Reference18Ideal.Value.res_out0 m c = Cert.Reference18Ideal.Hand.OR (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) := by
  unfold Cert.Reference18Ideal.Value.res_out0 Cert.Reference18Ideal.Value.res_main_v43 Cert.Reference18Ideal.Hand.OR oA prA smA
  rw [← exR_eq]
  rfl

set_option maxHeartbeats 1600000 in
theorem algebraic18 : Cert.algebraic_Kernel18Ideal_Reference18Ideal_pre_finite18 := by
  pair_intro
  · run_from Cert.Kernel18Ideal.Gen.run_main m g
    · exact Cert.Kernel18Ideal.Gen.V_main_arg0 m c
    · exact Cert.Kernel18Ideal.Gen.V_main_arg1 m c
    · exact Cert.Kernel18Ideal.Gen.V_main_arg2 m c
  · exact (θ_run _ _ _).mono (fun _ h c => ⟨(h c).1.trans ((res18 m' c).trans (value18_0 m m' hpre c (hagree c))), (h c).2.1.trans (value18_1 m m' hpre c (hagree c)), (h c).2.2⟩) (Cert.Reference18Ideal.Value.run m' g')

end Cert.Proof

end
-- ==== Proof.lean ====
/- The certificate: each claim from the run of its program, the values from the modules Final1 and Final2, the other pairs from the modules Pair3 to Pair18. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.KernelIdeal.Value
public import proofs.«01_k».proof.Proof.Gen.Kernel2Ideal.Value
public import proofs.«01_k».proof.Proof.Gen.ReferenceIdeal.Run
public import proofs.«01_k».proof.Proof.Gen.Reference2Ideal.Run
public import proofs.«01_k».proof.Proof.Gen.Pre_finite
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Pre_finite18
public import proofs.«01_k».proof.Proof.Gen.Pre_finite5
public import proofs.«01_k».proof.Proof.Final1
public import proofs.«01_k».proof.Proof.Final2
public import proofs.«01_k».proof.Proof.Finite
public import proofs.«01_k».proof.Proof.Pair3
public import proofs.«01_k».proof.Proof.Pair4
public import proofs.«01_k».proof.Proof.Pair5
public import proofs.«01_k».proof.Proof.Pair6
public import proofs.«01_k».proof.Proof.Pair7
public import proofs.«01_k».proof.Proof.Pair8
public import proofs.«01_k».proof.Proof.Pair9
public import proofs.«01_k».proof.Proof.Pair10
public import proofs.«01_k».proof.Proof.Pair11
public import proofs.«01_k».proof.Proof.Pair12
public import proofs.«01_k».proof.Proof.Pair13
public import proofs.«01_k».proof.Proof.Pair14
public import proofs.«01_k».proof.Proof.Pair15
public import proofs.«01_k».proof.Proof.Pair16
public import proofs.«01_k».proof.Proof.Pair17
public import proofs.«01_k».proof.Proof.Pair18
public import Idealize.ShloMosaic.Lib.Claim
public import Idealize.ShloMosaic.Adequacy
public import Idealize.ShloMosaic.Init

@[expose] public section

noncomputable section

namespace Cert.Proof

open Idealize.ShloMosaic Idealize.SL.Sem Cert.Attn

theorem preserves1 : Cert.preserves_Kernel_KernelIdeal := IdealRules.named_const.statement _ _ _ _ _ rfl

theorem preserves2 : Cert.preserves_Kernel2_Kernel2Ideal := ⟨IdealRules.named_const.statement _ _ _ _ _ rfl, IdealRules.named_const.statement _ _ _ _ _ rfl⟩

theorem frameR1 : Cert.quiescent_ReferenceIdeal := fun m g _ =>
  (θ_run _ _ _).mono (fun _ h => ⟨fun c => (h c).2.2, sem_eq_zero_of_no_sems (by decide) _⟩) (Cert.ReferenceIdeal.Value.run m g)

theorem frameR2 : Cert.quiescent_Reference2Ideal := fun m g _ =>
  (θ_run _ _ _).mono (fun _ h => ⟨fun c => (h c).2.2, sem_eq_zero_of_no_sems (by decide) _⟩) (Cert.Reference2Ideal.Value.run m g)

theorem value1_0 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hpre : Cert.Pre_KernelIdeal_finite m)
    (c : Dev Cert.KernelIdeal.nD) (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.res_out0 m' c = (Cert.KernelIdeal.Gen.dats m 0 c).arrAt 6 (Cert.KernelIdeal.cfgs 0).N := by
  obtain ⟨hX, hY, hV, hC⟩ := fin1 m hpre c
  obtain ⟨e0, e1, e2, e3⟩ := hagree
  refine (res_dq m' c).trans (Eq.trans ?_ (Cert.KernelIdeal.Hand.final6 m c hX hY hV hC).symm)
  rw [e0, e1, e2, e3]

theorem value1_1 (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (hpre : Cert.Pre_KernelIdeal_finite m)
    (c : Dev Cert.KernelIdeal.nD) (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    Cert.ReferenceIdeal.Value.res_out1 m' c = (Cert.KernelIdeal.Gen.dats m 0 c).arrAt 7 (Cert.KernelIdeal.cfgs 0).N := by
  obtain ⟨hX, hY, hV, hC⟩ := fin1 m hpre c
  obtain ⟨e0, e1, e2, e3⟩ := hagree
  refine (res_dl m' c).trans (Eq.trans ?_ (Cert.KernelIdeal.Hand.final7 m c hX hY hV hC).symm)
  rw [e0, e1, e2, e3]

set_option maxHeartbeats 1600000 in
theorem algebraic1 : Cert.algebraic_KernelIdeal_ReferenceIdeal_pre_finite := by
  pair_intro
  · run_from Cert.KernelIdeal.Gen.run_main m g
    · exact Cert.KernelIdeal.Gen.V_main_arg0 m c
    · exact Cert.KernelIdeal.Gen.V_main_arg1 m c
    · exact Cert.KernelIdeal.Gen.V_main_arg2 m c
    · exact Cert.KernelIdeal.Gen.V_main_arg3 m c
  · run_from Cert.ReferenceIdeal.Value.run m' g'
    · exact value1_0 m m' hpre c (hagree c)
    · exact value1_1 m m' hpre c (hagree c)

theorem value2_0 (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (hpre : Cert.Pre_Kernel2Ideal_finite m)
    (c : Dev Cert.Kernel2Ideal.nD) (hagree : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) :
    Cert.Reference2Ideal.Value.res_out0 m' c = (Cert.Kernel2Ideal.Gen.dats m 0 c).arrAt 6 (Cert.Kernel2Ideal.cfgs 0).N := by
  obtain ⟨hX, hY, hV, hC⟩ := fin2 m hpre c
  obtain ⟨e0, e1, e2, e3⟩ := hagree
  refine (res_dk m' c).trans (Eq.trans ?_ (Cert.Kernel2Ideal.Hand.final6 m c hX hY hV hC).symm)
  rw [e0, e1, e2, e3]

theorem value2_1 (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (hpre : Cert.Pre_Kernel2Ideal_finite m)
    (c : Dev Cert.Kernel2Ideal.nD) (hagree : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) :
    Cert.Reference2Ideal.Value.res_out1 m' c = (Cert.Kernel2Ideal.Gen.dats m 0 c).arrAt 7 (Cert.Kernel2Ideal.cfgs 0).N := by
  obtain ⟨hX, hY, hV, hC⟩ := fin2 m hpre c
  obtain ⟨e0, e1, e2, e3⟩ := hagree
  refine (res_dv m' c).trans (Eq.trans ?_ (Cert.Kernel2Ideal.Hand.final7 m c hX hY hV hC).symm)
  rw [e0, e1, e3]

set_option maxHeartbeats 1600000 in
theorem algebraic2 : Cert.algebraic_Kernel2Ideal_Reference2Ideal_pre_finite := by
  pair_intro
  · run_from Cert.Kernel2Ideal.Gen.run_main m g
    · exact Cert.Kernel2Ideal.Gen.V_main_arg0 m c
    · exact Cert.Kernel2Ideal.Gen.V_main_arg1 m c
    · exact Cert.Kernel2Ideal.Gen.V_main_arg2 m c
    · exact Cert.Kernel2Ideal.Gen.V_main_arg3 m c
  · run_from Cert.Reference2Ideal.Value.run m' g'
    · exact value2_0 m m' hpre c (hagree c)
    · exact value2_1 m m' hpre c (hagree c)

theorem preserves18 : Cert.preserves_Kernel18_Kernel18Ideal :=
  ⟨IdealRules.named_const.statement _ _ _ _ _ rfl, IdealRules.named_const.statement _ _ _ _ _ rfl⟩

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Pre_finite.Gen.facts, Cert.Pre_finite5.Gen.facts, Cert.Pre_finite18.Gen.facts,
    fun m ρ _ => Cert.Kernel.Gen.frame m ρ, fun m ρ _ => Cert.KernelIdeal.Gen.frame m ρ, fun m ρ _ => Cert.KernelIdeal.Gen.frame m ρ,
    frameR1, fun m ρ _ => frameR1 m ρ trivial,
    fun m ρ _ => Cert.Kernel2.Gen.frame m ρ, fun m ρ _ => Cert.Kernel2Ideal.Gen.frame m ρ, fun m ρ _ => Cert.Kernel2Ideal.Gen.frame m ρ,
    frameR2, fun m ρ _ => frameR2 m ρ trivial,
    fun m ρ _ => Cert.Kernel3.Gen.frame m ρ, fun m ρ _ => Cert.Kernel3Ideal.Gen.frame m ρ, frameR3,
    fun m ρ _ => Cert.Kernel4.Gen.frame m ρ, fun m ρ _ => Cert.Kernel4Ideal.Gen.frame m ρ, frameR4,
    fun m ρ _ => Cert.Kernel5.Gen.frame m ρ, fun m ρ _ => Cert.Kernel5Ideal.Gen.frame m ρ, fun m ρ _ => Cert.Kernel5Ideal.Gen.frame m ρ,
    frameR5, fun m ρ _ => frameR5 m ρ trivial,
    fun m ρ _ => Cert.Kernel6.Gen.frame m ρ, fun m ρ _ => Cert.Kernel6Ideal.Gen.frame m ρ, frameR6,
    fun m ρ _ => Cert.Kernel7.Gen.frame m ρ, fun m ρ _ => Cert.Kernel7Ideal.Gen.frame m ρ, frameR7,
    fun m ρ _ => Cert.Kernel8.Gen.frame m ρ, fun m ρ _ => Cert.Kernel8Ideal.Gen.frame m ρ, frameR8,
    fun m ρ _ => Cert.Kernel9.Gen.frame m ρ, fun m ρ _ => Cert.Kernel9Ideal.Gen.frame m ρ, frameR9,
    fun m ρ _ => Cert.Kernel10.Gen.frame m ρ, fun m ρ _ => Cert.Kernel10Ideal.Gen.frame m ρ, frameR10,
    fun m ρ _ => Cert.Kernel11.Gen.frame m ρ, fun m ρ _ => Cert.Kernel11Ideal.Gen.frame m ρ, frameR11,
    fun m ρ _ => Cert.Kernel12.Gen.frame m ρ, fun m ρ _ => Cert.Kernel12Ideal.Gen.frame m ρ, frameR12,
    fun m ρ _ => Cert.Kernel13.Gen.frame m ρ, fun m ρ _ => Cert.Kernel13Ideal.Gen.frame m ρ, frameR13,
    fun m ρ _ => Cert.Kernel14.Gen.frame m ρ, fun m ρ _ => Cert.Kernel14Ideal.Gen.frame m ρ, frameR14,
    fun m ρ _ => Cert.Kernel15.Gen.frame m ρ, fun m ρ _ => Cert.Kernel15Ideal.Gen.frame m ρ, frameR15,
    fun m ρ _ => Cert.Kernel16.Gen.frame m ρ, fun m ρ _ => Cert.Kernel16Ideal.Gen.frame m ρ, frameR16,
    fun m ρ _ => Cert.Kernel17.Gen.frame m ρ, fun m ρ _ => Cert.Kernel17Ideal.Gen.frame m ρ, frameR17,
    fun m ρ _ => Cert.Kernel18.Gen.frame m ρ, fun m ρ _ => Cert.Kernel18Ideal.Gen.frame m ρ, fun m ρ _ => Cert.Kernel18Ideal.Gen.frame m ρ,
    frameR18, fun m ρ _ => frameR18 m ρ trivial,
    preserves1, algebraic1, preserves2, algebraic2,
    (trivial : Cert.preserves_Kernel3_Kernel3Ideal), algebraic3, (trivial : Cert.preserves_Kernel4_Kernel4Ideal), algebraic4, (trivial : Cert.preserves_Kernel5_Kernel5Ideal), algebraic5, (trivial : Cert.preserves_Kernel6_Kernel6Ideal), algebraic6, (trivial : Cert.preserves_Kernel7_Kernel7Ideal), algebraic7, (trivial : Cert.preserves_Kernel8_Kernel8Ideal), algebraic8, (trivial : Cert.preserves_Kernel9_Kernel9Ideal), algebraic9, (trivial : Cert.preserves_Kernel10_Kernel10Ideal), algebraic10, (trivial : Cert.preserves_Kernel11_Kernel11Ideal), algebraic11, (trivial : Cert.preserves_Kernel12_Kernel12Ideal), algebraic12, (trivial : Cert.preserves_Kernel13_Kernel13Ideal), algebraic13, (trivial : Cert.preserves_Kernel14_Kernel14Ideal), algebraic14, (trivial : Cert.preserves_Kernel15_Kernel15Ideal), algebraic15, (trivial : Cert.preserves_Kernel16_Kernel16Ideal), algebraic16, (trivial : Cert.preserves_Kernel17_Kernel17Ideal), algebraic17, preserves18, algebraic18⟩

end Cert.Proof

end
